-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x1024 : Shape := ⟨3, ![8, 4096, 1024]⟩
abbrev S6x8x1024 : Shape := ⟨3, ![6, 8, 1024]⟩
abbrev S8x4096 : Shape := ⟨2, ![8, 4096]⟩
abbrev S1024 : Shape := ⟨1, ![1024]⟩
abbrev S1024x1280 : Shape := ⟨2, ![1024, 1280]⟩
abbrev S64 : Shape := ⟨1, ![64]⟩
abbrev S8 : Shape := ⟨1, ![8]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  bcast_S_S6x8x1024 : S_.BroadcastsInDim S6x8x1024 (![] : Fin 0 → Fin S6x8x1024.rank)
  bcast_S_S1024 : S_.BroadcastsInDim S1024 (![] : Fin 0 → Fin S1024.rank)
  bcast_S_S1024x1280 : S_.BroadcastsInDim S1024x1280 (![] : Fin 0 → Fin S1024x1280.rank)
  bcast_S_S64 : S_.BroadcastsInDim S64 (![] : Fin 0 → Fin S64.rank)
  bcast_S_S8 : S_.BroadcastsInDim S8 (![] : Fin 0 → Fin S8.rank)

variable [Facts]

def fn_part2 {F : FTy → Type} [FloatOps F] (main_v4 : IVec S8x4096x1024 1) (main_v9 : IVec S6x8x1024 1) (main_v14 : IVec S1024 1) (main_v19 : IVec S1024x1280 1) (main_v24 : IVec S64 1) (main_v29 : IVec S64 1) (main_v31 : IVec S8 1) (main_v33 : IVec S8 1) : IVec S8x4096x1024 1 × IVec S6x8x1024 1 × IVec S1024 1 × IVec S1024x1280 1 × IVec S64 1 × IVec S64 1 × IVec S8 1 :=
  let main_v34 : IVec S8 1 := andi main_v31 main_v33
  (main_v4, main_v9, main_v14, main_v19, main_v24, main_v29, main_v34)

def fn_part1 {F : FTy → Type} [FloatOps F] (main_arg4 : FVec F S1024x1280 .f32) (main_arg5 : FVec F S64 .f32) (main_arg6 : FVec F S64 .f32) (main_arg7 : FVec F S8 .f32) (main_v4 : IVec S8x4096x1024 1) (main_v9 : IVec S6x8x1024 1) (main_v14 : IVec S1024 1) (main_v16 : IVec S1024x1280 1) : IVec S8x4096x1024 1 × IVec S6x8x1024 1 × IVec S1024 1 × IVec S1024x1280 1 × IVec S64 1 × IVec S64 1 × IVec S8 1 :=
  let main_cst_6 : FVec F S_ .f32 := constant S_ .f32 0xFF800000#32
  let main_v17 : FVec F S1024x1280 .f32 := broadcastInDim S1024x1280 ![] bcast_S_S1024x1280 main_cst_6
  let main_v18 : IVec S1024x1280 1 := cmpf .ogt main_arg4 main_v17
  let main_v19 : IVec S1024x1280 1 := andi main_v16 main_v18
  let main_cst_7 : FVec F S_ .f32 := constant S_ .f32 0x7F800000#32
  let main_v20 : FVec F S64 .f32 := broadcastInDim S64 ![] bcast_S_S64 main_cst_7
  let main_v21 : IVec S64 1 := cmpf .olt main_arg5 main_v20
  let main_cst_8 : FVec F S_ .f32 := constant S_ .f32 0xFF800000#32
  let main_v22 : FVec F S64 .f32 := broadcastInDim S64 ![] bcast_S_S64 main_cst_8
  let main_v23 : IVec S64 1 := cmpf .ogt main_arg5 main_v22
  let main_v24 : IVec S64 1 := andi main_v21 main_v23
  let main_cst_9 : FVec F S_ .f32 := constant S_ .f32 0x7F800000#32
  let main_v25 : FVec F S64 .f32 := broadcastInDim S64 ![] bcast_S_S64 main_cst_9
  let main_v26 : IVec S64 1 := cmpf .olt main_arg6 main_v25
  let main_cst_10 : FVec F S_ .f32 := constant S_ .f32 0xFF800000#32
  let main_v27 : FVec F S64 .f32 := broadcastInDim S64 ![] bcast_S_S64 main_cst_10
  let main_v28 : IVec S64 1 := cmpf .ogt main_arg6 main_v27
  let main_v29 : IVec S64 1 := andi main_v26 main_v28
  let main_cst_11 : FVec F S_ .f32 := constant S_ .f32 0x7F800000#32
  let main_v30 : FVec F S8 .f32 := broadcastInDim S8 ![] bcast_S_S8 main_cst_11
  let main_v31 : IVec S8 1 := cmpf .olt main_arg7 main_v30
  let main_cst_12 : FVec F S_ .f32 := constant S_ .f32 0xFF800000#32
  let main_v32 : FVec F S8 .f32 := broadcastInDim S8 ![] bcast_S_S8 main_cst_12
  let main_v33 : IVec S8 1 := cmpf .ogt main_arg7 main_v32
  fn_part2 (F := F) main_v4 main_v9 main_v14 main_v19 main_v24 main_v29 main_v31 main_v33

def fn {F : FTy → Type} [FloatOps F] (main_arg0 : FVec F S8x4096x1024 .f32) (main_arg1 : FVec F S6x8x1024 .f32) (main_arg2 : IVec S8x4096 32) (main_arg3 : FVec F S1024 .f32) (main_arg4 : FVec F S1024x1280 .f32) (main_arg5 : FVec F S64 .f32) (main_arg6 : FVec F S64 .f32) (main_arg7 : FVec F S8 .f32) (main_arg8 : FVec F S4x128x128 .f32) (main_arg9 : FVec F S512 .f32) (main_arg10 : FVec F S1024x1024 .f32) : IVec S8x4096x1024 1 × IVec S6x8x1024 1 × IVec S1024 1 × IVec S1024x1280 1 × IVec S64 1 × IVec S64 1 × IVec S8 1 :=
  let main_cst : FVec F S_ .f32 := constant S_ .f32 0x7F800000#32
  let main_v0 : FVec F S8x4096x1024 .f32 := broadcastInDim S8x4096x1024 ![] bcast_S_S8x4096x1024 main_cst
  let main_v1 : IVec S8x4096x1024 1 := cmpf .olt main_arg0 main_v0
  let main_cst_0 : FVec F S_ .f32 := constant S_ .f32 0xFF800000#32
  let main_v2 : FVec F S8x4096x1024 .f32 := broadcastInDim S8x4096x1024 ![] bcast_S_S8x4096x1024 main_cst_0
  let main_v3 : IVec S8x4096x1024 1 := cmpf .ogt main_arg0 main_v2
  let main_v4 : IVec S8x4096x1024 1 := andi main_v1 main_v3
  let main_cst_1 : FVec F S_ .f32 := constant S_ .f32 0x7F800000#32
  let main_v5 : FVec F S6x8x1024 .f32 := broadcastInDim S6x8x1024 ![] bcast_S_S6x8x1024 main_cst_1
  let main_v6 : IVec S6x8x1024 1 := cmpf .olt main_arg1 main_v5
  let main_cst_2 : FVec F S_ .f32 := constant S_ .f32 0xFF800000#32
  let main_v7 : FVec F S6x8x1024 .f32 := broadcastInDim S6x8x1024 ![] bcast_S_S6x8x1024 main_cst_2
  let main_v8 : IVec S6x8x1024 1 := cmpf .ogt main_arg1 main_v7
  let main_v9 : IVec S6x8x1024 1 := andi main_v6 main_v8
  let main_cst_3 : FVec F S_ .f32 := constant S_ .f32 0x7F800000#32
  let main_v10 : FVec F S1024 .f32 := broadcastInDim S1024 ![] bcast_S_S1024 main_cst_3
  let main_v11 : IVec S1024 1 := cmpf .olt main_arg3 main_v10
  let main_cst_4 : FVec F S_ .f32 := constant S_ .f32 0xFF800000#32
  let main_v12 : FVec F S1024 .f32 := broadcastInDim S1024 ![] bcast_S_S1024 main_cst_4
  let main_v13 : IVec S1024 1 := cmpf .ogt main_arg3 main_v12
  let main_v14 : IVec S1024 1 := andi main_v11 main_v13
  let main_cst_5 : FVec F S_ .f32 := constant S_ .f32 0x7F800000#32
  let main_v15 : FVec F S1024x1280 .f32 := broadcastInDim S1024x1280 ![] bcast_S_S1024x1280 main_cst_5
  let main_v16 : IVec S1024x1280 1 := cmpf .olt main_arg4 main_v15
  fn_part1 (F := F) main_arg4 main_arg5 main_arg6 main_arg7 main_v4 main_v9 main_v14 main_v16
-- ==== Kernel.lean ====
abbrev S8x4096x1024 : Shape := ⟨3, ![8, 4096, 1024]⟩
abbrev S6x8x1024 : Shape := ⟨3, ![6, 8, 1024]⟩
abbrev S8x4096 : Shape := ⟨2, ![8, 4096]⟩
abbrev S1024 : Shape := ⟨1, ![1024]⟩
abbrev S1024x1280 : Shape := ⟨2, ![1024, 1280]⟩
abbrev S64 : Shape := ⟨1, ![64]⟩
abbrev S8 : Shape := ⟨1, ![8]⟩
abbrev S4x128x128 : Shape := ⟨3, ![4, 128, 128]⟩
abbrev S512 : Shape := ⟨1, ![512]⟩
abbrev S1024x1024 : Shape := ⟨2, ![1024, 1024]⟩
abbrev S8x6x1024 : Shape := ⟨3, ![8, 6, 1024]⟩
abbrev S1024x768 : Shape := ⟨2, ![1024, 768]⟩
abbrev S768x1024 : Shape := ⟨2, ![768, 1024]⟩
abbrev S1024x512 : Shape := ⟨2, ![1024, 512]⟩
abbrev S_ : Shape := ⟨0, ![]⟩
abbrev S64x1 : Shape := ⟨2, ![64, 1]⟩
abbrev S64x512 : Shape := ⟨2, ![64, 512]⟩
abbrev S8x1 : Shape := ⟨2, ![8, 1]⟩
abbrev S8x512 : Shape := ⟨2, ![8, 512]⟩
abbrev S8x1x4096 : Shape := ⟨3, ![8, 1, 4096]⟩
abbrev S1x1024 : Shape := ⟨2, ![1, 1024]⟩
abbrev S1x512 : Shape := ⟨2, ![1, 512]⟩
abbrev S512x1024 : Shape := ⟨2, ![512, 1024]⟩
abbrev S1x512x1024 : Shape := ⟨3, ![1, 512, 1024]⟩
abbrev S1x6x1024 : Shape := ⟨3, ![1, 6, 1024]⟩
abbrev S1x1x512 : Shape := ⟨3, ![1, 1, 512]⟩
abbrev S512x512 : Shape := ⟨2, ![512, 512]⟩
abbrev S640x128 : Shape := ⟨2, ![640, 128]⟩
abbrev S128x640 : Shape := ⟨2, ![128, 640]⟩
abbrev S528x512 : Shape := ⟨2, ![528, 512]⟩
abbrev S128x128 : Shape := ⟨2, ![128, 128]⟩
abbrev S16x512 : Shape := ⟨2, ![16, 512]⟩
abbrev S6x1024 : Shape := ⟨2, ![6, 1024]⟩
abbrev S512x1 : Shape := ⟨2, ![512, 1]⟩
abbrev S768x512 : Shape := ⟨2, ![768, 512]⟩
abbrev S8x64x512 : Shape := ⟨3, ![8, 64, 512]⟩
abbrev S8x1x512 : Shape := ⟨3, ![8, 1, 512]⟩
abbrev S1x64x512 : Shape := ⟨3, ![1, 64, 512]⟩
abbrev S8x8x512 : Shape := ⟨3, ![8, 8, 512]⟩
abbrev S1x8x512 : Shape := ⟨3, ![1, 8, 512]⟩
abbrev S8x48x512 : Shape := ⟨3, ![8, 48, 512]⟩
abbrev S128x512 : Shape := ⟨2, ![128, 512]⟩
abbrev S2x64x512 : Shape := ⟨3, ![2, 64, 512]⟩
abbrev S2x512 : Shape := ⟨2, ![2, 512]⟩
abbrev S2x1x512 : Shape := ⟨3, ![2, 1, 512]⟩
abbrev S2x8x512 : Shape := ⟨3, ![2, 8, 512]⟩
abbrev S2x48x512 : Shape := ⟨3, ![2, 48, 512]⟩
abbrev S512x128 : Shape := ⟨2, ![512, 128]⟩
abbrev S256x512 : Shape := ⟨2, ![256, 512]⟩
abbrev S16x256 : Shape := ⟨2, ![16, 256]⟩
abbrev S256x128 : Shape := ⟨2, ![256, 128]⟩
abbrev S64x128 : Shape := ⟨2, ![64, 128]⟩
abbrev S1 : Shape := ⟨1, ![1]⟩
abbrev S1x128 : Shape := ⟨2, ![1, 128]⟩
abbrev S64x256 : Shape := ⟨2, ![64, 256]⟩
abbrev S80x256 : Shape := ⟨2, ![80, 256]⟩
abbrev S80x512 : Shape := ⟨2, ![80, 512]⟩
abbrev S528x128 : Shape := ⟨2, ![528, 128]⟩
abbrev S1x128x128 : Shape := ⟨3, ![1, 128, 128]⟩

abbrev nBuf : Space → Nat
  | .hbm => 49
  | .vmem => 23
  | .smem => 1
  | _ => 0

abbrev bufTy : (tb : Table) → Fin (tcTables nBuf tb) → BufTy
  | .hbm, ⟨0, _⟩ => ⟨S8x4096x1024, .f32⟩
  | .hbm, ⟨1, _⟩ => ⟨S6x8x1024, .f32⟩
  | .hbm, ⟨2, _⟩ => ⟨S8x4096, .i32⟩
  | .hbm, ⟨3, _⟩ => ⟨S1024, .f32⟩
  | .hbm, ⟨4, _⟩ => ⟨S1024x1280, .f32⟩
  | .hbm, ⟨5, _⟩ => ⟨S64, .f32⟩
  | .hbm, ⟨6, _⟩ => ⟨S64, .f32⟩
  | .hbm, ⟨7, _⟩ => ⟨S8, .f32⟩
  | .hbm, ⟨8, _⟩ => ⟨S4x128x128, .f32⟩
  | .hbm, ⟨9, _⟩ => ⟨S512, .f32⟩
  | .hbm, ⟨10, _⟩ => ⟨S1024x1024, .f32⟩
  | .hbm, ⟨11, _⟩ => ⟨S8x6x1024, .f32⟩
  | .hbm, ⟨12, _⟩ => ⟨S1024x768, .f32⟩
  | .hbm, ⟨13, _⟩ => ⟨S768x1024, .f32⟩
  | .hbm, ⟨14, _⟩ => ⟨S768x1024, .bf16⟩
  | .hbm, ⟨15, _⟩ => ⟨S1024x512, .f32⟩
  | .hbm, ⟨16, _⟩ => ⟨S1024x512, .bf16⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64x1, .f32⟩
  | .hbm, ⟨21, _⟩ => ⟨S64x512, .f32⟩
  | .hbm, ⟨22, _⟩ => ⟨S64x1, .f32⟩
  | .hbm, ⟨23, _⟩ => ⟨S64x512, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8x1, .f32⟩
  | .hbm, ⟨39, _⟩ => ⟨S8x512, .f32⟩
  | .hbm, ⟨40, _⟩ => ⟨S8x1x4096, .i32⟩
  | .hbm, ⟨41, _⟩ => ⟨S1x1024, .f32⟩
  | .hbm, ⟨42, _⟩ => ⟨S4x128x128, .bf16⟩
  | .hbm, ⟨43, _⟩ => ⟨S1x512, .f32⟩
  | .hbm, ⟨44, _⟩ => ⟨S512x1024, .f32⟩
  | .hbm, ⟨45, _⟩ => ⟨S512x1024, .bf16⟩
  | .hbm, ⟨46, _⟩ => ⟨S512x1024, .f32⟩
  | .hbm, ⟨47, _⟩ => ⟨S512x1024, .bf16⟩
  | .hbm, ⟨48, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1x512, .i32⟩
  | .local _ .vmem, ⟨5, _⟩ => ⟨S1x1x512, .i32⟩
  | .local _ .vmem, ⟨6, _⟩ => ⟨S1x1024, .f32⟩
  | .local _ .vmem, ⟨7, _⟩ => ⟨S768x1024, .bf16⟩
  | .local _ .vmem, ⟨8, _⟩ => ⟨S1024x512, .bf16⟩
  | .local _ .vmem, ⟨9, _⟩ => ⟨S64x512, .f32⟩
  | .local _ .vmem, ⟨10, _⟩ => ⟨S64x512, .f32⟩
  | .local _ .vmem, ⟨11, _⟩ => ⟨S8x512, .f32⟩
  | .local _ .vmem, ⟨12, _⟩ => ⟨S4x128x128, .bf16⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x512, .bf16⟩
  | .local _ .vmem, ⟨19, _⟩ => ⟨S640x128, .bf16⟩
  | .local _ .vmem, ⟨20, _⟩ => ⟨S128x640, .bf16⟩
  | .local _ .vmem, ⟨21, _⟩ => ⟨S528x512, .f32⟩
  | .local _ .vmem, ⟨22, _⟩ => ⟨S512x512, .bf16⟩
  | .local _ .smem, ⟨0, _⟩ => ⟨S8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S6x8x1024 : Shape := ⟨3, ![6, 8, 1024]⟩
abbrev S8x4096 : Shape := ⟨2, ![8, 4096]⟩
abbrev S1024 : Shape := ⟨1, ![1024]⟩
abbrev S1024x1280 : Shape := ⟨2, ![1024, 1280]⟩
abbrev S64 : Shape := ⟨1, ![64]⟩
abbrev S8 : Shape := ⟨1, ![8]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S8x4096x1 : Shape := ⟨3, ![8, 4096, 1]⟩
abbrev S1x1x8 : Shape := ⟨3, ![1, 1, 8]⟩
abbrev S8x4096x8 : Shape := ⟨3, ![8, 4096, 8]⟩
abbrev S8x4096x1x1x8 : Shape := ⟨5, ![8, 4096, 1, 1, 8]⟩
abbrev S8x4096x1x8 : Shape := ⟨4, ![8, 4096, 1, 8]⟩
abbrev S1x8x1024 : Shape := ⟨3, ![1, 8, 1024]⟩
abbrev S8x1024 : Shape := ⟨2, ![8, 1024]⟩
abbrev S8x1x1024 : Shape := ⟨3, ![8, 1, 1024]⟩
abbrev S1x1x1024 : Shape := ⟨3, ![1, 1, 1024]⟩
abbrev S8x4096x1280 : Shape := ⟨3, ![8, 4096, 1280]⟩
abbrev S8x4096x512 : Shape := ⟨3, ![8, 4096, 512]⟩
abbrev S8x4096x2x4x64 : Shape := ⟨5, ![8, 4096, 2, 4, 64]⟩
abbrev S8x4096x128 : Shape := ⟨3, ![8, 4096, 128]⟩
abbrev S8x4096x2x64 : Shape := ⟨4, ![8, 4096, 2, 64]⟩
abbrev S8x4096x4x128 : Shape := ⟨4, ![8, 4096, 4, 128]⟩
abbrev S8x4096x2x4 : Shape := ⟨4, ![8, 4096, 2, 4]⟩
abbrev S8x4096x2x4x1 : Shape := ⟨5, ![8, 4096, 2, 4, 1]⟩
abbrev S1x1x1x1x64 : Shape := ⟨5, ![1, 1, 1, 1, 64]⟩
abbrev S8x4096x2x4x8 : Shape := ⟨5, ![8, 4096, 2, 4, 8]⟩
abbrev S8x4096x2x4x48 : Shape := ⟨5, ![8, 4096, 2, 4, 48]⟩
abbrev S8x4096x2 : Shape := ⟨3, ![8, 4096, 2]⟩
abbrev S8x4096x2x1 : Shape := ⟨4, ![8, 4096, 2, 1]⟩
abbrev S1x1x1x64 : Shape := ⟨4, ![1, 1, 1, 64]⟩
abbrev S8x4096x2x8 : Shape := ⟨4, ![8, 4096, 2, 8]⟩
abbrev S8x4096x2x48 : Shape := ⟨4, ![8, 4096, 2, 48]⟩
abbrev S8x32x128x2x4x64 : Shape := ⟨6, ![8, 32, 128, 2, 4, 64]⟩
abbrev S8x32x128x2x64 : Shape := ⟨5, ![8, 32, 128, 2, 64]⟩
abbrev S8x31x128x2x64 : Shape := ⟨5, ![8, 31, 128, 2, 64]⟩
abbrev S8x32x256x2x64 : Shape := ⟨5, ![8, 32, 256, 2, 64]⟩
abbrev S8x32x2x256x128x4 : Shape := ⟨6, ![8, 32, 2, 256, 128, 4]⟩
abbrev S8x32x2x4x128x256 : Shape := ⟨6, ![8, 32, 2, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S32x128x1 : Shape := ⟨3, ![32, 128, 1]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x2x4x1x1 : Shape := ⟨6, ![1, 1, 2, 4, 1, 1]⟩
abbrev S8x32x2x4x128x1 : Shape := ⟨6, ![8, 32, 2, 4, 128, 1]⟩
abbrev S8x32x2x4x128x257 : Shape := ⟨6, ![8, 32, 2, 4, 128, 257]⟩
abbrev S8x32x2x4x128 : Shape := ⟨5, ![8, 32, 2, 4, 128]⟩
abbrev S8x32x2x64x4x128 : Shape := ⟨6, ![8, 32, 2, 64, 4, 128]⟩
abbrev S8x4112x4x128 : Shape := ⟨4, ![8, 4112, 4, 128]⟩
abbrev S4096 : Shape := ⟨1, ![4096]⟩
abbrev S8x4096x1x128 : Shape := ⟨4, ![8, 4096, 1, 128]⟩
abbrev S1x4096x1 : Shape := ⟨3, ![1, 4096, 1]⟩
abbrev S4x128x8x4096 : Shape := ⟨4, ![4, 128, 8, 4096]⟩
abbrev S1x1x512 : Shape := ⟨3, ![1, 1, 512]⟩

abbrev nBuf : Space → Nat
  | .hbm => 365
  | .vmem => 0
  | .smem => 0
  | _ => 0

abbrev hbmTy0_0 (i : Nat) : BufTy := match i % 128 with
  | 0 => ⟨S8x4096x1024, .f32⟩
  | 1 => ⟨S6x8x1024, .f32⟩
  | 2 => ⟨S8x4096, .i32⟩
  | 3 => ⟨S1024, .f32⟩
  | 4 => ⟨S1024x1280, .f32⟩
  | 5 => ⟨S64, .f32⟩
  | 6 => ⟨S64, .f32⟩
  | 7 => ⟨S8, .f32⟩
  | 8 => ⟨S4x128x128, .f32⟩
  | 9 => ⟨S512, .f32⟩
  | 10 => ⟨S1024x1024, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S8x4096, .f32⟩
  | 26 => ⟨S8x4096x1, .f32⟩
  | 27 => ⟨S1x1x8, .f32⟩
  | 28 => ⟨S8x4096x8, .f32⟩
  | 29 => ⟨S8x4096x8, .f32⟩
  | 30 => ⟨S8x4096x8, .f32⟩
  | 31 => ⟨S8x4096x8, .f32⟩
  | 32 => ⟨S8x4096x8, .f32⟩
  | 33 => ⟨S8x4096x1x1x8, .f32⟩
  | 34 => ⟨S8x4096x1x1x8, .f32⟩
  | 35 => ⟨S8x4096x1x8, .f32⟩
  | 36 => ⟨S8x4096x1x8, .f32⟩
  | 37 => ⟨S1x8x1024, .f32⟩
  | 38 => ⟨S8x1024, .f32⟩
  | 39 => ⟨S8x1x1024, .f32⟩
  | 40 => ⟨S1x8x1024, .f32⟩
  | 41 => ⟨S8x1024, .f32⟩
  | 42 => ⟨S8x1x1024, .f32⟩
  | 43 => ⟨S1x8x1024, .f32⟩
  | 44 => ⟨S8x1024, .f32⟩
  | 45 => ⟨S8x1x1024, .f32⟩
  | 46 => ⟨S8x4096x1024, .f32⟩
  | 47 => ⟨S_, .f32⟩
  | 48 => ⟨S8x4096, .f32⟩
  | 49 => ⟨S8x4096x1, .f32⟩
  | 50 => ⟨S_, .f32⟩
  | 51 => ⟨S8x4096x1, .f32⟩
  | 52 => ⟨S8x4096x1, .f32⟩
  | 53 => ⟨S_, .f32⟩
  | 54 => ⟨S8x4096x1, .f32⟩
  | 55 => ⟨S8x4096x1, .f32⟩
  | 56 => ⟨S8x4096x1, .f32⟩
  | 57 => ⟨S8x4096x1024, .f32⟩
  | 58 => ⟨S8x4096x1024, .f32⟩
  | 59 => ⟨S1x1x1024, .f32⟩
  | 60 => ⟨S8x4096x1024, .f32⟩
  | 61 => ⟨S8x4096x1024, .f32⟩
  | 62 => ⟨S_, .f32⟩
  | 63 => ⟨S8x1x1024, .f32⟩
  | 64 => ⟨S8x1x1024, .f32⟩
  | 65 => ⟨S8x4096x1024, .f32⟩
  | 66 => ⟨S8x4096x1024, .f32⟩
  | 67 => ⟨S8x4096x1024, .f32⟩
  | 68 => ⟨S8x4096x1024, .f32⟩
  | 69 => ⟨S8x4096x1280, .f32⟩
  | 70 => ⟨S8x4096x512, .f32⟩
  | 71 => ⟨S8x4096x2x4x64, .f32⟩
  | 72 => ⟨S8x4096x128, .f32⟩
  | 73 => ⟨S8x4096x2x64, .f32⟩
  | 74 => ⟨S8x4096x128, .f32⟩
  | 75 => ⟨S8x4096x2x64, .f32⟩
  | 76 => ⟨S8x4096x512, .f32⟩
  | 77 => ⟨S8x4096x4x128, .f32⟩
  | 78 => ⟨S8x4096x2x4x64, .f32⟩
  | 79 => ⟨S_, .f32⟩
  | 80 => ⟨S8x4096x2x4, .f32⟩
  | 81 => ⟨S8x4096x2x4x1, .f32⟩
  | 82 => ⟨S_, .f32⟩
  | 83 => ⟨S8x4096x2x4x1, .f32⟩
  | 84 => ⟨S8x4096x2x4x1, .f32⟩
  | 85 => ⟨S_, .f32⟩
  | 86 => ⟨S8x4096x2x4x1, .f32⟩
  | 87 => ⟨S8x4096x2x4x1, .f32⟩
  | 88 => ⟨S8x4096x2x4x1, .f32⟩
  | 89 => ⟨S8x4096x2x4x64, .f32⟩
  | 90 => ⟨S8x4096x2x4x64, .f32⟩
  | 91 => ⟨S1x1x1x1x64, .f32⟩
  | 92 => ⟨S8x4096x2x4x64, .f32⟩
  | 93 => ⟨S8x4096x2x4x64, .f32⟩
  | 94 => ⟨S8x4096x2x4x8, .f32⟩
  | 95 => ⟨S8x4096x2x4x8, .f32⟩
  | 96 => ⟨S8x4096x2x4x8, .f32⟩
  | 97 => ⟨S8x4096x2x4x8, .f32⟩
  | 98 => ⟨S8x4096x2x4x8, .f32⟩
  | 99 => ⟨S8x4096x2x4x8, .f32⟩
  | 100 => ⟨S8x4096x2x4x8, .f32⟩
  | 101 => ⟨S8x4096x2x4x8, .f32⟩
  | 102 => ⟨S8x4096x2x4x8, .f32⟩
  | 103 => ⟨S8x4096x2x4x8, .f32⟩
  | 104 => ⟨S8x4096x2x4x8, .f32⟩
  | 105 => ⟨S8x4096x2x4x8, .f32⟩
  | 106 => ⟨S8x4096x2x4x48, .f32⟩
  | 107 => ⟨S8x4096x2x4x64, .f32⟩
  | 108 => ⟨S8x4096x2x64, .f32⟩
  | 109 => ⟨S_, .f32⟩
  | 110 => ⟨S8x4096x2, .f32⟩
  | 111 => ⟨S8x4096x2x1, .f32⟩
  | 112 => ⟨S_, .f32⟩
  | 113 => ⟨S8x4096x2x1, .f32⟩
  | 114 => ⟨S8x4096x2x1, .f32⟩
  | 115 => ⟨S_, .f32⟩
  | 116 => ⟨S8x4096x2x1, .f32⟩
  | 117 => ⟨S8x4096x2x1, .f32⟩
  | 118 => ⟨S8x4096x2x1, .f32⟩
  | 119 => ⟨S8x4096x2x64, .f32⟩
  | 120 => ⟨S8x4096x2x64, .f32⟩
  | 121 => ⟨S1x1x1x64, .f32⟩
  | 122 => ⟨S8x4096x2x64, .f32⟩
  | 123 => ⟨S8x4096x2x64, .f32⟩
  | 124 => ⟨S8x4096x2x8, .f32⟩
  | 125 => ⟨S8x4096x2x8, .f32⟩
  | 126 => ⟨S8x4096x2x8, .f32⟩
  | 127 => ⟨S8x4096x2x8, .f32⟩
  | _ => ⟨S8x4096x1024, .f32⟩

abbrev hbmTy0_1 (i : Nat) : BufTy := match i % 128 with
  | 0 => ⟨S8x4096x2x8, .f32⟩
  | 1 => ⟨S8x4096x2x8, .f32⟩
  | 2 => ⟨S8x4096x2x8, .f32⟩
  | 3 => ⟨S8x4096x2x8, .f32⟩
  | 4 => ⟨S8x4096x2x8, .f32⟩
  | 5 => ⟨S8x4096x2x8, .f32⟩
  | 6 => ⟨S8x4096x2x8, .f32⟩
  | 7 => ⟨S8x4096x2x8, .f32⟩
  | 8 => ⟨S8x4096x2x48, .f32⟩
  | 9 => ⟨S8x4096x2x64, .f32⟩
  | 10 => ⟨S8x32x128x2x4x64, .f32⟩
  | 11 => ⟨S8x32x128x2x64, .f32⟩
  | 12 => ⟨S8x32x128x2x64, .f32⟩
  | 13 => ⟨S8x31x128x2x64, .f32⟩
  | 14 => ⟨S_, .i32⟩
  | 15 => ⟨S_, .f32⟩
  | 16 => ⟨S8x32x128x2x64, .f32⟩
  | 17 => ⟨S8x32x256x2x64, .f32⟩
  | 18 => ⟨S8x31x128x2x64, .f32⟩
  | 19 => ⟨S_, .i32⟩
  | 20 => ⟨S_, .f32⟩
  | 21 => ⟨S8x32x128x2x64, .f32⟩
  | 22 => ⟨S8x32x256x2x64, .f32⟩
  | 23 => ⟨S8x32x2x256x128x4, .f32⟩
  | 24 => ⟨S8x32x2x4x128x256, .f32⟩
  | 25 => ⟨S_, .f32⟩
  | 26 => ⟨S8x32x2x4x128x256, .f32⟩
  | 27 => ⟨S8x32x2x4x128x256, .f32⟩
  | 28 => ⟨S32, .i32⟩
  | 29 => ⟨S32x1x1, .i32⟩
  | 30 => ⟨S128, .i32⟩
  | 31 => ⟨S1x128x1, .i32⟩
  | 32 => ⟨S256, .i32⟩
  | 33 => ⟨S1x1x256, .i32⟩
  | 34 => ⟨S_, .i32⟩
  | 35 => ⟨S32x1x1, .i32⟩
  | 36 => ⟨S32x1x1, .i32⟩
  | 37 => ⟨S32x128x1, .i32⟩
  | 38 => ⟨S32x128x1, .i32⟩
  | 39 => ⟨S32x128x1, .i32⟩
  | 40 => ⟨S_, .i32⟩
  | 41 => ⟨S32x1x1, .i32⟩
  | 42 => ⟨S32x1x1, .i32⟩
  | 43 => ⟨S_, .i32⟩
  | 44 => ⟨S32x1x1, .i32⟩
  | 45 => ⟨S32x1x1, .i32⟩
  | 46 => ⟨S32x1x256, .i32⟩
  | 47 => ⟨S32x1x256, .i32⟩
  | 48 => ⟨S32x1x256, .i32⟩
  | 49 => ⟨S32x128x256, .i32⟩
  | 50 => ⟨S32x128x256, .i32⟩
  | 51 => ⟨S32x128x256, .i1⟩
  | 52 => ⟨S32x128x256, .i32⟩
  | 53 => ⟨S32x128x256, .i32⟩
  | 54 => ⟨S32x128x256, .i32⟩
  | 55 => ⟨S_, .i32⟩
  | 56 => ⟨S32x128x256, .i32⟩
  | 57 => ⟨S32x128x256, .i1⟩
  | 58 => ⟨S32x128x256, .i1⟩
  | 59 => ⟨S_, .i32⟩
  | 60 => ⟨S32x1x256, .i32⟩
  | 61 => ⟨S32x1x256, .i1⟩
  | 62 => ⟨S32x128x256, .i1⟩
  | 63 => ⟨S32x128x256, .i1⟩
  | 64 => ⟨S1x32x1x1x128x256, .i1⟩
  | 65 => ⟨S_, .f32⟩
  | 66 => ⟨S8x32x2x4x128x256, .i1⟩
  | 67 => ⟨S8x32x2x4x128x256, .f32⟩
  | 68 => ⟨S8x32x2x4x128x256, .f32⟩
  | 69 => ⟨S1x1x2x4x1x1, .f32⟩
  | 70 => ⟨S8x32x2x4x128x1, .f32⟩
  | 71 => ⟨S8x32x2x4x128x257, .f32⟩
  | 72 => ⟨S_, .f32⟩
  | 73 => ⟨S8x32x2x4x128, .f32⟩
  | 74 => ⟨S_, .f32⟩
  | 75 => ⟨S8x32x2x4x128, .f32⟩
  | 76 => ⟨S8x32x2x4x128, .f32⟩
  | 77 => ⟨S8x32x2x4x128x1, .f32⟩
  | 78 => ⟨S8x32x2x4x128x257, .f32⟩
  | 79 => ⟨S8x32x2x4x128x257, .f32⟩
  | 80 => ⟨S8x32x2x4x128x257, .f32⟩
  | 81 => ⟨S_, .f32⟩
  | 82 => ⟨S8x32x2x4x128, .f32⟩
  | 83 => ⟨S8x32x2x4x128x1, .f32⟩
  | 84 => ⟨S8x32x2x4x128x257, .f32⟩
  | 85 => ⟨S8x32x2x4x128x257, .f32⟩
  | 86 => ⟨S8x32x2x4x128x256, .f32⟩
  | 87 => ⟨S8x32x2x64x4x128, .f32⟩
  | 88 => ⟨S8x32x128x2x4x64, .f32⟩
  | 89 => ⟨S8x4096x512, .f32⟩
  | 90 => ⟨S_, .i32⟩
  | 91 => ⟨S_, .f32⟩
  | 92 => ⟨S8x4112x4x128, .f32⟩
  | 93 => ⟨S4096, .i32⟩
  | 94 => ⟨S8x4096x1x128, .f32⟩
  | 95 => ⟨S8x4096x128, .f32⟩
  | 96 => ⟨S8x4096x1x128, .f32⟩
  | 97 => ⟨S8x4096x128, .f32⟩
  | 98 => ⟨S8x4096x128, .f32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S4096, .f32⟩
  | 106 => ⟨S1x4096x1, .f32⟩
  | 107 => ⟨S8x4096x128, .f32⟩
  | 108 => ⟨S8x4096x128, .f32⟩
  | 109 => ⟨S8x4096x1x128, .f32⟩
  | 110 => ⟨S8x4096x128, .f32⟩
  | 111 => ⟨S8x4096x1x128, .f32⟩
  | 112 => ⟨S8x4096x128, .f32⟩
  | 113 => ⟨S8x4096x128, .f32⟩
  | 114 => ⟨S8x4096x1x128, .f32⟩
  | 115 => ⟨S8x4096x128, .f32⟩
  | 116 => ⟨S8x4096x128, .f32⟩
  | 117 => ⟨S8x4096x1x128, .f32⟩
  | 118 => ⟨S8x4096x128, .f32⟩
  | 119 => ⟨S8x4096x128, .f32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S4096, .f32⟩
  | 127 => ⟨S1x4096x1, .f32⟩
  | _ => ⟨S8x4096x1024, .f32⟩

abbrev hbmTy0_2 (i : Nat) : BufTy := match i % 128 with
  | 0 => ⟨S8x4096x128, .f32⟩
  | 1 => ⟨S8x4096x128, .f32⟩
  | 2 => ⟨S8x4096x1x128, .f32⟩
  | 3 => ⟨S8x4096x128, .f32⟩
  | 4 => ⟨S8x4096x1x128, .f32⟩
  | 5 => ⟨S8x4096x128, .f32⟩
  | 6 => ⟨S8x4096x128, .f32⟩
  | 7 => ⟨S8x4096x1x128, .f32⟩
  | 8 => ⟨S8x4096x128, .f32⟩
  | 9 => ⟨S8x4096x128, .f32⟩
  | 10 => ⟨S8x4096x1x128, .f32⟩
  | 11 => ⟨S8x4096x128, .f32⟩
  | 12 => ⟨S8x4096x128, .f32⟩
  | 13 => ⟨S8x4096x1x128, .f32⟩
  | 14 => ⟨S8x4096x128, .f32⟩
  | 15 => ⟨S8x4096x128, .f32⟩
  | 16 => ⟨S8x4096x1x128, .f32⟩
  | 17 => ⟨S8x4096x128, .f32⟩
  | 18 => ⟨S8x4096x128, .f32⟩
  | 19 => ⟨S8x4096x1x128, .f32⟩
  | 20 => ⟨S8x4096x128, .f32⟩
  | 21 => ⟨S8x4096x128, .f32⟩
  | 22 => ⟨S8x4096x1x128, .f32⟩
  | 23 => ⟨S8x4096x128, .f32⟩
  | 24 => ⟨S8x4096x128, .f32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S4096, .f32⟩
  | 32 => ⟨S1x4096x1, .f32⟩
  | 33 => ⟨S8x4096x128, .f32⟩
  | 34 => ⟨S8x4096x128, .f32⟩
  | 35 => ⟨S8x4096x1x128, .f32⟩
  | 36 => ⟨S8x4096x128, .f32⟩
  | 37 => ⟨S8x4096x1x128, .f32⟩
  | 38 => ⟨S8x4096x128, .f32⟩
  | 39 => ⟨S8x4096x128, .f32⟩
  | 40 => ⟨S8x4096x1x128, .f32⟩
  | 41 => ⟨S8x4096x128, .f32⟩
  | 42 => ⟨S8x4096x128, .f32⟩
  | 43 => ⟨S8x4096x1x128, .f32⟩
  | 44 => ⟨S8x4096x128, .f32⟩
  | 45 => ⟨S8x4096x128, .f32⟩
  | 46 => ⟨S8x4096x1x128, .f32⟩
  | 47 => ⟨S8x4096x128, .f32⟩
  | 48 => ⟨S8x4096x128, .f32⟩
  | 49 => ⟨S8x4096x1x128, .f32⟩
  | 50 => ⟨S8x4096x128, .f32⟩
  | 51 => ⟨S8x4096x128, .f32⟩
  | 52 => ⟨S8x4096x1x128, .f32⟩
  | 53 => ⟨S8x4096x128, .f32⟩
  | 54 => ⟨S8x4096x128, .f32⟩
  | 55 => ⟨S8x4096x1x128, .f32⟩
  | 56 => ⟨S8x4096x128, .f32⟩
  | 57 => ⟨S8x4096x128, .f32⟩
  | 58 => ⟨S8x4096x1x128, .f32⟩
  | 59 => ⟨S8x4096x128, .f32⟩
  | 60 => ⟨S8x4096x128, .f32⟩
  | 61 => ⟨S8x4096x1x128, .f32⟩
  | 62 => ⟨S8x4096x128, .f32⟩
  | 63 => ⟨S8x4096x128, .f32⟩
  | 64 => ⟨S8x4096x1x128, .f32⟩
  | 65 => ⟨S8x4096x128, .f32⟩
  | 66 => ⟨S8x4096x128, .f32⟩
  | 67 => ⟨S8x4096x1x128, .f32⟩
  | 68 => ⟨S8x4096x128, .f32⟩
  | 69 => ⟨S8x4096x128, .f32⟩
  | 70 => ⟨S8x4096x1x128, .f32⟩
  | 71 => ⟨S8x4096x128, .f32⟩
  | 72 => ⟨S8x4096x128, .f32⟩
  | 73 => ⟨S8x4096x1x128, .f32⟩
  | 74 => ⟨S8x4096x128, .f32⟩
  | 75 => ⟨S8x4096x128, .f32⟩
  | 76 => ⟨S8x4096x1x128, .f32⟩
  | 77 => ⟨S8x4096x128, .f32⟩
  | 78 => ⟨S8x4096x128, .f32⟩
  | 79 => ⟨S8x4096x1x128, .f32⟩
  | 80 => ⟨S8x4096x128, .f32⟩
  | 81 => ⟨S8x4096x128, .f32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .f32⟩
  | 89 => ⟨S1x4096x1, .f32⟩
  | 90 => ⟨S8x4096x128, .f32⟩
  | 91 => ⟨S8x4096x128, .f32⟩
  | 92 => ⟨S8x4096x1x128, .f32⟩
  | 93 => ⟨S8x4096x1x128, .f32⟩
  | 94 => ⟨S8x4096x1x128, .f32⟩
  | 95 => ⟨S8x4096x1x128, .f32⟩
  | 96 => ⟨S8x4096x4x128, .f32⟩
  | 97 => ⟨S8x4096x4x128, .f32⟩
  | 98 => ⟨S4x128x8x4096, .f32⟩
  | 99 => ⟨S8x4096x4x128, .f32⟩
  | 100 => ⟨S8x4096x512, .f32⟩
  | 101 => ⟨S1x1x512, .f32⟩
  | 102 => ⟨S8x4096x512, .f32⟩
  | 103 => ⟨S8x4096x512, .f32⟩
  | 104 => ⟨S8x4096x1024, .f32⟩
  | 105 => ⟨S8x4096x1024, .f32⟩
  | 106 => ⟨S8x4096x1024, .f32⟩
  | 107 => ⟨S8x4096x1024, .f32⟩
  | 108 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_10 : Ref sig .tc := ⟨.hbm, 109, rfl⟩
abbrev main_v87 : Ref sig .tc := ⟨.hbm, 110, rfl⟩
abbrev main_v88 : Ref sig .tc := ⟨.hbm, 111, rfl⟩
abbrev main_cst_11 : Ref sig .tc := ⟨.hbm, 112, rfl⟩
abbrev main_v89 : Ref sig .tc := ⟨.hbm, 113, rfl⟩
abbrev main_v90 : Ref sig .tc := ⟨.hbm, 114, rfl⟩
abbrev main_cst_12 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_c : Ref sig .tc := ⟨.hbm, 142, rfl⟩
abbrev main_call0_v0 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_c_13 : Ref sig .tc := ⟨.hbm, 147, rfl⟩
abbrev main_call1_v0 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_14 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_c_15 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_c_16 : Ref sig .tc := ⟨.hbm, 168, rfl⟩
abbrev main_v137 : Ref sig .tc := ⟨.hbm, 169, rfl⟩
abbrev main_v138 : Ref sig .tc := ⟨.hbm, 170, rfl⟩
abbrev main_c_17 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_c_18 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_c_19 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_20 : Ref sig .tc := ⟨.hbm, 193, rfl⟩
abbrev main_call2_v0 : Ref sig .tc := ⟨.hbm, 194, rfl⟩
abbrev main_call2_v1 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_21 : Ref sig .tc := ⟨.hbm, 200, rfl⟩
abbrev main_v162 : Ref sig .tc := ⟨.hbm, 201, rfl⟩
abbrev main_cst_22 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_cst_23 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_c_24 : Ref sig .tc := ⟨.hbm, 218, rfl⟩
abbrev main_call3_v0 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_c_25 : Ref sig .tc := ⟨.hbm, 227, rfl⟩
abbrev main_v184 : Ref sig .tc := ⟨.hbm, 228, rfl⟩
abbrev main_v185 : Ref sig .tc := ⟨.hbm, 229, rfl⟩
abbrev main_c_26 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_c_27 : Ref sig .tc := ⟨.hbm, 248, rfl⟩
abbrev main_v203 : Ref sig .tc := ⟨.hbm, 249, rfl⟩
abbrev main_v204 : Ref sig .tc := ⟨.hbm, 250, rfl⟩
abbrev main_c_28 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_c_29 : Ref sig .tc := ⟨.hbm, 281, rfl⟩
abbrev main_v234 : Ref sig .tc := ⟨.hbm, 282, rfl⟩
abbrev main_v235 : Ref sig .tc := ⟨.hbm, 283, rfl⟩
abbrev main_c_30 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_c_31 : Ref sig .tc := ⟨.hbm, 338, rfl⟩
abbrev main_v289 : Ref sig .tc := ⟨.hbm, 339, rfl⟩
abbrev main_v290 : Ref sig .tc := ⟨.hbm, 340, rfl⟩
abbrev main_c_32 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩

abbrev nD : Nat := 1
abbrev τ : Topo := Topo.v7x

variable {F : FTy → Type} [FloatOps F]
-- ==== Kernel2.lean ====
abbrev S8x4096x1024 : Shape := ⟨3, ![8, 4096, 1024]⟩
abbrev S6x8x1024 : Shape := ⟨3, ![6, 8, 1024]⟩
abbrev S1024 : Shape := ⟨1, ![1024]⟩
abbrev S1024x4096 : Shape := ⟨2, ![1024, 4096]⟩
abbrev S4096x1024 : Shape := ⟨2, ![4096, 1024]⟩
abbrev S8x6x1024 : Shape := ⟨3, ![8, 6, 1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S1x512x1024 : Shape := ⟨3, ![1, 512, 1024]⟩
abbrev S1x6x1024 : Shape := ⟨3, ![1, 6, 1024]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S6x8x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8x6x1024, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .bf16⟩
  | .hbm, ⟨10, _⟩ => ⟨S4x1024x1024, .bf16⟩
  | .hbm, ⟨11, _⟩ => ⟨S1x1024, .f32⟩
  | .hbm, ⟨12, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S4x1024x1024, .bf16⟩
  | .local _ .vmem, ⟨6, _⟩ => ⟨S4x1024x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x1024 : Shape := ⟨3, ![8, 4096, 1024]⟩
abbrev S6x8x1024 : Shape := ⟨3, ![6, 8, 1024]⟩
abbrev S1024 : Shape := ⟨1, ![1024]⟩
abbrev S1024x4096 : Shape := ⟨2, ![1024, 4096]⟩
abbrev S4096x1024 : Shape := ⟨2, ![4096, 1024]⟩
abbrev S1x8x1024 : Shape := ⟨3, ![1, 8, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S6x8x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x8x1024, .f32⟩
  | .hbm, ⟨6, _⟩ => ⟨S8x1024, .f32⟩
  | .hbm, ⟨7, _⟩ => ⟨S8x1x1024, .f32⟩
  | .hbm, ⟨8, _⟩ => ⟨S1x8x1024, .f32⟩
  | .hbm, ⟨9, _⟩ => ⟨S8x1024, .f32⟩
  | .hbm, ⟨10, _⟩ => ⟨S8x1x1024, .f32⟩
  | .hbm, ⟨11, _⟩ => ⟨S1x8x1024, .f32⟩
  | .hbm, ⟨12, _⟩ => ⟨S8x1024, .f32⟩
  | .hbm, ⟨13, _⟩ => ⟨S8x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x4096, .f32⟩
  | .hbm, ⟨38, _⟩ => ⟨S_, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel3.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S6x8x1024 : Shape := ⟨3, ![6, 8, 1024]⟩
abbrev S1024x1024 : Shape := ⟨2, ![1024, 1024]⟩
abbrev S1x1024 : Shape := ⟨2, ![1, 1024]⟩
abbrev S1x8x1024 : Shape := ⟨3, ![1, 8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S6x8x1024, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S1x8x1024 : Shape := ⟨3, ![1, 8, 1024]⟩
abbrev S6x8x1024 : Shape := ⟨3, ![6, 8, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S1x8x1024, .f32⟩
  | .hbm, ⟨23, _⟩ => ⟨S1x8x1024, .f32⟩
  | .hbm, ⟨24, _⟩ => ⟨S1x8x1024, .f32⟩
  | .hbm, ⟨25, _⟩ => ⟨S1x8x1024, .f32⟩
  | .hbm, ⟨26, _⟩ => ⟨S1x8x1024, .f32⟩
  | .hbm, ⟨27, _⟩ => ⟨S1x8x1024, .f32⟩
  | .hbm, ⟨28, _⟩ => ⟨S6x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.MixMath.lean ====
/- Facts about the extended reals that the mixer's value proof uses: which expressions are real numbers,
   a nonnegative real factor across a sum, and the softmax with a sink in its two forms. -/
module

public import Idealize.ShloMosaic.Lib.Pointwise
public import Idealize.ShloMosaic.Lib.IdealHost
public import Mathlib.Data.EReal.Inv

@[expose] public section

noncomputable section
open Idealize.ShloMosaic
open scoped BigOperators
namespace Cert.Mix

/-- An extended real that is a real number. -/
def Rl (x : EReal) : Prop := ∃ r : ℝ, x = (r : EReal)

/-- A real number is a real number. -/
theorem Rl.coe (r : ℝ) : Rl (r : EReal) := ⟨r, rfl⟩

/-- Neither infinity: a real number. -/
theorem Rl.mk' {x : EReal} (h : x ≠ ⊤) (h' : x ≠ ⊥) : Rl x := ⟨x.toReal, (EReal.coe_toReal h h').symm⟩

/-- A real number is not plus infinity. -/
theorem Rl.ne_top {x : EReal} (h : Rl x) : x ≠ ⊤ := by obtain ⟨r, rfl⟩ := h; exact EReal.coe_ne_top r

/-- A real number is not minus infinity. -/
theorem Rl.ne_bot {x : EReal} (h : Rl x) : x ≠ ⊥ := by obtain ⟨r, rfl⟩ := h; exact EReal.coe_ne_bot r

/-- Zero is real. -/
theorem Rl.zero : Rl 0 := ⟨0, rfl⟩

/-- One is real. -/
theorem Rl.one : Rl 1 := ⟨1, rfl⟩

/-- The sum of two reals is real. -/
theorem Rl.add {x y : EReal} (hx : Rl x) (hy : Rl y) : Rl (x + y) := by
  obtain ⟨a, rfl⟩ := hx; obtain ⟨b, rfl⟩ := hy; exact ⟨a + b, by norm_cast⟩

/-- The negative of a real is real. -/
theorem Rl.neg {x : EReal} (hx : Rl x) : Rl (-x) := by
  obtain ⟨a, rfl⟩ := hx; exact ⟨-a, by norm_cast⟩

/-- The difference of two reals is real. -/
theorem Rl.sub {x y : EReal} (hx : Rl x) (hy : Rl y) : Rl (x - y) := by
  obtain ⟨a, rfl⟩ := hx; obtain ⟨b, rfl⟩ := hy; exact ⟨a - b, by norm_cast⟩

/-- The product of two reals is real. -/
theorem Rl.mul {x y : EReal} (hx : Rl x) (hy : Rl y) : Rl (x * y) := by
  obtain ⟨a, rfl⟩ := hx; obtain ⟨b, rfl⟩ := hy; exact ⟨a * b, by norm_cast⟩

/-- A finite sum of reals is real. -/
theorem Rl.sum {n : ℕ} {f : Fin n → EReal} (h : ∀ k, Rl (f k)) : Rl (∑ k, f k) :=
  Finset.sum_induction f Rl (fun _ _ => Rl.add) Rl.zero fun k _ => h k

/-- The cosine of a real is real. -/
theorem Rl.cos {x : EReal} (hx : Rl x) : Rl (Ideal.cos x) := by obtain ⟨a, rfl⟩ := hx; exact ⟨_, rfl⟩

/-- The sine of a real is real. -/
theorem Rl.sin {x : EReal} (hx : Rl x) : Rl (Ideal.sin x) := by obtain ⟨a, rfl⟩ := hx; exact ⟨_, rfl⟩

/-- A real power of a real is real. -/
theorem Rl.pow {x y : EReal} (hx : Rl x) (hy : Rl y) : Rl (Ideal.pow x y) := by
  obtain ⟨a, rfl⟩ := hx; obtain ⟨b, rfl⟩ := hy; exact ⟨_, rfl⟩

/-- A real divided by a nonzero real is real. -/
theorem Rl.div {x : EReal} (hx : Rl x) {r : ℝ} (hr : r ≠ 0) : Rl (Ideal.div x (r : EReal)) := by
  rw [Ideal.div_coe hr]; exact hx.mul (Rl.coe _)

/-- The reciprocal root of a positive real is real. -/
theorem Rl.rsqrt {r : ℝ} (hr : 0 < r) : Rl (Ideal.rsqrt (r : EReal)) := by
  rw [Ideal.rsqrt_coe, if_neg (not_lt.2 hr.le), if_neg hr.ne']; exact ⟨_, rfl⟩

/-- The square of a real, and so a sum of squares, is not negative. -/
theorem sumsq_nonneg {n : ℕ} {f : Fin n → EReal} (h : ∀ k, Rl (f k)) :
    ∃ r : ℝ, 0 ≤ r ∧ ∑ k, f k * f k = (r : EReal) := by
  obtain ⟨r, hr⟩ := Rl.sum fun k => (h k).mul (h k)
  refine ⟨r, ?_, hr⟩
  have : (0 : EReal) ≤ ∑ k, f k * f k := Finset.sum_nonneg fun k _ => by
    obtain ⟨a, ha⟩ := h k; rw [ha]; exact_mod_cast mul_self_nonneg a
  rw [hr] at this; exact_mod_cast this

/-- The word of 1/64. -/
theorem w64th : Ideal.ofBits .f32 1015021568#32 = ((1 / 64 : ℝ) : EReal) := by
  simp [Ideal.ofBits, Ideal.ieee, -EReal.coe_mul]; norm_num

/-- The word of 64. -/
theorem w64 : Ideal.ofBits .f32 1115684864#32 = ((64 : ℝ) : EReal) := by
  simp [Ideal.ofBits, Ideal.ieee, -EReal.coe_mul]; norm_num

/-- The word of 1/8. -/
theorem w8th : Ideal.ofBits .f32 1040187392#32 = ((1 / 8 : ℝ) : EReal) := by
  simp [Ideal.ofBits, Ideal.ieee, -EReal.coe_mul]; norm_num

/-- The word of 1024. -/
theorem w1024 : Ideal.ofBits .f32 1149239296#32 = ((1024 : ℝ) : EReal) := by
  simp [Ideal.ofBits, Ideal.ieee, -EReal.coe_mul]; norm_num

/-- The word of 2. -/
theorem w2 : Ideal.ofBits .f32 1073741824#32 = ((2 : ℝ) : EReal) := by
  simp [Ideal.ofBits, Ideal.ieee, -EReal.coe_mul]; norm_num

/-- The word of 16. -/
theorem w16 : Ideal.ofBits .f32 1098907648#32 = ((16 : ℝ) : EReal) := by
  simp [Ideal.ofBits, Ideal.ieee, -EReal.coe_mul]; norm_num

/-- The word of 500000 is a real. -/
theorem wtheta : Rl (Ideal.ofBits .f32 1223959552#32) := by
  simp [Ideal.ofBits, Ideal.ieee, -EReal.coe_mul]; exact ⟨_, rfl⟩

/-- The word of the norm's small constant is a positive real. -/
theorem weps : ∃ e : ℝ, 0 < e ∧ Ideal.ofBits .f32 897988541#32 = (e : EReal) := by
  simp [Ideal.ofBits, Ideal.ieee, -EReal.coe_mul]

/-- The word of minus infinity. -/
theorem wbot : Ideal.ofBits .f32 4286578688#32 = ⊥ := by
  simp [Ideal.ofBits, Ideal.ieee, -EReal.coe_mul]

/-- Dividing by 64 is multiplying by 1/64. -/
theorem div64 (x : EReal) : Ideal.div x (Ideal.ofBits .f32 1115684864#32) = x * Ideal.ofBits .f32 1015021568#32 := by
  rw [w64, Ideal.div_coe (by norm_num), w64th]

/-- A real factor that is not negative goes into a sum. -/
theorem sum_mul_nn {n : ℕ} (f : Fin n → EReal) {r : ℝ} (hr : 0 ≤ r) : (∑ k, f k) * (r : EReal) = ∑ k, f k * (r : EReal) := by
  have key : ∀ s : Finset (Fin n), (∑ k ∈ s, f k) * (r : EReal) = ∑ k ∈ s, f k * (r : EReal) := by
    intro s
    induction s using Finset.induction_on with
    | empty => simp
    | insert a s ha ih =>
      rw [Finset.sum_insert ha, Finset.sum_insert ha,
        EReal.right_distrib_of_nonneg_of_ne_top (by exact_mod_cast hr) (EReal.coe_ne_top r), ih]
  exact key _

/-- A softmax over 256 scores and a sink, applied to 256 values: the weights divided first. -/
def soft (sc : Fin 256 → EReal) (sk : EReal) (v : Fin 256 → EReal) : EReal :=
  ∑ r, Ideal.div (Ideal.exp (sc r - max (Finset.fold max ⊥ sc Finset.univ) sk))
      (∑ k, Ideal.exp (sc k - max (Finset.fold max ⊥ sc Finset.univ) sk)
        + Ideal.exp (sk - max (Finset.fold max ⊥ sc Finset.univ) sk)) * v r

/-- The same with the sum taken first and divided afterwards. -/
def softK (sc : Fin 256 → EReal) (sk : EReal) (v : Fin 256 → EReal) : EReal :=
  (∑ r, v r * Ideal.exp (sc r - max (Finset.fold max ⊥ sc Finset.univ) sk))
    * Ideal.div 1 (∑ k, Ideal.exp (sc k - max (Finset.fold max ⊥ sc Finset.univ) sk)
        + Ideal.exp (sk - max (Finset.fold max ⊥ sc Finset.univ) sk))

/-- An exponential is not negative. -/
theorem exp_nonneg (x : EReal) : 0 ≤ Ideal.exp x := by
  induction x with
  | bot => exact le_refl _
  | top => exact le_top
  | coe r => rw [Ideal.exp_coe]; exact_mod_cast (Real.exp_pos r).le

/-- The exponential of anything below plus infinity is real. -/
theorem exp_real {x : EReal} (h : x ≠ ⊤) : Rl (Ideal.exp x) := by
  induction x with
  | bot => exact Rl.zero
  | top => exact absurd rfl h
  | coe r => exact ⟨_, rfl⟩

/-- With a real sink and no score at plus infinity the two forms agree. -/
theorem softK_eq (sc : Fin 256 → EReal) (sk : EReal) (v : Fin 256 → EReal) (hsk : Rl sk) (hsc : ∀ r, sc r ≠ ⊤) :
    softK sc sk v = soft sc sk v := by
  unfold softK soft
  have hm : Rl (max (Finset.fold max ⊥ sc Finset.univ) sk) := by
    refine Rl.mk' (ne_of_lt (max_lt ?_ (lt_top_iff_ne_top.2 hsk.ne_top))) (ne_of_gt (lt_max_of_lt_right (bot_lt_iff_ne_bot.2 hsk.ne_bot)))
    rw [Finset.fold_max_lt]
    exact ⟨bot_lt_top, fun x _ => lt_top_iff_ne_top.2 (hsc x)⟩
  generalize max (Finset.fold max ⊥ sc Finset.univ) sk = mm at hm ⊢
  have h1 : ∀ k, Rl (Ideal.exp (sc k - mm)) := fun k => exp_real (by
    obtain ⟨b, rfl⟩ := hm
    have := hsc k
    generalize sc k = z at this ⊢
    induction z with
    | bot => rw [EReal.bot_sub]; exact bot_ne_top
    | top => exact absurd rfl this
    | coe r => exact (Rl.sub (Rl.coe r) (Rl.coe b)).ne_top)
  have h2 : ∃ e : ℝ, 0 < e ∧ Ideal.exp (sk - mm) = (e : EReal) := by
    obtain ⟨a, ha⟩ := hsk.sub hm
    exact ⟨Real.exp a, Real.exp_pos a, by rw [ha, Ideal.exp_coe]⟩
  have hD : ∃ D : ℝ, 0 < D ∧ ∑ k, Ideal.exp (sc k - mm) + Ideal.exp (sk - mm) = (D : EReal) := by
    obtain ⟨e, he, hE⟩ := h2
    obtain ⟨S, hS⟩ := Rl.sum h1
    have hS0 : (0 : EReal) ≤ ∑ k, Ideal.exp (sc k - mm) := Finset.sum_nonneg fun k _ => exp_nonneg _
    rw [hS] at hS0
    have hS1 : 0 ≤ S := by exact_mod_cast hS0
    exact ⟨S + e, by linarith, by rw [hS, hE]; norm_cast⟩
  obtain ⟨D, hD0, hDe⟩ := hD
  rw [hDe]
  simp only [Ideal.div_coe hD0.ne', one_mul]
  rw [sum_mul_nn _ (by positivity : (0 : ℝ) ≤ 1 / D)]
  refine Finset.sum_congr rfl fun r _ => ?_
  rw [mul_comm (v r), mul_assoc, mul_assoc, mul_comm (v r)]

end Cert.Mix
end
-- ==== Proof.MixSpec.lean ====
/- The token mixer written entry by entry over the extended reals: the normalised and modulated input, its
   projection, the rotated queries and keys, the windowed attention with a sink, the pooled windows, the output. -/
module

public import proofs.«01_k».proof.Proof.MixMath

@[expose] public section

noncomputable section
open Idealize.ShloMosaic
open scoped BigOperators
namespace Cert.Mix

/-- The mixer's argument arrays. -/
structure Args where
  /-- the residual stream -/
  X : FVec Ideal ⟨3, ![8, 4096, 1024]⟩ .f32
  /-- the six modulation vectors of each batch -/
  M : FVec Ideal ⟨3, ![6, 8, 1024]⟩ .f32
  /-- the token positions -/
  P : IVec ⟨2, ![8, 4096]⟩ 32
  /-- the norm's gain -/
  G : FVec Ideal ⟨1, ![1024]⟩ .f32
  /-- the input projection -/
  W : FVec Ideal ⟨2, ![1024, 1280]⟩ .f32
  /-- the gain of the queries' norm -/
  GQ : FVec Ideal ⟨1, ![64]⟩ .f32
  /-- the gain of the keys' norm -/
  GK : FVec Ideal ⟨1, ![64]⟩ .f32
  /-- the sink of each head -/
  SK : FVec Ideal ⟨1, ![8]⟩ .f32
  /-- the pooled groups' matrices -/
  PW : FVec Ideal ⟨3, ![4, 128, 128]⟩ .f32
  /-- the pooled channels' scale -/
  PS : FVec Ideal ⟨1, ![512]⟩ .f32
  /-- the output projection -/
  WO : FVec Ideal ⟨2, ![1024, 1024]⟩ .f32

/-- The normalised entry `k` of a row, with gain, scale and shift. -/
def nrm (x g sc sh : Fin 1024 → EReal) (k : Fin 1024) : EReal :=
  x k * Ideal.rsqrt (Ideal.div (∑ l, x l * x l) (Ideal.ofBits .f32 1149239296#32) + Ideal.ofBits .f32 897988541#32)
    * g k * (1 + sc k) + sh k

/-- The normalised entry `d` of a head, with gain. -/
def rn (p g : Fin 64 → EReal) (d : Fin 64) : EReal :=
  p d * Ideal.rsqrt ((∑ x, p x * p x) * Ideal.ofBits .f32 1015021568#32 + Ideal.ofBits .f32 897988541#32) * g d

/-- The rotation of the first sixteen entries of a head by eight angles. -/
def rot (n : Fin 64 → EReal) (c s : Fin 8 → EReal) (d : Fin 64) : EReal :=
  if h : d.val < 8 then n ⟨d.val, by omega⟩ * c ⟨d.val, h⟩ - n ⟨8 + d.val, by omega⟩ * s ⟨d.val, h⟩
  else if h : d.val - 8 < 8 then
    n ⟨8 + (d.val - 8), by omega⟩ * c ⟨d.val - 8, h⟩ + n ⟨d.val - 8, by omega⟩ * s ⟨d.val - 8, h⟩
  else n ⟨16 + (d.val - 8 - 8), by omega⟩

variable (A : Args)

/-- The modulated norm of token `s` of batch `b`. -/
def H (b : Fin 8) (s : Fin 4096) (k : Fin 1024) : EReal :=
  nrm (fun k => A.X (ix3 b s k)) (fun k => A.G (ix1 k)) (fun k => A.M (ix3 1 b k)) (fun k => A.M (ix3 0 b k)) k

/-- The input projection. -/
def PR (b : Fin 8) (s : Fin 4096) (c : Fin 1280) : EReal := ∑ k, H A b s k * A.W (ix2 k c)

/-- The angle `e` of a token. -/
def ANG (b : Fin 8) (s : Fin 4096) (e : Fin 8) : EReal :=
  FloatOps.sitofp (F := Ideal) .f32 (A.P (ix2 b s))
    * Ideal.pow (Ideal.ofBits .f32 1223959552#32)
      (Ideal.div (-(Ideal.ofBits .f32 1073741824#32 * FloatOps.sitofp (F := Ideal) .f32 (BitVec.ofNat 32 e.val)))
        (Ideal.ofBits .f32 1098907648#32))

/-- The query of head `hd`. -/
def Q (b : Fin 8) (s : Fin 4096) (hd : Fin 8) (d : Fin 64) : EReal :=
  rot (rn (fun d => PR A b s ⟨64 * hd.val + d.val, by omega⟩) (fun d => A.GQ (ix1 d)))
    (fun e => Ideal.cos (ANG A b s e)) (fun e => Ideal.sin (ANG A b s e)) d

/-- The key of key head `kv`. -/
def K (b : Fin 8) (s : Fin 4096) (kv : Fin 2) (d : Fin 64) : EReal :=
  rot (rn (fun d => PR A b s ⟨512 + (64 * kv.val + d.val), by omega⟩) (fun d => A.GK (ix1 d)))
    (fun e => Ideal.cos (ANG A b s e)) (fun e => Ideal.sin (ANG A b s e)) d

/-- The value of key head `kv`. -/
def V (b : Fin 8) (s : Fin 4096) (kv : Fin 2) (d : Fin 64) : EReal :=
  PR A b s ⟨640 + (64 * kv.val + d.val), by omega⟩

/-- The pooled channel `c` before pooling. -/
def U (b : Fin 8) (s : Fin 4096) (c : Fin 512) : EReal := PR A b s ⟨768 + c.val, by omega⟩

/-- The keys with a block of 128 zeros in front. -/
def KP (b : Fin 8) (kv : Fin 2) (d : Fin 64) (n : ℕ) : EReal :=
  if h : 128 ≤ n ∧ n - 128 < 4096 then K A b ⟨n - 128, h.2⟩ kv d else 0

/-- The values with a block of 128 zeros in front. -/
def VP (b : Fin 8) (kv : Fin 2) (d : Fin 64) (n : ℕ) : EReal :=
  if h : 128 ≤ n ∧ n - 128 < 4096 then V A b ⟨n - 128, h.2⟩ kv d else 0

/-- The pooled channels with sixteen zeros in front. -/
def UP (b : Fin 8) (c : Fin 512) (n : ℕ) : EReal :=
  if h : 16 ≤ n ∧ n - 16 < 4096 then U A b ⟨n - 16, h.2⟩ c else 0

/-- The score of query token `s` against row `r` of its two key blocks: minus infinity outside the window. -/
def SC (b : Fin 8) (hd : Fin 8) (s : Fin 4096) (r : Fin 256) : EReal :=
  if s.val % 128 < r.val ∧ r.val ≤ s.val % 128 + 128 ∧ 128 ≤ s.val / 128 * 128 + r.val then
    (∑ d, Q A b s hd d * KP A b ⟨hd.val / 4, by omega⟩ d (s.val / 128 * 128 + r.val)) * Ideal.ofBits .f32 1040187392#32
  else ⊥

/-- The attention's result. -/
def AT (b : Fin 8) (s : Fin 4096) (hd : Fin 8) (d : Fin 64) : EReal :=
  soft (SC A b hd s) (A.SK (ix1 hd)) (fun r => VP A b ⟨hd.val / 4, by omega⟩ d (s.val / 128 * 128 + r.val))

/-- The number of tokens in a window of `w` that ends at token `s`. -/
def cnt (s w : ℕ) : EReal := ((min (s + 1) w : ℕ) : ℝ)

/-- The mean over the window of `w` tokens that ends at `s`, less the token's own entry. -/
def PL (b : Fin 8) (s : Fin 4096) (w : ℕ) (c : Fin 512) : EReal :=
  Ideal.div (∑ d : Fin w, UP A b c (s.val + 16 - d.val)) (cnt s.val w) - U A b s c

/-- The pooled group `g` after its matrix and scale. -/
def PO (b : Fin 8) (s : Fin 4096) (g : Fin 4) (d : Fin 128) : EReal :=
  (∑ c : Fin 128, PL A b s (2 ^ (g.val + 1)) ⟨128 * g.val + c.val, by omega⟩ * A.PW (ix3 g c d)) * A.PS (ix1 ⟨128 * g.val + d.val, by omega⟩)

/-- The output of the mixer. -/
def OUT (b : Fin 8) (s : Fin 4096) (e : Fin 1024) : EReal :=
  A.X (ix3 b s e) + A.M (ix3 2 b e)
    * (∑ a : Fin 512, AT A b s ⟨a.val / 64, by omega⟩ ⟨a.val % 64, by omega⟩ * A.WO (ix2 ⟨a.val, by omega⟩ e)
      + ∑ a : Fin 512, PO A b s ⟨a.val / 128, by omega⟩ ⟨a.val % 128, by omega⟩ * A.WO (ix2 ⟨512 + a.val, by omega⟩ e))

end Cert.Mix
end
-- ==== Proof.MixOps.lean ====
/- The operations of the mixer's body, entry by entry, over variables. -/
module

public import proofs.«01_k».proof.Proof.Gen.KernelIdeal.Skeleton
public import proofs.«01_k».proof.Proof.MixSpec
public import Idealize.ShloMosaic.Lib.Pipeline.ValueKit
public import Idealize.ShloMosaic.Lib.Pointwise

@[expose] public section

set_option maxRecDepth 16384

noncomputable section
open Idealize.ShloMosaic
open scoped BigOperators
namespace Cert.KernelIdeal.Mix
open Cert.KernelIdeal Cert.KernelIdeal.Gen Cert.Mix

variable (x1 : FVec Ideal S1x512x1024 .f32) (x2 : FVec Ideal S1x6x1024 .f32) (x3 : IVec S1x1x512 32)
  (x4 : FVec Ideal S1x1024 .f32) (x5 : FVec Ideal S768x1024 .bf16) (x6 : FVec Ideal S1024x512 .bf16)
  (x7 x8 : FVec Ideal S64x512 .f32) (x9 : FVec Ideal S8x512 .f32)

/-- The normalised and modulated block. -/
theorem pay7_at (s : Fin 512) (k : Fin 1024) : k0_pay7 (F := Ideal) x1 x2 x4 (ix2 s k)
    = nrm (fun k => x1 (ix3 0 s k)) (fun k => x4 (ix2 0 k)) (fun k => x2 (ix3 0 1 k)) (fun k => x2 (ix3 0 0 k)) k := by
  pointwise [k0_pay7, k0_pay5, k0_pay6]
  try rfl

/-- The projection to queries, keys and values, transposed. -/
theorem pay8_at (n : Fin 768) (s : Fin 512) : k0_pay8 (F := Ideal) x1 x2 x4 x5 (ix2 n s)
    = ∑ k, x5 (ix2 n k) * k0_pay7 (F := Ideal) x1 x2 x4 (ix2 s k) := by
  pointwise [k0_pay8]

/-- The projection to the pooled channels. -/
theorem pay9_at (s : Fin 512) (c : Fin 512) : k0_pay9 (F := Ideal) x1 x2 x4 x6 (ix2 s c)
    = ∑ k, k0_pay7 (F := Ideal) x1 x2 x4 (ix2 s k) * x6 (ix2 k c) := by
  pointwise [k0_pay9]

/-- The cosines of the angles. -/
theorem pay11_at (f : Fin 8) (s : Fin 512) : k0_pay11 (F := Ideal) x3 x9 (ix2 f s)
    = Ideal.cos (FloatOps.sitofp (F := Ideal) .f32 (x3 (ix3 0 0 s)) * x9 (ix2 f s)) := by
  pointwise [k0_pay11, k0_pay10]
  try rfl

/-- The sines of the angles. -/
theorem pay12_at (f : Fin 8) (s : Fin 512) : k0_pay12 (F := Ideal) x3 x9 (ix2 f s)
    = Ideal.sin (FloatOps.sitofp (F := Ideal) .f32 (x3 (ix3 0 0 s)) * x9 (ix2 f s)) := by
  pointwise [k0_pay12, k0_pay10]
  try rfl

/-- The rotated queries. -/
theorem pay13_at (q : FVec Ideal S768x512 .f32) (hd : Fin 8) (d : Fin 64) (s : Fin 512) :
    k0_pay13 (F := Ideal) q x3 x9 x7 (ix2 ⟨64 * hd.val + d.val, by omega⟩ s)
    = rot (rn (fun d => q (ix2 ⟨64 * hd.val + d.val, by omega⟩ s)) (fun d => x7 (ix2 d s)))
        (fun e => k0_pay11 (F := Ideal) x3 x9 (ix2 e s)) (fun e => k0_pay12 (F := Ideal) x3 x9 (ix2 e s)) d := by
  pointwise [k0_pay13]
  simp only [Nat.mul_comm]
  try rfl

/-- The rotated keys. -/
theorem pay14_at (q : FVec Ideal S768x512 .f32) (co si : FVec Ideal S8x512 .f32) (kv : Fin 2) (d : Fin 64) (s : Fin 512) :
    k0_pay14 (F := Ideal) q co si x8 (ix2 s ⟨64 * kv.val + d.val, by omega⟩)
    = rot (rn (fun d => q (ix2 ⟨512 + (64 * kv.val + d.val), by omega⟩ s)) (fun d => x8 (ix2 d s)))
        (fun e => co (ix2 e s)) (fun e => si (ix2 e s)) d := by
  pointwise [k0_pay14]
  simp only [Nat.mul_comm]
  try rfl

/-- The values. -/
theorem pay15_at (q : FVec Ideal S768x512 .f32) (n : Fin 128) (s : Fin 512) :
    k0_pay15 (F := Ideal) q (ix2 n s) = q (ix2 ⟨640 + n.val, by omega⟩ s) := by
  pointwise [k0_pay15]

end Cert.KernelIdeal.Mix
end
-- ==== Proof.MixCtx.lean ====
/- One run of the mixer's body: its memory references and input blocks in one record, and the words of the run that the
   proof names. -/
module

public import proofs.«01_k».proof.Proof.Gen.KernelIdeal.Frame
public import proofs.«01_k».proof.Proof.MixOps
public import Idealize.ShloMosaic.Lib.Pipeline.ValueKit
public import Idealize.ShloMosaic.Lib.Pointwise
public import Idealize.ShloMosaic.Lib.WritesUnit

@[expose] public section

set_option maxRecDepth 16384

noncomputable section
open Idealize.ShloMosaic Idealize.ShloMosaic.TcCoe
open scoped BigOperators
namespace Cert.KernelIdeal.Mix
open Cert.KernelIdeal Cert.KernelIdeal.Gen Cert.Mix

/-- The references and input blocks of one run of the body. -/
structure Ctx where
  /-- the device -/
  c : Dev nD
  /-- the grid point -/
  i : grid0.Coords
  /-- argument 0 -/
  arg2 : Memref sig .tc .smem S8 .f32
  /-- argument 0 is a whole buffer -/
  harg2 : arg2.IsWhole
  /-- argument 1 -/
  arg3 : Memref sig .tc .vmem S1x512x1024 .f32
  /-- argument 1 is a whole buffer -/
  harg3 : arg3.IsWhole
  /-- argument 2 -/
  arg4 : Memref sig .tc .vmem S1x6x1024 .f32
  /-- argument 2 is a whole buffer -/
  harg4 : arg4.IsWhole
  /-- argument 3 -/
  arg5 : Memref sig .tc .vmem S1x1x512 .i32
  /-- argument 3 is a whole buffer -/
  harg5 : arg5.IsWhole
  /-- argument 4 -/
  arg6 : Memref sig .tc .vmem S1x1024 .f32
  /-- argument 4 is a whole buffer -/
  harg6 : arg6.IsWhole
  /-- argument 5 -/
  arg7 : Memref sig .tc .vmem S768x1024 .bf16
  /-- argument 5 is a whole buffer -/
  harg7 : arg7.IsWhole
  /-- argument 6 -/
  arg8 : Memref sig .tc .vmem S1024x512 .bf16
  /-- argument 6 is a whole buffer -/
  harg8 : arg8.IsWhole
  /-- argument 7 -/
  arg9 : Memref sig .tc .vmem S64x512 .f32
  /-- argument 7 is a whole buffer -/
  harg9 : arg9.IsWhole
  /-- argument 8 -/
  arg10 : Memref sig .tc .vmem S64x512 .f32
  /-- argument 8 is a whole buffer -/
  harg10 : arg10.IsWhole
  /-- argument 9 -/
  arg11 : Memref sig .tc .vmem S8x512 .f32
  /-- argument 9 is a whole buffer -/
  harg11 : arg11.IsWhole
  /-- argument 10 -/
  arg12 : Memref sig .tc .vmem S4x128x128 .bf16
  /-- argument 10 is a whole buffer -/
  harg12 : arg12.IsWhole
  /-- argument 11 -/
  arg13 : Memref sig .tc .vmem S1x512 .f32
  /-- argument 11 is a whole buffer -/
  harg13 : arg13.IsWhole
  /-- argument 12 -/
  arg14 : Memref sig .tc .vmem S512x1024 .bf16
  /-- argument 12 is a whole buffer -/
  harg14 : arg14.IsWhole
  /-- argument 13 -/
  arg15 : Memref sig .tc .vmem S512x1024 .bf16
  /-- argument 13 is a whole buffer -/
  harg15 : arg15.IsWhole
  /-- argument 14 -/
  arg16 : Memref sig .tc .vmem S1x512x1024 .f32
  /-- argument 14 is a whole buffer -/
  harg16 : arg16.IsWhole
  /-- argument 15 -/
  arg17 : Memref sig .tc .vmem S512x512 .bf16
  /-- argument 15 is a whole buffer -/
  harg17 : arg17.IsWhole
  /-- argument 16 -/
  arg18 : Memref sig .tc .vmem S640x128 .bf16
  /-- argument 16 is a whole buffer -/
  harg18 : arg18.IsWhole
  /-- argument 17 -/
  arg19 : Memref sig .tc .vmem S128x640 .bf16
  /-- argument 17 is a whole buffer -/
  harg19 : arg19.IsWhole
  /-- argument 18 -/
  arg20 : Memref sig .tc .vmem S528x512 .f32
  /-- argument 18 is a whole buffer -/
  harg20 : arg20.IsWhole
  /-- argument 19 -/
  arg21 : Memref sig .tc .vmem S512x512 .bf16
  /-- argument 19 is a whole buffer -/
  harg21 : arg21.IsWhole
  /-- input block 0 -/
  x0 : Vec Ideal S8 .f32
  /-- input block 1 -/
  x1 : Vec Ideal S1x512x1024 .f32
  /-- input block 2 -/
  x2 : Vec Ideal S1x6x1024 .f32
  /-- input block 3 -/
  x3 : Vec Ideal S1x1x512 .i32
  /-- input block 4 -/
  x4 : Vec Ideal S1x1024 .f32
  /-- input block 5 -/
  x5 : Vec Ideal S768x1024 .bf16
  /-- input block 6 -/
  x6 : Vec Ideal S1024x512 .bf16
  /-- input block 7 -/
  x7 : Vec Ideal S64x512 .f32
  /-- input block 8 -/
  x8 : Vec Ideal S64x512 .f32
  /-- input block 9 -/
  x9 : Vec Ideal S8x512 .f32
  /-- input block 10 -/
  x10 : Vec Ideal S4x128x128 .bf16
  /-- input block 11 -/
  x11 : Vec Ideal S1x512 .f32
  /-- input block 12 -/
  x12 : Vec Ideal S512x1024 .bf16
  /-- input block 13 -/
  x13 : Vec Ideal S512x1024 .bf16
  /-- carried scratch 1 -/
  xs1 : Vec Ideal S640x128 .bf16
  /-- carried scratch 2 -/
  xs2 : Vec Ideal S128x640 .bf16
  /-- carried scratch 3 -/
  xs3 : Vec Ideal S528x512 .f32

section Reads
variable {sp : Space} {e : EltTy} {N0 N1 : ℕ} (m : Memref sig .tc sp ⟨2, ![N0, N1]⟩ e)

/-- A load of a rectangle of a buffer's known contents. -/
theorem ra_nil (h : m.IsWhole) (X : (⟨2, ![N0, N1]⟩ : Shape).Idx → Elt Ideal e) (o1 o2 n1 n2 : ℕ)
    (inb : ∀ a, (![o1, o2] : Fin 2 → ℕ) a + (![n1, n2] : Fin 2 → ℕ) a ≤ (⟨2, ![N0, N1]⟩ : Shape).size a)
    (j : Fin n1) (k : Fin n2) (j' : Fin N0) (k' : Fin N1) (h1 : j'.val = o1 + j.val) (h2 : k'.val = o2 + k.val) :
    View.readAt (Elt Ideal) m.view (Rect.unit (s := ⟨2, ![N0, N1]⟩) ![o1, o2] ![n1, n2] inb).toLoadRect (h.unread X) (ix2 j k)
      = X (ix2 j' k') := by
  rw [View.readAt_eq_ld, h.read_unread]
  exact View.ld_unit_apply_of X ![o1, o2] ![n1, n2] inb (ix2 j k) (ix2 j' k') (fun a => by
    match a with
    | 0 => exact h1
    | 1 => exact h2)

/-- A load inside the last store. -/
theorem ra_hit (f : m.view.ty.Contents (Elt Ideal)) (p1 p2 z1 z2 o1 o2 n1 n2 : ℕ)
    (inbw : ∀ a, (![p1, p2] : Fin 2 → ℕ) a + (![z1, z2] : Fin 2 → ℕ) a ≤ (⟨2, ![N0, N1]⟩ : Shape).size a)
    (w : (⟨2, ![z1, z2]⟩ : Shape).Idx → Elt Ideal e) (L : List (View.Piece (Elt Ideal) ⟨2, ![N0, N1]⟩ e))
    (inb : ∀ a, (![o1, o2] : Fin 2 → ℕ) a + (![n1, n2] : Fin 2 → ℕ) a ≤ (⟨2, ![N0, N1]⟩ : Shape).size a)
    (j : Fin n1) (k : Fin n2) (j' : Fin z1) (k' : Fin z2) (h1 : o1 + j.val = p1 + j'.val) (h2 : o2 + k.val = p2 + k'.val) :
    View.readAt (Elt Ideal) m.view (Rect.unit (s := ⟨2, ![N0, N1]⟩) ![o1, o2] ![n1, n2] inb).toLoadRect
      (m.view.writes (Elt Ideal) f ((⟨Rect.unit (s := ⟨2, ![N0, N1]⟩) ![p1, p2] ![z1, z2] inbw, w⟩ : View.Piece (Elt Ideal) ⟨2, ![N0, N1]⟩ e) :: L)) (ix2 j k)
      = w (ix2 j' k') := by
  rw [View.readAt_eq_ld]
  exact View.read_writes_cons_unit_of_mem m.view f inbw w L _ (ix2 j' k') rfl (fun a => by
    rw [Rect.idx_unit_val]
    match a with
    | 0 => exact h1
    | 1 => exact h2)

/-- A load outside the last store. -/
theorem ra_miss (f : m.view.ty.Contents (Elt Ideal)) (p1 p2 z1 z2 o1 o2 n1 n2 : ℕ)
    (inbw : ∀ a, (![p1, p2] : Fin 2 → ℕ) a + (![z1, z2] : Fin 2 → ℕ) a ≤ (⟨2, ![N0, N1]⟩ : Shape).size a)
    (w : (⟨2, ![z1, z2]⟩ : Shape).Idx → Elt Ideal e) (L : List (View.Piece (Elt Ideal) ⟨2, ![N0, N1]⟩ e))
    (inb : ∀ a, (![o1, o2] : Fin 2 → ℕ) a + (![n1, n2] : Fin 2 → ℕ) a ≤ (⟨2, ![N0, N1]⟩ : Shape).size a)
    (j : Fin n1) (k : Fin n2) (h : (o1 + j.val < p1 ∨ p1 + z1 ≤ o1 + j.val) ∨ (o2 + k.val < p2 ∨ p2 + z2 ≤ o2 + k.val)) :
    View.readAt (Elt Ideal) m.view (Rect.unit (s := ⟨2, ![N0, N1]⟩) ![o1, o2] ![n1, n2] inb).toLoadRect
      (m.view.writes (Elt Ideal) f ((⟨Rect.unit (s := ⟨2, ![N0, N1]⟩) ![p1, p2] ![z1, z2] inbw, w⟩ : View.Piece (Elt Ideal) ⟨2, ![N0, N1]⟩ e) :: L)) (ix2 j k)
      = View.readAt (Elt Ideal) m.view (Rect.unit (s := ⟨2, ![N0, N1]⟩) ![o1, o2] ![n1, n2] inb).toLoadRect
      (m.view.writes (Elt Ideal) f L) (ix2 j k) := by
  rw [View.readAt_eq_ld, View.readAt_eq_ld]
  rcases h with h | h
  · exact View.read_writes_cons_unit_of_not_mem m.view f inbw w L _ rfl (0 : Fin 2) (by rw [Rect.idx_unit_val]; exact h)
  · exact View.read_writes_cons_unit_of_not_mem m.view f inbw w L _ rfl (1 : Fin 2) (by rw [Rect.idx_unit_val]; exact h)

end Reads

variable (z : Ctx)

/-- Input block 1 as the body loads it. -/
def R1 : Vec Ideal S1x512x1024 .f32 :=
  View.readAt (Elt Ideal) z.arg3.view (Rect.unit (s := S1x512x1024) ![0, 0, 0] S1x512x1024.size (by decide)).toLoadRect (z.harg3.unread z.x1)

/-- It is the block. -/
theorem R1_eq : R1 z = z.x1 := by
  rw [R1, View.readAt_eq_ld, z.harg3.read_unread]
  exact View.ld_unit_lit' (by decide) z.x1 (by decide)

/-- Input block 2 as the body loads it. -/
def R2 : Vec Ideal S1x6x1024 .f32 :=
  View.readAt (Elt Ideal) z.arg4.view (Rect.unit (s := S1x6x1024) ![0, 0, 0] S1x6x1024.size (by decide)).toLoadRect (z.harg4.unread z.x2)

/-- It is the block. -/
theorem R2_eq : R2 z = z.x2 := by
  rw [R2, View.readAt_eq_ld, z.harg4.read_unread]
  exact View.ld_unit_lit' (by decide) z.x2 (by decide)

/-- Input block 3 as the body loads it. -/
def R3 : Vec Ideal S1x1x512 .i32 :=
  View.readAt (Elt Ideal) z.arg5.view (Rect.unit (s := S1x1x512) ![0, 0, 0] S1x1x512.size (by decide)).toLoadRect (z.harg5.unread z.x3)

/-- It is the block. -/
theorem R3_eq : R3 z = z.x3 := by
  rw [R3, View.readAt_eq_ld, z.harg5.read_unread]
  exact View.ld_unit_lit' (by decide) z.x3 (by decide)

/-- Input block 4 as the body loads it. -/
def R4 : Vec Ideal S1x1024 .f32 :=
  View.readAt (Elt Ideal) z.arg6.view (Rect.unit (s := S1x1024) ![0, 0] S1x1024.size (by decide)).toLoadRect (z.harg6.unread z.x4)

/-- It is the block. -/
theorem R4_eq : R4 z = z.x4 := by
  rw [R4, View.readAt_eq_ld, z.harg6.read_unread]
  exact View.ld_unit_lit' (by decide) z.x4 (by decide)

/-- Input block 5 as the body loads it. -/
def R5 : Vec Ideal S768x1024 .bf16 :=
  View.readAt (Elt Ideal) z.arg7.view (Rect.unit (s := S768x1024) ![0, 0] S768x1024.size (by decide)).toLoadRect (z.harg7.unread z.x5)

/-- It is the block. -/
theorem R5_eq : R5 z = z.x5 := by
  rw [R5, View.readAt_eq_ld, z.harg7.read_unread]
  exact View.ld_unit_lit' (by decide) z.x5 (by decide)

/-- Input block 6 as the body loads it. -/
def R6 : Vec Ideal S1024x512 .bf16 :=
  View.readAt (Elt Ideal) z.arg8.view (Rect.unit (s := S1024x512) ![0, 0] S1024x512.size (by decide)).toLoadRect (z.harg8.unread z.x6)

/-- It is the block. -/
theorem R6_eq : R6 z = z.x6 := by
  rw [R6, View.readAt_eq_ld, z.harg8.read_unread]
  exact View.ld_unit_lit' (by decide) z.x6 (by decide)

/-- Input block 7 as the body loads it. -/
def R7 : Vec Ideal S64x512 .f32 :=
  View.readAt (Elt Ideal) z.arg9.view (Rect.unit (s := S64x512) ![0, 0] S64x512.size (by decide)).toLoadRect (z.harg9.unread z.x7)

/-- It is the block. -/
theorem R7_eq : R7 z = z.x7 := by
  rw [R7, View.readAt_eq_ld, z.harg9.read_unread]
  exact View.ld_unit_lit' (by decide) z.x7 (by decide)

/-- Input block 8 as the body loads it. -/
def R8 : Vec Ideal S64x512 .f32 :=
  View.readAt (Elt Ideal) z.arg10.view (Rect.unit (s := S64x512) ![0, 0] S64x512.size (by decide)).toLoadRect (z.harg10.unread z.x8)

/-- It is the block. -/
theorem R8_eq : R8 z = z.x8 := by
  rw [R8, View.readAt_eq_ld, z.harg10.read_unread]
  exact View.ld_unit_lit' (by decide) z.x8 (by decide)

/-- Input block 9 as the body loads it. -/
def R9 : Vec Ideal S8x512 .f32 :=
  View.readAt (Elt Ideal) z.arg11.view (Rect.unit (s := S8x512) ![0, 0] S8x512.size (by decide)).toLoadRect (z.harg11.unread z.x9)

/-- It is the block. -/
theorem R9_eq : R9 z = z.x9 := by
  rw [R9, View.readAt_eq_ld, z.harg11.read_unread]
  exact View.ld_unit_lit' (by decide) z.x9 (by decide)

/-- Input block 12 as the body loads it. -/
def R12 : Vec Ideal S512x1024 .bf16 :=
  View.readAt (Elt Ideal) z.arg14.view (Rect.unit (s := S512x1024) ![0, 0] S512x1024.size (by decide)).toLoadRect (z.harg14.unread z.x12)

/-- It is the block. -/
theorem R12_eq : R12 z = z.x12 := by
  rw [R12, View.readAt_eq_ld, z.harg14.read_unread]
  exact View.ld_unit_lit' (by decide) z.x12 (by decide)

/-- Input block 13 as the body loads it. -/
def R13 : Vec Ideal S512x1024 .bf16 :=
  View.readAt (Elt Ideal) z.arg15.view (Rect.unit (s := S512x1024) ![0, 0] S512x1024.size (by decide)).toLoadRect (z.harg15.unread z.x13)

/-- It is the block. -/
theorem R13_eq : R13 z = z.x13 := by
  rw [R13, View.readAt_eq_ld, z.harg15.read_unread]
  exact View.ld_unit_lit' (by decide) z.x13 (by decide)

/-- The run's word `v29`. -/
def A29 : FVec Ideal S512x1024 .bf16 := kernelRun0_A.sl.v29 (F := Ideal) z.c z.arg3 z.harg3 z.arg4 z.harg4 z.arg6 z.harg6 z.x1 z.x2 z.x4
/-- The run's word `v32`. -/
def A32 : FVec Ideal S768x512 .f32 := kernelRun0_A.sl.v32 (F := Ideal) z.c z.arg3 z.harg3 z.arg4 z.harg4 z.arg6 z.harg6 z.arg7 z.harg7 z.x1 z.x2 z.x4 z.x5
/-- The run's word `v35`. -/
def A35 : FVec Ideal S512x512 .f32 := kernelRun0_A.sl.v35 (F := Ideal) z.c z.arg3 z.harg3 z.arg4 z.harg4 z.arg6 z.harg6 z.arg8 z.harg8 z.x1 z.x2 z.x4 z.x6
/-- The run's word `v596`. -/
def A596 : FVec Ideal S512x512 .f32 := kernelRun0_A.sl.v596 (F := Ideal) z.c z.arg3 z.harg3 z.arg4 z.harg4 z.arg6 z.harg6 z.arg8 z.harg8 z.x1 z.x2 z.x4 z.x6
/-- The run's word `v84`. -/
def A84 : FVec Ideal S512x512 .bf16 := kernelRun0_A.sl.v84 (F := Ideal) z.c z.arg3 z.harg3 z.arg4 z.harg4 z.arg5 z.harg5 z.arg6 z.harg6 z.arg7 z.harg7 z.arg9 z.harg9 z.arg11 z.harg11 z.x1 z.x2 z.x3 z.x4 z.x5 z.x7 z.x9
/-- The run's word `v125`. -/
def A125 : FVec Ideal S512x128 .bf16 := kernelRun0_A.sl.v125 (F := Ideal) z.c z.arg3 z.harg3 z.arg4 z.harg4 z.arg5 z.harg5 z.arg6 z.harg6 z.arg7 z.harg7 z.arg10 z.harg10 z.arg11 z.harg11 z.x1 z.x2 z.x3 z.x4 z.x5 z.x8 z.x9
/-- The run's word `v130`. -/
def A130 : FVec Ideal S128x512 .bf16 := kernelRun0_A.sl.v130 (F := Ideal) z.c z.arg3 z.harg3 z.arg4 z.harg4 z.arg6 z.harg6 z.arg7 z.harg7 z.x1 z.x2 z.x4 z.x5
/-- The run's word `r`. -/
def Abias : FVec Ideal S256x512 .f32 := kernelRun0_A.sl.r (F := Ideal) z.i
/-- The run's word `v166`. -/
def A166 : FVec Ideal S256x128 .bf16 := kernelRun0_A.sl.v166 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v273`. -/
def A273 : FVec Ideal S256x128 .bf16 := kernelRun0_A.sl.v273 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v380`. -/
def A380 : FVec Ideal S256x128 .bf16 := kernelRun0_A.sl.v380 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v487`. -/
def A487 : FVec Ideal S256x128 .bf16 := kernelRun0_A.sl.v487 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v597`. -/
def A597 : FVec Ideal S528x512 .f32 := kernelRun0_A.sl.v597 (F := Ideal) z.c z.arg3 z.harg3 z.arg4 z.harg4 z.arg6 z.harg6 z.arg8 z.harg8 z.arg20 z.x1 z.x2 z.x4 z.x6
/-- The run's word `v711`. -/
def A711 : FVec Ideal S512x512 .bf16 := kernelRun0_A.sl.v711 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.arg21 z.x0 z.x1 z.x2 z.x3 z.x4 z.x5 z.x7 z.x8 z.x9
/-- The run's word `v710`. -/
def A710 : FVec Ideal S512x512 .bf16 := kernelRun0_A.sl.v710 (F := Ideal) z.c z.i z.arg3 z.harg3 z.arg4 z.harg4 z.arg6 z.harg6 z.arg8 z.harg8 z.arg12 z.harg12 z.arg13 z.harg13 z.arg20 z.x1 z.x2 z.x4 z.x6 z.x10 z.x11
/-- The run's word `v726`. -/
def A726 : FVec Ideal S128x128 .bf16 := kernelRun0_A.sl.v726 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v730`. -/
def A730 : FVec Ideal S128x128 .bf16 := kernelRun0_A.sl.v730 (F := Ideal) z.c z.arg3 z.harg3 z.arg4 z.harg4 z.arg6 z.harg6 z.arg7 z.harg7 z.arg19 z.x1 z.x2 z.x4 z.x5
/-- The run's word `v734`. -/
def A734 : FVec Ideal S16x512 .f32 := kernelRun0_A.sl.v734 (F := Ideal) z.c z.arg3 z.harg3 z.arg4 z.harg4 z.arg6 z.harg6 z.arg8 z.harg8 z.arg20 z.x1 z.x2 z.x4 z.x6
/-- The run's word `r_1`. -/
def As1 : Elt Ideal .f32 := kernelRun0_A.sl.r_1 (F := Ideal) z.c z.arg2 z.harg2 z.x0
/-- The run's word `r_2`. -/
def As2 : Elt Ideal .f32 := kernelRun0_A.sl.r_2 (F := Ideal) z.c z.arg2 z.harg2 z.x0
/-- The run's word `r_3`. -/
def As3 : Elt Ideal .f32 := kernelRun0_A.sl.r_3 (F := Ideal) z.c z.arg2 z.harg2 z.x0
/-- The run's word `r_4`. -/
def As4 : Elt Ideal .f32 := kernelRun0_A.sl.r_4 (F := Ideal) z.c z.arg2 z.harg2 z.x0
/-- The run's word `r_5`. -/
def As5 : Elt Ideal .f32 := kernelRun0_A.sl.r_5 (F := Ideal) z.c z.arg2 z.harg2 z.x0
/-- The run's word `r_6`. -/
def As6 : Elt Ideal .f32 := kernelRun0_A.sl.r_6 (F := Ideal) z.c z.arg2 z.harg2 z.x0
/-- The run's word `r_7`. -/
def As7 : Elt Ideal .f32 := kernelRun0_A.sl.r_7 (F := Ideal) z.c z.arg2 z.harg2 z.x0
/-- The run's word `r_8`. -/
def As8 : Elt Ideal .f32 := kernelRun0_A.sl.r_8 (F := Ideal) z.c z.arg2 z.harg2 z.x0
/-- The run's word `v191`. -/
def A191 : FVec Ideal S64x256 .bf16 := kernelRun0_A.sl.v191 (F := Ideal) z.c z.arg3 z.harg3 z.arg4 z.harg4 z.arg6 z.harg6 z.arg7 z.harg7 z.arg19 z.x1 z.x2 z.x4 z.x5
/-- The run's word `v244`. -/
def A244 : FVec Ideal S64x256 .bf16 := kernelRun0_A.sl.v244 (F := Ideal) z.c z.arg3 z.harg3 z.arg4 z.harg4 z.arg6 z.harg6 z.arg7 z.harg7 z.arg19 z.x1 z.x2 z.x4 z.x5
/-- The run's word `v298`. -/
def A298 : FVec Ideal S64x256 .bf16 := kernelRun0_A.sl.v298 (F := Ideal) z.c z.arg3 z.harg3 z.arg4 z.harg4 z.arg6 z.harg6 z.arg7 z.harg7 z.arg19 z.x1 z.x2 z.x4 z.x5
/-- The run's word `v351`. -/
def A351 : FVec Ideal S64x256 .bf16 := kernelRun0_A.sl.v351 (F := Ideal) z.c z.arg3 z.harg3 z.arg4 z.harg4 z.arg6 z.harg6 z.arg7 z.harg7 z.arg19 z.x1 z.x2 z.x4 z.x5
/-- The run's word `v405`. -/
def A405 : FVec Ideal S64x256 .bf16 := kernelRun0_A.sl.v405 (F := Ideal) z.c z.arg3 z.harg3 z.arg4 z.harg4 z.arg6 z.harg6 z.arg7 z.harg7 z.arg19 z.x1 z.x2 z.x4 z.x5
/-- The run's word `v458`. -/
def A458 : FVec Ideal S64x256 .bf16 := kernelRun0_A.sl.v458 (F := Ideal) z.c z.arg3 z.harg3 z.arg4 z.harg4 z.arg6 z.harg6 z.arg7 z.harg7 z.arg19 z.x1 z.x2 z.x4 z.x5
/-- The run's word `v512`. -/
def A512 : FVec Ideal S64x256 .bf16 := kernelRun0_A.sl.v512 (F := Ideal) z.c z.arg3 z.harg3 z.arg4 z.harg4 z.arg6 z.harg6 z.arg7 z.harg7 z.arg19 z.x1 z.x2 z.x4 z.x5
/-- The run's word `v565`. -/
def A565 : FVec Ideal S64x256 .bf16 := kernelRun0_A.sl.v565 (F := Ideal) z.c z.arg3 z.harg3 z.arg4 z.harg4 z.arg6 z.harg6 z.arg7 z.harg7 z.arg19 z.x1 z.x2 z.x4 z.x5
/-- The run's word `v167`. -/
def A167 : FVec Ideal S64x128 .bf16 := kernelRun0_A.sl.v167 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v168`. -/
def A168 : FVec Ideal S64x128 .bf16 := kernelRun0_A.sl.v168 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v169`. -/
def A169 : FVec Ideal S64x128 .bf16 := kernelRun0_A.sl.v169 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v170`. -/
def A170 : FVec Ideal S64x128 .bf16 := kernelRun0_A.sl.v170 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v220`. -/
def A220 : FVec Ideal S64x128 .bf16 := kernelRun0_A.sl.v220 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v221`. -/
def A221 : FVec Ideal S64x128 .bf16 := kernelRun0_A.sl.v221 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v222`. -/
def A222 : FVec Ideal S64x128 .bf16 := kernelRun0_A.sl.v222 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v223`. -/
def A223 : FVec Ideal S64x128 .bf16 := kernelRun0_A.sl.v223 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v274`. -/
def A274 : FVec Ideal S64x128 .bf16 := kernelRun0_A.sl.v274 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v275`. -/
def A275 : FVec Ideal S64x128 .bf16 := kernelRun0_A.sl.v275 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v276`. -/
def A276 : FVec Ideal S64x128 .bf16 := kernelRun0_A.sl.v276 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v277`. -/
def A277 : FVec Ideal S64x128 .bf16 := kernelRun0_A.sl.v277 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v327`. -/
def A327 : FVec Ideal S64x128 .bf16 := kernelRun0_A.sl.v327 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v328`. -/
def A328 : FVec Ideal S64x128 .bf16 := kernelRun0_A.sl.v328 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v329`. -/
def A329 : FVec Ideal S64x128 .bf16 := kernelRun0_A.sl.v329 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v330`. -/
def A330 : FVec Ideal S64x128 .bf16 := kernelRun0_A.sl.v330 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v381`. -/
def A381 : FVec Ideal S64x128 .bf16 := kernelRun0_A.sl.v381 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v382`. -/
def A382 : FVec Ideal S64x128 .bf16 := kernelRun0_A.sl.v382 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v383`. -/
def A383 : FVec Ideal S64x128 .bf16 := kernelRun0_A.sl.v383 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v384`. -/
def A384 : FVec Ideal S64x128 .bf16 := kernelRun0_A.sl.v384 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v434`. -/
def A434 : FVec Ideal S64x128 .bf16 := kernelRun0_A.sl.v434 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v435`. -/
def A435 : FVec Ideal S64x128 .bf16 := kernelRun0_A.sl.v435 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v436`. -/
def A436 : FVec Ideal S64x128 .bf16 := kernelRun0_A.sl.v436 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v437`. -/
def A437 : FVec Ideal S64x128 .bf16 := kernelRun0_A.sl.v437 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v488`. -/
def A488 : FVec Ideal S64x128 .bf16 := kernelRun0_A.sl.v488 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v489`. -/
def A489 : FVec Ideal S64x128 .bf16 := kernelRun0_A.sl.v489 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v490`. -/
def A490 : FVec Ideal S64x128 .bf16 := kernelRun0_A.sl.v490 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v491`. -/
def A491 : FVec Ideal S64x128 .bf16 := kernelRun0_A.sl.v491 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v541`. -/
def A541 : FVec Ideal S64x128 .bf16 := kernelRun0_A.sl.v541 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v542`. -/
def A542 : FVec Ideal S64x128 .bf16 := kernelRun0_A.sl.v542 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v543`. -/
def A543 : FVec Ideal S64x128 .bf16 := kernelRun0_A.sl.v543 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v544`. -/
def A544 : FVec Ideal S64x128 .bf16 := kernelRun0_A.sl.v544 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v203`. -/
def A203 : FVec Ideal S64x512 .bf16 := kernelRun0_A.sl.v203 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v256`. -/
def A256 : FVec Ideal S64x512 .bf16 := kernelRun0_A.sl.v256 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v310`. -/
def A310 : FVec Ideal S64x512 .bf16 := kernelRun0_A.sl.v310 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v363`. -/
def A363 : FVec Ideal S64x512 .bf16 := kernelRun0_A.sl.v363 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v417`. -/
def A417 : FVec Ideal S64x512 .bf16 := kernelRun0_A.sl.v417 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v470`. -/
def A470 : FVec Ideal S64x512 .bf16 := kernelRun0_A.sl.v470 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v524`. -/
def A524 : FVec Ideal S64x512 .bf16 := kernelRun0_A.sl.v524 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v577`. -/
def A577 : FVec Ideal S64x512 .bf16 := kernelRun0_A.sl.v577 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v593`. -/
def A593 : FVec Ideal S64x128 .bf16 := kernelRun0_A.sl.v593 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v589`. -/
def A589 : FVec Ideal S64x128 .bf16 := kernelRun0_A.sl.v589 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v585`. -/
def A585 : FVec Ideal S64x128 .bf16 := kernelRun0_A.sl.v585 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v581`. -/
def A581 : FVec Ideal S64x128 .bf16 := kernelRun0_A.sl.v581 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v540`. -/
def A540 : FVec Ideal S64x128 .bf16 := kernelRun0_A.sl.v540 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v536`. -/
def A536 : FVec Ideal S64x128 .bf16 := kernelRun0_A.sl.v536 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v532`. -/
def A532 : FVec Ideal S64x128 .bf16 := kernelRun0_A.sl.v532 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v528`. -/
def A528 : FVec Ideal S64x128 .bf16 := kernelRun0_A.sl.v528 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v486`. -/
def A486 : FVec Ideal S64x128 .bf16 := kernelRun0_A.sl.v486 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v482`. -/
def A482 : FVec Ideal S64x128 .bf16 := kernelRun0_A.sl.v482 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v478`. -/
def A478 : FVec Ideal S64x128 .bf16 := kernelRun0_A.sl.v478 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v474`. -/
def A474 : FVec Ideal S64x128 .bf16 := kernelRun0_A.sl.v474 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v433`. -/
def A433 : FVec Ideal S64x128 .bf16 := kernelRun0_A.sl.v433 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v429`. -/
def A429 : FVec Ideal S64x128 .bf16 := kernelRun0_A.sl.v429 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v425`. -/
def A425 : FVec Ideal S64x128 .bf16 := kernelRun0_A.sl.v425 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v421`. -/
def A421 : FVec Ideal S64x128 .bf16 := kernelRun0_A.sl.v421 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v379`. -/
def A379 : FVec Ideal S64x128 .bf16 := kernelRun0_A.sl.v379 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v375`. -/
def A375 : FVec Ideal S64x128 .bf16 := kernelRun0_A.sl.v375 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v371`. -/
def A371 : FVec Ideal S64x128 .bf16 := kernelRun0_A.sl.v371 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v367`. -/
def A367 : FVec Ideal S64x128 .bf16 := kernelRun0_A.sl.v367 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v326`. -/
def A326 : FVec Ideal S64x128 .bf16 := kernelRun0_A.sl.v326 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v322`. -/
def A322 : FVec Ideal S64x128 .bf16 := kernelRun0_A.sl.v322 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v318`. -/
def A318 : FVec Ideal S64x128 .bf16 := kernelRun0_A.sl.v318 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v314`. -/
def A314 : FVec Ideal S64x128 .bf16 := kernelRun0_A.sl.v314 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v272`. -/
def A272 : FVec Ideal S64x128 .bf16 := kernelRun0_A.sl.v272 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v268`. -/
def A268 : FVec Ideal S64x128 .bf16 := kernelRun0_A.sl.v268 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v264`. -/
def A264 : FVec Ideal S64x128 .bf16 := kernelRun0_A.sl.v264 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v260`. -/
def A260 : FVec Ideal S64x128 .bf16 := kernelRun0_A.sl.v260 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v219`. -/
def A219 : FVec Ideal S64x128 .bf16 := kernelRun0_A.sl.v219 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v215`. -/
def A215 : FVec Ideal S64x128 .bf16 := kernelRun0_A.sl.v215 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v211`. -/
def A211 : FVec Ideal S64x128 .bf16 := kernelRun0_A.sl.v211 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v207`. -/
def A207 : FVec Ideal S64x128 .bf16 := kernelRun0_A.sl.v207 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `HS4_32`. -/
def AH : List (View.Piece (Elt Ideal) S512x512 .bf16) := kernelRun0_A.sl.HS4_32 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v29`. -/
def B29 : FVec Ideal S512x1024 .bf16 := kernelRun0_B.sl.v29 (F := Ideal) z.c z.arg3 z.harg3 z.arg4 z.harg4 z.arg6 z.harg6 z.x1 z.x2 z.x4
/-- The run's word `v32`. -/
def B32 : FVec Ideal S768x512 .f32 := kernelRun0_B.sl.v32 (F := Ideal) z.c z.arg3 z.harg3 z.arg4 z.harg4 z.arg6 z.harg6 z.arg7 z.harg7 z.x1 z.x2 z.x4 z.x5
/-- The run's word `v35`. -/
def B35 : FVec Ideal S512x512 .f32 := kernelRun0_B.sl.v35 (F := Ideal) z.c z.arg3 z.harg3 z.arg4 z.harg4 z.arg6 z.harg6 z.arg8 z.harg8 z.x1 z.x2 z.x4 z.x6
/-- The run's word `v596`. -/
def B596 : FVec Ideal S512x512 .f32 := kernelRun0_B.sl.v596 (F := Ideal) z.c z.arg3 z.harg3 z.arg4 z.harg4 z.arg6 z.harg6 z.arg8 z.harg8 z.x1 z.x2 z.x4 z.x6
/-- The run's word `v84`. -/
def B84 : FVec Ideal S512x512 .bf16 := kernelRun0_B.sl.v84 (F := Ideal) z.c z.arg3 z.harg3 z.arg4 z.harg4 z.arg5 z.harg5 z.arg6 z.harg6 z.arg7 z.harg7 z.arg9 z.harg9 z.arg11 z.harg11 z.x1 z.x2 z.x3 z.x4 z.x5 z.x7 z.x9
/-- The run's word `v125`. -/
def B125 : FVec Ideal S512x128 .bf16 := kernelRun0_B.sl.v125 (F := Ideal) z.c z.arg3 z.harg3 z.arg4 z.harg4 z.arg5 z.harg5 z.arg6 z.harg6 z.arg7 z.harg7 z.arg10 z.harg10 z.arg11 z.harg11 z.x1 z.x2 z.x3 z.x4 z.x5 z.x8 z.x9
/-- The run's word `v130`. -/
def B130 : FVec Ideal S128x512 .bf16 := kernelRun0_B.sl.v130 (F := Ideal) z.c z.arg3 z.harg3 z.arg4 z.harg4 z.arg6 z.harg6 z.arg7 z.harg7 z.x1 z.x2 z.x4 z.x5
/-- The run's word `r`. -/
def Bbias : FVec Ideal S256x512 .f32 := kernelRun0_B.sl.r (F := Ideal) z.i
/-- The run's word `v166`. -/
def B166 : FVec Ideal S256x128 .bf16 := kernelRun0_B.sl.v166 (F := Ideal) z.c z.arg3 z.harg3 z.arg4 z.harg4 z.arg5 z.harg5 z.arg6 z.harg6 z.arg7 z.harg7 z.arg10 z.harg10 z.arg11 z.harg11 z.arg18 z.harg18 z.x1 z.x2 z.x3 z.x4 z.x5 z.x8 z.x9 z.xs1
/-- The run's word `v273`. -/
def B273 : FVec Ideal S256x128 .bf16 := kernelRun0_B.sl.v273 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v380`. -/
def B380 : FVec Ideal S256x128 .bf16 := kernelRun0_B.sl.v380 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v487`. -/
def B487 : FVec Ideal S256x128 .bf16 := kernelRun0_B.sl.v487 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v597`. -/
def B597 : FVec Ideal S528x512 .f32 := kernelRun0_B.sl.v597 (F := Ideal) z.c z.arg3 z.harg3 z.arg4 z.harg4 z.arg6 z.harg6 z.arg8 z.harg8 z.arg20 z.harg20 z.x1 z.x2 z.x4 z.x6 z.xs3
/-- The run's word `v711`. -/
def B711 : FVec Ideal S512x512 .bf16 := kernelRun0_B.sl.v711 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.arg21 z.x0 z.x1 z.x2 z.x3 z.x4 z.x5 z.x7 z.x8 z.x9 z.xs1 z.xs2
/-- The run's word `v710`. -/
def B710 : FVec Ideal S512x512 .bf16 := kernelRun0_B.sl.v710 (F := Ideal) z.c z.i z.arg3 z.harg3 z.arg4 z.harg4 z.arg6 z.harg6 z.arg8 z.harg8 z.arg12 z.harg12 z.arg13 z.harg13 z.arg20 z.harg20 z.x1 z.x2 z.x4 z.x6 z.x10 z.x11 z.xs3
/-- The run's word `v726`. -/
def B726 : FVec Ideal S128x128 .bf16 := kernelRun0_B.sl.v726 (F := Ideal) z.c z.arg3 z.harg3 z.arg4 z.harg4 z.arg5 z.harg5 z.arg6 z.harg6 z.arg7 z.harg7 z.arg10 z.harg10 z.arg11 z.harg11 z.arg18 z.x1 z.x2 z.x3 z.x4 z.x5 z.x8 z.x9
/-- The run's word `v730`. -/
def B730 : FVec Ideal S128x128 .bf16 := kernelRun0_B.sl.v730 (F := Ideal) z.c z.arg3 z.harg3 z.arg4 z.harg4 z.arg6 z.harg6 z.arg7 z.harg7 z.arg19 z.x1 z.x2 z.x4 z.x5
/-- The run's word `v734`. -/
def B734 : FVec Ideal S16x512 .f32 := kernelRun0_B.sl.v734 (F := Ideal) z.c z.arg3 z.harg3 z.arg4 z.harg4 z.arg6 z.harg6 z.arg8 z.harg8 z.arg20 z.x1 z.x2 z.x4 z.x6
/-- The run's word `r_1`. -/
def Bs1 : Elt Ideal .f32 := kernelRun0_B.sl.r_1 (F := Ideal) z.c z.arg2 z.harg2 z.x0
/-- The run's word `r_2`. -/
def Bs2 : Elt Ideal .f32 := kernelRun0_B.sl.r_2 (F := Ideal) z.c z.arg2 z.harg2 z.x0
/-- The run's word `r_3`. -/
def Bs3 : Elt Ideal .f32 := kernelRun0_B.sl.r_3 (F := Ideal) z.c z.arg2 z.harg2 z.x0
/-- The run's word `r_4`. -/
def Bs4 : Elt Ideal .f32 := kernelRun0_B.sl.r_4 (F := Ideal) z.c z.arg2 z.harg2 z.x0
/-- The run's word `r_5`. -/
def Bs5 : Elt Ideal .f32 := kernelRun0_B.sl.r_5 (F := Ideal) z.c z.arg2 z.harg2 z.x0
/-- The run's word `r_6`. -/
def Bs6 : Elt Ideal .f32 := kernelRun0_B.sl.r_6 (F := Ideal) z.c z.arg2 z.harg2 z.x0
/-- The run's word `r_7`. -/
def Bs7 : Elt Ideal .f32 := kernelRun0_B.sl.r_7 (F := Ideal) z.c z.arg2 z.harg2 z.x0
/-- The run's word `r_8`. -/
def Bs8 : Elt Ideal .f32 := kernelRun0_B.sl.r_8 (F := Ideal) z.c z.arg2 z.harg2 z.x0
/-- The run's word `v191`. -/
def B191 : FVec Ideal S64x256 .bf16 := kernelRun0_B.sl.v191 (F := Ideal) z.c z.arg3 z.harg3 z.arg4 z.harg4 z.arg6 z.harg6 z.arg7 z.harg7 z.arg19 z.harg19 z.x1 z.x2 z.x4 z.x5 z.xs2
/-- The run's word `v244`. -/
def B244 : FVec Ideal S64x256 .bf16 := kernelRun0_B.sl.v244 (F := Ideal) z.c z.arg3 z.harg3 z.arg4 z.harg4 z.arg6 z.harg6 z.arg7 z.harg7 z.arg19 z.harg19 z.x1 z.x2 z.x4 z.x5 z.xs2
/-- The run's word `v298`. -/
def B298 : FVec Ideal S64x256 .bf16 := kernelRun0_B.sl.v298 (F := Ideal) z.c z.arg3 z.harg3 z.arg4 z.harg4 z.arg6 z.harg6 z.arg7 z.harg7 z.arg19 z.x1 z.x2 z.x4 z.x5
/-- The run's word `v351`. -/
def B351 : FVec Ideal S64x256 .bf16 := kernelRun0_B.sl.v351 (F := Ideal) z.c z.arg3 z.harg3 z.arg4 z.harg4 z.arg6 z.harg6 z.arg7 z.harg7 z.arg19 z.x1 z.x2 z.x4 z.x5
/-- The run's word `v405`. -/
def B405 : FVec Ideal S64x256 .bf16 := kernelRun0_B.sl.v405 (F := Ideal) z.c z.arg3 z.harg3 z.arg4 z.harg4 z.arg6 z.harg6 z.arg7 z.harg7 z.arg19 z.x1 z.x2 z.x4 z.x5
/-- The run's word `v458`. -/
def B458 : FVec Ideal S64x256 .bf16 := kernelRun0_B.sl.v458 (F := Ideal) z.c z.arg3 z.harg3 z.arg4 z.harg4 z.arg6 z.harg6 z.arg7 z.harg7 z.arg19 z.x1 z.x2 z.x4 z.x5
/-- The run's word `v512`. -/
def B512 : FVec Ideal S64x256 .bf16 := kernelRun0_B.sl.v512 (F := Ideal) z.c z.arg3 z.harg3 z.arg4 z.harg4 z.arg6 z.harg6 z.arg7 z.harg7 z.arg19 z.x1 z.x2 z.x4 z.x5
/-- The run's word `v565`. -/
def B565 : FVec Ideal S64x256 .bf16 := kernelRun0_B.sl.v565 (F := Ideal) z.c z.arg3 z.harg3 z.arg4 z.harg4 z.arg6 z.harg6 z.arg7 z.harg7 z.arg19 z.x1 z.x2 z.x4 z.x5
/-- The run's word `v167`. -/
def B167 : FVec Ideal S64x128 .bf16 := kernelRun0_B.sl.v167 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v168`. -/
def B168 : FVec Ideal S64x128 .bf16 := kernelRun0_B.sl.v168 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v169`. -/
def B169 : FVec Ideal S64x128 .bf16 := kernelRun0_B.sl.v169 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v170`. -/
def B170 : FVec Ideal S64x128 .bf16 := kernelRun0_B.sl.v170 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v220`. -/
def B220 : FVec Ideal S64x128 .bf16 := kernelRun0_B.sl.v220 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v221`. -/
def B221 : FVec Ideal S64x128 .bf16 := kernelRun0_B.sl.v221 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v222`. -/
def B222 : FVec Ideal S64x128 .bf16 := kernelRun0_B.sl.v222 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v223`. -/
def B223 : FVec Ideal S64x128 .bf16 := kernelRun0_B.sl.v223 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v274`. -/
def B274 : FVec Ideal S64x128 .bf16 := kernelRun0_B.sl.v274 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v275`. -/
def B275 : FVec Ideal S64x128 .bf16 := kernelRun0_B.sl.v275 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v276`. -/
def B276 : FVec Ideal S64x128 .bf16 := kernelRun0_B.sl.v276 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v277`. -/
def B277 : FVec Ideal S64x128 .bf16 := kernelRun0_B.sl.v277 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v327`. -/
def B327 : FVec Ideal S64x128 .bf16 := kernelRun0_B.sl.v327 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v328`. -/
def B328 : FVec Ideal S64x128 .bf16 := kernelRun0_B.sl.v328 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v329`. -/
def B329 : FVec Ideal S64x128 .bf16 := kernelRun0_B.sl.v329 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v330`. -/
def B330 : FVec Ideal S64x128 .bf16 := kernelRun0_B.sl.v330 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v381`. -/
def B381 : FVec Ideal S64x128 .bf16 := kernelRun0_B.sl.v381 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v382`. -/
def B382 : FVec Ideal S64x128 .bf16 := kernelRun0_B.sl.v382 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v383`. -/
def B383 : FVec Ideal S64x128 .bf16 := kernelRun0_B.sl.v383 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v384`. -/
def B384 : FVec Ideal S64x128 .bf16 := kernelRun0_B.sl.v384 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v434`. -/
def B434 : FVec Ideal S64x128 .bf16 := kernelRun0_B.sl.v434 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v435`. -/
def B435 : FVec Ideal S64x128 .bf16 := kernelRun0_B.sl.v435 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v436`. -/
def B436 : FVec Ideal S64x128 .bf16 := kernelRun0_B.sl.v436 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v437`. -/
def B437 : FVec Ideal S64x128 .bf16 := kernelRun0_B.sl.v437 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v488`. -/
def B488 : FVec Ideal S64x128 .bf16 := kernelRun0_B.sl.v488 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v489`. -/
def B489 : FVec Ideal S64x128 .bf16 := kernelRun0_B.sl.v489 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v490`. -/
def B490 : FVec Ideal S64x128 .bf16 := kernelRun0_B.sl.v490 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v491`. -/
def B491 : FVec Ideal S64x128 .bf16 := kernelRun0_B.sl.v491 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v541`. -/
def B541 : FVec Ideal S64x128 .bf16 := kernelRun0_B.sl.v541 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v542`. -/
def B542 : FVec Ideal S64x128 .bf16 := kernelRun0_B.sl.v542 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v543`. -/
def B543 : FVec Ideal S64x128 .bf16 := kernelRun0_B.sl.v543 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v544`. -/
def B544 : FVec Ideal S64x128 .bf16 := kernelRun0_B.sl.v544 (F := Ideal) z.c z.arg3 z.harg3 z.arg4 z.harg4 z.arg5 z.harg5 z.arg6 z.harg6 z.arg7 z.harg7 z.arg9 z.harg9 z.arg11 z.harg11 z.arg17 z.x1 z.x2 z.x3 z.x4 z.x5 z.x7 z.x9
/-- The run's word `v203`. -/
def B203 : FVec Ideal S64x512 .bf16 := kernelRun0_B.sl.v203 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v256`. -/
def B256 : FVec Ideal S64x512 .bf16 := kernelRun0_B.sl.v256 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v310`. -/
def B310 : FVec Ideal S64x512 .bf16 := kernelRun0_B.sl.v310 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v363`. -/
def B363 : FVec Ideal S64x512 .bf16 := kernelRun0_B.sl.v363 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v417`. -/
def B417 : FVec Ideal S64x512 .bf16 := kernelRun0_B.sl.v417 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v470`. -/
def B470 : FVec Ideal S64x512 .bf16 := kernelRun0_B.sl.v470 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v524`. -/
def B524 : FVec Ideal S64x512 .bf16 := kernelRun0_B.sl.v524 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v577`. -/
def B577 : FVec Ideal S64x512 .bf16 := kernelRun0_B.sl.v577 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v593`. -/
def B593 : FVec Ideal S64x128 .bf16 := kernelRun0_B.sl.v593 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v589`. -/
def B589 : FVec Ideal S64x128 .bf16 := kernelRun0_B.sl.v589 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v585`. -/
def B585 : FVec Ideal S64x128 .bf16 := kernelRun0_B.sl.v585 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v581`. -/
def B581 : FVec Ideal S64x128 .bf16 := kernelRun0_B.sl.v581 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v540`. -/
def B540 : FVec Ideal S64x128 .bf16 := kernelRun0_B.sl.v540 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v536`. -/
def B536 : FVec Ideal S64x128 .bf16 := kernelRun0_B.sl.v536 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v532`. -/
def B532 : FVec Ideal S64x128 .bf16 := kernelRun0_B.sl.v532 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v528`. -/
def B528 : FVec Ideal S64x128 .bf16 := kernelRun0_B.sl.v528 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v486`. -/
def B486 : FVec Ideal S64x128 .bf16 := kernelRun0_B.sl.v486 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v482`. -/
def B482 : FVec Ideal S64x128 .bf16 := kernelRun0_B.sl.v482 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v478`. -/
def B478 : FVec Ideal S64x128 .bf16 := kernelRun0_B.sl.v478 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v474`. -/
def B474 : FVec Ideal S64x128 .bf16 := kernelRun0_B.sl.v474 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v433`. -/
def B433 : FVec Ideal S64x128 .bf16 := kernelRun0_B.sl.v433 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v429`. -/
def B429 : FVec Ideal S64x128 .bf16 := kernelRun0_B.sl.v429 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v425`. -/
def B425 : FVec Ideal S64x128 .bf16 := kernelRun0_B.sl.v425 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v421`. -/
def B421 : FVec Ideal S64x128 .bf16 := kernelRun0_B.sl.v421 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v379`. -/
def B379 : FVec Ideal S64x128 .bf16 := kernelRun0_B.sl.v379 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v375`. -/
def B375 : FVec Ideal S64x128 .bf16 := kernelRun0_B.sl.v375 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v371`. -/
def B371 : FVec Ideal S64x128 .bf16 := kernelRun0_B.sl.v371 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v367`. -/
def B367 : FVec Ideal S64x128 .bf16 := kernelRun0_B.sl.v367 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v326`. -/
def B326 : FVec Ideal S64x128 .bf16 := kernelRun0_B.sl.v326 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v322`. -/
def B322 : FVec Ideal S64x128 .bf16 := kernelRun0_B.sl.v322 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v318`. -/
def B318 : FVec Ideal S64x128 .bf16 := kernelRun0_B.sl.v318 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v314`. -/
def B314 : FVec Ideal S64x128 .bf16 := kernelRun0_B.sl.v314 (F := Ideal) z.c z.arg2 z.harg2 z.arg3 z.harg3 z.arg4 z.harg4 z.arg5 z.harg5 z.arg6 z.harg6 z.arg7 z.harg7 z.arg9 z.harg9 z.arg10 z.harg10 z.arg11 z.harg11 z.arg17 z.arg18 z.arg19 z.x0 z.x1 z.x2 z.x3 z.x4 z.x5 z.x7 z.x8 z.x9
/-- The run's word `v272`. -/
def B272 : FVec Ideal S64x128 .bf16 := kernelRun0_B.sl.v272 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v268`. -/
def B268 : FVec Ideal S64x128 .bf16 := kernelRun0_B.sl.v268 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v264`. -/
def B264 : FVec Ideal S64x128 .bf16 := kernelRun0_B.sl.v264 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v260`. -/
def B260 : FVec Ideal S64x128 .bf16 := kernelRun0_B.sl.v260 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v219`. -/
def B219 : FVec Ideal S64x128 .bf16 := kernelRun0_B.sl.v219 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v215`. -/
def B215 : FVec Ideal S64x128 .bf16 := kernelRun0_B.sl.v215 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v211`. -/
def B211 : FVec Ideal S64x128 .bf16 := kernelRun0_B.sl.v211 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `v207`. -/
def B207 : FVec Ideal S64x128 .bf16 := kernelRun0_B.sl.v207 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2
/-- The run's word `HS4_32`. -/
def BH : List (View.Piece (Elt Ideal) S512x512 .bf16) := kernelRun0_B.sl.HS4_32 (F := Ideal) z.c z.i z.arg2 z.harg2 z.arg3 z.harg3 z.arg4 z.harg4 z.arg5 z.harg5 z.arg6 z.harg6 z.arg7 z.harg7 z.arg9 z.harg9 z.arg10 z.harg10 z.arg11 z.harg11 z.arg17 z.arg18 z.harg18 z.arg19 z.harg19 z.x0 z.x1 z.x2 z.x3 z.x4 z.x5 z.x7 z.x8 z.x9 z.xs1 z.xs2

end Cert.KernelIdeal.Mix
end
-- ==== Proof.MixBias.lean ====
/- The attention's bias. -/
module

public import proofs.«01_k».proof.Proof.MixOps
public import Idealize.ShloMosaic.Lib.Pipeline.ValueKit
public import Idealize.ShloMosaic.Lib.Pointwise

@[expose] public section

set_option maxRecDepth 16384

noncomputable section
open Idealize.ShloMosaic
open scoped BigOperators
namespace Cert.KernelIdeal.Mix
open Cert.KernelIdeal Cert.KernelIdeal.Gen Cert.Mix

/-- The row number of the rows' iota. -/
abbrev io0 : IVec S256x512 32 := iota .tc S256x512 32 [0] iota_S256x512_d0_w32
/-- The column number of the columns' iota. -/
abbrev io1 : IVec S256x512 32 := iota .tc S256x512 32 [1] iota_S256x512_d1_w32

/-- The bias of row `r` of the key band for token `i` of block `J` of tile `T`. -/
def BI (T : ℕ) (J : Fin 4) (r : Fin 256) (i : Fin 128) : EReal :=
  if i.val < r.val ∧ r.val ≤ i.val + 128 ∧ (J.val = 0 → T = 0 → 128 ≤ r.val) then 0 else ⊥

/-- A column number modulo 128, as the program computes it. -/
def colE (n : ℕ) : BitVec 32 :=
  let m := Scalar.select (Scalar.cmpi CmpIPredicate.eq 128#32 0#32) 1#32 128#32
  let q := IntOp.remsi ArithUnit.vector (BitVec.ofNat 32 n) m
  Scalar.select (IntOp.andi (IntOp.xori (IntOp.cmpi CmpIPredicate.slt q 0#32) (Scalar.cmpi CmpIPredicate.slt m 0#32))
    (IntOp.cmpi CmpIPredicate.ne q 0#32)) (IntOp.addi q m) q

/-- It is the remainder. -/
theorem colE_eq (i : Fin 512) : colE i.val = BitVec.ofNat 32 (i.val % 128) := by
  revert i; decide +kernel

/-- The window's test on a row and a column. -/
def winT (r e : ℕ) : BitVec 1 :=
  IntOp.andi (IntOp.cmpi CmpIPredicate.sgt (BitVec.ofNat 32 r) (BitVec.ofNat 32 e))
    (IntOp.cmpi CmpIPredicate.sle (BitVec.ofNat 32 r) (IntOp.addi (BitVec.ofNat 32 e) 128#32))

/-- It tests the window. -/
theorem winT_eq (r : Fin 256) (i : Fin 128) : winT r.val i.val = if i.val < r.val ∧ r.val ≤ i.val + 128 then 1#1 else 0#1 := by
  revert r i; decide +kernel

/-- The test for the rows before the sequence. -/
def fstT (T r : ℕ) : BitVec 1 :=
  IntOp.andi (IntOp.cmpi CmpIPredicate.slt (BitVec.ofNat 32 r) 128#32) (Scalar.cmpi CmpIPredicate.eq (BitVec.ofNat 32 T) 0#32)

/-- It tests for them. -/
theorem fstT_eq (T : Fin 8) (r : Fin 256) : fstT T.val r.val = if r.val < 128 ∧ T.val = 0 then 1#1 else 0#1 := by
  revert T r; decide +kernel

/-- The mask's constant is minus infinity. -/
theorem mask_bot (w : BitVec 32) : Named.named (F := Ideal) (φ := .f32) κ "mask" w = (⊥ : EReal) := by
  rfl

/-- The window part of the bias. -/
theorem bias16 (r : Fin 256) (h : Fin 4) (i : Fin 128) :
    k0_pay16 (F := Ideal) io0 io1 (ix2 r ⟨128 * h.val + i.val, by omega⟩)
      = if i.val < r.val ∧ r.val ≤ i.val + 128 then (0 : EReal) else ⊥ := by
  have e : k0_pay16 (F := Ideal) io0 io1 (ix2 r ⟨128 * h.val + i.val, by omega⟩)
      = Scalar.select (IntOp.andi (IntOp.cmpi CmpIPredicate.sgt (BitVec.ofNat 32 r.val) (colE (128 * h.val + i.val)))
          (IntOp.cmpi CmpIPredicate.sle (BitVec.ofNat 32 r.val) (IntOp.addi (colE (128 * h.val + i.val)) 128#32)))
        (0 : EReal) (Named.named (F := Ideal) (φ := .f32) κ "mask" 4048155338#32) := by
    pointwise [k0_pay16]
    rfl
  have e2 := colE_eq ⟨128 * h.val + i.val, by omega⟩
  rw [show (128 * h.val + i.val) % 128 = i.val by omega] at e2
  rw [e, e2, mask_bot]
  have e3 := winT_eq r i
  unfold winT at e3
  rw [e3]
  split_ifs <;> rfl

/-- The bias of a block that is not the first. -/
theorem bias_at (r : Fin 256) (h : Fin 4) (i : Fin 128) (J : Fin 4) (T : ℕ) (hJ : J.val ≠ 0) :
    k0_pay16 (F := Ideal) io0 io1 (ix2 r ⟨128 * h.val + i.val, by omega⟩) = BI T J r i := by
  rw [bias16, BI]
  simp [hJ]

/-- The bias of the first block. -/
theorem bias0_at (T : Fin 8) (r : Fin 256) (h : Fin 4) (i : Fin 128) :
    k0_pay17 (F := Ideal) (BitVec.ofNat 32 T.val) io0 io1 (ix2 r ⟨128 * h.val + i.val, by omega⟩) = BI T.val 0 r i := by
  have e : k0_pay17 (F := Ideal) (BitVec.ofNat 32 T.val) io0 io1 (ix2 r ⟨128 * h.val + i.val, by omega⟩)
      = Scalar.select (fstT T.val r.val) (Named.named (F := Ideal) (φ := .f32) κ "mask" 4048155338#32)
        (k0_pay16 (F := Ideal) io0 io1 (ix2 r ⟨128 * h.val + i.val, by omega⟩)) := by
    pointwise [k0_pay17]
    rfl
  rw [e, fstT_eq, bias16, mask_bot, BI]
  by_cases h1 : r.val < 128 ∧ T.val = 0
  · have hn : ¬ (i.val < r.val ∧ r.val ≤ i.val + 128 ∧ ((0 : Fin 4).val = 0 → T.val = 0 → 128 ≤ r.val)) := by
      rintro ⟨_, _, h3⟩; have := h3 rfl h1.2; omega
    rw [if_pos h1, if_neg hn]; rfl
  · rw [if_neg h1]
    have h3 : (0 : Fin 4).val = 0 → T.val = 0 → 128 ≤ r.val := fun _ h2 => by by_contra h3; exact h1 ⟨by omega, h2⟩
    have h4 : (i.val < r.val ∧ r.val ≤ i.val + 128 ∧ ((0 : Fin 4).val = 0 → T.val = 0 → 128 ≤ r.val)) ↔ (i.val < r.val ∧ r.val ≤ i.val + 128) :=
      ⟨fun h => ⟨h.1, h.2.1⟩, fun h => ⟨h.1, h.2, h3⟩⟩
    rw [if_congr h4 rfl rfl]
    rfl

end Cert.KernelIdeal.Mix
end
-- ==== Proof.MixBand.lean ====
/- The attention of one run from its key band, value band and queries; the weights' loads; a piece of the stored
   attention. -/
module

public import proofs.«01_k».proof.Proof.Gen.KernelIdeal.Frame
public import proofs.«01_k».proof.Proof.MixCtx
public import proofs.«01_k».proof.Proof.MixBias
public import Idealize.ShloMosaic.Lib.Pipeline.ValueKit
public import Idealize.ShloMosaic.Lib.Pointwise
public import Idealize.ShloMosaic.Lib.WritesUnit

@[expose] public section

set_option maxRecDepth 16384

noncomputable section
open Idealize.ShloMosaic Idealize.ShloMosaic.TcCoe
open scoped BigOperators
namespace Cert.KernelIdeal.Mix
open Cert.KernelIdeal Cert.KernelIdeal.Gen Cert.Mix

/-- The attention of head `h` for token `i` of block `J` of tile `T`. -/
def ATT (T : ℕ) (kb : Fin 640 → Fin 128 → EReal) (vb : Fin 128 → Fin 640 → EReal) (q : Fin 512 → Fin 512 → EReal)
    (sk : Fin 8 → EReal) (J : Fin 4) (h : Fin 8) (d : Fin 64) (i : Fin 128) : EReal :=
  softK (fun r => ∑ x : Fin 64, kb ⟨128 * J.val + r.val, by omega⟩ ⟨64 * (h.val / 4) + x.val, by omega⟩
      * q ⟨64 * h.val + x.val, by omega⟩ ⟨128 * J.val + i.val, by omega⟩ + BI T J r i) (sk h)
    (fun r => vb ⟨64 * (h.val / 4) + d.val, by omega⟩ ⟨128 * J.val + r.val, by omega⟩)

/-- One stored block of the attention, from its entries. -/
theorem piece_eq (G : S512x512.Idx → Elt Ideal .bf16) (r c : ℕ)
    (inb : ∀ a, (![r, c] : Fin 2 → ℕ) a + S64x128.size a ≤ S512x512.size a) (w : S64x128.Idx → Elt Ideal .bf16)
    (H : ∀ (d : Fin 64) (i : Fin 128) (a : Fin 512) (s : Fin 512), a.val = r + d.val → s.val = c + i.val → w (ix2 d i) = G (ix2 a s)) :
    ∀ x : (Rect.unit (s := S512x512) ![r, c] S64x128.size inb).shape.Idx,
      w x = G ((Rect.unit (s := S512x512) ![r, c] S64x128.size inb).emb x) := by
  intro x
  have hx : x = ix2 (x 0) (x 1) := funext fun a => by
    match a with
    | 0 => rfl
    | 1 => rfl
  have h0 := inb 0
  have h1 := inb 1
  have l0 : (x 0).val < 64 := (x 0).isLt
  have l1 : (x 1).val < 128 := (x 1).isLt
  have h0' : r + 64 ≤ 512 := h0
  have h1' : c + 128 ≤ 512 := h1
  have e : (Rect.unit (s := S512x512) ![r, c] S64x128.size inb).emb x
      = ix2 (⟨r + (x 0).val, by omega⟩ : Fin 512) (⟨c + (x 1).val, by omega⟩ : Fin 512) := funext fun a => by
    match a with
    | 0 => exact Fin.ext (Rect.idx_unit_val _ _ _ _ _)
    | 1 => exact Fin.ext (Rect.idx_unit_val _ _ _ _ _)
  rw [e]
  exact (congrArg w hx).trans (H (x 0) (x 1) _ _ rfl rfl)

variable (z : Ctx)

/-- Matrix 0 of the pooled groups as the body loads it. -/
def RW0 : Vec Ideal S1x128x128 .bf16 :=
  View.readAt (Elt Ideal) z.arg12.view (Rect.unit (s := S4x128x128) ![0, 0, 0] S1x128x128.size (by decide)).toLoadRect (z.harg12.unread z.x10)

/-- Its entries. -/
theorem RW0_at (x d : Fin 128) : RW0 z (ix3 0 x d) = z.x10 (ix3 0 x d) := by
  rw [RW0, View.readAt_eq_ld, z.harg12.read_unread]
  exact View.ld_unit_apply_of z.x10 ![0, 0, 0] S1x128x128.size (by decide) (ix3 0 x d) (ix3 0 x d) (fun a => by
    match a with
    | 0 => rfl
    | 1 => exact (Nat.zero_add _).symm
    | 2 => exact (Nat.zero_add _).symm)

/-- Scale 0 of the pooled groups as the body loads it. -/
def RS0 : Vec Ideal S1x128 .f32 :=
  View.readAt (Elt Ideal) z.arg13.view (Rect.unit (s := S1x512) ![0, 0] S1x128.size (by decide)).toLoadRect (z.harg13.unread z.x11)

/-- Its entries. -/
theorem RS0_at (d : Fin 128) : RS0 z (ix2 0 d) = z.x11 (ix2 0 ⟨0 + d.val, by omega⟩) := by
  rw [RS0, View.readAt_eq_ld, z.harg13.read_unread]
  exact View.ld_unit_apply_of z.x11 ![0, 0] S1x128.size (by decide) (ix2 0 d) (ix2 0 ⟨0 + d.val, by omega⟩) (fun a => by
    match a with
    | 0 => rfl
    | 1 => rfl)

/-- Matrix 1 of the pooled groups as the body loads it. -/
def RW1 : Vec Ideal S1x128x128 .bf16 :=
  View.readAt (Elt Ideal) z.arg12.view (Rect.unit (s := S4x128x128) ![1, 0, 0] S1x128x128.size (by decide)).toLoadRect (z.harg12.unread z.x10)

/-- Its entries. -/
theorem RW1_at (x d : Fin 128) : RW1 z (ix3 0 x d) = z.x10 (ix3 1 x d) := by
  rw [RW1, View.readAt_eq_ld, z.harg12.read_unread]
  exact View.ld_unit_apply_of z.x10 ![1, 0, 0] S1x128x128.size (by decide) (ix3 0 x d) (ix3 1 x d) (fun a => by
    match a with
    | 0 => rfl
    | 1 => exact (Nat.zero_add _).symm
    | 2 => exact (Nat.zero_add _).symm)

/-- Scale 1 of the pooled groups as the body loads it. -/
def RS1 : Vec Ideal S1x128 .f32 :=
  View.readAt (Elt Ideal) z.arg13.view (Rect.unit (s := S1x512) ![0, 128] S1x128.size (by decide)).toLoadRect (z.harg13.unread z.x11)

/-- Its entries. -/
theorem RS1_at (d : Fin 128) : RS1 z (ix2 0 d) = z.x11 (ix2 0 ⟨128 + d.val, by omega⟩) := by
  rw [RS1, View.readAt_eq_ld, z.harg13.read_unread]
  exact View.ld_unit_apply_of z.x11 ![0, 128] S1x128.size (by decide) (ix2 0 d) (ix2 0 ⟨128 + d.val, by omega⟩) (fun a => by
    match a with
    | 0 => rfl
    | 1 => rfl)

/-- Matrix 2 of the pooled groups as the body loads it. -/
def RW2 : Vec Ideal S1x128x128 .bf16 :=
  View.readAt (Elt Ideal) z.arg12.view (Rect.unit (s := S4x128x128) ![2, 0, 0] S1x128x128.size (by decide)).toLoadRect (z.harg12.unread z.x10)

/-- Its entries. -/
theorem RW2_at (x d : Fin 128) : RW2 z (ix3 0 x d) = z.x10 (ix3 2 x d) := by
  rw [RW2, View.readAt_eq_ld, z.harg12.read_unread]
  exact View.ld_unit_apply_of z.x10 ![2, 0, 0] S1x128x128.size (by decide) (ix3 0 x d) (ix3 2 x d) (fun a => by
    match a with
    | 0 => rfl
    | 1 => exact (Nat.zero_add _).symm
    | 2 => exact (Nat.zero_add _).symm)

/-- Scale 2 of the pooled groups as the body loads it. -/
def RS2 : Vec Ideal S1x128 .f32 :=
  View.readAt (Elt Ideal) z.arg13.view (Rect.unit (s := S1x512) ![0, 256] S1x128.size (by decide)).toLoadRect (z.harg13.unread z.x11)

/-- Its entries. -/
theorem RS2_at (d : Fin 128) : RS2 z (ix2 0 d) = z.x11 (ix2 0 ⟨256 + d.val, by omega⟩) := by
  rw [RS2, View.readAt_eq_ld, z.harg13.read_unread]
  exact View.ld_unit_apply_of z.x11 ![0, 256] S1x128.size (by decide) (ix2 0 d) (ix2 0 ⟨256 + d.val, by omega⟩) (fun a => by
    match a with
    | 0 => rfl
    | 1 => rfl)

/-- Matrix 3 of the pooled groups as the body loads it. -/
def RW3 : Vec Ideal S1x128x128 .bf16 :=
  View.readAt (Elt Ideal) z.arg12.view (Rect.unit (s := S4x128x128) ![3, 0, 0] S1x128x128.size (by decide)).toLoadRect (z.harg12.unread z.x10)

/-- Its entries. -/
theorem RW3_at (x d : Fin 128) : RW3 z (ix3 0 x d) = z.x10 (ix3 3 x d) := by
  rw [RW3, View.readAt_eq_ld, z.harg12.read_unread]
  exact View.ld_unit_apply_of z.x10 ![3, 0, 0] S1x128x128.size (by decide) (ix3 0 x d) (ix3 3 x d) (fun a => by
    match a with
    | 0 => rfl
    | 1 => exact (Nat.zero_add _).symm
    | 2 => exact (Nat.zero_add _).symm)

/-- Scale 3 of the pooled groups as the body loads it. -/
def RS3 : Vec Ideal S1x128 .f32 :=
  View.readAt (Elt Ideal) z.arg13.view (Rect.unit (s := S1x512) ![0, 384] S1x128.size (by decide)).toLoadRect (z.harg13.unread z.x11)

/-- Its entries. -/
theorem RS3_at (d : Fin 128) : RS3 z (ix2 0 d) = z.x11 (ix2 0 ⟨384 + d.val, by omega⟩) := by
  rw [RS3, View.readAt_eq_ld, z.harg13.read_unread]
  exact View.ld_unit_apply_of z.x11 ![0, 384] S1x128.size (by decide) (ix2 0 d) (ix2 0 ⟨384 + d.val, by omega⟩) (fun a => by
    match a with
    | 0 => rfl
    | 1 => rfl)

/-- The sink of head 0 as the body loads it. -/
theorem sink0 : View.readAt (Elt Ideal) z.arg2.view (Rect.unit (s := S8) ![0] S1.size (by decide)).toLoadRect (z.harg2.unread z.x0)
    (Shape.Idx.first (by decide)) = z.x0 (ix1 0) := by
  rw [View.readAt_eq_ld, z.harg2.read_unread]
  exact View.ld_unit_apply_of z.x0 ![0] S1.size (by decide) _ (ix1 0) (fun a => by
    match a with
    | 0 => rfl)

/-- The sink of head 1 as the body loads it. -/
theorem sink1 : View.readAt (Elt Ideal) z.arg2.view (Rect.unit (s := S8) ![1] S1.size (by decide)).toLoadRect (z.harg2.unread z.x0)
    (Shape.Idx.first (by decide)) = z.x0 (ix1 1) := by
  rw [View.readAt_eq_ld, z.harg2.read_unread]
  exact View.ld_unit_apply_of z.x0 ![1] S1.size (by decide) _ (ix1 1) (fun a => by
    match a with
    | 0 => rfl)

/-- The sink of head 2 as the body loads it. -/
theorem sink2 : View.readAt (Elt Ideal) z.arg2.view (Rect.unit (s := S8) ![2] S1.size (by decide)).toLoadRect (z.harg2.unread z.x0)
    (Shape.Idx.first (by decide)) = z.x0 (ix1 2) := by
  rw [View.readAt_eq_ld, z.harg2.read_unread]
  exact View.ld_unit_apply_of z.x0 ![2] S1.size (by decide) _ (ix1 2) (fun a => by
    match a with
    | 0 => rfl)

/-- The sink of head 3 as the body loads it. -/
theorem sink3 : View.readAt (Elt Ideal) z.arg2.view (Rect.unit (s := S8) ![3] S1.size (by decide)).toLoadRect (z.harg2.unread z.x0)
    (Shape.Idx.first (by decide)) = z.x0 (ix1 3) := by
  rw [View.readAt_eq_ld, z.harg2.read_unread]
  exact View.ld_unit_apply_of z.x0 ![3] S1.size (by decide) _ (ix1 3) (fun a => by
    match a with
    | 0 => rfl)

/-- The sink of head 4 as the body loads it. -/
theorem sink4 : View.readAt (Elt Ideal) z.arg2.view (Rect.unit (s := S8) ![4] S1.size (by decide)).toLoadRect (z.harg2.unread z.x0)
    (Shape.Idx.first (by decide)) = z.x0 (ix1 4) := by
  rw [View.readAt_eq_ld, z.harg2.read_unread]
  exact View.ld_unit_apply_of z.x0 ![4] S1.size (by decide) _ (ix1 4) (fun a => by
    match a with
    | 0 => rfl)

/-- The sink of head 5 as the body loads it. -/
theorem sink5 : View.readAt (Elt Ideal) z.arg2.view (Rect.unit (s := S8) ![5] S1.size (by decide)).toLoadRect (z.harg2.unread z.x0)
    (Shape.Idx.first (by decide)) = z.x0 (ix1 5) := by
  rw [View.readAt_eq_ld, z.harg2.read_unread]
  exact View.ld_unit_apply_of z.x0 ![5] S1.size (by decide) _ (ix1 5) (fun a => by
    match a with
    | 0 => rfl)

/-- The sink of head 6 as the body loads it. -/
theorem sink6 : View.readAt (Elt Ideal) z.arg2.view (Rect.unit (s := S8) ![6] S1.size (by decide)).toLoadRect (z.harg2.unread z.x0)
    (Shape.Idx.first (by decide)) = z.x0 (ix1 6) := by
  rw [View.readAt_eq_ld, z.harg2.read_unread]
  exact View.ld_unit_apply_of z.x0 ![6] S1.size (by decide) _ (ix1 6) (fun a => by
    match a with
    | 0 => rfl)

/-- The sink of head 7 as the body loads it. -/
theorem sink7 : View.readAt (Elt Ideal) z.arg2.view (Rect.unit (s := S8) ![7] S1.size (by decide)).toLoadRect (z.harg2.unread z.x0)
    (Shape.Idx.first (by decide)) = z.x0 (ix1 7) := by
  rw [View.readAt_eq_ld, z.harg2.read_unread]
  exact View.ld_unit_apply_of z.x0 ![7] S1.size (by decide) _ (ix1 7) (fun a => by
    match a with
    | 0 => rfl)

end Cert.KernelIdeal.Mix
end
-- ==== Proof.MixPool.lean ====
/- The pooled groups. -/
module

public import proofs.«01_k».proof.Proof.MixOps
public import Idealize.ShloMosaic.Lib.Pipeline.ValueKit
public import Idealize.ShloMosaic.Lib.Pointwise

@[expose] public section

set_option maxRecDepth 16384

noncomputable section
open Idealize.ShloMosaic
open scoped BigOperators
namespace Cert.KernelIdeal.Mix
open Cert.KernelIdeal Cert.KernelIdeal.Gen Cert.Mix

/-- The number of tokens in the window of 2 that ends at row `s` of tile `T`. -/
theorem cnt2 (T : Fin 8) (s : Fin 512) :
    IntOp.minsi (IntOp.addi (IntOp.addi (Scalar.muli (BitVec.ofNat 32 T.val) 512#32) (BitVec.ofNat 32 s.val)) 1#32) 2#32
      = BitVec.ofNat 32 (min (512 * T.val + s.val + 1) 2) := by
  revert T s; decide +kernel

/-- The number of tokens in the window of 4 that ends at row `s` of tile `T`. -/
theorem cnt4 (T : Fin 8) (s : Fin 512) :
    IntOp.minsi (IntOp.addi (IntOp.addi (Scalar.muli (BitVec.ofNat 32 T.val) 512#32) (BitVec.ofNat 32 s.val)) 1#32) 4#32
      = BitVec.ofNat 32 (min (512 * T.val + s.val + 1) 4) := by
  revert T s; decide +kernel

/-- The number of tokens in the window of 8 that ends at row `s` of tile `T`. -/
theorem cnt8 (T : Fin 8) (s : Fin 512) :
    IntOp.minsi (IntOp.addi (IntOp.addi (Scalar.muli (BitVec.ofNat 32 T.val) 512#32) (BitVec.ofNat 32 s.val)) 1#32) 8#32
      = BitVec.ofNat 32 (min (512 * T.val + s.val + 1) 8) := by
  revert T s; decide +kernel

/-- The number of tokens in the window of 16 that ends at row `s` of tile `T`. -/
theorem cnt16 (T : Fin 8) (s : Fin 512) :
    IntOp.minsi (IntOp.addi (IntOp.addi (Scalar.muli (BitVec.ofNat 32 T.val) 512#32) (BitVec.ofNat 32 s.val)) 1#32) 16#32
      = BitVec.ofNat 32 (min (512 * T.val + s.val + 1) 16) := by
  revert T s; decide +kernel

/-- A padded column at any row number. -/
def uE (u : FVec Ideal S528x512 .f32) (c : Fin 512) (n : ℕ) : EReal := if h : n < 528 then u (ix2 ⟨n, h⟩ c) else 0

/-- A column plus itself turned down by `k` rows. -/
def Dbl (k : BitVec 32) (x : FVec Ideal S528x128 .f32) : FVec Ideal S528x128 .f32 :=
  addf x (dynamicRotate 0 k none x rotates_S528x128_d0)

/-- Its entries below the first 1 rows. -/
theorem Dbl1 (x : FVec Ideal S528x128 .f32) (i : Fin 528) (c : Fin 128) (h : 1 ≤ i.val) :
    Dbl 1#32 x (ix2 i c) = x (ix2 i c) + x (ix2 ⟨i.val - 1, by omega⟩ c) := by
  pointwise [Dbl]
  simp only [show (i.val + 528 - 1) % 528 = i.val - 1 by omega]

/-- Its entries below the first 2 rows. -/
theorem Dbl2 (x : FVec Ideal S528x128 .f32) (i : Fin 528) (c : Fin 128) (h : 2 ≤ i.val) :
    Dbl 2#32 x (ix2 i c) = x (ix2 i c) + x (ix2 ⟨i.val - 2, by omega⟩ c) := by
  pointwise [Dbl]
  simp only [show (i.val + 528 - 2) % 528 = i.val - 2 by omega]

/-- Its entries below the first 4 rows. -/
theorem Dbl4 (x : FVec Ideal S528x128 .f32) (i : Fin 528) (c : Fin 128) (h : 4 ≤ i.val) :
    Dbl 4#32 x (ix2 i c) = x (ix2 i c) + x (ix2 ⟨i.val - 4, by omega⟩ c) := by
  pointwise [Dbl]
  simp only [show (i.val + 528 - 4) % 528 = i.val - 4 by omega]

/-- Its entries below the first 8 rows. -/
theorem Dbl8 (x : FVec Ideal S528x128 .f32) (i : Fin 528) (c : Fin 128) (h : 8 ≤ i.val) :
    Dbl 8#32 x (ix2 i c) = x (ix2 i c) + x (ix2 ⟨i.val - 8, by omega⟩ c) := by
  pointwise [Dbl]
  simp only [show (i.val + 528 - 8) % 528 = i.val - 8 by omega]

/-- Four doublings make a window of sixteen: here one step, from a window of `w` to one of `w + w`. -/
theorem win_step (f : ℕ → EReal) (w i : ℕ) (h : w ≤ i) :
    ∑ d ∈ Finset.range w, f (i - d) + ∑ d ∈ Finset.range w, f (i - w - d) = ∑ d ∈ Finset.range (w + w), f (i - d) := by
  rw [Finset.sum_range_add]
  refine congrArg _ (Finset.sum_congr rfl fun d _ => ?_)
  rw [Nat.sub_sub]

/-- The columns of group 0. -/
def E0 (u : FVec Ideal S528x512 .f32) : FVec Ideal S528x128 .f32 := extractStridedSlice S528x128 ![0, 0] u slices_S528x512_o0_0_S528x128

/-- Their entries. -/
theorem E0_at (u : FVec Ideal S528x512 .f32) (i : Fin 528) (c : Fin 128) : E0 u (ix2 i c) = uE u ⟨0 + c.val, by omega⟩ i.val := by
  unfold uE
  rw [dif_pos i.isLt]
  pointwise [E0]
  try simp only [Nat.zero_add]

/-- The window of 2 in group 0. -/
theorem win0_2 (u : FVec Ideal S528x512 .f32) (i : Fin 528) (c : Fin 128) (h : 1 ≤ i.val) :
    (Dbl 1#32 (E0 u)) (ix2 i c) = ∑ d ∈ Finset.range 2, uE u ⟨0 + c.val, by omega⟩ (i.val - d) := by
  rw [Dbl1 _ i c (by omega)]
  rw [E0_at, E0_at, Finset.sum_range_succ, Finset.sum_range_one, Nat.sub_zero]

/-- The columns of group 1. -/
def E1 (u : FVec Ideal S528x512 .f32) : FVec Ideal S528x128 .f32 := extractStridedSlice S528x128 ![0, 128] u slices_S528x512_o0_128_S528x128

/-- Their entries. -/
theorem E1_at (u : FVec Ideal S528x512 .f32) (i : Fin 528) (c : Fin 128) : E1 u (ix2 i c) = uE u ⟨128 + c.val, by omega⟩ i.val := by
  unfold uE
  rw [dif_pos i.isLt]
  pointwise [E1]
  try simp only [Nat.zero_add]

/-- The window of 2 in group 1. -/
theorem win1_2 (u : FVec Ideal S528x512 .f32) (i : Fin 528) (c : Fin 128) (h : 1 ≤ i.val) :
    (Dbl 1#32 (E1 u)) (ix2 i c) = ∑ d ∈ Finset.range 2, uE u ⟨128 + c.val, by omega⟩ (i.val - d) := by
  rw [Dbl1 _ i c (by omega)]
  rw [E1_at, E1_at, Finset.sum_range_succ, Finset.sum_range_one, Nat.sub_zero]

/-- The window of 4 in group 1. -/
theorem win1_4 (u : FVec Ideal S528x512 .f32) (i : Fin 528) (c : Fin 128) (h : 3 ≤ i.val) :
    (Dbl 2#32 (Dbl 1#32 (E1 u))) (ix2 i c) = ∑ d ∈ Finset.range 4, uE u ⟨128 + c.val, by omega⟩ (i.val - d) := by
  rw [Dbl2 _ i c (by omega)]
  rw [win1_2 u i c (by omega), win1_2 u ⟨i.val - 2, by omega⟩ c (show 1 ≤ i.val - 2 by omega)]
  exact win_step _ 2 i.val (by omega)

/-- The columns of group 2. -/
def E2 (u : FVec Ideal S528x512 .f32) : FVec Ideal S528x128 .f32 := extractStridedSlice S528x128 ![0, 256] u slices_S528x512_o0_256_S528x128

/-- Their entries. -/
theorem E2_at (u : FVec Ideal S528x512 .f32) (i : Fin 528) (c : Fin 128) : E2 u (ix2 i c) = uE u ⟨256 + c.val, by omega⟩ i.val := by
  unfold uE
  rw [dif_pos i.isLt]
  pointwise [E2]
  try simp only [Nat.zero_add]

/-- The window of 2 in group 2. -/
theorem win2_2 (u : FVec Ideal S528x512 .f32) (i : Fin 528) (c : Fin 128) (h : 1 ≤ i.val) :
    (Dbl 1#32 (E2 u)) (ix2 i c) = ∑ d ∈ Finset.range 2, uE u ⟨256 + c.val, by omega⟩ (i.val - d) := by
  rw [Dbl1 _ i c (by omega)]
  rw [E2_at, E2_at, Finset.sum_range_succ, Finset.sum_range_one, Nat.sub_zero]

/-- The window of 4 in group 2. -/
theorem win2_4 (u : FVec Ideal S528x512 .f32) (i : Fin 528) (c : Fin 128) (h : 3 ≤ i.val) :
    (Dbl 2#32 (Dbl 1#32 (E2 u))) (ix2 i c) = ∑ d ∈ Finset.range 4, uE u ⟨256 + c.val, by omega⟩ (i.val - d) := by
  rw [Dbl2 _ i c (by omega)]
  rw [win2_2 u i c (by omega), win2_2 u ⟨i.val - 2, by omega⟩ c (show 1 ≤ i.val - 2 by omega)]
  exact win_step _ 2 i.val (by omega)

/-- The window of 8 in group 2. -/
theorem win2_8 (u : FVec Ideal S528x512 .f32) (i : Fin 528) (c : Fin 128) (h : 7 ≤ i.val) :
    (Dbl 4#32 (Dbl 2#32 (Dbl 1#32 (E2 u)))) (ix2 i c) = ∑ d ∈ Finset.range 8, uE u ⟨256 + c.val, by omega⟩ (i.val - d) := by
  rw [Dbl4 _ i c (by omega)]
  rw [win2_4 u i c (by omega), win2_4 u ⟨i.val - 4, by omega⟩ c (show 3 ≤ i.val - 4 by omega)]
  exact win_step _ 4 i.val (by omega)

/-- The columns of group 3. -/
def E3 (u : FVec Ideal S528x512 .f32) : FVec Ideal S528x128 .f32 := extractStridedSlice S528x128 ![0, 384] u slices_S528x512_o0_384_S528x128

/-- Their entries. -/
theorem E3_at (u : FVec Ideal S528x512 .f32) (i : Fin 528) (c : Fin 128) : E3 u (ix2 i c) = uE u ⟨384 + c.val, by omega⟩ i.val := by
  unfold uE
  rw [dif_pos i.isLt]
  pointwise [E3]
  try simp only [Nat.zero_add]

/-- The window of 2 in group 3. -/
theorem win3_2 (u : FVec Ideal S528x512 .f32) (i : Fin 528) (c : Fin 128) (h : 1 ≤ i.val) :
    (Dbl 1#32 (E3 u)) (ix2 i c) = ∑ d ∈ Finset.range 2, uE u ⟨384 + c.val, by omega⟩ (i.val - d) := by
  rw [Dbl1 _ i c (by omega)]
  rw [E3_at, E3_at, Finset.sum_range_succ, Finset.sum_range_one, Nat.sub_zero]

/-- The window of 4 in group 3. -/
theorem win3_4 (u : FVec Ideal S528x512 .f32) (i : Fin 528) (c : Fin 128) (h : 3 ≤ i.val) :
    (Dbl 2#32 (Dbl 1#32 (E3 u))) (ix2 i c) = ∑ d ∈ Finset.range 4, uE u ⟨384 + c.val, by omega⟩ (i.val - d) := by
  rw [Dbl2 _ i c (by omega)]
  rw [win3_2 u i c (by omega), win3_2 u ⟨i.val - 2, by omega⟩ c (show 1 ≤ i.val - 2 by omega)]
  exact win_step _ 2 i.val (by omega)

/-- The window of 8 in group 3. -/
theorem win3_8 (u : FVec Ideal S528x512 .f32) (i : Fin 528) (c : Fin 128) (h : 7 ≤ i.val) :
    (Dbl 4#32 (Dbl 2#32 (Dbl 1#32 (E3 u)))) (ix2 i c) = ∑ d ∈ Finset.range 8, uE u ⟨384 + c.val, by omega⟩ (i.val - d) := by
  rw [Dbl4 _ i c (by omega)]
  rw [win3_4 u i c (by omega), win3_4 u ⟨i.val - 4, by omega⟩ c (show 3 ≤ i.val - 4 by omega)]
  exact win_step _ 4 i.val (by omega)

/-- The window of 16 in group 3. -/
theorem win3_16 (u : FVec Ideal S528x512 .f32) (i : Fin 528) (c : Fin 128) (h : 15 ≤ i.val) :
    (Dbl 8#32 (Dbl 4#32 (Dbl 2#32 (Dbl 1#32 (E3 u))))) (ix2 i c) = ∑ d ∈ Finset.range 16, uE u ⟨384 + c.val, by omega⟩ (i.val - d) := by
  rw [Dbl8 _ i c (by omega)]
  rw [win3_8 u i c (by omega), win3_8 u ⟨i.val - 8, by omega⟩ c (show 7 ≤ i.val - 8 by omega)]
  exact win_step _ 8 i.val (by omega)

/-- The mean of a window less the token's own entry. -/
def TAIL (D : FVec Ideal S528x128 .f32) (n : IVec S512x1 32) (wd : BitVec 32) (vs : FVec Ideal S512x128 .f32) : FVec Ideal S512x128 .bf16 :=
  truncf .bf16 (subf (mulf (extractStridedSlice S512x128 ![16, 0] D slices_S528x128_o16_0_S512x128)
    (broadcastTo S512x128 (divf (broadcast S512x1 (Scalar.ofBits .f32 0x3F800000#32)) (sitofp .f32 (minsi (addi n (broadcast S512x1 1#32)) (broadcast S512x1 wd))))
      broadcasts_S512x1_S512x128)) vs) bitsLt_bf16_f32

/-- Its entries. -/
theorem TAIL_at (D : FVec Ideal S528x128 .f32) (n : IVec S512x1 32) (wd : BitVec 32) (vs : FVec Ideal S512x128 .f32) (s : Fin 512) (c : Fin 128) :
    TAIL D n wd vs (ix2 s c) = D (ix2 ⟨16 + s.val, by omega⟩ c)
      * Ideal.div 1 (FloatOps.sitofp (F := Ideal) .f32 (IntOp.minsi (IntOp.addi (n (ix2 s 0)) 1#32) wd)) - vs (ix2 s c) := by
  pointwise [TAIL]

/-- A group through its matrix and scale. -/
def MM (t : FVec Ideal S512x128 .bf16) (w : FVec Ideal S128x128 .bf16) (sc : FVec Ideal S1x128 .f32) : FVec Ideal S512x128 .bf16 :=
  truncf .bf16 (mulf (matmul dot_S512x128_S128x128_S512x128_1_0_0_1_n_n none t w (constant S512x128 .f32 0x00000000#32))
    (broadcastTo S512x128 (shapeCast S1x128 sc shapeCasts_S1x128_S1x128) broadcasts_S1x128_S512x128)) bitsLt_bf16_f32

/-- Its entries. -/
theorem MM_at (t : FVec Ideal S512x128 .bf16) (w : FVec Ideal S128x128 .bf16) (sc : FVec Ideal S1x128 .f32) (s : Fin 512) (d : Fin 128) :
    MM t w sc (ix2 s d) = (∑ x : Fin 128, t (ix2 s x) * w (ix2 x d)) * sc (ix2 0 d) := by
  pointwise [MM]

/-- A matrix without its leading axis. -/
def WM (w : FVec Ideal S1x128x128 .bf16) : FVec Ideal S128x128 .bf16 := shapeCast S128x128 w shapeCasts_S1x128x128_S128x128

/-- Its entries. -/
theorem WM_at (w : FVec Ideal S1x128x128 .bf16) (x d : Fin 128) : WM w (ix2 x d) = w (ix3 0 x d) := by
  pointwise [WM]

/-- The token numbers of a tile. -/
theorem p83 (a : BitVec 32) (s : Fin 512) : k0_pay83 a (ix2 s 0) = IntOp.addi (Scalar.muli a 512#32) (BitVec.ofNat 32 s.val) := by
  pointwise [k0_pay83]

/-- Group 0's columns of the unpadded channels. -/
def V0 (v : FVec Ideal S512x512 .f32) : FVec Ideal S512x128 .f32 := extractStridedSlice S512x128 ![0, 0] v slices_S512x512_o0_0_S512x128

/-- Their entries. -/
theorem V0_at (v : FVec Ideal S512x512 .f32) (s : Fin 512) (c : Fin 128) : V0 v (ix2 s c) = v (ix2 s ⟨0 + c.val, by omega⟩) := by
  pointwise [V0]
  try simp only [Nat.zero_add]

/-- Group 0. -/
theorem grp0 (T : Fin 8) (v : FVec Ideal S512x512 .f32) (u : FVec Ideal S528x512 .f32) (w : FVec Ideal S1x128x128 .bf16) (sc : FVec Ideal S1x128 .f32)
    (s : Fin 512) (d : Fin 128) : MM (TAIL (Dbl 1#32 (E0 u)) (k0_pay83 (BitVec.ofNat 32 T.val)) 2#32 (V0 v)) (WM w) sc (ix2 s d)
    = (∑ x : Fin 128, ((∑ k ∈ Finset.range 2, uE u ⟨0 + x.val, by omega⟩ (16 + s.val - k))
        * Ideal.div 1 (FloatOps.sitofp (F := Ideal) .f32 (BitVec.ofNat 32 (min (512 * T.val + s.val + 1) 2)))
        - v (ix2 s ⟨0 + x.val, by omega⟩)) * w (ix3 0 x d)) * sc (ix2 0 d) := by
  rw [MM_at]
  refine congrArg (· * _) (Finset.sum_congr rfl fun x _ => ?_)
  rw [TAIL_at, WM_at, V0_at, p83, cnt2, win0_2 u _ x (show 1 ≤ 16 + s.val by omega)]

/-- Group 1's columns of the unpadded channels. -/
def V1 (v : FVec Ideal S512x512 .f32) : FVec Ideal S512x128 .f32 := extractStridedSlice S512x128 ![0, 128] v slices_S512x512_o0_128_S512x128

/-- Their entries. -/
theorem V1_at (v : FVec Ideal S512x512 .f32) (s : Fin 512) (c : Fin 128) : V1 v (ix2 s c) = v (ix2 s ⟨128 + c.val, by omega⟩) := by
  pointwise [V1]
  try simp only [Nat.zero_add]

/-- Group 1. -/
theorem grp1 (T : Fin 8) (v : FVec Ideal S512x512 .f32) (u : FVec Ideal S528x512 .f32) (w : FVec Ideal S1x128x128 .bf16) (sc : FVec Ideal S1x128 .f32)
    (s : Fin 512) (d : Fin 128) : MM (TAIL (Dbl 2#32 (Dbl 1#32 (E1 u))) (k0_pay83 (BitVec.ofNat 32 T.val)) 4#32 (V1 v)) (WM w) sc (ix2 s d)
    = (∑ x : Fin 128, ((∑ k ∈ Finset.range 4, uE u ⟨128 + x.val, by omega⟩ (16 + s.val - k))
        * Ideal.div 1 (FloatOps.sitofp (F := Ideal) .f32 (BitVec.ofNat 32 (min (512 * T.val + s.val + 1) 4)))
        - v (ix2 s ⟨128 + x.val, by omega⟩)) * w (ix3 0 x d)) * sc (ix2 0 d) := by
  rw [MM_at]
  refine congrArg (· * _) (Finset.sum_congr rfl fun x _ => ?_)
  rw [TAIL_at, WM_at, V1_at, p83, cnt4, win1_4 u _ x (show 3 ≤ 16 + s.val by omega)]

/-- Group 2's columns of the unpadded channels. -/
def V2 (v : FVec Ideal S512x512 .f32) : FVec Ideal S512x128 .f32 := extractStridedSlice S512x128 ![0, 256] v slices_S512x512_o0_256_S512x128

/-- Their entries. -/
theorem V2_at (v : FVec Ideal S512x512 .f32) (s : Fin 512) (c : Fin 128) : V2 v (ix2 s c) = v (ix2 s ⟨256 + c.val, by omega⟩) := by
  pointwise [V2]
  try simp only [Nat.zero_add]

/-- Group 2. -/
theorem grp2 (T : Fin 8) (v : FVec Ideal S512x512 .f32) (u : FVec Ideal S528x512 .f32) (w : FVec Ideal S1x128x128 .bf16) (sc : FVec Ideal S1x128 .f32)
    (s : Fin 512) (d : Fin 128) : MM (TAIL (Dbl 4#32 (Dbl 2#32 (Dbl 1#32 (E2 u)))) (k0_pay83 (BitVec.ofNat 32 T.val)) 8#32 (V2 v)) (WM w) sc (ix2 s d)
    = (∑ x : Fin 128, ((∑ k ∈ Finset.range 8, uE u ⟨256 + x.val, by omega⟩ (16 + s.val - k))
        * Ideal.div 1 (FloatOps.sitofp (F := Ideal) .f32 (BitVec.ofNat 32 (min (512 * T.val + s.val + 1) 8)))
        - v (ix2 s ⟨256 + x.val, by omega⟩)) * w (ix3 0 x d)) * sc (ix2 0 d) := by
  rw [MM_at]
  refine congrArg (· * _) (Finset.sum_congr rfl fun x _ => ?_)
  rw [TAIL_at, WM_at, V2_at, p83, cnt8, win2_8 u _ x (show 7 ≤ 16 + s.val by omega)]

/-- Group 3's columns of the unpadded channels. -/
def V3 (v : FVec Ideal S512x512 .f32) : FVec Ideal S512x128 .f32 := extractStridedSlice S512x128 ![0, 384] v slices_S512x512_o0_384_S512x128

/-- Their entries. -/
theorem V3_at (v : FVec Ideal S512x512 .f32) (s : Fin 512) (c : Fin 128) : V3 v (ix2 s c) = v (ix2 s ⟨384 + c.val, by omega⟩) := by
  pointwise [V3]
  try simp only [Nat.zero_add]

/-- Group 3. -/
theorem grp3 (T : Fin 8) (v : FVec Ideal S512x512 .f32) (u : FVec Ideal S528x512 .f32) (w : FVec Ideal S1x128x128 .bf16) (sc : FVec Ideal S1x128 .f32)
    (s : Fin 512) (d : Fin 128) : MM (TAIL (Dbl 8#32 (Dbl 4#32 (Dbl 2#32 (Dbl 1#32 (E3 u))))) (k0_pay83 (BitVec.ofNat 32 T.val)) 16#32 (V3 v)) (WM w) sc (ix2 s d)
    = (∑ x : Fin 128, ((∑ k ∈ Finset.range 16, uE u ⟨384 + x.val, by omega⟩ (16 + s.val - k))
        * Ideal.div 1 (FloatOps.sitofp (F := Ideal) .f32 (BitVec.ofNat 32 (min (512 * T.val + s.val + 1) 16)))
        - v (ix2 s ⟨384 + x.val, by omega⟩)) * w (ix3 0 x d)) * sc (ix2 0 d) := by
  rw [MM_at]
  refine congrArg (· * _) (Finset.sum_congr rfl fun x _ => ?_)
  rw [TAIL_at, WM_at, V3_at, p83, cnt16, win3_16 u _ x (show 15 ≤ 16 + s.val by omega)]

/-- Four groups side by side. -/
def CAT (g0 g1 g2 g3 : FVec Ideal S512x128 .bf16) : FVec Ideal S512x512 .bf16 :=
  concatenate S512x512 1 [⟨S512x128, g0⟩, ⟨S512x128, g1⟩, ⟨S512x128, g2⟩, ⟨S512x128, g3⟩] concatenates_S512x128_S512x128_S512x128_S512x128_S512x512_d1

/-- The columns of group 0. -/
theorem CAT0 (g0 g1 g2 g3 : FVec Ideal S512x128 .bf16) (s : Fin 512) (d : Fin 128) :
    CAT g0 g1 g2 g3 (ix2 s ⟨0 + d.val, by omega⟩) = g0 (ix2 s d) := by
  try simp only [Nat.zero_add]
  pointwise [CAT]
  try simp only [show ¬ (0 + d.val < 128) by omega, show ¬ (0 + d.val - 128 < 128) by omega, show 0 + d.val - 128 - 128 = 0 + d.val by omega, dif_neg, not_false_eq_true]
  try simp only [Fin.is_lt, ↓reduceDIte, Fin.eta]

/-- The columns of group 1. -/
theorem CAT1 (g0 g1 g2 g3 : FVec Ideal S512x128 .bf16) (s : Fin 512) (d : Fin 128) :
    CAT g0 g1 g2 g3 (ix2 s ⟨128 + d.val, by omega⟩) = g1 (ix2 s d) := by
  try simp only [Nat.zero_add]
  pointwise [CAT]
  try simp only [show ¬ (128 + d.val < 128) by omega, show ¬ (128 + d.val - 128 < 128) by omega, show 128 + d.val - 128 - 128 = 0 + d.val by omega, dif_neg, not_false_eq_true]
  try simp only [Fin.is_lt, ↓reduceDIte, Fin.eta]

/-- The columns of group 2. -/
theorem CAT2 (g0 g1 g2 g3 : FVec Ideal S512x128 .bf16) (s : Fin 512) (d : Fin 128) :
    CAT g0 g1 g2 g3 (ix2 s ⟨256 + d.val, by omega⟩) = g2 (ix2 s d) := by
  try simp only [Nat.zero_add]
  pointwise [CAT]
  try simp only [show ¬ (256 + d.val < 128) by omega, show ¬ (256 + d.val - 128 < 128) by omega, show 256 + d.val - 128 - 128 = 0 + d.val by omega, dif_neg, not_false_eq_true]
  exact (dif_pos (show 0 + d.val < 128 by omega)).trans (congrArg g2 (congrArg (ix2 s) (Fin.ext (Nat.zero_add _))))

/-- The columns of group 3. -/
theorem CAT3 (g0 g1 g2 g3 : FVec Ideal S512x128 .bf16) (s : Fin 512) (d : Fin 128) :
    CAT g0 g1 g2 g3 (ix2 s ⟨384 + d.val, by omega⟩) = g3 (ix2 s d) := by
  try simp only [Nat.zero_add]
  pointwise [CAT]
  try simp only [show ¬ (384 + d.val < 128) by omega, show ¬ (384 + d.val - 128 < 128) by omega, show 384 + d.val - 128 - 128 = 128 + d.val by omega, dif_neg, not_false_eq_true]
  exact (dif_neg (show ¬ (128 + d.val < 128) by omega)).trans (congrArg g3 (congrArg (ix2 s) (Fin.ext (show 128 + d.val - 128 = d.val by omega))))

/-- The pooled groups of a run. -/
theorem pool_eq (a : BitVec 32) (v : FVec Ideal S512x512 .f32) (u : FVec Ideal S528x512 .f32) (w0 w1 w2 w3 : FVec Ideal S1x128x128 .bf16)
    (s0 s1 s2 s3 : FVec Ideal S1x128 .f32) :
    k0_pay90 (F := Ideal) v u (k0_pay83 a) (k0_pay84 (F := Ideal) a v u w0 s0)
      (k0_pay87 (F := Ideal) v (k0_pay83 a) (k0_pay85 (F := Ideal) u) k0_pay86 w1 s1)
      (k0_pay88 (F := Ideal) v u (k0_pay83 a)) (k0_pay89 (F := Ideal) w2) (constant S512x128 .f32 0x00000000#32) s2 w3 s3
    = CAT (MM (TAIL (Dbl 1#32 (E0 u)) (k0_pay83 a) 2#32 (V0 v)) (WM w0) s0)
      (MM (TAIL (Dbl 2#32 (Dbl 1#32 (E1 u))) (k0_pay83 a) 4#32 (V1 v)) (WM w1) s1)
      (MM (TAIL (Dbl 4#32 (Dbl 2#32 (Dbl 1#32 (E2 u)))) (k0_pay83 a) 8#32 (V2 v)) (WM w2) s2)
      (MM (TAIL (Dbl 8#32 (Dbl 4#32 (Dbl 2#32 (Dbl 1#32 (E3 u))))) (k0_pay83 a) 16#32 (V3 v)) (WM w3) s3) := rfl

/-- The output block from the attention and the pooled groups. -/
theorem pay92_at (x1 : FVec Ideal S1x512x1024 .f32) (x2 : FVec Ideal S1x6x1024 .f32) (po : FVec Ideal S512x512 .bf16) (at' : FVec Ideal S512x512 .bf16)
    (wa : FVec Ideal S512x1024 .bf16) (wp : FVec Ideal S512x1024 .bf16) (s : Fin 512) (e : Fin 1024) :
    k0_pay92 (F := Ideal) (k0_pay5 (F := Ideal) x1) (k0_pay6 (F := Ideal) x2) po at' (k0_pay91 (F := Ideal) wa) (constant S512x1024 .f32 0x00000000#32) wp (ix3 0 s e)
    = x1 (ix3 0 s e) + x2 (ix3 0 2 e) * (∑ a, at' (ix2 a s) * wa (ix2 a e) + ∑ a, po (ix2 s a) * wp (ix2 a e)) := by
  pointwise [k0_pay92, k0_pay5, k0_pay6, k0_pay91]

end Cert.KernelIdeal.Mix
end
-- ==== Proof.MixTile.lean ====
/- One tile of the mixer in terms of the layer's mathematics: from what the input blocks hold, the entries of the tile's
   queries, keys, values and pooled channels, then its attention, its pooled groups and its output. -/
module

public import proofs.«01_k».proof.Proof.MixSpec
public import proofs.«01_k».proof.Proof.MixBand
public import proofs.«01_k».proof.Proof.MixPool

@[expose] public section

set_option maxRecDepth 16384

noncomputable section
open Idealize.ShloMosaic
open scoped BigOperators

namespace Cert.Mix

/-- The arrays the scores are computed from hold real numbers. -/
structure Fine (A : Args) : Prop where
  /-- the residual stream -/
  X : ∀ b s k, Rl (A.X (ix3 b s k))
  /-- the modulation -/
  M : ∀ j b k, Rl (A.M (ix3 j b k))
  /-- the gain -/
  G : ∀ k, Rl (A.G (ix1 k))
  /-- the input projection -/
  W : ∀ k c, Rl (A.W (ix2 k c))
  /-- the queries' gain -/
  GQ : ∀ d, Rl (A.GQ (ix1 d))
  /-- the keys' gain -/
  GK : ∀ d, Rl (A.GK (ix1 d))
  /-- the sinks -/
  SK : ∀ h, Rl (A.SK (ix1 h))

/-- A normalised entry of reals is real. -/
theorem nrm_real {x g sc sh : Fin 1024 → EReal} (hx : ∀ k, Rl (x k)) (hg : ∀ k, Rl (g k)) (hsc : ∀ k, Rl (sc k))
    (hsh : ∀ k, Rl (sh k)) (k : Fin 1024) : Rl (nrm x g sc sh k) := by
  unfold nrm
  obtain ⟨r, hr, e⟩ := sumsq_nonneg hx
  obtain ⟨p, hp, ep⟩ := weps
  have h : Rl (Ideal.rsqrt (Ideal.div (∑ l, x l * x l) (Ideal.ofBits .f32 1149239296#32) + Ideal.ofBits .f32 897988541#32)) := by
    rw [e, w1024, Ideal.div_coe (by norm_num), ep]
    have : ((r : EReal) * ((1 / 1024 : ℝ) : EReal) + (p : EReal)) = ((r * (1 / 1024) + p : ℝ) : EReal) := by norm_cast
    rw [this]
    exact Rl.rsqrt (by positivity)
  exact ((((hx k).mul h).mul (hg k)).mul (Rl.one.add (hsc k))).add (hsh k)

/-- A normalised entry of a head of reals is real. -/
theorem rn_real {p g : Fin 64 → EReal} (hx : ∀ k, Rl (p k)) (hg : ∀ k, Rl (g k)) (d : Fin 64) : Rl (rn p g d) := by
  unfold rn
  obtain ⟨r, hr, e⟩ := sumsq_nonneg hx
  obtain ⟨q, hq, eq⟩ := weps
  have h : Rl (Ideal.rsqrt ((∑ x, p x * p x) * Ideal.ofBits .f32 1015021568#32 + Ideal.ofBits .f32 897988541#32)) := by
    rw [e, w64th, eq]
    have : ((r : EReal) * ((1 / 64 : ℝ) : EReal) + (q : EReal)) = ((r * (1 / 64) + q : ℝ) : EReal) := by norm_cast
    rw [this]
    exact Rl.rsqrt (by positivity)
  exact ((hx d).mul h).mul (hg d)

/-- A rotated entry of reals is real. -/
theorem rot_real {n : Fin 64 → EReal} {c s : Fin 8 → EReal} (hn : ∀ d, Rl (n d)) (hc : ∀ e, Rl (c e)) (hs : ∀ e, Rl (s e))
    (d : Fin 64) : Rl (rot n c s d) := by
  unfold rot
  split_ifs
  · exact ((hn _).mul (hc _)).sub ((hn _).mul (hs _))
  · exact ((hn _).mul (hc _)).add ((hn _).mul (hs _))
  · exact hn _

variable {A : Args} (hA : Fine A)
include hA

/-- The modulated norm is real. -/
theorem H_real (b : Fin 8) (s : Fin 4096) (k : Fin 1024) : Rl (H A b s k) :=
  nrm_real (fun _ => hA.X _ _ _) (fun _ => hA.G _) (fun _ => hA.M _ _ _) (fun _ => hA.M _ _ _) k

/-- The projection is real. -/
theorem PR_real (b : Fin 8) (s : Fin 4096) (c : Fin 1280) : Rl (PR A b s c) :=
  Rl.sum fun k => (H_real hA b s k).mul (hA.W _ _)

omit hA in
/-- The angles are real. -/
theorem ANG_real (b : Fin 8) (s : Fin 4096) (e : Fin 8) : Rl (ANG A b s e) := by
  unfold ANG
  refine Rl.mul (Rl.coe _) (Rl.pow wtheta ?_)
  rw [w16, w2]
  exact Rl.div ((Rl.coe _).mul (Rl.coe _)).neg (by norm_num)

/-- The queries are real. -/
theorem Q_real (b : Fin 8) (s : Fin 4096) (hd : Fin 8) (d : Fin 64) : Rl (Q A b s hd d) :=
  rot_real (rn_real (fun _ => PR_real hA _ _ _) (fun _ => hA.GQ _)) (fun _ => (ANG_real _ _ _).cos) (fun _ => (ANG_real _ _ _).sin) d

/-- The keys are real. -/
theorem K_real (b : Fin 8) (s : Fin 4096) (kv : Fin 2) (d : Fin 64) : Rl (K A b s kv d) :=
  rot_real (rn_real (fun _ => PR_real hA _ _ _) (fun _ => hA.GK _)) (fun _ => (ANG_real _ _ _).cos) (fun _ => (ANG_real _ _ _).sin) d

/-- The padded keys are real. -/
theorem KP_real (b : Fin 8) (kv : Fin 2) (d : Fin 64) (n : ℕ) : Rl (KP A b kv d n) := by
  unfold KP
  split_ifs
  · exact K_real hA _ _ _ _
  · exact Rl.zero

/-- No score is plus infinity. -/
theorem SC_ne_top (b : Fin 8) (hd : Fin 8) (s : Fin 4096) (r : Fin 256) : SC A b hd s r ≠ ⊤ := by
  unfold SC
  split_ifs
  · rw [w8th]
    exact (Rl.mul (Rl.sum fun d => (Q_real hA _ _ _ _).mul (KP_real hA _ _ _ _)) (Rl.coe _)).ne_top
  · exact bot_ne_top

omit hA in
/-- A real factor that is not negative goes through a difference. -/
theorem sub_mul_nn (x y : EReal) {r : ℝ} (hr : 0 ≤ r) : (x - y) * (r : EReal) = x * (r : EReal) - y * (r : EReal) := by
  rw [sub_eq_add_neg, sub_eq_add_neg, EReal.right_distrib_of_nonneg_of_ne_top (by exact_mod_cast hr) (EReal.coe_ne_top r), EReal.neg_mul]

omit hA in
/-- A real factor that is not negative goes through a sum of two. -/
theorem add_mul_nn (x y : EReal) {r : ℝ} (hr : 0 ≤ r) : (x + y) * (r : EReal) = x * (r : EReal) + y * (r : EReal) :=
  EReal.right_distrib_of_nonneg_of_ne_top (by exact_mod_cast hr) (EReal.coe_ne_top r) _ _

omit hA in
/-- The rotation carries a real factor that is not negative out. -/
theorem rot_scale (n : Fin 64 → EReal) (c s : Fin 8 → EReal) {r : ℝ} (hr : 0 ≤ r) (d : Fin 64) :
    rot (fun d => n d * (r : EReal)) c s d = rot n c s d * (r : EReal) := by
  unfold rot
  split_ifs
  · rw [sub_mul_nn _ _ hr, mul_right_comm, mul_right_comm (n _) (r : EReal) (s _)]
  · rw [add_mul_nn _ _ hr, mul_right_comm, mul_right_comm (n _) (r : EReal) (s _)]
  · rfl

omit hA in
/-- The normalised head with a scaled gain. -/
theorem rn_scale (p g : Fin 64 → EReal) (r : EReal) (d : Fin 64) : rn p (fun d => g d * r) d = rn p g d * r := by
  unfold rn
  exact (mul_assoc _ _ _).symm

end Cert.Mix

namespace Cert.KernelIdeal.Mix
open Cert.KernelIdeal Cert.KernelIdeal.Gen Cert.Mix

/-- The input blocks of a run hold the arguments' entries of batch `b`, tile `T`. -/
structure Good (z : Ctx) (A : Args) (b T : Fin 8) : Prop where
  /-- the tile's number -/
  hT : (z.i 1).val = T.val
  /-- the sinks -/
  x0 : ∀ h, z.x0 (ix1 h) = A.SK (ix1 h)
  /-- the tokens -/
  x1 : ∀ (s : Fin 512) k, z.x1 (ix3 0 s k) = A.X (ix3 b ⟨512 * T.val + s.val, by omega⟩ k)
  /-- the modulation -/
  x2 : ∀ j k, z.x2 (ix3 0 j k) = A.M (ix3 j b k)
  /-- the positions -/
  x3 : ∀ s : Fin 512, z.x3 (ix3 0 0 s) = A.P (ix2 b ⟨512 * T.val + s.val, by omega⟩)
  /-- the gain -/
  x4 : ∀ k, z.x4 (ix2 0 k) = A.G (ix1 k)
  /-- the first projection -/
  x5 : ∀ (n : Fin 768) k, z.x5 (ix2 n k) = A.W (ix2 k ⟨n.val, by omega⟩)
  /-- the second projection -/
  x6 : ∀ k (c : Fin 512), z.x6 (ix2 k c) = A.W (ix2 k ⟨768 + c.val, by omega⟩)
  /-- the queries' gain, scaled -/
  x7 : ∀ d s, z.x7 (ix2 d s) = A.GQ (ix1 d) * Ideal.ofBits .f32 1040187392#32
  /-- the keys' gain -/
  x8 : ∀ d s, z.x8 (ix2 d s) = A.GK (ix1 d)
  /-- the frequencies -/
  x9 : ∀ (e : Fin 8) s, z.x9 (ix2 e s) = Ideal.pow (Ideal.ofBits .f32 1223959552#32)
      (Ideal.div (-(Ideal.ofBits .f32 1073741824#32 * FloatOps.sitofp (F := Ideal) .f32 (BitVec.ofNat 32 e.val)))
        (Ideal.ofBits .f32 1098907648#32))
  /-- the pooled groups' matrices -/
  x10 : ∀ g x d, z.x10 (ix3 g x d) = A.PW (ix3 g x d)
  /-- the pooled channels' scale -/
  x11 : ∀ c, z.x11 (ix2 0 c) = A.PS (ix1 c)
  /-- the first half of the output projection -/
  x12 : ∀ (a : Fin 512) e, z.x12 (ix2 a e) = A.WO (ix2 ⟨a.val, by omega⟩ e)
  /-- the second half of the output projection -/
  x13 : ∀ (a : Fin 512) e, z.x13 (ix2 a e) = A.WO (ix2 ⟨512 + a.val, by omega⟩ e)

variable {z : Ctx} {A : Args} {b T : Fin 8} (g : Good z A b T)
include g

/-- Token `s` of the tile in the sequence. -/
abbrev tok (T : Fin 8) (s : Fin 512) : Fin 4096 := ⟨512 * T.val + s.val, by omega⟩

/-- The modulated norm of the tile. -/
theorem h_at (s : Fin 512) (k : Fin 1024) : k0_pay7 (F := Ideal) z.x1 z.x2 z.x4 (ix2 s k) = H A b (tok T s) k := by
  rw [pay7_at]
  unfold H
  simp only [g.x1, g.x2, g.x4]

/-- The projection of the tile to queries, keys and values. -/
theorem qkv_at (n : Fin 768) (s : Fin 512) : k0_pay8 (F := Ideal) z.x1 z.x2 z.x4 z.x5 (ix2 n s) = PR A b (tok T s) ⟨n.val, by omega⟩ := by
  rw [pay8_at]
  unfold PR
  exact Finset.sum_congr rfl fun k _ => by rw [h_at g, g.x5, mul_comm]

/-- The pooled channels of the tile. -/
theorem u_at (s : Fin 512) (c : Fin 512) : k0_pay9 (F := Ideal) z.x1 z.x2 z.x4 z.x6 (ix2 s c) = U A b (tok T s) c := by
  rw [pay9_at]
  unfold U PR
  exact Finset.sum_congr rfl fun k _ => by rw [h_at g, g.x6]

/-- The cosines. -/
theorem cos_at (e : Fin 8) (s : Fin 512) : k0_pay11 (F := Ideal) z.x3 z.x9 (ix2 e s) = Ideal.cos (ANG A b (tok T s) e) := by
  rw [pay11_at, g.x3, g.x9]; rfl

/-- The sines. -/
theorem sin_at (e : Fin 8) (s : Fin 512) : k0_pay12 (F := Ideal) z.x3 z.x9 (ix2 e s) = Ideal.sin (ANG A b (tok T s) e) := by
  rw [pay12_at, g.x3, g.x9]; rfl

/-- The queries of the tile, scaled. -/
theorem q_at (hd : Fin 8) (d : Fin 64) (s : Fin 512) :
    k0_pay13 (F := Ideal) (k0_pay8 (F := Ideal) z.x1 z.x2 z.x4 z.x5) z.x3 z.x9 z.x7 (ix2 ⟨64 * hd.val + d.val, by omega⟩ s)
      = Q A b (tok T s) hd d * Ideal.ofBits .f32 1040187392#32 := by
  rw [pay13_at]
  simp only [qkv_at g, cos_at g, sin_at g, g.x7, w8th]
  unfold Q
  rw [← rot_scale _ _ _ (by norm_num : (0 : ℝ) ≤ 1 / 8)]
  exact congrArg (fun n => rot n _ _ d) (funext fun d => rn_scale _ _ _ d)

/-- The keys of the tile. -/
theorem k_at (kv : Fin 2) (d : Fin 64) (s : Fin 512) :
    k0_pay14 (F := Ideal) (k0_pay8 (F := Ideal) z.x1 z.x2 z.x4 z.x5) (k0_pay11 (F := Ideal) z.x3 z.x9) (k0_pay12 (F := Ideal) z.x3 z.x9) z.x8
      (ix2 s ⟨64 * kv.val + d.val, by omega⟩) = K A b (tok T s) kv d := by
  rw [pay14_at]
  simp only [qkv_at g, cos_at g, sin_at g, g.x8]
  rfl

/-- The values of the tile. -/
theorem v_at (kv : Fin 2) (d : Fin 64) (s : Fin 512) :
    k0_pay15 (F := Ideal) (k0_pay8 (F := Ideal) z.x1 z.x2 z.x4 z.x5) (ix2 ⟨64 * kv.val + d.val, by omega⟩ s) = V A b (tok T s) kv d := by
  rw [pay15_at, qkv_at g]; rfl

omit g in
/-- The attention of a tile whose bands and queries hold the layer's keys, values and queries. -/
theorem ATT_eq (hA : Fine A) (kb : Fin 640 → Fin 128 → EReal) (vb : Fin 128 → Fin 640 → EReal) (q : Fin 512 → Fin 512 → EReal) (sk : Fin 8 → EReal)
    (hk : ∀ (r : Fin 640) (kv : Fin 2) (d : Fin 64), kb r ⟨64 * kv.val + d.val, by omega⟩ = KP A b kv d (512 * T.val + r.val))
    (hv : ∀ (r : Fin 640) (kv : Fin 2) (d : Fin 64), vb ⟨64 * kv.val + d.val, by omega⟩ r = VP A b kv d (512 * T.val + r.val))
    (hq : ∀ (hd : Fin 8) (d : Fin 64) (s : Fin 512), q ⟨64 * hd.val + d.val, by omega⟩ s = Q A b (tok T s) hd d * Ideal.ofBits .f32 1040187392#32)
    (hs : ∀ h, sk h = A.SK (ix1 h)) (s : Fin 512) (hd : Fin 8) (d : Fin 64) :
    ATT T.val kb vb q sk ⟨s.val / 128, by omega⟩ hd d ⟨s.val % 128, by omega⟩ = AT A b (tok T s) hd d := by
  have hs' : ∀ r : Fin 256, (∑ x : Fin 64, kb ⟨128 * (s.val / 128) + r.val, by omega⟩ ⟨64 * (hd.val / 4) + x.val, by omega⟩
      * q ⟨64 * hd.val + x.val, by omega⟩ ⟨128 * (s.val / 128) + s.val % 128, by omega⟩
        + BI T.val ⟨s.val / 128, by omega⟩ r ⟨s.val % 128, by omega⟩) = SC A b hd (tok T s) r := by
    intro r
    have hr := r.isLt
    have e0 : (tok T s).val = 512 * T.val + s.val := rfl
    unfold BI SC
    by_cases hc : (tok T s).val % 128 < r.val ∧ r.val ≤ (tok T s).val % 128 + 128 ∧ 128 ≤ (tok T s).val / 128 * 128 + r.val
    · rw [if_pos hc, if_pos (by
        rw [e0] at hc
        refine ⟨by show s.val % 128 < r.val; omega, by show r.val ≤ s.val % 128 + 128; omega, fun h1 h2 => ?_⟩
        have h1' : s.val / 128 = 0 := h1
        omega), add_zero, w8th, sum_mul_nn _ (by norm_num : (0 : ℝ) ≤ 1 / 8)]
      refine Finset.sum_congr rfl fun x _ => ?_
      have e1 := hk ⟨128 * (s.val / 128) + r.val, by omega⟩ ⟨hd.val / 4, by omega⟩ x
      have e2 := hq hd x s
      rw [show (⟨128 * (s.val / 128) + s.val % 128, by omega⟩ : Fin 512) = s from Fin.ext (by show 128 * (s.val / 128) + s.val % 128 = s.val; omega)]
      rw [e2, w8th]
      refine (congrArg (· * _) e1).trans ?_
      rw [show 512 * T.val + (128 * (s.val / 128) + r.val) = (tok T s).val / 128 * 128 + r.val by rw [e0]; omega]
      rw [mul_comm, mul_right_comm]
    · rw [if_neg hc, if_neg (by
        rw [e0] at hc
        rintro ⟨h1, h2, h3⟩
        have h1' : s.val % 128 < r.val := h1
        have h2' : r.val ≤ s.val % 128 + 128 := h2
        refine hc ⟨by omega, by omega, ?_⟩
        by_cases hJ : s.val / 128 = 0
        · by_cases hT : T.val = 0
          · have := h3 hJ hT; omega
          · omega
        · omega), EReal.add_bot]
  unfold ATT AT
  rw [hs, ← softK_eq (SC A b hd (tok T s)) _ _ (hA.SK hd) (SC_ne_top hA b hd (tok T s))]
  refine congrArg₂ (fun sc v => softK sc (A.SK (ix1 hd)) v) (funext hs') (funext fun r => ?_)
  have hr := r.isLt
  refine (hv ⟨128 * (s.val / 128) + r.val, by omega⟩ ⟨hd.val / 4, by omega⟩ d).trans ?_
  exact congrArg _ (show 512 * T.val + (128 * (s.val / 128) + r.val) = (512 * T.val + s.val) / 128 * 128 + r.val by omega)

omit g in
/-- The count of a window as a number. -/
theorem cnt_eq (s w : ℕ) (hw : w ≤ 16) : FloatOps.sitofp (F := Ideal) .f32 (BitVec.ofNat 32 (min (s + 1) w)) = cnt s w := by
  have h : (BitVec.ofNat 32 (min (s + 1) w)).toInt = ((min (s + 1) w : ℕ) : ℤ) := by
    have : min (s + 1) w ≤ 16 := le_trans (min_le_right _ _) hw
    generalize min (s + 1) w = n at this ⊢
    rw [BitVec.toInt_eq_toNat_of_lt (by rw [BitVec.toNat_ofNat]; omega), BitVec.toNat_ofNat]
    omega
  show (((BitVec.ofNat 32 (min (s + 1) w)).toInt : ℝ) : EReal) = _
  rw [h]; unfold cnt; norm_cast

omit g in
/-- The mean of a window, taken from the padded band. -/
theorem mean_eq (u : FVec Ideal S528x512 .f32) (v : FVec Ideal S512x512 .f32)
    (hu : ∀ (r : Fin 528) (c : Fin 512), u (ix2 r c) = UP A b c (512 * T.val + r.val))
    (hv : ∀ (s : Fin 512) (c : Fin 512), v (ix2 s c) = U A b (tok T s) c) (w : ℕ) (hw : w ≤ 16) (hw0 : 0 < w) (s : Fin 512) (c : Fin 512) :
    (∑ k ∈ Finset.range w, uE u c (16 + s.val - k))
        * Ideal.div 1 (FloatOps.sitofp (F := Ideal) .f32 (BitVec.ofNat 32 (min (512 * T.val + s.val + 1) w))) - v (ix2 s c)
      = PL A b (tok T s) w c := by
  have hm : ((min (512 * T.val + s.val + 1) w : ℕ) : ℝ) ≠ 0 := by
    have : 0 < min (512 * T.val + s.val + 1) w := lt_min (by omega) hw0
    exact_mod_cast this.ne'
  unfold PL
  rw [cnt_eq _ _ hw, hv]
  unfold cnt
  rw [Ideal.div_coe hm, Ideal.div_coe hm, one_mul, Finset.sum_range]
  refine congrArg (fun x => x * _ - _) (Finset.sum_congr rfl fun k _ => ?_)
  have hk := k.isLt
  unfold uE
  rw [dif_pos (by omega), hu]
  exact congrArg _ (show 512 * T.val + (16 + s.val - k.val) = 512 * T.val + s.val + 16 - k.val by omega)

/-- The pooled groups of the tile. -/
theorem pool_at (u : FVec Ideal S528x512 .f32) (v : FVec Ideal S512x512 .f32)
    (hu : ∀ (r : Fin 528) (c : Fin 512), u (ix2 r c) = UP A b c (512 * T.val + r.val))
    (hv : ∀ (s : Fin 512) (c : Fin 512), v (ix2 s c) = U A b (tok T s) c) (s a : Fin 512) :
    k0_pay90 (F := Ideal) v u (k0_pay83 (BitVec.ofNat 32 (z.i 1).val)) (k0_pay84 (F := Ideal) (BitVec.ofNat 32 (z.i 1).val) v u (RW0 z) (RS0 z))
      (k0_pay87 (F := Ideal) v (k0_pay83 (BitVec.ofNat 32 (z.i 1).val)) (k0_pay85 (F := Ideal) u) k0_pay86 (RW1 z) (RS1 z))
      (k0_pay88 (F := Ideal) v u (k0_pay83 (BitVec.ofNat 32 (z.i 1).val))) (k0_pay89 (F := Ideal) (RW2 z)) (constant S512x128 .f32 0x00000000#32)
      (RS2 z) (RW3 z) (RS3 z) (ix2 s a)
    = PO A b (tok T s) ⟨a.val / 128, by omega⟩ ⟨a.val % 128, by omega⟩ := by
  rw [pool_eq, g.hT]
  have ha := a.isLt
  obtain h | h | h | h : a.val / 128 = 0 ∨ a.val / 128 = 1 ∨ a.val / 128 = 2 ∨ a.val / 128 = 3 := by omega
  · obtain ⟨d, hd, he⟩ : ∃ (d : Fin 128) (hd : 0 + d.val < 512), a = ⟨0 + d.val, hd⟩ := ⟨⟨a.val - 0, by omega⟩, by show 0 + (a.val - 0) < 512; omega, Fin.ext (show a.val = 0 + (a.val - 0) by omega)⟩
    subst he
    rw [CAT0, grp0, RS0_at, g.x11]
    have e1 : (⟨(0 + d.val) / 128, by omega⟩ : Fin 4) = 0 := Fin.ext (show (0 + d.val) / 128 = 0 by omega)
    have e2 : (⟨(0 + d.val) % 128, by omega⟩ : Fin 128) = d := Fin.ext (show (0 + d.val) % 128 = d.val by omega)
    show _ = PO A b (tok T s) ⟨(0 + d.val) / 128, _⟩ ⟨(0 + d.val) % 128, _⟩
    rw [e1, e2]
    unfold PO
    refine congrArg₂ (· * ·) (Finset.sum_congr rfl fun x _ => ?_) rfl
    rw [mean_eq u v hu hv 2 (by omega) (by omega), RW0_at, g.x10]
    rfl
  · obtain ⟨d, hd, he⟩ : ∃ (d : Fin 128) (hd : 128 + d.val < 512), a = ⟨128 + d.val, hd⟩ := ⟨⟨a.val - 128, by omega⟩, by show 128 + (a.val - 128) < 512; omega, Fin.ext (show a.val = 128 + (a.val - 128) by omega)⟩
    subst he
    rw [CAT1, grp1, RS1_at, g.x11]
    have e1 : (⟨(128 + d.val) / 128, by omega⟩ : Fin 4) = 1 := Fin.ext (show (128 + d.val) / 128 = 1 by omega)
    have e2 : (⟨(128 + d.val) % 128, by omega⟩ : Fin 128) = d := Fin.ext (show (128 + d.val) % 128 = d.val by omega)
    show _ = PO A b (tok T s) ⟨(128 + d.val) / 128, _⟩ ⟨(128 + d.val) % 128, _⟩
    rw [e1, e2]
    unfold PO
    refine congrArg₂ (· * ·) (Finset.sum_congr rfl fun x _ => ?_) rfl
    rw [mean_eq u v hu hv 4 (by omega) (by omega), RW1_at, g.x10]
    rfl
  · obtain ⟨d, hd, he⟩ : ∃ (d : Fin 128) (hd : 256 + d.val < 512), a = ⟨256 + d.val, hd⟩ := ⟨⟨a.val - 256, by omega⟩, by show 256 + (a.val - 256) < 512; omega, Fin.ext (show a.val = 256 + (a.val - 256) by omega)⟩
    subst he
    rw [CAT2, grp2, RS2_at, g.x11]
    have e1 : (⟨(256 + d.val) / 128, by omega⟩ : Fin 4) = 2 := Fin.ext (show (256 + d.val) / 128 = 2 by omega)
    have e2 : (⟨(256 + d.val) % 128, by omega⟩ : Fin 128) = d := Fin.ext (show (256 + d.val) % 128 = d.val by omega)
    show _ = PO A b (tok T s) ⟨(256 + d.val) / 128, _⟩ ⟨(256 + d.val) % 128, _⟩
    rw [e1, e2]
    unfold PO
    refine congrArg₂ (· * ·) (Finset.sum_congr rfl fun x _ => ?_) rfl
    rw [mean_eq u v hu hv 8 (by omega) (by omega), RW2_at, g.x10]
    rfl
  · obtain ⟨d, hd, he⟩ : ∃ (d : Fin 128) (hd : 384 + d.val < 512), a = ⟨384 + d.val, hd⟩ := ⟨⟨a.val - 384, by omega⟩, by show 384 + (a.val - 384) < 512; omega, Fin.ext (show a.val = 384 + (a.val - 384) by omega)⟩
    subst he
    rw [CAT3, grp3, RS3_at, g.x11]
    have e1 : (⟨(384 + d.val) / 128, by omega⟩ : Fin 4) = 3 := Fin.ext (show (384 + d.val) / 128 = 3 by omega)
    have e2 : (⟨(384 + d.val) % 128, by omega⟩ : Fin 128) = d := Fin.ext (show (384 + d.val) % 128 = d.val by omega)
    show _ = PO A b (tok T s) ⟨(384 + d.val) / 128, _⟩ ⟨(384 + d.val) % 128, _⟩
    rw [e1, e2]
    unfold PO
    refine congrArg₂ (· * ·) (Finset.sum_congr rfl fun x _ => ?_) rfl
    rw [mean_eq u v hu hv 16 (by omega) (by omega), RW3_at, g.x10]
    rfl

/-- The output of the tile. -/
theorem out_at (at' po : FVec Ideal S512x512 .bf16)
    (hat : ∀ a s : Fin 512, at' (ix2 a s) = AT A b (tok T s) ⟨a.val / 64, by omega⟩ ⟨a.val % 64, by omega⟩)
    (hpo : ∀ s a : Fin 512, po (ix2 s a) = PO A b (tok T s) ⟨a.val / 128, by omega⟩ ⟨a.val % 128, by omega⟩) (s : Fin 512) (e : Fin 1024) :
    k0_pay92 (F := Ideal) (k0_pay5 (F := Ideal) z.x1) (k0_pay6 (F := Ideal) z.x2) po at' (k0_pay91 (F := Ideal) z.x12)
      (constant S512x1024 .f32 0x00000000#32) z.x13 (ix3 0 s e) = OUT A b (tok T s) e := by
  rw [pay92_at]
  unfold OUT
  simp only [g.x1, g.x2, g.x12, g.x13, hat, hpo]

end Cert.KernelIdeal.Mix
end
-- ==== Proof.MixGrid.lean ====
/- What the mixer's input blocks hold at each grid point, in terms of the kernel's arguments. -/
module

public import proofs.«01_k».proof.Proof.Gen.KernelIdeal.Frame
public import proofs.«01_k».proof.Proof.MixTile
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)
open scoped BigOperators
namespace Cert.KernelIdeal.Mix
open Cert.KernelIdeal Cert.KernelIdeal.Gen Cert.Mix

variable (m : (ℓ : Loc nD τ sig) → Buf (Elt Ideal) ℓ)

/-- The kernel's arguments. -/
def AR (c : Dev nD) : Args where
  X := m ((c : Thread nD τ).loc main_arg0)
  M := m ((c : Thread nD τ).loc main_arg1)
  P := m ((c : Thread nD τ).loc main_arg2)
  G := m ((c : Thread nD τ).loc main_arg3)
  W := m ((c : Thread nD τ).loc main_arg4)
  GQ := m ((c : Thread nD τ).loc main_arg5)
  GK := m ((c : Thread nD τ).loc main_arg6)
  SK := m ((c : Thread nD τ).loc main_arg7)
  PW := m ((c : Thread nD τ).loc main_arg8)
  PS := m ((c : Thread nD τ).loc main_arg9)
  WO := m ((c : Thread nD τ).loc main_arg10)

/-- Where every window's block of a grid point lies: batch `t / 8`, tile `t % 8`. -/
theorem idx : ∀ t : Fin cfg0.N, Cert.KernelIdeal.win0_0.index t = ![0] ∧ Cert.KernelIdeal.win0_1.index t = ![t.val / 8, t.val % 8, 0] ∧ Cert.KernelIdeal.win0_2.index t = ![t.val / 8, 0, 0]
    ∧ Cert.KernelIdeal.win0_3.index t = ![t.val / 8, 0, t.val % 8] ∧ Cert.KernelIdeal.win0_4.index t = ![0, 0] ∧ Cert.KernelIdeal.win0_5.index t = ![0, 0] ∧ Cert.KernelIdeal.win0_6.index t = ![0, 0]
    ∧ Cert.KernelIdeal.win0_7.index t = ![0, 0] ∧ Cert.KernelIdeal.win0_8.index t = ![0, 0] ∧ Cert.KernelIdeal.win0_9.index t = ![0, 0] ∧ Cert.KernelIdeal.win0_10.index t = ![0, 0, 0]
    ∧ Cert.KernelIdeal.win0_11.index t = ![0, 0] ∧ Cert.KernelIdeal.win0_12.index t = ![0, 0] ∧ Cert.KernelIdeal.win0_13.index t = ![0, 0]
    ∧ Cert.KernelIdeal.win0_14.index t = ![t.val / 8, t.val % 8, 0] :=
  (by decide +kernel : ∀ t : Fin grid0.N, _)

/-- The modulation with its first two axes exchanged. -/
theorem Vmod (c : Dev nD) (j : Fin 6) (b : Fin 8) (k : Fin 1024) : V m c main_v0 (ix3 b j k) = (AR m c).M (ix3 j b k) := by
  have h : V m c main_v0 = transpose S8x6x1024 [1, 0, 2] (AR m c).M transposes_S6x8x1024_S8x6x1024_1_0_2 := by entry_read; rfl
  rw [h]; generalize (AR m c).M = M; pointwise []

/-- The positions with an axis between. -/
theorem Vpos (c : Dev nD) (b : Fin 8) (s : Fin 4096) : V m c main_v24 (ix3 b 0 s) = (AR m c).P (ix2 b s) := by
  have h : V m c main_v24 = shapeCast S8x1x4096 (AR m c).P shapeCasts_S8x4096_S8x1x4096 := by entry_read; rfl
  rw [h]; generalize (AR m c).P = M; pointwise []

/-- The gain as a row. -/
theorem Vgain (c : Dev nD) (k : Fin 1024) : V m c main_v25 (ix2 0 k) = (AR m c).G (ix1 k) := by
  have h : V m c main_v25 = shapeCast S1x1024 (AR m c).G shapeCasts_S1024_S1x1024 := by entry_read; rfl
  rw [h]; generalize (AR m c).G = M; pointwise []

/-- The first 768 columns of the projection, transposed. -/
theorem Vqkv (c : Dev nD) (n : Fin 768) (k : Fin 1024) : V m c main_v3 (ix2 n k) = (AR m c).W (ix2 k ⟨n.val, by omega⟩) := by
  have h : V m c main_v3 = truncf .bf16 (transpose S768x1024 [1, 0] (extractStridedSlice S1024x768 ![0, 0] (AR m c).W slices_S1024x1280_S1024x768_0_0)
    transposes_S1024x768_S768x1024_1_0) bitsLt_bf16_f32 := by entry_read; rfl
  rw [h]; generalize (AR m c).W = M; pointwise []

/-- The other 512 columns of the projection. -/
theorem Vwu (c : Dev nD) (k : Fin 1024) (n : Fin 512) : V m c main_v5 (ix2 k n) = (AR m c).W (ix2 k ⟨768 + n.val, by omega⟩) := by
  have h : V m c main_v5 = truncf .bf16 (extractStridedSlice S1024x512 ![0, 768] (AR m c).W slices_S1024x1280_S1024x512_0_768) bitsLt_bf16_f32 := by
    entry_read; rfl
  rw [h]; generalize (AR m c).W = M; pointwise []

/-- The queries' gain times 1/8 along every column. -/
theorem Vgq (c : Dev nD) (d : Fin 64) (s : Fin 512) : V m c main_v9 (ix2 d s) = (AR m c).GQ (ix1 d) * Ideal.ofBits .f32 1040187392#32 := by
  have h : V m c main_v9 = broadcastInDim S64x512 ![0, 1] bcast_S64x1_S64x512_0_1 (broadcastInDim S64x1 ![0] bcast_S64_S64x1_0
      (mulf (AR m c).GQ (broadcastInDim S64 ![] bcast_S_S64 (constant S_ .f32 0x3E000000#32)))) := by entry_read; rfl
  rw [h]; generalize (AR m c).GQ = M; pointwise []
  try rfl

/-- The keys' gain along every column. -/
theorem Vgk (c : Dev nD) (d : Fin 64) (s : Fin 512) : V m c main_v11 (ix2 d s) = (AR m c).GK (ix1 d) := by
  have h : V m c main_v11 = broadcastInDim S64x512 ![0, 1] bcast_S64x1_S64x512_0_1 (broadcastInDim S64x1 ![0] bcast_S64_S64x1_0 (AR m c).GK) := by
    entry_read; rfl
  rw [h]; generalize (AR m c).GK = M; pointwise []

/-- The frequencies along every column. -/
theorem Vfreq (c : Dev nD) (e : Fin 8) (s : Fin 512) : V m c main_v23 (ix2 e s) = Ideal.pow (Ideal.ofBits .f32 1223959552#32)
      (Ideal.div (-(Ideal.ofBits .f32 1073741824#32 * FloatOps.sitofp (F := Ideal) .f32 (BitVec.ofNat 32 e.val)))
        (Ideal.ofBits .f32 1098907648#32)) := by
  have h : V m c main_v23 = broadcastInDim S8x512 ![0, 1] bcast_S8x1_S8x512_0_1 (broadcastInDim S8x1 ![0] bcast_S8_S8x1_0
      (Host.powf (broadcastInDim S8 ![] bcast_S_S8 (constant S_ .f32 0x48F42400#32))
        (Host.divf (Host.negf (addf (broadcastInDim S8 ![] bcast_S_S8 (constant (F := Ideal) S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))) := by entry_read; rfl
  rw [h]; pointwise []
  try rfl

/-- The pooled groups' matrices. -/
theorem Vpw (c : Dev nD) (g : Fin 4) (x d : Fin 128) : V m c main_v26 (ix3 g x d) = (AR m c).PW (ix3 g x d) := by
  have h : V m c main_v26 = truncf .bf16 (AR m c).PW bitsLt_bf16_f32 := by entry_read; rfl
  rw [h]; generalize (AR m c).PW = M; pointwise []

/-- The pooled channels' scale as a row. -/
theorem Vps (c : Dev nD) (k : Fin 512) : V m c main_v27 (ix2 0 k) = (AR m c).PS (ix1 k) := by
  have h : V m c main_v27 = shapeCast S1x512 (AR m c).PS shapeCasts_S512_S1x512 := by entry_read; rfl
  rw [h]; generalize (AR m c).PS = M; pointwise []

/-- The first 512 rows of the output projection. -/
theorem Vwoa (c : Dev nD) (a : Fin 512) (e : Fin 1024) : V m c main_v29 (ix2 a e) = (AR m c).WO (ix2 ⟨a.val, by omega⟩ e) := by
  have h : V m c main_v29 = truncf .bf16 (extractStridedSlice S512x1024 ![0, 0] (AR m c).WO slices_S1024x1024_S512x1024_0_0) bitsLt_bf16_f32 := by
    entry_read; rfl
  rw [h]; generalize (AR m c).WO = M; pointwise []

/-- The other 512 rows of the output projection. -/
theorem Vwop (c : Dev nD) (a : Fin 512) (e : Fin 1024) : V m c main_v31 (ix2 a e) = (AR m c).WO (ix2 ⟨512 + a.val, by omega⟩ e) := by
  have h : V m c main_v31 = truncf .bf16 (extractStridedSlice S512x1024 ![512, 0] (AR m c).WO slices_S1024x1024_S512x1024_512_0) bitsLt_bf16_f32 := by
    entry_read; rfl
  rw [h]; generalize (AR m c).WO = M; pointwise []

variable (t : Fin cfg0.N)

/-- Every grid point is one of 64. -/
theorem tlt : t.val < 64 := Nat.lt_of_lt_of_eq t.isLt N_0

/-- The references and blocks of the run at grid point `t`, over given carried rows. -/
def CX (c : Dev nD) (s1 : Vec Ideal S640x128 .bf16) (s2 : Vec Ideal S128x640 .bf16) (s3 : Vec Ideal S528x512 .f32) : Ctx :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t,
    ms0_7 t, hs0_7 t, ms0_8 t, hs0_8 t, ms0_9 t, hs0_9 t, ms0_10 t, hs0_10 t, ms0_11 t, hs0_11 t, ms0_12 t, hs0_12 t, ms0_13 t, hs0_13 t,
    ms0_14 t, hs0_14 t, scM0_0, Memref.isWhole_whole _, scM0_1, Memref.isWhole_whole _, scM0_2, Memref.isWhole_whole _, scM0_3, Memref.isWhole_whole _,
    scM0_4, Memref.isWhole_whole _, iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, s1, s2, s3⟩

/-- The batch of a grid point. -/
abbrev bt : Fin 8 := ⟨t.val / 8, by have := tlt t; omega⟩

/-- The tile of a grid point. -/
abbrev tt : Fin 8 := ⟨t.val % 8, by omega⟩

/-- Input block 0 of grid point `t`. -/
theorem inx0 (c : Dev nD) (h : Fin 8) : iblk m c 0 t (ix1 h) = m ((c : Thread nD τ).loc main_arg7) (ix1 h) := by
  refine Eq.trans ?_ (congrFun (V_main_arg7 m c) (ix1 h))
  blk_ext [iblk, idx t]

/-- Input block 1 of grid point `t`. -/
theorem inx1 (c : Dev nD) (s : Fin 512) (k : Fin 1024) : iblk m c 1 t (ix3 0 s k) = m ((c : Thread nD τ).loc main_arg0) (ix3 (bt t) (tok (tt t) s) k) := by
  refine Eq.trans ?_ (congrFun (V_main_arg0 m c) (ix3 (bt t) (tok (tt t) s) k))
  blk_ext [iblk, idx t]

/-- Input block 2 of grid point `t`. -/
theorem inx2 (c : Dev nD) (j : Fin 6) (k : Fin 1024) : iblk m c 2 t (ix3 0 j k) = (AR m c).M (ix3 j (bt t) k) := by
  refine Eq.trans ?_ (Vmod m c j (bt t) k)
  blk_ext [iblk, idx t]

/-- Input block 3 of grid point `t`. -/
theorem inx3 (c : Dev nD) (s : Fin 512) : iblk m c 3 t (ix3 0 0 s) = (AR m c).P (ix2 (bt t) (tok (tt t) s)) := by
  refine Eq.trans ?_ (Vpos m c (bt t) (tok (tt t) s))
  blk_ext [iblk, idx t]

/-- Input block 4 of grid point `t`. -/
theorem inx4 (c : Dev nD) (k : Fin 1024) : iblk m c 4 t (ix2 0 k) = (AR m c).G (ix1 k) := by
  refine Eq.trans ?_ (Vgain m c k)
  blk_ext [iblk, idx t]

/-- Input block 5 of grid point `t`. -/
theorem inx5 (c : Dev nD) (n : Fin 768) (k : Fin 1024) : iblk m c 5 t (ix2 n k) = (AR m c).W (ix2 k ⟨n.val, by omega⟩) := by
  refine Eq.trans ?_ (Vqkv m c n k)
  blk_ext [iblk, idx t]

/-- Input block 6 of grid point `t`. -/
theorem inx6 (c : Dev nD) (k : Fin 1024) (n : Fin 512) : iblk m c 6 t (ix2 k n) = (AR m c).W (ix2 k ⟨768 + n.val, by omega⟩) := by
  refine Eq.trans ?_ (Vwu m c k n)
  blk_ext [iblk, idx t]

/-- Input block 7 of grid point `t`. -/
theorem inx7 (c : Dev nD) (d : Fin 64) (s : Fin 512) : iblk m c 7 t (ix2 d s) = (AR m c).GQ (ix1 d) * Ideal.ofBits .f32 1040187392#32 := by
  refine Eq.trans ?_ (Vgq m c d s)
  blk_ext [iblk, idx t]

/-- Input block 8 of grid point `t`. -/
theorem inx8 (c : Dev nD) (d : Fin 64) (s : Fin 512) : iblk m c 8 t (ix2 d s) = (AR m c).GK (ix1 d) := by
  refine Eq.trans ?_ (Vgk m c d s)
  blk_ext [iblk, idx t]

/-- Input block 9 of grid point `t`. -/
theorem inx9 (c : Dev nD) (e : Fin 8) (s : Fin 512) : iblk m c 9 t (ix2 e s) = Ideal.pow (Ideal.ofBits .f32 1223959552#32)
      (Ideal.div (-(Ideal.ofBits .f32 1073741824#32 * FloatOps.sitofp (F := Ideal) .f32 (BitVec.ofNat 32 e.val)))
        (Ideal.ofBits .f32 1098907648#32)) := by
  refine Eq.trans ?_ (Vfreq m c e s)
  blk_ext [iblk, idx t]

/-- Input block 10 of grid point `t`. -/
theorem inx10 (c : Dev nD) (g : Fin 4) (x d : Fin 128) : iblk m c 10 t (ix3 g x d) = (AR m c).PW (ix3 g x d) := by
  refine Eq.trans ?_ (Vpw m c g x d)
  blk_ext [iblk, idx t]

/-- Input block 11 of grid point `t`. -/
theorem inx11 (c : Dev nD) (k : Fin 512) : iblk m c 11 t (ix2 0 k) = (AR m c).PS (ix1 k) := by
  refine Eq.trans ?_ (Vps m c k)
  blk_ext [iblk, idx t]

/-- Input block 12 of grid point `t`. -/
theorem inx12 (c : Dev nD) (a : Fin 512) (e : Fin 1024) : iblk m c 12 t (ix2 a e) = (AR m c).WO (ix2 ⟨a.val, by omega⟩ e) := by
  refine Eq.trans ?_ (Vwoa m c a e)
  blk_ext [iblk, idx t]

/-- Input block 13 of grid point `t`. -/
theorem inx13 (c : Dev nD) (a : Fin 512) (e : Fin 1024) : iblk m c 13 t (ix2 a e) = (AR m c).WO (ix2 ⟨512 + a.val, by omega⟩ e) := by
  refine Eq.trans ?_ (Vwop m c a e)
  blk_ext [iblk, idx t]

/-- The tile's number as the body reads it. -/
theorem ihT : (grid0.coords t 1).val = t.val % 8 := by
  have e1 : (grid0.coords t 1).val = t.val / 1 % 8 := Pipeline.Grid.coords_val t 1 (by decide) rfl
  rw [e1, Nat.div_one]

set_option maxHeartbeats 4000000 in
/-- The blocks of grid point `t` hold the arguments' entries. -/
theorem good (c : Dev nD) (s1 : Vec Ideal S640x128 .bf16) (s2 : Vec Ideal S128x640 .bf16) (s3 : Vec Ideal S528x512 .f32) :
    Good (CX m t c s1 s2 s3) (AR m c) (bt t) (tt t) where
  hT := ihT t
  x0 := inx0 m t c
  x1 := inx1 m t c
  x2 := inx2 m t c
  x3 := inx3 m t c
  x4 := inx4 m t c
  x5 := inx5 m t c
  x6 := inx6 m t c
  x7 := inx7 m t c
  x8 := inx8 m t c
  x9 := inx9 m t c
  x10 := inx10 m t c
  x11 := inx11 m t c
  x12 := inx12 m t c
  x13 := inx13 m t c

end Cert.KernelIdeal.Mix
end
-- ==== Proof.MixAtt.lean ====
/- The attention of one block of 128 tokens. -/
module

public import proofs.«01_k».proof.Proof.MixOps
public import Idealize.ShloMosaic.Lib.Pipeline.ValueKit
public import Idealize.ShloMosaic.Lib.Pointwise

@[expose] public section

set_option maxRecDepth 16384

noncomputable section
open Idealize.ShloMosaic
open scoped BigOperators
namespace Cert.KernelIdeal.Mix
open Cert.KernelIdeal Cert.KernelIdeal.Gen Cert.Mix

/-- Head 0 of the attention of one block. -/
theorem pay20_0 (b : FVec Ideal S256x512 .f32) (kb : FVec Ideal S256x128 .bf16) (q0 q1 q2 q3 : FVec Ideal S64x128 .bf16)
    (s0 s1 s2 s3 : Elt Ideal .f32) (v : FVec Ideal S64x256 .bf16) (d : Fin 64) (i : Fin 128) :
    k0_pay20 (F := Ideal) b k0_pay18 k0_pay19 kb q0 q1 q2 q3 s0 s1 s2 s3 v (ix2 d ⟨i.val, by omega⟩)
    = softK (fun r => ∑ x : Fin 64, kb (ix2 r ⟨x.val, by omega⟩) * q0 (ix2 x i) + b (ix2 r ⟨i.val, by omega⟩)) s0 (fun r => v (ix2 d r)) := by
  pointwise [k0_pay20, k0_pay18, k0_pay19]
  try simp only [show i.val < 128 by omega, dif_pos, dif_neg, not_false_eq_true]
  try simp only [Fin.is_lt, ↓reduceDIte, Fin.eta]
  try simp only [mul_zero, Finset.sum_const_zero, add_zero, zero_add, wbot]
  try rfl

/-- Head 1 of the attention of one block. -/
theorem pay20_1 (b : FVec Ideal S256x512 .f32) (kb : FVec Ideal S256x128 .bf16) (q0 q1 q2 q3 : FVec Ideal S64x128 .bf16)
    (s0 s1 s2 s3 : Elt Ideal .f32) (v : FVec Ideal S64x256 .bf16) (d : Fin 64) (i : Fin 128) :
    k0_pay20 (F := Ideal) b k0_pay18 k0_pay19 kb q0 q1 q2 q3 s0 s1 s2 s3 v (ix2 d ⟨128 + i.val, by omega⟩)
    = softK (fun r => ∑ x : Fin 64, kb (ix2 r ⟨x.val, by omega⟩) * q1 (ix2 x i) + b (ix2 r ⟨128 + i.val, by omega⟩)) s1 (fun r => v (ix2 d r)) := by
  pointwise [k0_pay20, k0_pay18, k0_pay19]
  try simp only [show ¬ (128 + i.val < 128) by omega, show 128 + i.val - 128 < 128 by omega, dif_pos, dif_neg, not_false_eq_true]
  try simp only [Fin.is_lt, ↓reduceDIte, Fin.eta]
  try simp only [mul_zero, Finset.sum_const_zero, add_zero, zero_add, wbot]
  try rfl

/-- Head 2 of the attention of one block. -/
theorem pay20_2 (b : FVec Ideal S256x512 .f32) (kb : FVec Ideal S256x128 .bf16) (q0 q1 q2 q3 : FVec Ideal S64x128 .bf16)
    (s0 s1 s2 s3 : Elt Ideal .f32) (v : FVec Ideal S64x256 .bf16) (d : Fin 64) (i : Fin 128) :
    k0_pay20 (F := Ideal) b k0_pay18 k0_pay19 kb q0 q1 q2 q3 s0 s1 s2 s3 v (ix2 d ⟨256 + i.val, by omega⟩)
    = softK (fun r => ∑ x : Fin 64, kb (ix2 r ⟨x.val, by omega⟩) * q2 (ix2 x i) + b (ix2 r ⟨256 + i.val, by omega⟩)) s2 (fun r => v (ix2 d r)) := by
  pointwise [k0_pay20, k0_pay18, k0_pay19]
  try simp only [show ¬ (256 + i.val < 128) by omega, show ¬ (256 + i.val - 128 < 128) by omega, show 256 + i.val - 128 - 128 < 128 by omega, dif_pos, dif_neg, not_false_eq_true, show 256 + i.val - 128 - 128 = i.val by omega]
  try simp only [Fin.is_lt, ↓reduceDIte, Fin.eta]
  try simp only [mul_zero, Finset.sum_const_zero, add_zero, zero_add, wbot]
  try rfl

/-- Head 3 of the attention of one block. -/
theorem pay20_3 (b : FVec Ideal S256x512 .f32) (kb : FVec Ideal S256x128 .bf16) (q0 q1 q2 q3 : FVec Ideal S64x128 .bf16)
    (s0 s1 s2 s3 : Elt Ideal .f32) (v : FVec Ideal S64x256 .bf16) (d : Fin 64) (i : Fin 128) :
    k0_pay20 (F := Ideal) b k0_pay18 k0_pay19 kb q0 q1 q2 q3 s0 s1 s2 s3 v (ix2 d ⟨384 + i.val, by omega⟩)
    = softK (fun r => ∑ x : Fin 64, kb (ix2 r ⟨x.val, by omega⟩) * q3 (ix2 x i) + b (ix2 r ⟨384 + i.val, by omega⟩)) s3 (fun r => v (ix2 d r)) := by
  pointwise [k0_pay20, k0_pay18, k0_pay19]
  try simp only [show ¬ (384 + i.val < 128) by omega, show ¬ (384 + i.val - 128 < 128) by omega, show ¬ (384 + i.val - 128 - 128 < 128) by omega, show 384 + i.val - 128 - 128 - 128 < 128 by omega, dif_pos, dif_neg, not_false_eq_true, show 384 + i.val - 128 - 128 - 128 = i.val by omega]
  try simp only [Fin.is_lt, ↓reduceDIte, Fin.eta]
  try simp only [mul_zero, Finset.sum_const_zero, add_zero, zero_add, wbot]
  try rfl

/-- Head 4 of the attention of one block. -/
theorem pay45_0 (b : FVec Ideal S256x512 .f32) (kb : FVec Ideal S256x128 .bf16) (q0 q1 q2 q3 : FVec Ideal S64x128 .bf16)
    (s0 s1 s2 s3 : Elt Ideal .f32) (v : FVec Ideal S64x256 .bf16) (d : Fin 64) (i : Fin 128) :
    k0_pay45 (F := Ideal) b k0_pay18 k0_pay19 kb q0 q1 q2 q3 s0 s1 s2 s3 v (ix2 d ⟨i.val, by omega⟩)
    = softK (fun r => ∑ x : Fin 64, kb (ix2 r ⟨64 + x.val, by omega⟩) * q0 (ix2 x i) + b (ix2 r ⟨i.val, by omega⟩)) s0 (fun r => v (ix2 d r)) := by
  pointwise [k0_pay45, k0_pay18, k0_pay19]
  try simp only [show i.val < 128 by omega, dif_pos, dif_neg, not_false_eq_true]
  try simp only [Fin.is_lt, ↓reduceDIte, Fin.eta]
  try simp only [mul_zero, Finset.sum_const_zero, add_zero, zero_add, wbot]
  try rfl

/-- Head 5 of the attention of one block. -/
theorem pay45_1 (b : FVec Ideal S256x512 .f32) (kb : FVec Ideal S256x128 .bf16) (q0 q1 q2 q3 : FVec Ideal S64x128 .bf16)
    (s0 s1 s2 s3 : Elt Ideal .f32) (v : FVec Ideal S64x256 .bf16) (d : Fin 64) (i : Fin 128) :
    k0_pay45 (F := Ideal) b k0_pay18 k0_pay19 kb q0 q1 q2 q3 s0 s1 s2 s3 v (ix2 d ⟨128 + i.val, by omega⟩)
    = softK (fun r => ∑ x : Fin 64, kb (ix2 r ⟨64 + x.val, by omega⟩) * q1 (ix2 x i) + b (ix2 r ⟨128 + i.val, by omega⟩)) s1 (fun r => v (ix2 d r)) := by
  pointwise [k0_pay45, k0_pay18, k0_pay19]
  try simp only [show ¬ (128 + i.val < 128) by omega, show 128 + i.val - 128 < 128 by omega, dif_pos, dif_neg, not_false_eq_true]
  try simp only [Fin.is_lt, ↓reduceDIte, Fin.eta]
  try simp only [mul_zero, Finset.sum_const_zero, add_zero, zero_add, wbot]
  try rfl

/-- Head 6 of the attention of one block. -/
theorem pay45_2 (b : FVec Ideal S256x512 .f32) (kb : FVec Ideal S256x128 .bf16) (q0 q1 q2 q3 : FVec Ideal S64x128 .bf16)
    (s0 s1 s2 s3 : Elt Ideal .f32) (v : FVec Ideal S64x256 .bf16) (d : Fin 64) (i : Fin 128) :
    k0_pay45 (F := Ideal) b k0_pay18 k0_pay19 kb q0 q1 q2 q3 s0 s1 s2 s3 v (ix2 d ⟨256 + i.val, by omega⟩)
    = softK (fun r => ∑ x : Fin 64, kb (ix2 r ⟨64 + x.val, by omega⟩) * q2 (ix2 x i) + b (ix2 r ⟨256 + i.val, by omega⟩)) s2 (fun r => v (ix2 d r)) := by
  pointwise [k0_pay45, k0_pay18, k0_pay19]
  try simp only [show ¬ (256 + i.val < 128) by omega, show ¬ (256 + i.val - 128 < 128) by omega, show 256 + i.val - 128 - 128 < 128 by omega, dif_pos, dif_neg, not_false_eq_true, show 256 + i.val - 128 - 128 = i.val by omega]
  try simp only [Fin.is_lt, ↓reduceDIte, Fin.eta]
  try simp only [mul_zero, Finset.sum_const_zero, add_zero, zero_add, wbot]
  try rfl

/-- Head 7 of the attention of one block. -/
theorem pay45_3 (b : FVec Ideal S256x512 .f32) (kb : FVec Ideal S256x128 .bf16) (q0 q1 q2 q3 : FVec Ideal S64x128 .bf16)
    (s0 s1 s2 s3 : Elt Ideal .f32) (v : FVec Ideal S64x256 .bf16) (d : Fin 64) (i : Fin 128) :
    k0_pay45 (F := Ideal) b k0_pay18 k0_pay19 kb q0 q1 q2 q3 s0 s1 s2 s3 v (ix2 d ⟨384 + i.val, by omega⟩)
    = softK (fun r => ∑ x : Fin 64, kb (ix2 r ⟨64 + x.val, by omega⟩) * q3 (ix2 x i) + b (ix2 r ⟨384 + i.val, by omega⟩)) s3 (fun r => v (ix2 d r)) := by
  pointwise [k0_pay45, k0_pay18, k0_pay19]
  try simp only [show ¬ (384 + i.val < 128) by omega, show ¬ (384 + i.val - 128 < 128) by omega, show ¬ (384 + i.val - 128 - 128 < 128) by omega, show 384 + i.val - 128 - 128 - 128 < 128 by omega, dif_pos, dif_neg, not_false_eq_true, show 384 + i.val - 128 - 128 - 128 = i.val by omega]
  try simp only [Fin.is_lt, ↓reduceDIte, Fin.eta]
  try simp only [mul_zero, Finset.sum_const_zero, add_zero, zero_add, wbot]
  try rfl

end Cert.KernelIdeal.Mix
end
-- ==== Proof.MixRunA.lean ====
/- The words of one run of the body, case A. -/
module

public import proofs.«01_k».proof.Proof.Gen.KernelIdeal.Frame
public import proofs.«01_k».proof.Proof.MixBand
public import proofs.«01_k».proof.Proof.MixAtt
public import Idealize.ShloMosaic.Lib.Pipeline.ValueKit
public import Idealize.ShloMosaic.Lib.Pointwise
public import Idealize.ShloMosaic.Lib.WritesUnit

@[expose] public section

set_option maxRecDepth 16384

noncomputable section
open Idealize.ShloMosaic Idealize.ShloMosaic.TcCoe
open scoped BigOperators
namespace Cert.KernelIdeal.Mix
open Cert.KernelIdeal Cert.KernelIdeal.Gen Cert.Mix

variable (z : Ctx)

/-- The queries. -/
theorem A84_eq : A84 z = k0_pay13 (F := Ideal) (k0_pay8 (F := Ideal) z.x1 z.x2 z.x4 z.x5) z.x3 z.x9 z.x7 := by
  show k0_pay13 (F := Ideal) (k0_pay8 (F := Ideal) (R1 z) (R2 z) (R4 z) (R5 z)) (R3 z) (R9 z) (R7 z) = _
  rw [R1_eq, R2_eq, R4_eq, R5_eq, R3_eq, R9_eq, R7_eq]

/-- The keys. -/
theorem A125_eq : A125 z = k0_pay14 (F := Ideal) (k0_pay8 (F := Ideal) z.x1 z.x2 z.x4 z.x5) (k0_pay11 (F := Ideal) z.x3 z.x9) (k0_pay12 (F := Ideal) z.x3 z.x9) z.x8 := by
  show k0_pay14 (F := Ideal) (k0_pay8 (F := Ideal) (R1 z) (R2 z) (R4 z) (R5 z)) (k0_pay11 (F := Ideal) (R3 z) (R9 z)) (k0_pay12 (F := Ideal) (R3 z) (R9 z)) (R8 z) = _
  rw [R1_eq, R2_eq, R4_eq, R5_eq, R3_eq, R9_eq, R8_eq]

/-- The values. -/
theorem A130_eq : A130 z = k0_pay15 (F := Ideal) (k0_pay8 (F := Ideal) z.x1 z.x2 z.x4 z.x5) := by
  show k0_pay15 (F := Ideal) (k0_pay8 (F := Ideal) (R1 z) (R2 z) (R4 z) (R5 z)) = _
  rw [R1_eq, R2_eq, R4_eq, R5_eq]

/-- The pooled channels. -/
theorem A35_eq : A35 z = k0_pay9 (F := Ideal) z.x1 z.x2 z.x4 z.x6 := by
  show k0_pay9 (F := Ideal) (R1 z) (R2 z) (R4 z) (R6 z) = _
  rw [R1_eq, R2_eq, R4_eq, R6_eq]

/-- The pooled channels as they are stored. -/
theorem A596_at (s c : Fin 512) : A596 z (ix2 s c) = A35 z (ix2 s c) := by
  show shapeCast S512x512 (A35 z) shapeCasts_S512x512_S512x512 (ix2 s c) = _
  pointwise []

/-- The band of keys: the 128 rows carried in, then the tile's own. -/
def KBA (r : Fin 640) (n : Fin 128) : EReal :=
  if h : r.val < 128 then 0 else A125 z (ix2 ⟨r.val - 128, by omega⟩ n)

/-- The band of values. -/
def VBA (n : Fin 128) (r : Fin 640) : EReal :=
  if h : r.val < 128 then 0 else A130 z (ix2 n ⟨r.val - 128, by omega⟩)

/-- The band of pooled channels. -/
def UBA (r : Fin 528) (n : Fin 512) : EReal :=
  if h : r.val < 16 then 0 else A35 z (ix2 ⟨r.val - 16, by omega⟩ n)

/-- The zeros stored in front of the bands. -/
theorem zz2 (a b : Fin 128) : k0_pay2 (F := Ideal) (ix2 a b) = 0 := by
  pointwise [k0_pay2]
  try simp [Scalar.ofBits, Ideal.ofBits, Ideal.ieee]

/-- The zeros stored in front of the pooled channels. -/
theorem zz4 (a : Fin 16) (b : Fin 512) : k0_pay4 (F := Ideal) (ix2 a b) = 0 := by
  pointwise [k0_pay4]

/-- A load of the band. -/
theorem A166_at (r : Fin 256) (n : Fin 128) (a : Fin 640) (b : Fin 128) (ha : a.val = 0 + r.val) (hb : b.val = 0 + n.val) : A166 z (ix2 r n) = KBA z a b := by
  unfold KBA
  by_cases h : a.val < 128
  · rw [dif_pos h]
    refine (ra_miss (N0 := 640) (N1 := 128) z.arg18 _ 128 0 512 128 0 0 256 128 (by decide) (A125 z) _ (by decide) r n (Or.inl (Or.inl (by omega)))).trans ?_
    exact (ra_hit (N0 := 640) (N1 := 128) z.arg18 _ 0 0 128 128 0 0 256 128 (by decide) (k0_pay2 (F := Ideal)) _ (by decide) r n ⟨a.val, h⟩ b (show 0 + r.val = 0 + a.val by omega) (show 0 + n.val = 0 + b.val by omega)).trans (zz2 _ _)
  · rw [dif_neg h]
    exact ra_hit (N0 := 640) (N1 := 128) z.arg18 _ 128 0 512 128 0 0 256 128 (by decide) (A125 z) _ (by decide) r n ⟨a.val - 128, by omega⟩ b (show 0 + r.val = 128 + (a.val - 128) by omega) (show 0 + n.val = 0 + b.val by omega)

/-- A load of the band. -/
theorem A273_at (r : Fin 256) (n : Fin 128) (a : Fin 640) (b : Fin 128) (ha : a.val = 128 + r.val) (hb : b.val = 0 + n.val) : A273 z (ix2 r n) = KBA z a b := by
  unfold KBA
  by_cases h : a.val < 128
  · omega
  · rw [dif_neg h]
    exact ra_hit (N0 := 640) (N1 := 128) z.arg18 _ 128 0 512 128 128 0 256 128 (by decide) (A125 z) _ (by decide) r n ⟨a.val - 128, by omega⟩ b (show 128 + r.val = 128 + (a.val - 128) by omega) (show 0 + n.val = 0 + b.val by omega)

/-- A load of the band. -/
theorem A380_at (r : Fin 256) (n : Fin 128) (a : Fin 640) (b : Fin 128) (ha : a.val = 256 + r.val) (hb : b.val = 0 + n.val) : A380 z (ix2 r n) = KBA z a b := by
  unfold KBA
  by_cases h : a.val < 128
  · omega
  · rw [dif_neg h]
    exact ra_hit (N0 := 640) (N1 := 128) z.arg18 _ 128 0 512 128 256 0 256 128 (by decide) (A125 z) _ (by decide) r n ⟨a.val - 128, by omega⟩ b (show 256 + r.val = 128 + (a.val - 128) by omega) (show 0 + n.val = 0 + b.val by omega)

/-- A load of the band. -/
theorem A487_at (r : Fin 256) (n : Fin 128) (a : Fin 640) (b : Fin 128) (ha : a.val = 384 + r.val) (hb : b.val = 0 + n.val) : A487 z (ix2 r n) = KBA z a b := by
  unfold KBA
  by_cases h : a.val < 128
  · omega
  · rw [dif_neg h]
    exact ra_hit (N0 := 640) (N1 := 128) z.arg18 _ 128 0 512 128 384 0 256 128 (by decide) (A125 z) _ (by decide) r n ⟨a.val - 128, by omega⟩ b (show 384 + r.val = 128 + (a.val - 128) by omega) (show 0 + n.val = 0 + b.val by omega)

/-- A load of the band. -/
theorem A726_at (r : Fin 128) (n : Fin 128) (a : Fin 640) (b : Fin 128) (ha : a.val = 512 + r.val) (hb : b.val = 0 + n.val) : A726 z (ix2 r n) = KBA z a b := by
  unfold KBA
  by_cases h : a.val < 128
  · omega
  · rw [dif_neg h]
    exact ra_hit (N0 := 640) (N1 := 128) z.arg18 _ 128 0 512 128 512 0 128 128 (by decide) (A125 z) _ (by decide) r n ⟨a.val - 128, by omega⟩ b (show 512 + r.val = 128 + (a.val - 128) by omega) (show 0 + n.val = 0 + b.val by omega)

/-- A load of the band. -/
theorem A191_at (n : Fin 64) (r : Fin 256) (b : Fin 128) (a : Fin 640) (hb : b.val = 0 + n.val) (ha : a.val = 0 + r.val) : A191 z (ix2 n r) = VBA z b a := by
  unfold VBA
  by_cases h : a.val < 128
  · rw [dif_pos h]
    refine (ra_miss (N0 := 128) (N1 := 640) z.arg19 _ 0 128 128 512 0 0 64 256 (by decide) (A130 z) _ (by decide) n r (Or.inr (Or.inl (by omega)))).trans ?_
    exact (ra_hit (N0 := 128) (N1 := 640) z.arg19 _ 0 0 128 128 0 0 64 256 (by decide) (k0_pay2 (F := Ideal)) _ (by decide) n r b ⟨a.val, h⟩ (show 0 + n.val = 0 + b.val by omega) (show 0 + r.val = 0 + a.val by omega)).trans (zz2 _ _)
  · rw [dif_neg h]
    exact ra_hit (N0 := 128) (N1 := 640) z.arg19 _ 0 128 128 512 0 0 64 256 (by decide) (A130 z) _ (by decide) n r b ⟨a.val - 128, by omega⟩ (show 0 + n.val = 0 + b.val by omega) (show 0 + r.val = 128 + (a.val - 128) by omega)

/-- A load of the band. -/
theorem A244_at (n : Fin 64) (r : Fin 256) (b : Fin 128) (a : Fin 640) (hb : b.val = 64 + n.val) (ha : a.val = 0 + r.val) : A244 z (ix2 n r) = VBA z b a := by
  unfold VBA
  by_cases h : a.val < 128
  · rw [dif_pos h]
    refine (ra_miss (N0 := 128) (N1 := 640) z.arg19 _ 0 128 128 512 64 0 64 256 (by decide) (A130 z) _ (by decide) n r (Or.inr (Or.inl (by omega)))).trans ?_
    exact (ra_hit (N0 := 128) (N1 := 640) z.arg19 _ 0 0 128 128 64 0 64 256 (by decide) (k0_pay2 (F := Ideal)) _ (by decide) n r b ⟨a.val, h⟩ (show 64 + n.val = 0 + b.val by omega) (show 0 + r.val = 0 + a.val by omega)).trans (zz2 _ _)
  · rw [dif_neg h]
    exact ra_hit (N0 := 128) (N1 := 640) z.arg19 _ 0 128 128 512 64 0 64 256 (by decide) (A130 z) _ (by decide) n r b ⟨a.val - 128, by omega⟩ (show 64 + n.val = 0 + b.val by omega) (show 0 + r.val = 128 + (a.val - 128) by omega)

/-- A load of the band. -/
theorem A298_at (n : Fin 64) (r : Fin 256) (b : Fin 128) (a : Fin 640) (hb : b.val = 0 + n.val) (ha : a.val = 128 + r.val) : A298 z (ix2 n r) = VBA z b a := by
  unfold VBA
  by_cases h : a.val < 128
  · omega
  · rw [dif_neg h]
    exact ra_hit (N0 := 128) (N1 := 640) z.arg19 _ 0 128 128 512 0 128 64 256 (by decide) (A130 z) _ (by decide) n r b ⟨a.val - 128, by omega⟩ (show 0 + n.val = 0 + b.val by omega) (show 128 + r.val = 128 + (a.val - 128) by omega)

/-- A load of the band. -/
theorem A351_at (n : Fin 64) (r : Fin 256) (b : Fin 128) (a : Fin 640) (hb : b.val = 64 + n.val) (ha : a.val = 128 + r.val) : A351 z (ix2 n r) = VBA z b a := by
  unfold VBA
  by_cases h : a.val < 128
  · omega
  · rw [dif_neg h]
    exact ra_hit (N0 := 128) (N1 := 640) z.arg19 _ 0 128 128 512 64 128 64 256 (by decide) (A130 z) _ (by decide) n r b ⟨a.val - 128, by omega⟩ (show 64 + n.val = 0 + b.val by omega) (show 128 + r.val = 128 + (a.val - 128) by omega)

/-- A load of the band. -/
theorem A405_at (n : Fin 64) (r : Fin 256) (b : Fin 128) (a : Fin 640) (hb : b.val = 0 + n.val) (ha : a.val = 256 + r.val) : A405 z (ix2 n r) = VBA z b a := by
  unfold VBA
  by_cases h : a.val < 128
  · omega
  · rw [dif_neg h]
    exact ra_hit (N0 := 128) (N1 := 640) z.arg19 _ 0 128 128 512 0 256 64 256 (by decide) (A130 z) _ (by decide) n r b ⟨a.val - 128, by omega⟩ (show 0 + n.val = 0 + b.val by omega) (show 256 + r.val = 128 + (a.val - 128) by omega)

/-- A load of the band. -/
theorem A458_at (n : Fin 64) (r : Fin 256) (b : Fin 128) (a : Fin 640) (hb : b.val = 64 + n.val) (ha : a.val = 256 + r.val) : A458 z (ix2 n r) = VBA z b a := by
  unfold VBA
  by_cases h : a.val < 128
  · omega
  · rw [dif_neg h]
    exact ra_hit (N0 := 128) (N1 := 640) z.arg19 _ 0 128 128 512 64 256 64 256 (by decide) (A130 z) _ (by decide) n r b ⟨a.val - 128, by omega⟩ (show 64 + n.val = 0 + b.val by omega) (show 256 + r.val = 128 + (a.val - 128) by omega)

/-- A load of the band. -/
theorem A512_at (n : Fin 64) (r : Fin 256) (b : Fin 128) (a : Fin 640) (hb : b.val = 0 + n.val) (ha : a.val = 384 + r.val) : A512 z (ix2 n r) = VBA z b a := by
  unfold VBA
  by_cases h : a.val < 128
  · omega
  · rw [dif_neg h]
    exact ra_hit (N0 := 128) (N1 := 640) z.arg19 _ 0 128 128 512 0 384 64 256 (by decide) (A130 z) _ (by decide) n r b ⟨a.val - 128, by omega⟩ (show 0 + n.val = 0 + b.val by omega) (show 384 + r.val = 128 + (a.val - 128) by omega)

/-- A load of the band. -/
theorem A565_at (n : Fin 64) (r : Fin 256) (b : Fin 128) (a : Fin 640) (hb : b.val = 64 + n.val) (ha : a.val = 384 + r.val) : A565 z (ix2 n r) = VBA z b a := by
  unfold VBA
  by_cases h : a.val < 128
  · omega
  · rw [dif_neg h]
    exact ra_hit (N0 := 128) (N1 := 640) z.arg19 _ 0 128 128 512 64 384 64 256 (by decide) (A130 z) _ (by decide) n r b ⟨a.val - 128, by omega⟩ (show 64 + n.val = 0 + b.val by omega) (show 384 + r.val = 128 + (a.val - 128) by omega)

/-- A load of the band. -/
theorem A730_at (n : Fin 128) (r : Fin 128) (b : Fin 128) (a : Fin 640) (hb : b.val = 0 + n.val) (ha : a.val = 512 + r.val) : A730 z (ix2 n r) = VBA z b a := by
  unfold VBA
  by_cases h : a.val < 128
  · omega
  · rw [dif_neg h]
    exact ra_hit (N0 := 128) (N1 := 640) z.arg19 _ 0 128 128 512 0 512 128 128 (by decide) (A130 z) _ (by decide) n r b ⟨a.val - 128, by omega⟩ (show 0 + n.val = 0 + b.val by omega) (show 512 + r.val = 128 + (a.val - 128) by omega)

/-- A load of the band. -/
theorem A597_at (r : Fin 528) (n : Fin 512) (a : Fin 528) (b : Fin 512) (ha : a.val = 0 + r.val) (hb : b.val = 0 + n.val) : A597 z (ix2 r n) = UBA z a b := by
  unfold UBA
  by_cases h : a.val < 16
  · rw [dif_pos h]
    refine (ra_miss (N0 := 528) (N1 := 512) z.arg20 _ 16 0 512 512 0 0 528 512 (by decide) (A596 z) _ (by decide) r n (Or.inl (Or.inl (by omega)))).trans ?_
    exact (ra_hit (N0 := 528) (N1 := 512) z.arg20 _ 0 0 16 512 0 0 528 512 (by decide) (k0_pay4 (F := Ideal)) _ (by decide) r n ⟨a.val, h⟩ b (show 0 + r.val = 0 + a.val by omega) (show 0 + n.val = 0 + b.val by omega)).trans (zz4 _ _)
  · rw [dif_neg h]
    rw [← A596_at]; exact ra_hit (N0 := 528) (N1 := 512) z.arg20 _ 16 0 512 512 0 0 528 512 (by decide) (A596 z) _ (by decide) r n ⟨a.val - 16, by omega⟩ b (show 0 + r.val = 16 + (a.val - 16) by omega) (show 0 + n.val = 0 + b.val by omega)

/-- A load of the band. -/
theorem A734_at (r : Fin 16) (n : Fin 512) (a : Fin 528) (b : Fin 512) (ha : a.val = 512 + r.val) (hb : b.val = 0 + n.val) : A734 z (ix2 r n) = UBA z a b := by
  unfold UBA
  by_cases h : a.val < 16
  · omega
  · rw [dif_neg h]
    rw [← A596_at]; exact ra_hit (N0 := 528) (N1 := 512) z.arg20 _ 16 0 512 512 512 0 16 512 (by decide) (A596 z) _ (by decide) r n ⟨a.val - 16, by omega⟩ b (show 512 + r.val = 16 + (a.val - 16) by omega) (show 0 + n.val = 0 + b.val by omega)

/-- A slice of the queries. -/
theorem A167_at (x : Fin 64) (i : Fin 128) (a b : Fin 512) (ha : a.val = 0 + x.val) (hb : b.val = 0 + i.val) :
    A167 z (ix2 x i) = A84 z (ix2 a b) :=
  ra_hit (N0 := 512) (N1 := 512) z.arg17 _ 0 0 512 512 0 0 64 128 (by decide) (A84 z) _ (by decide) x i a b
    (show 0 + x.val = 0 + a.val by omega) (show 0 + i.val = 0 + b.val by omega)

/-- A slice of the queries. -/
theorem A168_at (x : Fin 64) (i : Fin 128) (a b : Fin 512) (ha : a.val = 64 + x.val) (hb : b.val = 0 + i.val) :
    A168 z (ix2 x i) = A84 z (ix2 a b) :=
  ra_hit (N0 := 512) (N1 := 512) z.arg17 _ 0 0 512 512 64 0 64 128 (by decide) (A84 z) _ (by decide) x i a b
    (show 64 + x.val = 0 + a.val by omega) (show 0 + i.val = 0 + b.val by omega)

/-- A slice of the queries. -/
theorem A169_at (x : Fin 64) (i : Fin 128) (a b : Fin 512) (ha : a.val = 128 + x.val) (hb : b.val = 0 + i.val) :
    A169 z (ix2 x i) = A84 z (ix2 a b) :=
  ra_hit (N0 := 512) (N1 := 512) z.arg17 _ 0 0 512 512 128 0 64 128 (by decide) (A84 z) _ (by decide) x i a b
    (show 128 + x.val = 0 + a.val by omega) (show 0 + i.val = 0 + b.val by omega)

/-- A slice of the queries. -/
theorem A170_at (x : Fin 64) (i : Fin 128) (a b : Fin 512) (ha : a.val = 192 + x.val) (hb : b.val = 0 + i.val) :
    A170 z (ix2 x i) = A84 z (ix2 a b) :=
  ra_hit (N0 := 512) (N1 := 512) z.arg17 _ 0 0 512 512 192 0 64 128 (by decide) (A84 z) _ (by decide) x i a b
    (show 192 + x.val = 0 + a.val by omega) (show 0 + i.val = 0 + b.val by omega)

/-- A slice of the queries. -/
theorem A220_at (x : Fin 64) (i : Fin 128) (a b : Fin 512) (ha : a.val = 256 + x.val) (hb : b.val = 0 + i.val) :
    A220 z (ix2 x i) = A84 z (ix2 a b) :=
  ra_hit (N0 := 512) (N1 := 512) z.arg17 _ 0 0 512 512 256 0 64 128 (by decide) (A84 z) _ (by decide) x i a b
    (show 256 + x.val = 0 + a.val by omega) (show 0 + i.val = 0 + b.val by omega)

/-- A slice of the queries. -/
theorem A221_at (x : Fin 64) (i : Fin 128) (a b : Fin 512) (ha : a.val = 320 + x.val) (hb : b.val = 0 + i.val) :
    A221 z (ix2 x i) = A84 z (ix2 a b) :=
  ra_hit (N0 := 512) (N1 := 512) z.arg17 _ 0 0 512 512 320 0 64 128 (by decide) (A84 z) _ (by decide) x i a b
    (show 320 + x.val = 0 + a.val by omega) (show 0 + i.val = 0 + b.val by omega)

/-- A slice of the queries. -/
theorem A222_at (x : Fin 64) (i : Fin 128) (a b : Fin 512) (ha : a.val = 384 + x.val) (hb : b.val = 0 + i.val) :
    A222 z (ix2 x i) = A84 z (ix2 a b) :=
  ra_hit (N0 := 512) (N1 := 512) z.arg17 _ 0 0 512 512 384 0 64 128 (by decide) (A84 z) _ (by decide) x i a b
    (show 384 + x.val = 0 + a.val by omega) (show 0 + i.val = 0 + b.val by omega)

/-- A slice of the queries. -/
theorem A223_at (x : Fin 64) (i : Fin 128) (a b : Fin 512) (ha : a.val = 448 + x.val) (hb : b.val = 0 + i.val) :
    A223 z (ix2 x i) = A84 z (ix2 a b) :=
  ra_hit (N0 := 512) (N1 := 512) z.arg17 _ 0 0 512 512 448 0 64 128 (by decide) (A84 z) _ (by decide) x i a b
    (show 448 + x.val = 0 + a.val by omega) (show 0 + i.val = 0 + b.val by omega)

/-- A slice of the queries. -/
theorem A274_at (x : Fin 64) (i : Fin 128) (a b : Fin 512) (ha : a.val = 0 + x.val) (hb : b.val = 128 + i.val) :
    A274 z (ix2 x i) = A84 z (ix2 a b) :=
  ra_hit (N0 := 512) (N1 := 512) z.arg17 _ 0 0 512 512 0 128 64 128 (by decide) (A84 z) _ (by decide) x i a b
    (show 0 + x.val = 0 + a.val by omega) (show 128 + i.val = 0 + b.val by omega)

/-- A slice of the queries. -/
theorem A275_at (x : Fin 64) (i : Fin 128) (a b : Fin 512) (ha : a.val = 64 + x.val) (hb : b.val = 128 + i.val) :
    A275 z (ix2 x i) = A84 z (ix2 a b) :=
  ra_hit (N0 := 512) (N1 := 512) z.arg17 _ 0 0 512 512 64 128 64 128 (by decide) (A84 z) _ (by decide) x i a b
    (show 64 + x.val = 0 + a.val by omega) (show 128 + i.val = 0 + b.val by omega)

/-- A slice of the queries. -/
theorem A276_at (x : Fin 64) (i : Fin 128) (a b : Fin 512) (ha : a.val = 128 + x.val) (hb : b.val = 128 + i.val) :
    A276 z (ix2 x i) = A84 z (ix2 a b) :=
  ra_hit (N0 := 512) (N1 := 512) z.arg17 _ 0 0 512 512 128 128 64 128 (by decide) (A84 z) _ (by decide) x i a b
    (show 128 + x.val = 0 + a.val by omega) (show 128 + i.val = 0 + b.val by omega)

/-- A slice of the queries. -/
theorem A277_at (x : Fin 64) (i : Fin 128) (a b : Fin 512) (ha : a.val = 192 + x.val) (hb : b.val = 128 + i.val) :
    A277 z (ix2 x i) = A84 z (ix2 a b) :=
  ra_hit (N0 := 512) (N1 := 512) z.arg17 _ 0 0 512 512 192 128 64 128 (by decide) (A84 z) _ (by decide) x i a b
    (show 192 + x.val = 0 + a.val by omega) (show 128 + i.val = 0 + b.val by omega)

/-- A slice of the queries. -/
theorem A327_at (x : Fin 64) (i : Fin 128) (a b : Fin 512) (ha : a.val = 256 + x.val) (hb : b.val = 128 + i.val) :
    A327 z (ix2 x i) = A84 z (ix2 a b) :=
  ra_hit (N0 := 512) (N1 := 512) z.arg17 _ 0 0 512 512 256 128 64 128 (by decide) (A84 z) _ (by decide) x i a b
    (show 256 + x.val = 0 + a.val by omega) (show 128 + i.val = 0 + b.val by omega)

/-- A slice of the queries. -/
theorem A328_at (x : Fin 64) (i : Fin 128) (a b : Fin 512) (ha : a.val = 320 + x.val) (hb : b.val = 128 + i.val) :
    A328 z (ix2 x i) = A84 z (ix2 a b) :=
  ra_hit (N0 := 512) (N1 := 512) z.arg17 _ 0 0 512 512 320 128 64 128 (by decide) (A84 z) _ (by decide) x i a b
    (show 320 + x.val = 0 + a.val by omega) (show 128 + i.val = 0 + b.val by omega)

/-- A slice of the queries. -/
theorem A329_at (x : Fin 64) (i : Fin 128) (a b : Fin 512) (ha : a.val = 384 + x.val) (hb : b.val = 128 + i.val) :
    A329 z (ix2 x i) = A84 z (ix2 a b) :=
  ra_hit (N0 := 512) (N1 := 512) z.arg17 _ 0 0 512 512 384 128 64 128 (by decide) (A84 z) _ (by decide) x i a b
    (show 384 + x.val = 0 + a.val by omega) (show 128 + i.val = 0 + b.val by omega)

/-- A slice of the queries. -/
theorem A330_at (x : Fin 64) (i : Fin 128) (a b : Fin 512) (ha : a.val = 448 + x.val) (hb : b.val = 128 + i.val) :
    A330 z (ix2 x i) = A84 z (ix2 a b) :=
  ra_hit (N0 := 512) (N1 := 512) z.arg17 _ 0 0 512 512 448 128 64 128 (by decide) (A84 z) _ (by decide) x i a b
    (show 448 + x.val = 0 + a.val by omega) (show 128 + i.val = 0 + b.val by omega)

/-- A slice of the queries. -/
theorem A381_at (x : Fin 64) (i : Fin 128) (a b : Fin 512) (ha : a.val = 0 + x.val) (hb : b.val = 256 + i.val) :
    A381 z (ix2 x i) = A84 z (ix2 a b) :=
  ra_hit (N0 := 512) (N1 := 512) z.arg17 _ 0 0 512 512 0 256 64 128 (by decide) (A84 z) _ (by decide) x i a b
    (show 0 + x.val = 0 + a.val by omega) (show 256 + i.val = 0 + b.val by omega)

/-- A slice of the queries. -/
theorem A382_at (x : Fin 64) (i : Fin 128) (a b : Fin 512) (ha : a.val = 64 + x.val) (hb : b.val = 256 + i.val) :
    A382 z (ix2 x i) = A84 z (ix2 a b) :=
  ra_hit (N0 := 512) (N1 := 512) z.arg17 _ 0 0 512 512 64 256 64 128 (by decide) (A84 z) _ (by decide) x i a b
    (show 64 + x.val = 0 + a.val by omega) (show 256 + i.val = 0 + b.val by omega)

/-- A slice of the queries. -/
theorem A383_at (x : Fin 64) (i : Fin 128) (a b : Fin 512) (ha : a.val = 128 + x.val) (hb : b.val = 256 + i.val) :
    A383 z (ix2 x i) = A84 z (ix2 a b) :=
  ra_hit (N0 := 512) (N1 := 512) z.arg17 _ 0 0 512 512 128 256 64 128 (by decide) (A84 z) _ (by decide) x i a b
    (show 128 + x.val = 0 + a.val by omega) (show 256 + i.val = 0 + b.val by omega)

/-- A slice of the queries. -/
theorem A384_at (x : Fin 64) (i : Fin 128) (a b : Fin 512) (ha : a.val = 192 + x.val) (hb : b.val = 256 + i.val) :
    A384 z (ix2 x i) = A84 z (ix2 a b) :=
  ra_hit (N0 := 512) (N1 := 512) z.arg17 _ 0 0 512 512 192 256 64 128 (by decide) (A84 z) _ (by decide) x i a b
    (show 192 + x.val = 0 + a.val by omega) (show 256 + i.val = 0 + b.val by omega)

/-- A slice of the queries. -/
theorem A434_at (x : Fin 64) (i : Fin 128) (a b : Fin 512) (ha : a.val = 256 + x.val) (hb : b.val = 256 + i.val) :
    A434 z (ix2 x i) = A84 z (ix2 a b) :=
  ra_hit (N0 := 512) (N1 := 512) z.arg17 _ 0 0 512 512 256 256 64 128 (by decide) (A84 z) _ (by decide) x i a b
    (show 256 + x.val = 0 + a.val by omega) (show 256 + i.val = 0 + b.val by omega)

/-- A slice of the queries. -/
theorem A435_at (x : Fin 64) (i : Fin 128) (a b : Fin 512) (ha : a.val = 320 + x.val) (hb : b.val = 256 + i.val) :
    A435 z (ix2 x i) = A84 z (ix2 a b) :=
  ra_hit (N0 := 512) (N1 := 512) z.arg17 _ 0 0 512 512 320 256 64 128 (by decide) (A84 z) _ (by decide) x i a b
    (show 320 + x.val = 0 + a.val by omega) (show 256 + i.val = 0 + b.val by omega)

/-- A slice of the queries. -/
theorem A436_at (x : Fin 64) (i : Fin 128) (a b : Fin 512) (ha : a.val = 384 + x.val) (hb : b.val = 256 + i.val) :
    A436 z (ix2 x i) = A84 z (ix2 a b) :=
  ra_hit (N0 := 512) (N1 := 512) z.arg17 _ 0 0 512 512 384 256 64 128 (by decide) (A84 z) _ (by decide) x i a b
    (show 384 + x.val = 0 + a.val by omega) (show 256 + i.val = 0 + b.val by omega)

/-- A slice of the queries. -/
theorem A437_at (x : Fin 64) (i : Fin 128) (a b : Fin 512) (ha : a.val = 448 + x.val) (hb : b.val = 256 + i.val) :
    A437 z (ix2 x i) = A84 z (ix2 a b) :=
  ra_hit (N0 := 512) (N1 := 512) z.arg17 _ 0 0 512 512 448 256 64 128 (by decide) (A84 z) _ (by decide) x i a b
    (show 448 + x.val = 0 + a.val by omega) (show 256 + i.val = 0 + b.val by omega)

/-- A slice of the queries. -/
theorem A488_at (x : Fin 64) (i : Fin 128) (a b : Fin 512) (ha : a.val = 0 + x.val) (hb : b.val = 384 + i.val) :
    A488 z (ix2 x i) = A84 z (ix2 a b) :=
  ra_hit (N0 := 512) (N1 := 512) z.arg17 _ 0 0 512 512 0 384 64 128 (by decide) (A84 z) _ (by decide) x i a b
    (show 0 + x.val = 0 + a.val by omega) (show 384 + i.val = 0 + b.val by omega)

/-- A slice of the queries. -/
theorem A489_at (x : Fin 64) (i : Fin 128) (a b : Fin 512) (ha : a.val = 64 + x.val) (hb : b.val = 384 + i.val) :
    A489 z (ix2 x i) = A84 z (ix2 a b) :=
  ra_hit (N0 := 512) (N1 := 512) z.arg17 _ 0 0 512 512 64 384 64 128 (by decide) (A84 z) _ (by decide) x i a b
    (show 64 + x.val = 0 + a.val by omega) (show 384 + i.val = 0 + b.val by omega)

/-- A slice of the queries. -/
theorem A490_at (x : Fin 64) (i : Fin 128) (a b : Fin 512) (ha : a.val = 128 + x.val) (hb : b.val = 384 + i.val) :
    A490 z (ix2 x i) = A84 z (ix2 a b) :=
  ra_hit (N0 := 512) (N1 := 512) z.arg17 _ 0 0 512 512 128 384 64 128 (by decide) (A84 z) _ (by decide) x i a b
    (show 128 + x.val = 0 + a.val by omega) (show 384 + i.val = 0 + b.val by omega)

/-- A slice of the queries. -/
theorem A491_at (x : Fin 64) (i : Fin 128) (a b : Fin 512) (ha : a.val = 192 + x.val) (hb : b.val = 384 + i.val) :
    A491 z (ix2 x i) = A84 z (ix2 a b) :=
  ra_hit (N0 := 512) (N1 := 512) z.arg17 _ 0 0 512 512 192 384 64 128 (by decide) (A84 z) _ (by decide) x i a b
    (show 192 + x.val = 0 + a.val by omega) (show 384 + i.val = 0 + b.val by omega)

/-- A slice of the queries. -/
theorem A541_at (x : Fin 64) (i : Fin 128) (a b : Fin 512) (ha : a.val = 256 + x.val) (hb : b.val = 384 + i.val) :
    A541 z (ix2 x i) = A84 z (ix2 a b) :=
  ra_hit (N0 := 512) (N1 := 512) z.arg17 _ 0 0 512 512 256 384 64 128 (by decide) (A84 z) _ (by decide) x i a b
    (show 256 + x.val = 0 + a.val by omega) (show 384 + i.val = 0 + b.val by omega)

/-- A slice of the queries. -/
theorem A542_at (x : Fin 64) (i : Fin 128) (a b : Fin 512) (ha : a.val = 320 + x.val) (hb : b.val = 384 + i.val) :
    A542 z (ix2 x i) = A84 z (ix2 a b) :=
  ra_hit (N0 := 512) (N1 := 512) z.arg17 _ 0 0 512 512 320 384 64 128 (by decide) (A84 z) _ (by decide) x i a b
    (show 320 + x.val = 0 + a.val by omega) (show 384 + i.val = 0 + b.val by omega)

/-- A slice of the queries. -/
theorem A543_at (x : Fin 64) (i : Fin 128) (a b : Fin 512) (ha : a.val = 384 + x.val) (hb : b.val = 384 + i.val) :
    A543 z (ix2 x i) = A84 z (ix2 a b) :=
  ra_hit (N0 := 512) (N1 := 512) z.arg17 _ 0 0 512 512 384 384 64 128 (by decide) (A84 z) _ (by decide) x i a b
    (show 384 + x.val = 0 + a.val by omega) (show 384 + i.val = 0 + b.val by omega)

/-- A slice of the queries. -/
theorem A544_at (x : Fin 64) (i : Fin 128) (a b : Fin 512) (ha : a.val = 448 + x.val) (hb : b.val = 384 + i.val) :
    A544 z (ix2 x i) = A84 z (ix2 a b) :=
  ra_hit (N0 := 512) (N1 := 512) z.arg17 _ 0 0 512 512 448 384 64 128 (by decide) (A84 z) _ (by decide) x i a b
    (show 448 + x.val = 0 + a.val by omega) (show 384 + i.val = 0 + b.val by omega)

/-- The attention of four heads of one block. -/
theorem A203_eq : A203 z = k0_pay20 (F := Ideal) (Abias z) k0_pay18 k0_pay19 (A166 z) (A167 z) (A168 z) (A169 z) (A170 z) (As1 z) (As2 z) (As3 z) (As4 z) (A191 z) := rfl

/-- A stored block of the attention. -/
theorem A207_at (T : Fin 8) (hT : (z.i 1).val = T.val) (d : Fin 64) (i : Fin 128) :
    A207 z (ix2 d i) = ATT T.val (KBA z) (VBA z) (fun a b => A84 z (ix2 a b)) (fun h => z.x0 (ix1 h)) 0 0 d i := by
  have e : A207 z (ix2 d i) = A203 z (ix2 d ⟨i.val, by omega⟩) := by
    show shapeCast S64x128 (extractStridedSlice S64x128 ![0, 0] (A203 z) slices_S64x512_o0_0_S64x128) shapeCasts_S64x128_S64x128 (ix2 d i) = _
    pointwise []
  have hb : ∀ r, (Abias z) (ix2 r ⟨i.val, by omega⟩) = BI T.val 0 r i := fun r => by
    rw [(show Abias z = k0_pay17 (F := Ideal) (BitVec.ofNat 32 T.val) io0 io1 by rw [← hT]; rfl)]; rw [show (⟨i.val, by omega⟩ : Fin 512) = ⟨128 * (0 : Fin 4).val + i.val, by simp; omega⟩ from Fin.ext (by simp)]; exact bias0_at T r 0 i
  rw [e, A203_eq, pay20_0]
  refine congr (congr (congrArg softK (funext fun r => ?_)) ?_) (funext fun r => ?_)
  · refine congr (congrArg HAdd.hAdd (Finset.sum_congr rfl fun x _ => ?_)) (hb r)
    exact congr (congrArg HMul.hMul (A166_at z r _ _ _ (by simp) (by simp))) (A167_at z x i _ _ (by simp) (by simp))
  · exact sink0 z
  · exact A191_at z d r _ _ (by simp) (by simp)

/-- A stored block of the attention. -/
theorem A211_at (T : Fin 8) (hT : (z.i 1).val = T.val) (d : Fin 64) (i : Fin 128) :
    A211 z (ix2 d i) = ATT T.val (KBA z) (VBA z) (fun a b => A84 z (ix2 a b)) (fun h => z.x0 (ix1 h)) 0 1 d i := by
  have e : A211 z (ix2 d i) = A203 z (ix2 d ⟨128 + i.val, by omega⟩) := by
    show shapeCast S64x128 (extractStridedSlice S64x128 ![0, 128] (A203 z) slices_S64x512_o0_128_S64x128) shapeCasts_S64x128_S64x128 (ix2 d i) = _
    pointwise []
  have hb : ∀ r, (Abias z) (ix2 r ⟨128 + i.val, by omega⟩) = BI T.val 0 r i := fun r => by
    rw [(show Abias z = k0_pay17 (F := Ideal) (BitVec.ofNat 32 T.val) io0 io1 by rw [← hT]; rfl)]; exact bias0_at T r 1 i
  rw [e, A203_eq, pay20_1]
  refine congr (congr (congrArg softK (funext fun r => ?_)) ?_) (funext fun r => ?_)
  · refine congr (congrArg HAdd.hAdd (Finset.sum_congr rfl fun x _ => ?_)) (hb r)
    exact congr (congrArg HMul.hMul (A166_at z r _ _ _ (by simp) (by simp))) (A168_at z x i _ _ (by simp) (by simp))
  · exact sink1 z
  · exact A191_at z d r _ _ (by simp) (by simp)

/-- A stored block of the attention. -/
theorem A215_at (T : Fin 8) (hT : (z.i 1).val = T.val) (d : Fin 64) (i : Fin 128) :
    A215 z (ix2 d i) = ATT T.val (KBA z) (VBA z) (fun a b => A84 z (ix2 a b)) (fun h => z.x0 (ix1 h)) 0 2 d i := by
  have e : A215 z (ix2 d i) = A203 z (ix2 d ⟨256 + i.val, by omega⟩) := by
    show shapeCast S64x128 (extractStridedSlice S64x128 ![0, 256] (A203 z) slices_S64x512_o0_256_S64x128) shapeCasts_S64x128_S64x128 (ix2 d i) = _
    pointwise []
  have hb : ∀ r, (Abias z) (ix2 r ⟨256 + i.val, by omega⟩) = BI T.val 0 r i := fun r => by
    rw [(show Abias z = k0_pay17 (F := Ideal) (BitVec.ofNat 32 T.val) io0 io1 by rw [← hT]; rfl)]; exact bias0_at T r 2 i
  rw [e, A203_eq, pay20_2]
  refine congr (congr (congrArg softK (funext fun r => ?_)) ?_) (funext fun r => ?_)
  · refine congr (congrArg HAdd.hAdd (Finset.sum_congr rfl fun x _ => ?_)) (hb r)
    exact congr (congrArg HMul.hMul (A166_at z r _ _ _ (by simp) (by simp))) (A169_at z x i _ _ (by simp) (by simp))
  · exact sink2 z
  · exact A191_at z d r _ _ (by simp) (by simp)

/-- A stored block of the attention. -/
theorem A219_at (T : Fin 8) (hT : (z.i 1).val = T.val) (d : Fin 64) (i : Fin 128) :
    A219 z (ix2 d i) = ATT T.val (KBA z) (VBA z) (fun a b => A84 z (ix2 a b)) (fun h => z.x0 (ix1 h)) 0 3 d i := by
  have e : A219 z (ix2 d i) = A203 z (ix2 d ⟨384 + i.val, by omega⟩) := by
    show shapeCast S64x128 (extractStridedSlice S64x128 ![0, 384] (A203 z) slices_S64x512_o0_384_S64x128) shapeCasts_S64x128_S64x128 (ix2 d i) = _
    pointwise []
  have hb : ∀ r, (Abias z) (ix2 r ⟨384 + i.val, by omega⟩) = BI T.val 0 r i := fun r => by
    rw [(show Abias z = k0_pay17 (F := Ideal) (BitVec.ofNat 32 T.val) io0 io1 by rw [← hT]; rfl)]; exact bias0_at T r 3 i
  rw [e, A203_eq, pay20_3]
  refine congr (congr (congrArg softK (funext fun r => ?_)) ?_) (funext fun r => ?_)
  · refine congr (congrArg HAdd.hAdd (Finset.sum_congr rfl fun x _ => ?_)) (hb r)
    exact congr (congrArg HMul.hMul (A166_at z r _ _ _ (by simp) (by simp))) (A170_at z x i _ _ (by simp) (by simp))
  · exact sink3 z
  · exact A191_at z d r _ _ (by simp) (by simp)

/-- The attention of four heads of one block. -/
theorem A256_eq : A256 z = k0_pay45 (F := Ideal) (Abias z) k0_pay18 k0_pay19 (A166 z) (A220 z) (A221 z) (A222 z) (A223 z) (As5 z) (As6 z) (As7 z) (As8 z) (A244 z) := rfl

/-- A stored block of the attention. -/
theorem A260_at (T : Fin 8) (hT : (z.i 1).val = T.val) (d : Fin 64) (i : Fin 128) :
    A260 z (ix2 d i) = ATT T.val (KBA z) (VBA z) (fun a b => A84 z (ix2 a b)) (fun h => z.x0 (ix1 h)) 0 4 d i := by
  have e : A260 z (ix2 d i) = A256 z (ix2 d ⟨i.val, by omega⟩) := by
    show shapeCast S64x128 (extractStridedSlice S64x128 ![0, 0] (A256 z) slices_S64x512_o0_0_S64x128) shapeCasts_S64x128_S64x128 (ix2 d i) = _
    pointwise []
  have hb : ∀ r, (Abias z) (ix2 r ⟨i.val, by omega⟩) = BI T.val 0 r i := fun r => by
    rw [(show Abias z = k0_pay17 (F := Ideal) (BitVec.ofNat 32 T.val) io0 io1 by rw [← hT]; rfl)]; rw [show (⟨i.val, by omega⟩ : Fin 512) = ⟨128 * (0 : Fin 4).val + i.val, by simp; omega⟩ from Fin.ext (by simp)]; exact bias0_at T r 0 i
  rw [e, A256_eq, pay45_0]
  refine congr (congr (congrArg softK (funext fun r => ?_)) ?_) (funext fun r => ?_)
  · refine congr (congrArg HAdd.hAdd (Finset.sum_congr rfl fun x _ => ?_)) (hb r)
    exact congr (congrArg HMul.hMul (A166_at z r _ _ _ (by simp) (by simp))) (A220_at z x i _ _ (by simp) (by simp))
  · exact sink4 z
  · exact A244_at z d r _ _ (by simp) (by simp)

/-- A stored block of the attention. -/
theorem A264_at (T : Fin 8) (hT : (z.i 1).val = T.val) (d : Fin 64) (i : Fin 128) :
    A264 z (ix2 d i) = ATT T.val (KBA z) (VBA z) (fun a b => A84 z (ix2 a b)) (fun h => z.x0 (ix1 h)) 0 5 d i := by
  have e : A264 z (ix2 d i) = A256 z (ix2 d ⟨128 + i.val, by omega⟩) := by
    show shapeCast S64x128 (extractStridedSlice S64x128 ![0, 128] (A256 z) slices_S64x512_o0_128_S64x128) shapeCasts_S64x128_S64x128 (ix2 d i) = _
    pointwise []
  have hb : ∀ r, (Abias z) (ix2 r ⟨128 + i.val, by omega⟩) = BI T.val 0 r i := fun r => by
    rw [(show Abias z = k0_pay17 (F := Ideal) (BitVec.ofNat 32 T.val) io0 io1 by rw [← hT]; rfl)]; exact bias0_at T r 1 i
  rw [e, A256_eq, pay45_1]
  refine congr (congr (congrArg softK (funext fun r => ?_)) ?_) (funext fun r => ?_)
  · refine congr (congrArg HAdd.hAdd (Finset.sum_congr rfl fun x _ => ?_)) (hb r)
    exact congr (congrArg HMul.hMul (A166_at z r _ _ _ (by simp) (by simp))) (A221_at z x i _ _ (by simp) (by simp))
  · exact sink5 z
  · exact A244_at z d r _ _ (by simp) (by simp)

/-- A stored block of the attention. -/
theorem A268_at (T : Fin 8) (hT : (z.i 1).val = T.val) (d : Fin 64) (i : Fin 128) :
    A268 z (ix2 d i) = ATT T.val (KBA z) (VBA z) (fun a b => A84 z (ix2 a b)) (fun h => z.x0 (ix1 h)) 0 6 d i := by
  have e : A268 z (ix2 d i) = A256 z (ix2 d ⟨256 + i.val, by omega⟩) := by
    show shapeCast S64x128 (extractStridedSlice S64x128 ![0, 256] (A256 z) slices_S64x512_o0_256_S64x128) shapeCasts_S64x128_S64x128 (ix2 d i) = _
    pointwise []
  have hb : ∀ r, (Abias z) (ix2 r ⟨256 + i.val, by omega⟩) = BI T.val 0 r i := fun r => by
    rw [(show Abias z = k0_pay17 (F := Ideal) (BitVec.ofNat 32 T.val) io0 io1 by rw [← hT]; rfl)]; exact bias0_at T r 2 i
  rw [e, A256_eq, pay45_2]
  refine congr (congr (congrArg softK (funext fun r => ?_)) ?_) (funext fun r => ?_)
  · refine congr (congrArg HAdd.hAdd (Finset.sum_congr rfl fun x _ => ?_)) (hb r)
    exact congr (congrArg HMul.hMul (A166_at z r _ _ _ (by simp) (by simp))) (A222_at z x i _ _ (by simp) (by simp))
  · exact sink6 z
  · exact A244_at z d r _ _ (by simp) (by simp)

/-- A stored block of the attention. -/
theorem A272_at (T : Fin 8) (hT : (z.i 1).val = T.val) (d : Fin 64) (i : Fin 128) :
    A272 z (ix2 d i) = ATT T.val (KBA z) (VBA z) (fun a b => A84 z (ix2 a b)) (fun h => z.x0 (ix1 h)) 0 7 d i := by
  have e : A272 z (ix2 d i) = A256 z (ix2 d ⟨384 + i.val, by omega⟩) := by
    show shapeCast S64x128 (extractStridedSlice S64x128 ![0, 384] (A256 z) slices_S64x512_o0_384_S64x128) shapeCasts_S64x128_S64x128 (ix2 d i) = _
    pointwise []
  have hb : ∀ r, (Abias z) (ix2 r ⟨384 + i.val, by omega⟩) = BI T.val 0 r i := fun r => by
    rw [(show Abias z = k0_pay17 (F := Ideal) (BitVec.ofNat 32 T.val) io0 io1 by rw [← hT]; rfl)]; exact bias0_at T r 3 i
  rw [e, A256_eq, pay45_3]
  refine congr (congr (congrArg softK (funext fun r => ?_)) ?_) (funext fun r => ?_)
  · refine congr (congrArg HAdd.hAdd (Finset.sum_congr rfl fun x _ => ?_)) (hb r)
    exact congr (congrArg HMul.hMul (A166_at z r _ _ _ (by simp) (by simp))) (A223_at z x i _ _ (by simp) (by simp))
  · exact sink7 z
  · exact A244_at z d r _ _ (by simp) (by simp)

/-- The attention of four heads of one block. -/
theorem A310_eq : A310 z = k0_pay20 (F := Ideal) (k0_pay16 (F := Ideal) io0 io1) k0_pay18 k0_pay19 (A273 z) (A274 z) (A275 z) (A276 z) (A277 z) (As1 z) (As2 z) (As3 z) (As4 z) (A298 z) := rfl

/-- A stored block of the attention. -/
theorem A314_at (T : Fin 8) (hT : (z.i 1).val = T.val) (d : Fin 64) (i : Fin 128) :
    A314 z (ix2 d i) = ATT T.val (KBA z) (VBA z) (fun a b => A84 z (ix2 a b)) (fun h => z.x0 (ix1 h)) 1 0 d i := by
  have e : A314 z (ix2 d i) = A310 z (ix2 d ⟨i.val, by omega⟩) := by
    show shapeCast S64x128 (extractStridedSlice S64x128 ![0, 0] (A310 z) slices_S64x512_o0_0_S64x128) shapeCasts_S64x128_S64x128 (ix2 d i) = _
    pointwise []
  have hb : ∀ r, (k0_pay16 (F := Ideal) io0 io1) (ix2 r ⟨i.val, by omega⟩) = BI T.val 1 r i := fun r => by
    rw [show (⟨i.val, by omega⟩ : Fin 512) = ⟨128 * (0 : Fin 4).val + i.val, by simp; omega⟩ from Fin.ext (by simp)]; exact bias_at r 0 i 1 T.val (by decide)
  rw [e, A310_eq, pay20_0]
  refine congr (congr (congrArg softK (funext fun r => ?_)) ?_) (funext fun r => ?_)
  · refine congr (congrArg HAdd.hAdd (Finset.sum_congr rfl fun x _ => ?_)) (hb r)
    exact congr (congrArg HMul.hMul (A273_at z r _ _ _ (by simp) (by simp))) (A274_at z x i _ _ (by simp) (by simp))
  · exact sink0 z
  · exact A298_at z d r _ _ (by simp) (by simp)

/-- A stored block of the attention. -/
theorem A318_at (T : Fin 8) (hT : (z.i 1).val = T.val) (d : Fin 64) (i : Fin 128) :
    A318 z (ix2 d i) = ATT T.val (KBA z) (VBA z) (fun a b => A84 z (ix2 a b)) (fun h => z.x0 (ix1 h)) 1 1 d i := by
  have e : A318 z (ix2 d i) = A310 z (ix2 d ⟨128 + i.val, by omega⟩) := by
    show shapeCast S64x128 (extractStridedSlice S64x128 ![0, 128] (A310 z) slices_S64x512_o0_128_S64x128) shapeCasts_S64x128_S64x128 (ix2 d i) = _
    pointwise []
  have hb : ∀ r, (k0_pay16 (F := Ideal) io0 io1) (ix2 r ⟨128 + i.val, by omega⟩) = BI T.val 1 r i := fun r => by
    exact bias_at r 1 i 1 T.val (by decide)
  rw [e, A310_eq, pay20_1]
  refine congr (congr (congrArg softK (funext fun r => ?_)) ?_) (funext fun r => ?_)
  · refine congr (congrArg HAdd.hAdd (Finset.sum_congr rfl fun x _ => ?_)) (hb r)
    exact congr (congrArg HMul.hMul (A273_at z r _ _ _ (by simp) (by simp))) (A275_at z x i _ _ (by simp) (by simp))
  · exact sink1 z
  · exact A298_at z d r _ _ (by simp) (by simp)

/-- A stored block of the attention. -/
theorem A322_at (T : Fin 8) (hT : (z.i 1).val = T.val) (d : Fin 64) (i : Fin 128) :
    A322 z (ix2 d i) = ATT T.val (KBA z) (VBA z) (fun a b => A84 z (ix2 a b)) (fun h => z.x0 (ix1 h)) 1 2 d i := by
  have e : A322 z (ix2 d i) = A310 z (ix2 d ⟨256 + i.val, by omega⟩) := by
    show shapeCast S64x128 (extractStridedSlice S64x128 ![0, 256] (A310 z) slices_S64x512_o0_256_S64x128) shapeCasts_S64x128_S64x128 (ix2 d i) = _
    pointwise []
  have hb : ∀ r, (k0_pay16 (F := Ideal) io0 io1) (ix2 r ⟨256 + i.val, by omega⟩) = BI T.val 1 r i := fun r => by
    exact bias_at r 2 i 1 T.val (by decide)
  rw [e, A310_eq, pay20_2]
  refine congr (congr (congrArg softK (funext fun r => ?_)) ?_) (funext fun r => ?_)
  · refine congr (congrArg HAdd.hAdd (Finset.sum_congr rfl fun x _ => ?_)) (hb r)
    exact congr (congrArg HMul.hMul (A273_at z r _ _ _ (by simp) (by simp))) (A276_at z x i _ _ (by simp) (by simp))
  · exact sink2 z
  · exact A298_at z d r _ _ (by simp) (by simp)

/-- A stored block of the attention. -/
theorem A326_at (T : Fin 8) (hT : (z.i 1).val = T.val) (d : Fin 64) (i : Fin 128) :
    A326 z (ix2 d i) = ATT T.val (KBA z) (VBA z) (fun a b => A84 z (ix2 a b)) (fun h => z.x0 (ix1 h)) 1 3 d i := by
  have e : A326 z (ix2 d i) = A310 z (ix2 d ⟨384 + i.val, by omega⟩) := by
    show shapeCast S64x128 (extractStridedSlice S64x128 ![0, 384] (A310 z) slices_S64x512_o0_384_S64x128) shapeCasts_S64x128_S64x128 (ix2 d i) = _
    pointwise []
  have hb : ∀ r, (k0_pay16 (F := Ideal) io0 io1) (ix2 r ⟨384 + i.val, by omega⟩) = BI T.val 1 r i := fun r => by
    exact bias_at r 3 i 1 T.val (by decide)
  rw [e, A310_eq, pay20_3]
  refine congr (congr (congrArg softK (funext fun r => ?_)) ?_) (funext fun r => ?_)
  · refine congr (congrArg HAdd.hAdd (Finset.sum_congr rfl fun x _ => ?_)) (hb r)
    exact congr (congrArg HMul.hMul (A273_at z r _ _ _ (by simp) (by simp))) (A277_at z x i _ _ (by simp) (by simp))
  · exact sink3 z
  · exact A298_at z d r _ _ (by simp) (by simp)

/-- The attention of four heads of one block. -/
theorem A363_eq : A363 z = k0_pay45 (F := Ideal) (k0_pay16 (F := Ideal) io0 io1) k0_pay18 k0_pay19 (A273 z) (A327 z) (A328 z) (A329 z) (A330 z) (As5 z) (As6 z) (As7 z) (As8 z) (A351 z) := rfl

/-- A stored block of the attention. -/
theorem A367_at (T : Fin 8) (hT : (z.i 1).val = T.val) (d : Fin 64) (i : Fin 128) :
    A367 z (ix2 d i) = ATT T.val (KBA z) (VBA z) (fun a b => A84 z (ix2 a b)) (fun h => z.x0 (ix1 h)) 1 4 d i := by
  have e : A367 z (ix2 d i) = A363 z (ix2 d ⟨i.val, by omega⟩) := by
    show shapeCast S64x128 (extractStridedSlice S64x128 ![0, 0] (A363 z) slices_S64x512_o0_0_S64x128) shapeCasts_S64x128_S64x128 (ix2 d i) = _
    pointwise []
  have hb : ∀ r, (k0_pay16 (F := Ideal) io0 io1) (ix2 r ⟨i.val, by omega⟩) = BI T.val 1 r i := fun r => by
    rw [show (⟨i.val, by omega⟩ : Fin 512) = ⟨128 * (0 : Fin 4).val + i.val, by simp; omega⟩ from Fin.ext (by simp)]; exact bias_at r 0 i 1 T.val (by decide)
  rw [e, A363_eq, pay45_0]
  refine congr (congr (congrArg softK (funext fun r => ?_)) ?_) (funext fun r => ?_)
  · refine congr (congrArg HAdd.hAdd (Finset.sum_congr rfl fun x _ => ?_)) (hb r)
    exact congr (congrArg HMul.hMul (A273_at z r _ _ _ (by simp) (by simp))) (A327_at z x i _ _ (by simp) (by simp))
  · exact sink4 z
  · exact A351_at z d r _ _ (by simp) (by simp)

/-- A stored block of the attention. -/
theorem A371_at (T : Fin 8) (hT : (z.i 1).val = T.val) (d : Fin 64) (i : Fin 128) :
    A371 z (ix2 d i) = ATT T.val (KBA z) (VBA z) (fun a b => A84 z (ix2 a b)) (fun h => z.x0 (ix1 h)) 1 5 d i := by
  have e : A371 z (ix2 d i) = A363 z (ix2 d ⟨128 + i.val, by omega⟩) := by
    show shapeCast S64x128 (extractStridedSlice S64x128 ![0, 128] (A363 z) slices_S64x512_o0_128_S64x128) shapeCasts_S64x128_S64x128 (ix2 d i) = _
    pointwise []
  have hb : ∀ r, (k0_pay16 (F := Ideal) io0 io1) (ix2 r ⟨128 + i.val, by omega⟩) = BI T.val 1 r i := fun r => by
    exact bias_at r 1 i 1 T.val (by decide)
  rw [e, A363_eq, pay45_1]
  refine congr (congr (congrArg softK (funext fun r => ?_)) ?_) (funext fun r => ?_)
  · refine congr (congrArg HAdd.hAdd (Finset.sum_congr rfl fun x _ => ?_)) (hb r)
    exact congr (congrArg HMul.hMul (A273_at z r _ _ _ (by simp) (by simp))) (A328_at z x i _ _ (by simp) (by simp))
  · exact sink5 z
  · exact A351_at z d r _ _ (by simp) (by simp)

/-- A stored block of the attention. -/
theorem A375_at (T : Fin 8) (hT : (z.i 1).val = T.val) (d : Fin 64) (i : Fin 128) :
    A375 z (ix2 d i) = ATT T.val (KBA z) (VBA z) (fun a b => A84 z (ix2 a b)) (fun h => z.x0 (ix1 h)) 1 6 d i := by
  have e : A375 z (ix2 d i) = A363 z (ix2 d ⟨256 + i.val, by omega⟩) := by
    show shapeCast S64x128 (extractStridedSlice S64x128 ![0, 256] (A363 z) slices_S64x512_o0_256_S64x128) shapeCasts_S64x128_S64x128 (ix2 d i) = _
    pointwise []
  have hb : ∀ r, (k0_pay16 (F := Ideal) io0 io1) (ix2 r ⟨256 + i.val, by omega⟩) = BI T.val 1 r i := fun r => by
    exact bias_at r 2 i 1 T.val (by decide)
  rw [e, A363_eq, pay45_2]
  refine congr (congr (congrArg softK (funext fun r => ?_)) ?_) (funext fun r => ?_)
  · refine congr (congrArg HAdd.hAdd (Finset.sum_congr rfl fun x _ => ?_)) (hb r)
    exact congr (congrArg HMul.hMul (A273_at z r _ _ _ (by simp) (by simp))) (A329_at z x i _ _ (by simp) (by simp))
  · exact sink6 z
  · exact A351_at z d r _ _ (by simp) (by simp)

/-- A stored block of the attention. -/
theorem A379_at (T : Fin 8) (hT : (z.i 1).val = T.val) (d : Fin 64) (i : Fin 128) :
    A379 z (ix2 d i) = ATT T.val (KBA z) (VBA z) (fun a b => A84 z (ix2 a b)) (fun h => z.x0 (ix1 h)) 1 7 d i := by
  have e : A379 z (ix2 d i) = A363 z (ix2 d ⟨384 + i.val, by omega⟩) := by
    show shapeCast S64x128 (extractStridedSlice S64x128 ![0, 384] (A363 z) slices_S64x512_o0_384_S64x128) shapeCasts_S64x128_S64x128 (ix2 d i) = _
    pointwise []
  have hb : ∀ r, (k0_pay16 (F := Ideal) io0 io1) (ix2 r ⟨384 + i.val, by omega⟩) = BI T.val 1 r i := fun r => by
    exact bias_at r 3 i 1 T.val (by decide)
  rw [e, A363_eq, pay45_3]
  refine congr (congr (congrArg softK (funext fun r => ?_)) ?_) (funext fun r => ?_)
  · refine congr (congrArg HAdd.hAdd (Finset.sum_congr rfl fun x _ => ?_)) (hb r)
    exact congr (congrArg HMul.hMul (A273_at z r _ _ _ (by simp) (by simp))) (A330_at z x i _ _ (by simp) (by simp))
  · exact sink7 z
  · exact A351_at z d r _ _ (by simp) (by simp)

/-- The attention of four heads of one block. -/
theorem A417_eq : A417 z = k0_pay20 (F := Ideal) (k0_pay16 (F := Ideal) io0 io1) k0_pay18 k0_pay19 (A380 z) (A381 z) (A382 z) (A383 z) (A384 z) (As1 z) (As2 z) (As3 z) (As4 z) (A405 z) := rfl

/-- A stored block of the attention. -/
theorem A421_at (T : Fin 8) (hT : (z.i 1).val = T.val) (d : Fin 64) (i : Fin 128) :
    A421 z (ix2 d i) = ATT T.val (KBA z) (VBA z) (fun a b => A84 z (ix2 a b)) (fun h => z.x0 (ix1 h)) 2 0 d i := by
  have e : A421 z (ix2 d i) = A417 z (ix2 d ⟨i.val, by omega⟩) := by
    show shapeCast S64x128 (extractStridedSlice S64x128 ![0, 0] (A417 z) slices_S64x512_o0_0_S64x128) shapeCasts_S64x128_S64x128 (ix2 d i) = _
    pointwise []
  have hb : ∀ r, (k0_pay16 (F := Ideal) io0 io1) (ix2 r ⟨i.val, by omega⟩) = BI T.val 2 r i := fun r => by
    rw [show (⟨i.val, by omega⟩ : Fin 512) = ⟨128 * (0 : Fin 4).val + i.val, by simp; omega⟩ from Fin.ext (by simp)]; exact bias_at r 0 i 2 T.val (by decide)
  rw [e, A417_eq, pay20_0]
  refine congr (congr (congrArg softK (funext fun r => ?_)) ?_) (funext fun r => ?_)
  · refine congr (congrArg HAdd.hAdd (Finset.sum_congr rfl fun x _ => ?_)) (hb r)
    exact congr (congrArg HMul.hMul (A380_at z r _ _ _ (by simp) (by simp))) (A381_at z x i _ _ (by simp) (by simp))
  · exact sink0 z
  · exact A405_at z d r _ _ (by simp) (by simp)

/-- A stored block of the attention. -/
theorem A425_at (T : Fin 8) (hT : (z.i 1).val = T.val) (d : Fin 64) (i : Fin 128) :
    A425 z (ix2 d i) = ATT T.val (KBA z) (VBA z) (fun a b => A84 z (ix2 a b)) (fun h => z.x0 (ix1 h)) 2 1 d i := by
  have e : A425 z (ix2 d i) = A417 z (ix2 d ⟨128 + i.val, by omega⟩) := by
    show shapeCast S64x128 (extractStridedSlice S64x128 ![0, 128] (A417 z) slices_S64x512_o0_128_S64x128) shapeCasts_S64x128_S64x128 (ix2 d i) = _
    pointwise []
  have hb : ∀ r, (k0_pay16 (F := Ideal) io0 io1) (ix2 r ⟨128 + i.val, by omega⟩) = BI T.val 2 r i := fun r => by
    exact bias_at r 1 i 2 T.val (by decide)
  rw [e, A417_eq, pay20_1]
  refine congr (congr (congrArg softK (funext fun r => ?_)) ?_) (funext fun r => ?_)
  · refine congr (congrArg HAdd.hAdd (Finset.sum_congr rfl fun x _ => ?_)) (hb r)
    exact congr (congrArg HMul.hMul (A380_at z r _ _ _ (by simp) (by simp))) (A382_at z x i _ _ (by simp) (by simp))
  · exact sink1 z
  · exact A405_at z d r _ _ (by simp) (by simp)

/-- A stored block of the attention. -/
theorem A429_at (T : Fin 8) (hT : (z.i 1).val = T.val) (d : Fin 64) (i : Fin 128) :
    A429 z (ix2 d i) = ATT T.val (KBA z) (VBA z) (fun a b => A84 z (ix2 a b)) (fun h => z.x0 (ix1 h)) 2 2 d i := by
  have e : A429 z (ix2 d i) = A417 z (ix2 d ⟨256 + i.val, by omega⟩) := by
    show shapeCast S64x128 (extractStridedSlice S64x128 ![0, 256] (A417 z) slices_S64x512_o0_256_S64x128) shapeCasts_S64x128_S64x128 (ix2 d i) = _
    pointwise []
  have hb : ∀ r, (k0_pay16 (F := Ideal) io0 io1) (ix2 r ⟨256 + i.val, by omega⟩) = BI T.val 2 r i := fun r => by
    exact bias_at r 2 i 2 T.val (by decide)
  rw [e, A417_eq, pay20_2]
  refine congr (congr (congrArg softK (funext fun r => ?_)) ?_) (funext fun r => ?_)
  · refine congr (congrArg HAdd.hAdd (Finset.sum_congr rfl fun x _ => ?_)) (hb r)
    exact congr (congrArg HMul.hMul (A380_at z r _ _ _ (by simp) (by simp))) (A383_at z x i _ _ (by simp) (by simp))
  · exact sink2 z
  · exact A405_at z d r _ _ (by simp) (by simp)

/-- A stored block of the attention. -/
theorem A433_at (T : Fin 8) (hT : (z.i 1).val = T.val) (d : Fin 64) (i : Fin 128) :
    A433 z (ix2 d i) = ATT T.val (KBA z) (VBA z) (fun a b => A84 z (ix2 a b)) (fun h => z.x0 (ix1 h)) 2 3 d i := by
  have e : A433 z (ix2 d i) = A417 z (ix2 d ⟨384 + i.val, by omega⟩) := by
    show shapeCast S64x128 (extractStridedSlice S64x128 ![0, 384] (A417 z) slices_S64x512_o0_384_S64x128) shapeCasts_S64x128_S64x128 (ix2 d i) = _
    pointwise []
  have hb : ∀ r, (k0_pay16 (F := Ideal) io0 io1) (ix2 r ⟨384 + i.val, by omega⟩) = BI T.val 2 r i := fun r => by
    exact bias_at r 3 i 2 T.val (by decide)
  rw [e, A417_eq, pay20_3]
  refine congr (congr (congrArg softK (funext fun r => ?_)) ?_) (funext fun r => ?_)
  · refine congr (congrArg HAdd.hAdd (Finset.sum_congr rfl fun x _ => ?_)) (hb r)
    exact congr (congrArg HMul.hMul (A380_at z r _ _ _ (by simp) (by simp))) (A384_at z x i _ _ (by simp) (by simp))
  · exact sink3 z
  · exact A405_at z d r _ _ (by simp) (by simp)

/-- The attention of four heads of one block. -/
theorem A470_eq : A470 z = k0_pay45 (F := Ideal) (k0_pay16 (F := Ideal) io0 io1) k0_pay18 k0_pay19 (A380 z) (A434 z) (A435 z) (A436 z) (A437 z) (As5 z) (As6 z) (As7 z) (As8 z) (A458 z) := rfl

/-- A stored block of the attention. -/
theorem A474_at (T : Fin 8) (hT : (z.i 1).val = T.val) (d : Fin 64) (i : Fin 128) :
    A474 z (ix2 d i) = ATT T.val (KBA z) (VBA z) (fun a b => A84 z (ix2 a b)) (fun h => z.x0 (ix1 h)) 2 4 d i := by
  have e : A474 z (ix2 d i) = A470 z (ix2 d ⟨i.val, by omega⟩) := by
    show shapeCast S64x128 (extractStridedSlice S64x128 ![0, 0] (A470 z) slices_S64x512_o0_0_S64x128) shapeCasts_S64x128_S64x128 (ix2 d i) = _
    pointwise []
  have hb : ∀ r, (k0_pay16 (F := Ideal) io0 io1) (ix2 r ⟨i.val, by omega⟩) = BI T.val 2 r i := fun r => by
    rw [show (⟨i.val, by omega⟩ : Fin 512) = ⟨128 * (0 : Fin 4).val + i.val, by simp; omega⟩ from Fin.ext (by simp)]; exact bias_at r 0 i 2 T.val (by decide)
  rw [e, A470_eq, pay45_0]
  refine congr (congr (congrArg softK (funext fun r => ?_)) ?_) (funext fun r => ?_)
  · refine congr (congrArg HAdd.hAdd (Finset.sum_congr rfl fun x _ => ?_)) (hb r)
    exact congr (congrArg HMul.hMul (A380_at z r _ _ _ (by simp) (by simp))) (A434_at z x i _ _ (by simp) (by simp))
  · exact sink4 z
  · exact A458_at z d r _ _ (by simp) (by simp)

/-- A stored block of the attention. -/
theorem A478_at (T : Fin 8) (hT : (z.i 1).val = T.val) (d : Fin 64) (i : Fin 128) :
    A478 z (ix2 d i) = ATT T.val (KBA z) (VBA z) (fun a b => A84 z (ix2 a b)) (fun h => z.x0 (ix1 h)) 2 5 d i := by
  have e : A478 z (ix2 d i) = A470 z (ix2 d ⟨128 + i.val, by omega⟩) := by
    show shapeCast S64x128 (extractStridedSlice S64x128 ![0, 128] (A470 z) slices_S64x512_o0_128_S64x128) shapeCasts_S64x128_S64x128 (ix2 d i) = _
    pointwise []
  have hb : ∀ r, (k0_pay16 (F := Ideal) io0 io1) (ix2 r ⟨128 + i.val, by omega⟩) = BI T.val 2 r i := fun r => by
    exact bias_at r 1 i 2 T.val (by decide)
  rw [e, A470_eq, pay45_1]
  refine congr (congr (congrArg softK (funext fun r => ?_)) ?_) (funext fun r => ?_)
  · refine congr (congrArg HAdd.hAdd (Finset.sum_congr rfl fun x _ => ?_)) (hb r)
    exact congr (congrArg HMul.hMul (A380_at z r _ _ _ (by simp) (by simp))) (A435_at z x i _ _ (by simp) (by simp))
  · exact sink5 z
  · exact A458_at z d r _ _ (by simp) (by simp)

/-- A stored block of the attention. -/
theorem A482_at (T : Fin 8) (hT : (z.i 1).val = T.val) (d : Fin 64) (i : Fin 128) :
    A482 z (ix2 d i) = ATT T.val (KBA z) (VBA z) (fun a b => A84 z (ix2 a b)) (fun h => z.x0 (ix1 h)) 2 6 d i := by
  have e : A482 z (ix2 d i) = A470 z (ix2 d ⟨256 + i.val, by omega⟩) := by
    show shapeCast S64x128 (extractStridedSlice S64x128 ![0, 256] (A470 z) slices_S64x512_o0_256_S64x128) shapeCasts_S64x128_S64x128 (ix2 d i) = _
    pointwise []
  have hb : ∀ r, (k0_pay16 (F := Ideal) io0 io1) (ix2 r ⟨256 + i.val, by omega⟩) = BI T.val 2 r i := fun r => by
    exact bias_at r 2 i 2 T.val (by decide)
  rw [e, A470_eq, pay45_2]
  refine congr (congr (congrArg softK (funext fun r => ?_)) ?_) (funext fun r => ?_)
  · refine congr (congrArg HAdd.hAdd (Finset.sum_congr rfl fun x _ => ?_)) (hb r)
    exact congr (congrArg HMul.hMul (A380_at z r _ _ _ (by simp) (by simp))) (A436_at z x i _ _ (by simp) (by simp))
  · exact sink6 z
  · exact A458_at z d r _ _ (by simp) (by simp)

/-- A stored block of the attention. -/
theorem A486_at (T : Fin 8) (hT : (z.i 1).val = T.val) (d : Fin 64) (i : Fin 128) :
    A486 z (ix2 d i) = ATT T.val (KBA z) (VBA z) (fun a b => A84 z (ix2 a b)) (fun h => z.x0 (ix1 h)) 2 7 d i := by
  have e : A486 z (ix2 d i) = A470 z (ix2 d ⟨384 + i.val, by omega⟩) := by
    show shapeCast S64x128 (extractStridedSlice S64x128 ![0, 384] (A470 z) slices_S64x512_o0_384_S64x128) shapeCasts_S64x128_S64x128 (ix2 d i) = _
    pointwise []
  have hb : ∀ r, (k0_pay16 (F := Ideal) io0 io1) (ix2 r ⟨384 + i.val, by omega⟩) = BI T.val 2 r i := fun r => by
    exact bias_at r 3 i 2 T.val (by decide)
  rw [e, A470_eq, pay45_3]
  refine congr (congr (congrArg softK (funext fun r => ?_)) ?_) (funext fun r => ?_)
  · refine congr (congrArg HAdd.hAdd (Finset.sum_congr rfl fun x _ => ?_)) (hb r)
    exact congr (congrArg HMul.hMul (A380_at z r _ _ _ (by simp) (by simp))) (A437_at z x i _ _ (by simp) (by simp))
  · exact sink7 z
  · exact A458_at z d r _ _ (by simp) (by simp)

/-- The attention of four heads of one block. -/
theorem A524_eq : A524 z = k0_pay20 (F := Ideal) (k0_pay16 (F := Ideal) io0 io1) k0_pay18 k0_pay19 (A487 z) (A488 z) (A489 z) (A490 z) (A491 z) (As1 z) (As2 z) (As3 z) (As4 z) (A512 z) := rfl

/-- A stored block of the attention. -/
theorem A528_at (T : Fin 8) (hT : (z.i 1).val = T.val) (d : Fin 64) (i : Fin 128) :
    A528 z (ix2 d i) = ATT T.val (KBA z) (VBA z) (fun a b => A84 z (ix2 a b)) (fun h => z.x0 (ix1 h)) 3 0 d i := by
  have e : A528 z (ix2 d i) = A524 z (ix2 d ⟨i.val, by omega⟩) := by
    show shapeCast S64x128 (extractStridedSlice S64x128 ![0, 0] (A524 z) slices_S64x512_o0_0_S64x128) shapeCasts_S64x128_S64x128 (ix2 d i) = _
    pointwise []
  have hb : ∀ r, (k0_pay16 (F := Ideal) io0 io1) (ix2 r ⟨i.val, by omega⟩) = BI T.val 3 r i := fun r => by
    rw [show (⟨i.val, by omega⟩ : Fin 512) = ⟨128 * (0 : Fin 4).val + i.val, by simp; omega⟩ from Fin.ext (by simp)]; exact bias_at r 0 i 3 T.val (by decide)
  rw [e, A524_eq, pay20_0]
  refine congr (congr (congrArg softK (funext fun r => ?_)) ?_) (funext fun r => ?_)
  · refine congr (congrArg HAdd.hAdd (Finset.sum_congr rfl fun x _ => ?_)) (hb r)
    exact congr (congrArg HMul.hMul (A487_at z r _ _ _ (by simp) (by simp))) (A488_at z x i _ _ (by simp) (by simp))
  · exact sink0 z
  · exact A512_at z d r _ _ (by simp) (by simp)

/-- A stored block of the attention. -/
theorem A532_at (T : Fin 8) (hT : (z.i 1).val = T.val) (d : Fin 64) (i : Fin 128) :
    A532 z (ix2 d i) = ATT T.val (KBA z) (VBA z) (fun a b => A84 z (ix2 a b)) (fun h => z.x0 (ix1 h)) 3 1 d i := by
  have e : A532 z (ix2 d i) = A524 z (ix2 d ⟨128 + i.val, by omega⟩) := by
    show shapeCast S64x128 (extractStridedSlice S64x128 ![0, 128] (A524 z) slices_S64x512_o0_128_S64x128) shapeCasts_S64x128_S64x128 (ix2 d i) = _
    pointwise []
  have hb : ∀ r, (k0_pay16 (F := Ideal) io0 io1) (ix2 r ⟨128 + i.val, by omega⟩) = BI T.val 3 r i := fun r => by
    exact bias_at r 1 i 3 T.val (by decide)
  rw [e, A524_eq, pay20_1]
  refine congr (congr (congrArg softK (funext fun r => ?_)) ?_) (funext fun r => ?_)
  · refine congr (congrArg HAdd.hAdd (Finset.sum_congr rfl fun x _ => ?_)) (hb r)
    exact congr (congrArg HMul.hMul (A487_at z r _ _ _ (by simp) (by simp))) (A489_at z x i _ _ (by simp) (by simp))
  · exact sink1 z
  · exact A512_at z d r _ _ (by simp) (by simp)

/-- A stored block of the attention. -/
theorem A536_at (T : Fin 8) (hT : (z.i 1).val = T.val) (d : Fin 64) (i : Fin 128) :
    A536 z (ix2 d i) = ATT T.val (KBA z) (VBA z) (fun a b => A84 z (ix2 a b)) (fun h => z.x0 (ix1 h)) 3 2 d i := by
  have e : A536 z (ix2 d i) = A524 z (ix2 d ⟨256 + i.val, by omega⟩) := by
    show shapeCast S64x128 (extractStridedSlice S64x128 ![0, 256] (A524 z) slices_S64x512_o0_256_S64x128) shapeCasts_S64x128_S64x128 (ix2 d i) = _
    pointwise []
  have hb : ∀ r, (k0_pay16 (F := Ideal) io0 io1) (ix2 r ⟨256 + i.val, by omega⟩) = BI T.val 3 r i := fun r => by
    exact bias_at r 2 i 3 T.val (by decide)
  rw [e, A524_eq, pay20_2]
  refine congr (congr (congrArg softK (funext fun r => ?_)) ?_) (funext fun r => ?_)
  · refine congr (congrArg HAdd.hAdd (Finset.sum_congr rfl fun x _ => ?_)) (hb r)
    exact congr (congrArg HMul.hMul (A487_at z r _ _ _ (by simp) (by simp))) (A490_at z x i _ _ (by simp) (by simp))
  · exact sink2 z
  · exact A512_at z d r _ _ (by simp) (by simp)

/-- A stored block of the attention. -/
theorem A540_at (T : Fin 8) (hT : (z.i 1).val = T.val) (d : Fin 64) (i : Fin 128) :
    A540 z (ix2 d i) = ATT T.val (KBA z) (VBA z) (fun a b => A84 z (ix2 a b)) (fun h => z.x0 (ix1 h)) 3 3 d i := by
  have e : A540 z (ix2 d i) = A524 z (ix2 d ⟨384 + i.val, by omega⟩) := by
    show shapeCast S64x128 (extractStridedSlice S64x128 ![0, 384] (A524 z) slices_S64x512_o0_384_S64x128) shapeCasts_S64x128_S64x128 (ix2 d i) = _
    pointwise []
  have hb : ∀ r, (k0_pay16 (F := Ideal) io0 io1) (ix2 r ⟨384 + i.val, by omega⟩) = BI T.val 3 r i := fun r => by
    exact bias_at r 3 i 3 T.val (by decide)
  rw [e, A524_eq, pay20_3]
  refine congr (congr (congrArg softK (funext fun r => ?_)) ?_) (funext fun r => ?_)
  · refine congr (congrArg HAdd.hAdd (Finset.sum_congr rfl fun x _ => ?_)) (hb r)
    exact congr (congrArg HMul.hMul (A487_at z r _ _ _ (by simp) (by simp))) (A491_at z x i _ _ (by simp) (by simp))
  · exact sink3 z
  · exact A512_at z d r _ _ (by simp) (by simp)

/-- The attention of four heads of one block. -/
theorem A577_eq : A577 z = k0_pay45 (F := Ideal) (k0_pay16 (F := Ideal) io0 io1) k0_pay18 k0_pay19 (A487 z) (A541 z) (A542 z) (A543 z) (A544 z) (As5 z) (As6 z) (As7 z) (As8 z) (A565 z) := rfl

/-- A stored block of the attention. -/
theorem A581_at (T : Fin 8) (hT : (z.i 1).val = T.val) (d : Fin 64) (i : Fin 128) :
    A581 z (ix2 d i) = ATT T.val (KBA z) (VBA z) (fun a b => A84 z (ix2 a b)) (fun h => z.x0 (ix1 h)) 3 4 d i := by
  have e : A581 z (ix2 d i) = A577 z (ix2 d ⟨i.val, by omega⟩) := by
    show shapeCast S64x128 (extractStridedSlice S64x128 ![0, 0] (A577 z) slices_S64x512_o0_0_S64x128) shapeCasts_S64x128_S64x128 (ix2 d i) = _
    pointwise []
  have hb : ∀ r, (k0_pay16 (F := Ideal) io0 io1) (ix2 r ⟨i.val, by omega⟩) = BI T.val 3 r i := fun r => by
    rw [show (⟨i.val, by omega⟩ : Fin 512) = ⟨128 * (0 : Fin 4).val + i.val, by simp; omega⟩ from Fin.ext (by simp)]; exact bias_at r 0 i 3 T.val (by decide)
  rw [e, A577_eq, pay45_0]
  refine congr (congr (congrArg softK (funext fun r => ?_)) ?_) (funext fun r => ?_)
  · refine congr (congrArg HAdd.hAdd (Finset.sum_congr rfl fun x _ => ?_)) (hb r)
    exact congr (congrArg HMul.hMul (A487_at z r _ _ _ (by simp) (by simp))) (A541_at z x i _ _ (by simp) (by simp))
  · exact sink4 z
  · exact A565_at z d r _ _ (by simp) (by simp)

/-- A stored block of the attention. -/
theorem A585_at (T : Fin 8) (hT : (z.i 1).val = T.val) (d : Fin 64) (i : Fin 128) :
    A585 z (ix2 d i) = ATT T.val (KBA z) (VBA z) (fun a b => A84 z (ix2 a b)) (fun h => z.x0 (ix1 h)) 3 5 d i := by
  have e : A585 z (ix2 d i) = A577 z (ix2 d ⟨128 + i.val, by omega⟩) := by
    show shapeCast S64x128 (extractStridedSlice S64x128 ![0, 128] (A577 z) slices_S64x512_o0_128_S64x128) shapeCasts_S64x128_S64x128 (ix2 d i) = _
    pointwise []
  have hb : ∀ r, (k0_pay16 (F := Ideal) io0 io1) (ix2 r ⟨128 + i.val, by omega⟩) = BI T.val 3 r i := fun r => by
    exact bias_at r 1 i 3 T.val (by decide)
  rw [e, A577_eq, pay45_1]
  refine congr (congr (congrArg softK (funext fun r => ?_)) ?_) (funext fun r => ?_)
  · refine congr (congrArg HAdd.hAdd (Finset.sum_congr rfl fun x _ => ?_)) (hb r)
    exact congr (congrArg HMul.hMul (A487_at z r _ _ _ (by simp) (by simp))) (A542_at z x i _ _ (by simp) (by simp))
  · exact sink5 z
  · exact A565_at z d r _ _ (by simp) (by simp)

/-- A stored block of the attention. -/
theorem A589_at (T : Fin 8) (hT : (z.i 1).val = T.val) (d : Fin 64) (i : Fin 128) :
    A589 z (ix2 d i) = ATT T.val (KBA z) (VBA z) (fun a b => A84 z (ix2 a b)) (fun h => z.x0 (ix1 h)) 3 6 d i := by
  have e : A589 z (ix2 d i) = A577 z (ix2 d ⟨256 + i.val, by omega⟩) := by
    show shapeCast S64x128 (extractStridedSlice S64x128 ![0, 256] (A577 z) slices_S64x512_o0_256_S64x128) shapeCasts_S64x128_S64x128 (ix2 d i) = _
    pointwise []
  have hb : ∀ r, (k0_pay16 (F := Ideal) io0 io1) (ix2 r ⟨256 + i.val, by omega⟩) = BI T.val 3 r i := fun r => by
    exact bias_at r 2 i 3 T.val (by decide)
  rw [e, A577_eq, pay45_2]
  refine congr (congr (congrArg softK (funext fun r => ?_)) ?_) (funext fun r => ?_)
  · refine congr (congrArg HAdd.hAdd (Finset.sum_congr rfl fun x _ => ?_)) (hb r)
    exact congr (congrArg HMul.hMul (A487_at z r _ _ _ (by simp) (by simp))) (A543_at z x i _ _ (by simp) (by simp))
  · exact sink6 z
  · exact A565_at z d r _ _ (by simp) (by simp)

/-- A stored block of the attention. -/
theorem A593_at (T : Fin 8) (hT : (z.i 1).val = T.val) (d : Fin 64) (i : Fin 128) :
    A593 z (ix2 d i) = ATT T.val (KBA z) (VBA z) (fun a b => A84 z (ix2 a b)) (fun h => z.x0 (ix1 h)) 3 7 d i := by
  have e : A593 z (ix2 d i) = A577 z (ix2 d ⟨384 + i.val, by omega⟩) := by
    show shapeCast S64x128 (extractStridedSlice S64x128 ![0, 384] (A577 z) slices_S64x512_o0_384_S64x128) shapeCasts_S64x128_S64x128 (ix2 d i) = _
    pointwise []
  have hb : ∀ r, (k0_pay16 (F := Ideal) io0 io1) (ix2 r ⟨384 + i.val, by omega⟩) = BI T.val 3 r i := fun r => by
    exact bias_at r 3 i 3 T.val (by decide)
  rw [e, A577_eq, pay45_3]
  refine congr (congr (congrArg softK (funext fun r => ?_)) ?_) (funext fun r => ?_)
  · refine congr (congrArg HAdd.hAdd (Finset.sum_congr rfl fun x _ => ?_)) (hb r)
    exact congr (congrArg HMul.hMul (A487_at z r _ _ _ (by simp) (by simp))) (A544_at z x i _ _ (by simp) (by simp))
  · exact sink7 z
  · exact A565_at z d r _ _ (by simp) (by simp)

end Cert.KernelIdeal.Mix
end
-- ==== Proof.MixOutA.lean ====
/- The output block and the carried rows of one run of the body, case A. -/
module

public import proofs.«01_k».proof.Proof.Gen.KernelIdeal.Frame
public import proofs.«01_k».proof.Proof.MixRunA
public import Idealize.ShloMosaic.Lib.Pipeline.ValueKit
public import Idealize.ShloMosaic.Lib.Pointwise
public import Idealize.ShloMosaic.Lib.WritesUnit

@[expose] public section

set_option maxRecDepth 16384

noncomputable section
open Idealize.ShloMosaic Idealize.ShloMosaic.TcCoe
open scoped BigOperators
namespace Cert.KernelIdeal.Mix
open Cert.KernelIdeal Cert.KernelIdeal.Gen Cert.Mix

variable (z : Ctx)

/-- The attention's array of a run. -/
def GA (T : ℕ) (y : S512x512.Idx) : Elt Ideal .bf16 := ATT T (KBA z) (VBA z) (fun a b => A84 z (ix2 a b)) (fun h => z.x0 (ix1 h))
      ⟨(y 1).val / 128, by have : (y 1).val < 512 := (y 1).isLt; omega⟩ ⟨(y 0).val / 64, by have : (y 0).val < 512 := (y 0).isLt; omega⟩
      ⟨(y 0).val % 64, by omega⟩ ⟨(y 1).val % 128, by omega⟩

/-- The stored attention. -/
theorem A711_at (T : Fin 8) (hT : (z.i 1).val = T.val) (a s : Fin 512) :
    A711 z (ix2 a s) = ATT T.val (KBA z) (VBA z) (fun a b => A84 z (ix2 a b)) (fun h => z.x0 (ix1 h))
      ⟨s.val / 128, by omega⟩ ⟨a.val / 64, by omega⟩ ⟨a.val % 64, by omega⟩ ⟨s.val % 128, by omega⟩ := by
  have cov : ∀ y : S512x512.Idx, ∃ p ∈ AH z, y ∈ p.1.set := View.cover_of_tiledL (AH z) S64x128.size (by sl_kernel_rfl)
  have e : A711 z = View.canon (AH z) := by
    refine (View.readCov_eq_canon_ld z.arg21.view (AH z) (Rect.unit (s := S512x512) ![0, 0] S512x512.size (by decide)) cov).trans ?_
    exact View.ld_unit_lit' (by decide) _ (by decide)
  rw [e]
  refine View.canon_apply_of_pieces (GA z T.val) (AH z) ?_ (ix2 a s) (cov _)
  refine List.forall_mem_cons.2 ⟨piece_eq (GA z T.val) 448 384 (by decide) (A593 z) (fun d i a s ha hs => ?_), ?_⟩
  · refine (A593_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 7 = a.val / 64 by omega)
    · exact Fin.ext (show d.val = a.val % 64 by omega)
    · exact Fin.ext (show i.val = s.val % 128 by omega)
  refine List.forall_mem_cons.2 ⟨piece_eq (GA z T.val) 384 384 (by decide) (A589 z) (fun d i a s ha hs => ?_), ?_⟩
  · refine (A589_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 6 = a.val / 64 by omega)
    · exact Fin.ext (show d.val = a.val % 64 by omega)
    · exact Fin.ext (show i.val = s.val % 128 by omega)
  refine List.forall_mem_cons.2 ⟨piece_eq (GA z T.val) 320 384 (by decide) (A585 z) (fun d i a s ha hs => ?_), ?_⟩
  · refine (A585_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 5 = a.val / 64 by omega)
    · exact Fin.ext (show d.val = a.val % 64 by omega)
    · exact Fin.ext (show i.val = s.val % 128 by omega)
  refine List.forall_mem_cons.2 ⟨piece_eq (GA z T.val) 256 384 (by decide) (A581 z) (fun d i a s ha hs => ?_), ?_⟩
  · refine (A581_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 4 = a.val / 64 by omega)
    · exact Fin.ext (show d.val = a.val % 64 by omega)
    · exact Fin.ext (show i.val = s.val % 128 by omega)
  refine List.forall_mem_cons.2 ⟨piece_eq (GA z T.val) 192 384 (by decide) (A540 z) (fun d i a s ha hs => ?_), ?_⟩
  · refine (A540_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 3 = a.val / 64 by omega)
    · exact Fin.ext (show d.val = a.val % 64 by omega)
    · exact Fin.ext (show i.val = s.val % 128 by omega)
  refine List.forall_mem_cons.2 ⟨piece_eq (GA z T.val) 128 384 (by decide) (A536 z) (fun d i a s ha hs => ?_), ?_⟩
  · refine (A536_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 2 = a.val / 64 by omega)
    · exact Fin.ext (show d.val = a.val % 64 by omega)
    · exact Fin.ext (show i.val = s.val % 128 by omega)
  refine List.forall_mem_cons.2 ⟨piece_eq (GA z T.val) 64 384 (by decide) (A532 z) (fun d i a s ha hs => ?_), ?_⟩
  · refine (A532_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 1 = a.val / 64 by omega)
    · exact Fin.ext (show d.val = a.val % 64 by omega)
    · exact Fin.ext (show i.val = s.val % 128 by omega)
  refine List.forall_mem_cons.2 ⟨piece_eq (GA z T.val) 0 384 (by decide) (A528 z) (fun d i a s ha hs => ?_), ?_⟩
  · refine (A528_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 0 = a.val / 64 by omega)
    · exact Fin.ext (show d.val = a.val % 64 by omega)
    · exact Fin.ext (show i.val = s.val % 128 by omega)
  refine List.forall_mem_cons.2 ⟨piece_eq (GA z T.val) 448 256 (by decide) (A486 z) (fun d i a s ha hs => ?_), ?_⟩
  · refine (A486_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 7 = a.val / 64 by omega)
    · exact Fin.ext (show d.val = a.val % 64 by omega)
    · exact Fin.ext (show i.val = s.val % 128 by omega)
  refine List.forall_mem_cons.2 ⟨piece_eq (GA z T.val) 384 256 (by decide) (A482 z) (fun d i a s ha hs => ?_), ?_⟩
  · refine (A482_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 6 = a.val / 64 by omega)
    · exact Fin.ext (show d.val = a.val % 64 by omega)
    · exact Fin.ext (show i.val = s.val % 128 by omega)
  refine List.forall_mem_cons.2 ⟨piece_eq (GA z T.val) 320 256 (by decide) (A478 z) (fun d i a s ha hs => ?_), ?_⟩
  · refine (A478_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 5 = a.val / 64 by omega)
    · exact Fin.ext (show d.val = a.val % 64 by omega)
    · exact Fin.ext (show i.val = s.val % 128 by omega)
  refine List.forall_mem_cons.2 ⟨piece_eq (GA z T.val) 256 256 (by decide) (A474 z) (fun d i a s ha hs => ?_), ?_⟩
  · refine (A474_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 4 = a.val / 64 by omega)
    · exact Fin.ext (show d.val = a.val % 64 by omega)
    · exact Fin.ext (show i.val = s.val % 128 by omega)
  refine List.forall_mem_cons.2 ⟨piece_eq (GA z T.val) 192 256 (by decide) (A433 z) (fun d i a s ha hs => ?_), ?_⟩
  · refine (A433_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 3 = a.val / 64 by omega)
    · exact Fin.ext (show d.val = a.val % 64 by omega)
    · exact Fin.ext (show i.val = s.val % 128 by omega)
  refine List.forall_mem_cons.2 ⟨piece_eq (GA z T.val) 128 256 (by decide) (A429 z) (fun d i a s ha hs => ?_), ?_⟩
  · refine (A429_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 2 = a.val / 64 by omega)
    · exact Fin.ext (show d.val = a.val % 64 by omega)
    · exact Fin.ext (show i.val = s.val % 128 by omega)
  refine List.forall_mem_cons.2 ⟨piece_eq (GA z T.val) 64 256 (by decide) (A425 z) (fun d i a s ha hs => ?_), ?_⟩
  · refine (A425_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 1 = a.val / 64 by omega)
    · exact Fin.ext (show d.val = a.val % 64 by omega)
    · exact Fin.ext (show i.val = s.val % 128 by omega)
  refine List.forall_mem_cons.2 ⟨piece_eq (GA z T.val) 0 256 (by decide) (A421 z) (fun d i a s ha hs => ?_), ?_⟩
  · refine (A421_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 0 = a.val / 64 by omega)
    · exact Fin.ext (show d.val = a.val % 64 by omega)
    · exact Fin.ext (show i.val = s.val % 128 by omega)
  refine List.forall_mem_cons.2 ⟨piece_eq (GA z T.val) 448 128 (by decide) (A379 z) (fun d i a s ha hs => ?_), ?_⟩
  · refine (A379_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 7 = a.val / 64 by omega)
    · exact Fin.ext (show d.val = a.val % 64 by omega)
    · exact Fin.ext (show i.val = s.val % 128 by omega)
  refine List.forall_mem_cons.2 ⟨piece_eq (GA z T.val) 384 128 (by decide) (A375 z) (fun d i a s ha hs => ?_), ?_⟩
  · refine (A375_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 6 = a.val / 64 by omega)
    · exact Fin.ext (show d.val = a.val % 64 by omega)
    · exact Fin.ext (show i.val = s.val % 128 by omega)
  refine List.forall_mem_cons.2 ⟨piece_eq (GA z T.val) 320 128 (by decide) (A371 z) (fun d i a s ha hs => ?_), ?_⟩
  · refine (A371_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 5 = a.val / 64 by omega)
    · exact Fin.ext (show d.val = a.val % 64 by omega)
    · exact Fin.ext (show i.val = s.val % 128 by omega)
  refine List.forall_mem_cons.2 ⟨piece_eq (GA z T.val) 256 128 (by decide) (A367 z) (fun d i a s ha hs => ?_), ?_⟩
  · refine (A367_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 4 = a.val / 64 by omega)
    · exact Fin.ext (show d.val = a.val % 64 by omega)
    · exact Fin.ext (show i.val = s.val % 128 by omega)
  refine List.forall_mem_cons.2 ⟨piece_eq (GA z T.val) 192 128 (by decide) (A326 z) (fun d i a s ha hs => ?_), ?_⟩
  · refine (A326_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 3 = a.val / 64 by omega)
    · exact Fin.ext (show d.val = a.val % 64 by omega)
    · exact Fin.ext (show i.val = s.val % 128 by omega)
  refine List.forall_mem_cons.2 ⟨piece_eq (GA z T.val) 128 128 (by decide) (A322 z) (fun d i a s ha hs => ?_), ?_⟩
  · refine (A322_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 2 = a.val / 64 by omega)
    · exact Fin.ext (show d.val = a.val % 64 by omega)
    · exact Fin.ext (show i.val = s.val % 128 by omega)
  refine List.forall_mem_cons.2 ⟨piece_eq (GA z T.val) 64 128 (by decide) (A318 z) (fun d i a s ha hs => ?_), ?_⟩
  · refine (A318_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 1 = a.val / 64 by omega)
    · exact Fin.ext (show d.val = a.val % 64 by omega)
    · exact Fin.ext (show i.val = s.val % 128 by omega)
  refine List.forall_mem_cons.2 ⟨piece_eq (GA z T.val) 0 128 (by decide) (A314 z) (fun d i a s ha hs => ?_), ?_⟩
  · refine (A314_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 0 = a.val / 64 by omega)
    · exact Fin.ext (show d.val = a.val % 64 by omega)
    · exact Fin.ext (show i.val = s.val % 128 by omega)
  refine List.forall_mem_cons.2 ⟨piece_eq (GA z T.val) 448 0 (by decide) (A272 z) (fun d i a s ha hs => ?_), ?_⟩
  · refine (A272_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 7 = a.val / 64 by omega)
    · exact Fin.ext (show d.val = a.val % 64 by omega)
    · exact Fin.ext (show i.val = s.val % 128 by omega)
  refine List.forall_mem_cons.2 ⟨piece_eq (GA z T.val) 384 0 (by decide) (A268 z) (fun d i a s ha hs => ?_), ?_⟩
  · refine (A268_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 6 = a.val / 64 by omega)
    · exact Fin.ext (show d.val = a.val % 64 by omega)
    · exact Fin.ext (show i.val = s.val % 128 by omega)
  refine List.forall_mem_cons.2 ⟨piece_eq (GA z T.val) 320 0 (by decide) (A264 z) (fun d i a s ha hs => ?_), ?_⟩
  · refine (A264_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 5 = a.val / 64 by omega)
    · exact Fin.ext (show d.val = a.val % 64 by omega)
    · exact Fin.ext (show i.val = s.val % 128 by omega)
  refine List.forall_mem_cons.2 ⟨piece_eq (GA z T.val) 256 0 (by decide) (A260 z) (fun d i a s ha hs => ?_), ?_⟩
  · refine (A260_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 4 = a.val / 64 by omega)
    · exact Fin.ext (show d.val = a.val % 64 by omega)
    · exact Fin.ext (show i.val = s.val % 128 by omega)
  refine List.forall_mem_cons.2 ⟨piece_eq (GA z T.val) 192 0 (by decide) (A219 z) (fun d i a s ha hs => ?_), ?_⟩
  · refine (A219_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 3 = a.val / 64 by omega)
    · exact Fin.ext (show d.val = a.val % 64 by omega)
    · exact Fin.ext (show i.val = s.val % 128 by omega)
  refine List.forall_mem_cons.2 ⟨piece_eq (GA z T.val) 128 0 (by decide) (A215 z) (fun d i a s ha hs => ?_), ?_⟩
  · refine (A215_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 2 = a.val / 64 by omega)
    · exact Fin.ext (show d.val = a.val % 64 by omega)
    · exact Fin.ext (show i.val = s.val % 128 by omega)
  refine List.forall_mem_cons.2 ⟨piece_eq (GA z T.val) 64 0 (by decide) (A211 z) (fun d i a s ha hs => ?_), ?_⟩
  · refine (A211_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 1 = a.val / 64 by omega)
    · exact Fin.ext (show d.val = a.val % 64 by omega)
    · exact Fin.ext (show i.val = s.val % 128 by omega)
  refine List.forall_mem_cons.2 ⟨piece_eq (GA z T.val) 0 0 (by decide) (A207 z) (fun d i a s ha hs => ?_), ?_⟩
  · refine (A207_at z T hT d i).trans ?_
    show _ = ATT T.val (KBA z) (VBA z) (fun a b => A84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 0 = a.val / 64 by omega)
    · exact Fin.ext (show d.val = a.val % 64 by omega)
    · exact Fin.ext (show i.val = s.val % 128 by omega)
  exact fun p hp => absurd hp List.not_mem_nil

/-- The pooled groups side by side. -/
theorem A710_eq : A710 z = k0_pay90 (F := Ideal) (A35 z) (A597 z) (k0_pay83 (BitVec.ofNat 32 (z.i 1).val))
    (k0_pay84 (F := Ideal) (BitVec.ofNat 32 (z.i 1).val) (A35 z) (A597 z) (RW0 z) (RS0 z))
    (k0_pay87 (F := Ideal) (A35 z) (k0_pay83 (BitVec.ofNat 32 (z.i 1).val)) (k0_pay85 (F := Ideal) (A597 z)) k0_pay86 (RW1 z) (RS1 z))
    (k0_pay88 (F := Ideal) (A35 z) (A597 z) (k0_pay83 (BitVec.ofNat 32 (z.i 1).val))) (k0_pay89 (F := Ideal) (RW2 z)) (constant S512x128 .f32 0x00000000#32)
    (RS2 z) (RW3 z) (RS3 z) := rfl

/-- The output block. -/
theorem Aout (hc : cond0_0 z.i) : out0_A_14 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13
    = k0_pay92 (F := Ideal) (k0_pay5 (F := Ideal) z.x1) (k0_pay6 (F := Ideal) z.x2) (A710 z) (A711 z) (k0_pay91 (F := Ideal) z.x12)
      (constant S512x1024 .f32 0x00000000#32) z.x13 := by
  have e : out0_A_14 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13
    = k0_pay92 (F := Ideal) (k0_pay5 (F := Ideal) (R1 z)) (k0_pay6 (F := Ideal) (R2 z)) (A710 z) (A711 z) (k0_pay91 (F := Ideal) (R12 z))
      (constant S512x1024 .f32 0x00000000#32) (R13 z) := by
    unfold out0_A_14
    rw [View.read_writes_junk_eq_canon]
    exact View.canon_cons_unit_lit' (S := S1x512x1024) (off := ![0, 0, 0]) (by decide) _ _ (by decide)
  rw [e, R1_eq, R2_eq, R12_eq, R13_eq]

/-- The rows carried to the next tile. -/
theorem Asout1 (hc : cond0_0 z.i) (a : Fin 128) (b : Fin 128) : sout0_A_1 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 (ix2 ⟨a.val, by omega⟩ b) = KBA z ⟨512 + a.val, by omega⟩ b := by
  have e : k0_pay93 (F := Ideal) (A726 z) (ix2 a b) = KBA z ⟨512 + a.val, by omega⟩ b := by
    rw [show k0_pay93 (F := Ideal) (A726 z) (ix2 a b) = A726 z (ix2 a b) by pointwise [k0_pay93]]
    exact A726_at z a b _ _ (by simp) (by simp)
  refine Eq.trans ?_ e
  unfold sout0_A_1
  rw [View.read_writes_junk_eq_canon]
  have hy : ((ix2 ⟨a.val, by omega⟩ b) : S640x128.Idx) = (Rect.unit (s := S640x128) ![0, 0] S128x128.size (by decide)).emb (ix2 a b) := by
    funext q
    match q with
    | 0 => exact Fin.ext (show a.val = 0 + 1 * a.val by omega)
    | 1 => exact Fin.ext (show b.val = 0 + 1 * b.val by omega)
  rw [hy]
  exact View.canon_cons_emb (Val := Elt Ideal) (e := .bf16) (Rect.unit (s := S640x128) ![0, 0] S128x128.size (by decide)) (k0_pay93 (F := Ideal) (A726 z)) _ (ix2 a b)

/-- The rows carried to the next tile. -/
theorem Asout2 (hc : cond0_0 z.i) (a : Fin 128) (b : Fin 128) : sout0_A_2 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 (ix2 a ⟨b.val, by omega⟩) = VBA z a ⟨512 + b.val, by omega⟩ := by
  have e : k0_pay94 (F := Ideal) (A730 z) (ix2 a b) = VBA z a ⟨512 + b.val, by omega⟩ := by
    rw [show k0_pay94 (F := Ideal) (A730 z) (ix2 a b) = A730 z (ix2 a b) by pointwise [k0_pay94]]
    exact A730_at z a b _ _ (by simp) (by simp)
  refine Eq.trans ?_ e
  unfold sout0_A_2
  rw [View.read_writes_junk_eq_canon]
  have hy : ((ix2 a ⟨b.val, by omega⟩) : S128x640.Idx) = (Rect.unit (s := S128x640) ![0, 0] S128x128.size (by decide)).emb (ix2 a b) := by
    funext q
    match q with
    | 0 => exact Fin.ext (show a.val = 0 + 1 * a.val by omega)
    | 1 => exact Fin.ext (show b.val = 0 + 1 * b.val by omega)
  rw [hy]
  exact View.canon_cons_emb (Val := Elt Ideal) (e := .bf16) (Rect.unit (s := S128x640) ![0, 0] S128x128.size (by decide)) (k0_pay94 (F := Ideal) (A730 z)) _ (ix2 a b)

/-- The rows carried to the next tile. -/
theorem Asout3 (hc : cond0_0 z.i) (a : Fin 16) (b : Fin 512) : sout0_A_3 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 (ix2 ⟨a.val, by omega⟩ b) = UBA z ⟨512 + a.val, by omega⟩ b := by
  have e : k0_pay1 (F := Ideal) (A734 z) (ix2 a b) = UBA z ⟨512 + a.val, by omega⟩ b := by
    rw [show k0_pay1 (F := Ideal) (A734 z) (ix2 a b) = A734 z (ix2 a b) by pointwise [k0_pay1]]
    exact A734_at z a b _ _ (by simp) (by simp)
  refine Eq.trans ?_ e
  unfold sout0_A_3
  rw [View.read_writes_junk_eq_canon]
  have hy : ((ix2 ⟨a.val, by omega⟩ b) : S528x512.Idx) = (Rect.unit (s := S528x512) ![0, 0] S16x512.size (by decide)).emb (ix2 a b) := by
    funext q
    match q with
    | 0 => exact Fin.ext (show a.val = 0 + 1 * a.val by omega)
    | 1 => exact Fin.ext (show b.val = 0 + 1 * b.val by omega)
  rw [hy]
  exact View.canon_cons_emb (Val := Elt Ideal) (e := .f32) (Rect.unit (s := S528x512) ![0, 0] S16x512.size (by decide)) (k0_pay1 (F := Ideal) (A734 z)) _ (ix2 a b)

end Cert.KernelIdeal.Mix
end
-- ==== Proof.MixRunB.lean ====
/- The words of one run of the body, case B. -/
module

public import proofs.«01_k».proof.Proof.Gen.KernelIdeal.Frame
public import proofs.«01_k».proof.Proof.MixBand
public import proofs.«01_k».proof.Proof.MixAtt
public import Idealize.ShloMosaic.Lib.Pipeline.ValueKit
public import Idealize.ShloMosaic.Lib.Pointwise
public import Idealize.ShloMosaic.Lib.WritesUnit

@[expose] public section

set_option maxRecDepth 16384

noncomputable section
open Idealize.ShloMosaic Idealize.ShloMosaic.TcCoe
open scoped BigOperators
namespace Cert.KernelIdeal.Mix
open Cert.KernelIdeal Cert.KernelIdeal.Gen Cert.Mix

variable (z : Ctx)

/-- The queries. -/
theorem B84_eq : B84 z = k0_pay13 (F := Ideal) (k0_pay8 (F := Ideal) z.x1 z.x2 z.x4 z.x5) z.x3 z.x9 z.x7 := by
  show k0_pay13 (F := Ideal) (k0_pay8 (F := Ideal) (R1 z) (R2 z) (R4 z) (R5 z)) (R3 z) (R9 z) (R7 z) = _
  rw [R1_eq, R2_eq, R4_eq, R5_eq, R3_eq, R9_eq, R7_eq]

/-- The keys. -/
theorem B125_eq : B125 z = k0_pay14 (F := Ideal) (k0_pay8 (F := Ideal) z.x1 z.x2 z.x4 z.x5) (k0_pay11 (F := Ideal) z.x3 z.x9) (k0_pay12 (F := Ideal) z.x3 z.x9) z.x8 := by
  show k0_pay14 (F := Ideal) (k0_pay8 (F := Ideal) (R1 z) (R2 z) (R4 z) (R5 z)) (k0_pay11 (F := Ideal) (R3 z) (R9 z)) (k0_pay12 (F := Ideal) (R3 z) (R9 z)) (R8 z) = _
  rw [R1_eq, R2_eq, R4_eq, R5_eq, R3_eq, R9_eq, R8_eq]

/-- The values. -/
theorem B130_eq : B130 z = k0_pay15 (F := Ideal) (k0_pay8 (F := Ideal) z.x1 z.x2 z.x4 z.x5) := by
  show k0_pay15 (F := Ideal) (k0_pay8 (F := Ideal) (R1 z) (R2 z) (R4 z) (R5 z)) = _
  rw [R1_eq, R2_eq, R4_eq, R5_eq]

/-- The pooled channels. -/
theorem B35_eq : B35 z = k0_pay9 (F := Ideal) z.x1 z.x2 z.x4 z.x6 := by
  show k0_pay9 (F := Ideal) (R1 z) (R2 z) (R4 z) (R6 z) = _
  rw [R1_eq, R2_eq, R4_eq, R6_eq]

/-- The pooled channels as they are stored. -/
theorem B596_at (s c : Fin 512) : B596 z (ix2 s c) = B35 z (ix2 s c) := by
  show shapeCast S512x512 (B35 z) shapeCasts_S512x512_S512x512 (ix2 s c) = _
  pointwise []

/-- The band of keys: the 128 rows carried in, then the tile's own. -/
def KBB (r : Fin 640) (n : Fin 128) : EReal :=
  if h : r.val < 128 then z.xs1 (ix2 ⟨r.val, r.isLt⟩ n) else B125 z (ix2 ⟨r.val - 128, by omega⟩ n)

/-- The band of values. -/
def VBB (n : Fin 128) (r : Fin 640) : EReal :=
  if h : r.val < 128 then z.xs2 (ix2 n ⟨r.val, r.isLt⟩) else B130 z (ix2 n ⟨r.val - 128, by omega⟩)

/-- The band of pooled channels. -/
def UBB (r : Fin 528) (n : Fin 512) : EReal :=
  if h : r.val < 16 then z.xs3 (ix2 ⟨r.val, r.isLt⟩ n) else B35 z (ix2 ⟨r.val - 16, by omega⟩ n)

/-- A load of the band. -/
theorem B166_at (r : Fin 256) (n : Fin 128) (a : Fin 640) (b : Fin 128) (ha : a.val = 0 + r.val) (hb : b.val = 0 + n.val) : B166 z (ix2 r n) = KBB z a b := by
  unfold KBB
  by_cases h : a.val < 128
  · rw [dif_pos h]
    refine (ra_miss (N0 := 640) (N1 := 128) z.arg18 _ 128 0 512 128 0 0 256 128 (by decide) (B125 z) _ (by decide) r n (Or.inl (Or.inl (by omega)))).trans ?_
    exact (ra_nil (N0 := 640) (N1 := 128) z.arg18 z.harg18 z.xs1 0 0 256 128 (by decide) r n a b (by omega) (by omega))
  · rw [dif_neg h]
    exact ra_hit (N0 := 640) (N1 := 128) z.arg18 _ 128 0 512 128 0 0 256 128 (by decide) (B125 z) _ (by decide) r n ⟨a.val - 128, by omega⟩ b (show 0 + r.val = 128 + (a.val - 128) by omega) (show 0 + n.val = 0 + b.val by omega)

/-- A load of the band. -/
theorem B273_at (r : Fin 256) (n : Fin 128) (a : Fin 640) (b : Fin 128) (ha : a.val = 128 + r.val) (hb : b.val = 0 + n.val) : B273 z (ix2 r n) = KBB z a b := by
  unfold KBB
  by_cases h : a.val < 128
  · omega
  · rw [dif_neg h]
    exact ra_hit (N0 := 640) (N1 := 128) z.arg18 _ 128 0 512 128 128 0 256 128 (by decide) (B125 z) _ (by decide) r n ⟨a.val - 128, by omega⟩ b (show 128 + r.val = 128 + (a.val - 128) by omega) (show 0 + n.val = 0 + b.val by omega)

/-- A load of the band. -/
theorem B380_at (r : Fin 256) (n : Fin 128) (a : Fin 640) (b : Fin 128) (ha : a.val = 256 + r.val) (hb : b.val = 0 + n.val) : B380 z (ix2 r n) = KBB z a b := by
  unfold KBB
  by_cases h : a.val < 128
  · omega
  · rw [dif_neg h]
    exact ra_hit (N0 := 640) (N1 := 128) z.arg18 _ 128 0 512 128 256 0 256 128 (by decide) (B125 z) _ (by decide) r n ⟨a.val - 128, by omega⟩ b (show 256 + r.val = 128 + (a.val - 128) by omega) (show 0 + n.val = 0 + b.val by omega)

/-- A load of the band. -/
theorem B487_at (r : Fin 256) (n : Fin 128) (a : Fin 640) (b : Fin 128) (ha : a.val = 384 + r.val) (hb : b.val = 0 + n.val) : B487 z (ix2 r n) = KBB z a b := by
  unfold KBB
  by_cases h : a.val < 128
  · omega
  · rw [dif_neg h]
    exact ra_hit (N0 := 640) (N1 := 128) z.arg18 _ 128 0 512 128 384 0 256 128 (by decide) (B125 z) _ (by decide) r n ⟨a.val - 128, by omega⟩ b (show 384 + r.val = 128 + (a.val - 128) by omega) (show 0 + n.val = 0 + b.val by omega)

/-- A load of the band. -/
theorem B726_at (r : Fin 128) (n : Fin 128) (a : Fin 640) (b : Fin 128) (ha : a.val = 512 + r.val) (hb : b.val = 0 + n.val) : B726 z (ix2 r n) = KBB z a b := by
  unfold KBB
  by_cases h : a.val < 128
  · omega
  · rw [dif_neg h]
    exact ra_hit (N0 := 640) (N1 := 128) z.arg18 _ 128 0 512 128 512 0 128 128 (by decide) (B125 z) _ (by decide) r n ⟨a.val - 128, by omega⟩ b (show 512 + r.val = 128 + (a.val - 128) by omega) (show 0 + n.val = 0 + b.val by omega)

/-- A load of the band. -/
theorem B191_at (n : Fin 64) (r : Fin 256) (b : Fin 128) (a : Fin 640) (hb : b.val = 0 + n.val) (ha : a.val = 0 + r.val) : B191 z (ix2 n r) = VBB z b a := by
  unfold VBB
  by_cases h : a.val < 128
  · rw [dif_pos h]
    refine (ra_miss (N0 := 128) (N1 := 640) z.arg19 _ 0 128 128 512 0 0 64 256 (by decide) (B130 z) _ (by decide) n r (Or.inr (Or.inl (by omega)))).trans ?_
    exact (ra_nil (N0 := 128) (N1 := 640) z.arg19 z.harg19 z.xs2 0 0 64 256 (by decide) n r b a (by omega) (by omega))
  · rw [dif_neg h]
    exact ra_hit (N0 := 128) (N1 := 640) z.arg19 _ 0 128 128 512 0 0 64 256 (by decide) (B130 z) _ (by decide) n r b ⟨a.val - 128, by omega⟩ (show 0 + n.val = 0 + b.val by omega) (show 0 + r.val = 128 + (a.val - 128) by omega)

/-- A load of the band. -/
theorem B244_at (n : Fin 64) (r : Fin 256) (b : Fin 128) (a : Fin 640) (hb : b.val = 64 + n.val) (ha : a.val = 0 + r.val) : B244 z (ix2 n r) = VBB z b a := by
  unfold VBB
  by_cases h : a.val < 128
  · rw [dif_pos h]
    refine (ra_miss (N0 := 128) (N1 := 640) z.arg19 _ 0 128 128 512 64 0 64 256 (by decide) (B130 z) _ (by decide) n r (Or.inr (Or.inl (by omega)))).trans ?_
    exact (ra_nil (N0 := 128) (N1 := 640) z.arg19 z.harg19 z.xs2 64 0 64 256 (by decide) n r b a (by omega) (by omega))
  · rw [dif_neg h]
    exact ra_hit (N0 := 128) (N1 := 640) z.arg19 _ 0 128 128 512 64 0 64 256 (by decide) (B130 z) _ (by decide) n r b ⟨a.val - 128, by omega⟩ (show 64 + n.val = 0 + b.val by omega) (show 0 + r.val = 128 + (a.val - 128) by omega)

/-- A load of the band. -/
theorem B298_at (n : Fin 64) (r : Fin 256) (b : Fin 128) (a : Fin 640) (hb : b.val = 0 + n.val) (ha : a.val = 128 + r.val) : B298 z (ix2 n r) = VBB z b a := by
  unfold VBB
  by_cases h : a.val < 128
  · omega
  · rw [dif_neg h]
    exact ra_hit (N0 := 128) (N1 := 640) z.arg19 _ 0 128 128 512 0 128 64 256 (by decide) (B130 z) _ (by decide) n r b ⟨a.val - 128, by omega⟩ (show 0 + n.val = 0 + b.val by omega) (show 128 + r.val = 128 + (a.val - 128) by omega)

/-- A load of the band. -/
theorem B351_at (n : Fin 64) (r : Fin 256) (b : Fin 128) (a : Fin 640) (hb : b.val = 64 + n.val) (ha : a.val = 128 + r.val) : B351 z (ix2 n r) = VBB z b a := by
  unfold VBB
  by_cases h : a.val < 128
  · omega
  · rw [dif_neg h]
    exact ra_hit (N0 := 128) (N1 := 640) z.arg19 _ 0 128 128 512 64 128 64 256 (by decide) (B130 z) _ (by decide) n r b ⟨a.val - 128, by omega⟩ (show 64 + n.val = 0 + b.val by omega) (show 128 + r.val = 128 + (a.val - 128) by omega)

/-- A load of the band. -/
theorem B405_at (n : Fin 64) (r : Fin 256) (b : Fin 128) (a : Fin 640) (hb : b.val = 0 + n.val) (ha : a.val = 256 + r.val) : B405 z (ix2 n r) = VBB z b a := by
  unfold VBB
  by_cases h : a.val < 128
  · omega
  · rw [dif_neg h]
    exact ra_hit (N0 := 128) (N1 := 640) z.arg19 _ 0 128 128 512 0 256 64 256 (by decide) (B130 z) _ (by decide) n r b ⟨a.val - 128, by omega⟩ (show 0 + n.val = 0 + b.val by omega) (show 256 + r.val = 128 + (a.val - 128) by omega)

/-- A load of the band. -/
theorem B458_at (n : Fin 64) (r : Fin 256) (b : Fin 128) (a : Fin 640) (hb : b.val = 64 + n.val) (ha : a.val = 256 + r.val) : B458 z (ix2 n r) = VBB z b a := by
  unfold VBB
  by_cases h : a.val < 128
  · omega
  · rw [dif_neg h]
    exact ra_hit (N0 := 128) (N1 := 640) z.arg19 _ 0 128 128 512 64 256 64 256 (by decide) (B130 z) _ (by decide) n r b ⟨a.val - 128, by omega⟩ (show 64 + n.val = 0 + b.val by omega) (show 256 + r.val = 128 + (a.val - 128) by omega)

/-- A load of the band. -/
theorem B512_at (n : Fin 64) (r : Fin 256) (b : Fin 128) (a : Fin 640) (hb : b.val = 0 + n.val) (ha : a.val = 384 + r.val) : B512 z (ix2 n r) = VBB z b a := by
  unfold VBB
  by_cases h : a.val < 128
  · omega
  · rw [dif_neg h]
    exact ra_hit (N0 := 128) (N1 := 640) z.arg19 _ 0 128 128 512 0 384 64 256 (by decide) (B130 z) _ (by decide) n r b ⟨a.val - 128, by omega⟩ (show 0 + n.val = 0 + b.val by omega) (show 384 + r.val = 128 + (a.val - 128) by omega)

/-- A load of the band. -/
theorem B565_at (n : Fin 64) (r : Fin 256) (b : Fin 128) (a : Fin 640) (hb : b.val = 64 + n.val) (ha : a.val = 384 + r.val) : B565 z (ix2 n r) = VBB z b a := by
  unfold VBB
  by_cases h : a.val < 128
  · omega
  · rw [dif_neg h]
    exact ra_hit (N0 := 128) (N1 := 640) z.arg19 _ 0 128 128 512 64 384 64 256 (by decide) (B130 z) _ (by decide) n r b ⟨a.val - 128, by omega⟩ (show 64 + n.val = 0 + b.val by omega) (show 384 + r.val = 128 + (a.val - 128) by omega)

/-- A load of the band. -/
theorem B730_at (n : Fin 128) (r : Fin 128) (b : Fin 128) (a : Fin 640) (hb : b.val = 0 + n.val) (ha : a.val = 512 + r.val) : B730 z (ix2 n r) = VBB z b a := by
  unfold VBB
  by_cases h : a.val < 128
  · omega
  · rw [dif_neg h]
    exact ra_hit (N0 := 128) (N1 := 640) z.arg19 _ 0 128 128 512 0 512 128 128 (by decide) (B130 z) _ (by decide) n r b ⟨a.val - 128, by omega⟩ (show 0 + n.val = 0 + b.val by omega) (show 512 + r.val = 128 + (a.val - 128) by omega)

/-- A load of the band. -/
theorem B597_at (r : Fin 528) (n : Fin 512) (a : Fin 528) (b : Fin 512) (ha : a.val = 0 + r.val) (hb : b.val = 0 + n.val) : B597 z (ix2 r n) = UBB z a b := by
  unfold UBB
  by_cases h : a.val < 16
  · rw [dif_pos h]
    refine (ra_miss (N0 := 528) (N1 := 512) z.arg20 _ 16 0 512 512 0 0 528 512 (by decide) (B596 z) _ (by decide) r n (Or.inl (Or.inl (by omega)))).trans ?_
    exact (ra_nil (N0 := 528) (N1 := 512) z.arg20 z.harg20 z.xs3 0 0 528 512 (by decide) r n a b (by omega) (by omega))
  · rw [dif_neg h]
    rw [← B596_at]; exact ra_hit (N0 := 528) (N1 := 512) z.arg20 _ 16 0 512 512 0 0 528 512 (by decide) (B596 z) _ (by decide) r n ⟨a.val - 16, by omega⟩ b (show 0 + r.val = 16 + (a.val - 16) by omega) (show 0 + n.val = 0 + b.val by omega)

/-- A load of the band. -/
theorem B734_at (r : Fin 16) (n : Fin 512) (a : Fin 528) (b : Fin 512) (ha : a.val = 512 + r.val) (hb : b.val = 0 + n.val) : B734 z (ix2 r n) = UBB z a b := by
  unfold UBB
  by_cases h : a.val < 16
  · omega
  · rw [dif_neg h]
    rw [← B596_at]; exact ra_hit (N0 := 528) (N1 := 512) z.arg20 _ 16 0 512 512 512 0 16 512 (by decide) (B596 z) _ (by decide) r n ⟨a.val - 16, by omega⟩ b (show 512 + r.val = 16 + (a.val - 16) by omega) (show 0 + n.val = 0 + b.val by omega)

/-- A slice of the queries. -/
theorem B167_at (x : Fin 64) (i : Fin 128) (a b : Fin 512) (ha : a.val = 0 + x.val) (hb : b.val = 0 + i.val) :
    B167 z (ix2 x i) = B84 z (ix2 a b) :=
  ra_hit (N0 := 512) (N1 := 512) z.arg17 _ 0 0 512 512 0 0 64 128 (by decide) (B84 z) _ (by decide) x i a b
    (show 0 + x.val = 0 + a.val by omega) (show 0 + i.val = 0 + b.val by omega)

/-- A slice of the queries. -/
theorem B168_at (x : Fin 64) (i : Fin 128) (a b : Fin 512) (ha : a.val = 64 + x.val) (hb : b.val = 0 + i.val) :
    B168 z (ix2 x i) = B84 z (ix2 a b) :=
  ra_hit (N0 := 512) (N1 := 512) z.arg17 _ 0 0 512 512 64 0 64 128 (by decide) (B84 z) _ (by decide) x i a b
    (show 64 + x.val = 0 + a.val by omega) (show 0 + i.val = 0 + b.val by omega)

/-- A slice of the queries. -/
theorem B169_at (x : Fin 64) (i : Fin 128) (a b : Fin 512) (ha : a.val = 128 + x.val) (hb : b.val = 0 + i.val) :
    B169 z (ix2 x i) = B84 z (ix2 a b) :=
  ra_hit (N0 := 512) (N1 := 512) z.arg17 _ 0 0 512 512 128 0 64 128 (by decide) (B84 z) _ (by decide) x i a b
    (show 128 + x.val = 0 + a.val by omega) (show 0 + i.val = 0 + b.val by omega)

/-- A slice of the queries. -/
theorem B170_at (x : Fin 64) (i : Fin 128) (a b : Fin 512) (ha : a.val = 192 + x.val) (hb : b.val = 0 + i.val) :
    B170 z (ix2 x i) = B84 z (ix2 a b) :=
  ra_hit (N0 := 512) (N1 := 512) z.arg17 _ 0 0 512 512 192 0 64 128 (by decide) (B84 z) _ (by decide) x i a b
    (show 192 + x.val = 0 + a.val by omega) (show 0 + i.val = 0 + b.val by omega)

/-- A slice of the queries. -/
theorem B220_at (x : Fin 64) (i : Fin 128) (a b : Fin 512) (ha : a.val = 256 + x.val) (hb : b.val = 0 + i.val) :
    B220 z (ix2 x i) = B84 z (ix2 a b) :=
  ra_hit (N0 := 512) (N1 := 512) z.arg17 _ 0 0 512 512 256 0 64 128 (by decide) (B84 z) _ (by decide) x i a b
    (show 256 + x.val = 0 + a.val by omega) (show 0 + i.val = 0 + b.val by omega)

/-- A slice of the queries. -/
theorem B221_at (x : Fin 64) (i : Fin 128) (a b : Fin 512) (ha : a.val = 320 + x.val) (hb : b.val = 0 + i.val) :
    B221 z (ix2 x i) = B84 z (ix2 a b) :=
  ra_hit (N0 := 512) (N1 := 512) z.arg17 _ 0 0 512 512 320 0 64 128 (by decide) (B84 z) _ (by decide) x i a b
    (show 320 + x.val = 0 + a.val by omega) (show 0 + i.val = 0 + b.val by omega)

/-- A slice of the queries. -/
theorem B222_at (x : Fin 64) (i : Fin 128) (a b : Fin 512) (ha : a.val = 384 + x.val) (hb : b.val = 0 + i.val) :
    B222 z (ix2 x i) = B84 z (ix2 a b) :=
  ra_hit (N0 := 512) (N1 := 512) z.arg17 _ 0 0 512 512 384 0 64 128 (by decide) (B84 z) _ (by decide) x i a b
    (show 384 + x.val = 0 + a.val by omega) (show 0 + i.val = 0 + b.val by omega)

/-- A slice of the queries. -/
theorem B223_at (x : Fin 64) (i : Fin 128) (a b : Fin 512) (ha : a.val = 448 + x.val) (hb : b.val = 0 + i.val) :
    B223 z (ix2 x i) = B84 z (ix2 a b) :=
  ra_hit (N0 := 512) (N1 := 512) z.arg17 _ 0 0 512 512 448 0 64 128 (by decide) (B84 z) _ (by decide) x i a b
    (show 448 + x.val = 0 + a.val by omega) (show 0 + i.val = 0 + b.val by omega)

/-- A slice of the queries. -/
theorem B274_at (x : Fin 64) (i : Fin 128) (a b : Fin 512) (ha : a.val = 0 + x.val) (hb : b.val = 128 + i.val) :
    B274 z (ix2 x i) = B84 z (ix2 a b) :=
  ra_hit (N0 := 512) (N1 := 512) z.arg17 _ 0 0 512 512 0 128 64 128 (by decide) (B84 z) _ (by decide) x i a b
    (show 0 + x.val = 0 + a.val by omega) (show 128 + i.val = 0 + b.val by omega)

/-- A slice of the queries. -/
theorem B275_at (x : Fin 64) (i : Fin 128) (a b : Fin 512) (ha : a.val = 64 + x.val) (hb : b.val = 128 + i.val) :
    B275 z (ix2 x i) = B84 z (ix2 a b) :=
  ra_hit (N0 := 512) (N1 := 512) z.arg17 _ 0 0 512 512 64 128 64 128 (by decide) (B84 z) _ (by decide) x i a b
    (show 64 + x.val = 0 + a.val by omega) (show 128 + i.val = 0 + b.val by omega)

/-- A slice of the queries. -/
theorem B276_at (x : Fin 64) (i : Fin 128) (a b : Fin 512) (ha : a.val = 128 + x.val) (hb : b.val = 128 + i.val) :
    B276 z (ix2 x i) = B84 z (ix2 a b) :=
  ra_hit (N0 := 512) (N1 := 512) z.arg17 _ 0 0 512 512 128 128 64 128 (by decide) (B84 z) _ (by decide) x i a b
    (show 128 + x.val = 0 + a.val by omega) (show 128 + i.val = 0 + b.val by omega)

/-- A slice of the queries. -/
theorem B277_at (x : Fin 64) (i : Fin 128) (a b : Fin 512) (ha : a.val = 192 + x.val) (hb : b.val = 128 + i.val) :
    B277 z (ix2 x i) = B84 z (ix2 a b) :=
  ra_hit (N0 := 512) (N1 := 512) z.arg17 _ 0 0 512 512 192 128 64 128 (by decide) (B84 z) _ (by decide) x i a b
    (show 192 + x.val = 0 + a.val by omega) (show 128 + i.val = 0 + b.val by omega)

/-- A slice of the queries. -/
theorem B327_at (x : Fin 64) (i : Fin 128) (a b : Fin 512) (ha : a.val = 256 + x.val) (hb : b.val = 128 + i.val) :
    B327 z (ix2 x i) = B84 z (ix2 a b) :=
  ra_hit (N0 := 512) (N1 := 512) z.arg17 _ 0 0 512 512 256 128 64 128 (by decide) (B84 z) _ (by decide) x i a b
    (show 256 + x.val = 0 + a.val by omega) (show 128 + i.val = 0 + b.val by omega)

/-- A slice of the queries. -/
theorem B328_at (x : Fin 64) (i : Fin 128) (a b : Fin 512) (ha : a.val = 320 + x.val) (hb : b.val = 128 + i.val) :
    B328 z (ix2 x i) = B84 z (ix2 a b) :=
  ra_hit (N0 := 512) (N1 := 512) z.arg17 _ 0 0 512 512 320 128 64 128 (by decide) (B84 z) _ (by decide) x i a b
    (show 320 + x.val = 0 + a.val by omega) (show 128 + i.val = 0 + b.val by omega)

/-- A slice of the queries. -/
theorem B329_at (x : Fin 64) (i : Fin 128) (a b : Fin 512) (ha : a.val = 384 + x.val) (hb : b.val = 128 + i.val) :
    B329 z (ix2 x i) = B84 z (ix2 a b) :=
  ra_hit (N0 := 512) (N1 := 512) z.arg17 _ 0 0 512 512 384 128 64 128 (by decide) (B84 z) _ (by decide) x i a b
    (show 384 + x.val = 0 + a.val by omega) (show 128 + i.val = 0 + b.val by omega)

/-- A slice of the queries. -/
theorem B330_at (x : Fin 64) (i : Fin 128) (a b : Fin 512) (ha : a.val = 448 + x.val) (hb : b.val = 128 + i.val) :
    B330 z (ix2 x i) = B84 z (ix2 a b) :=
  ra_hit (N0 := 512) (N1 := 512) z.arg17 _ 0 0 512 512 448 128 64 128 (by decide) (B84 z) _ (by decide) x i a b
    (show 448 + x.val = 0 + a.val by omega) (show 128 + i.val = 0 + b.val by omega)

/-- A slice of the queries. -/
theorem B381_at (x : Fin 64) (i : Fin 128) (a b : Fin 512) (ha : a.val = 0 + x.val) (hb : b.val = 256 + i.val) :
    B381 z (ix2 x i) = B84 z (ix2 a b) :=
  ra_hit (N0 := 512) (N1 := 512) z.arg17 _ 0 0 512 512 0 256 64 128 (by decide) (B84 z) _ (by decide) x i a b
    (show 0 + x.val = 0 + a.val by omega) (show 256 + i.val = 0 + b.val by omega)

/-- A slice of the queries. -/
theorem B382_at (x : Fin 64) (i : Fin 128) (a b : Fin 512) (ha : a.val = 64 + x.val) (hb : b.val = 256 + i.val) :
    B382 z (ix2 x i) = B84 z (ix2 a b) :=
  ra_hit (N0 := 512) (N1 := 512) z.arg17 _ 0 0 512 512 64 256 64 128 (by decide) (B84 z) _ (by decide) x i a b
    (show 64 + x.val = 0 + a.val by omega) (show 256 + i.val = 0 + b.val by omega)

/-- A slice of the queries. -/
theorem B383_at (x : Fin 64) (i : Fin 128) (a b : Fin 512) (ha : a.val = 128 + x.val) (hb : b.val = 256 + i.val) :
    B383 z (ix2 x i) = B84 z (ix2 a b) :=
  ra_hit (N0 := 512) (N1 := 512) z.arg17 _ 0 0 512 512 128 256 64 128 (by decide) (B84 z) _ (by decide) x i a b
    (show 128 + x.val = 0 + a.val by omega) (show 256 + i.val = 0 + b.val by omega)

/-- A slice of the queries. -/
theorem B384_at (x : Fin 64) (i : Fin 128) (a b : Fin 512) (ha : a.val = 192 + x.val) (hb : b.val = 256 + i.val) :
    B384 z (ix2 x i) = B84 z (ix2 a b) :=
  ra_hit (N0 := 512) (N1 := 512) z.arg17 _ 0 0 512 512 192 256 64 128 (by decide) (B84 z) _ (by decide) x i a b
    (show 192 + x.val = 0 + a.val by omega) (show 256 + i.val = 0 + b.val by omega)

/-- A slice of the queries. -/
theorem B434_at (x : Fin 64) (i : Fin 128) (a b : Fin 512) (ha : a.val = 256 + x.val) (hb : b.val = 256 + i.val) :
    B434 z (ix2 x i) = B84 z (ix2 a b) :=
  ra_hit (N0 := 512) (N1 := 512) z.arg17 _ 0 0 512 512 256 256 64 128 (by decide) (B84 z) _ (by decide) x i a b
    (show 256 + x.val = 0 + a.val by omega) (show 256 + i.val = 0 + b.val by omega)

/-- A slice of the queries. -/
theorem B435_at (x : Fin 64) (i : Fin 128) (a b : Fin 512) (ha : a.val = 320 + x.val) (hb : b.val = 256 + i.val) :
    B435 z (ix2 x i) = B84 z (ix2 a b) :=
  ra_hit (N0 := 512) (N1 := 512) z.arg17 _ 0 0 512 512 320 256 64 128 (by decide) (B84 z) _ (by decide) x i a b
    (show 320 + x.val = 0 + a.val by omega) (show 256 + i.val = 0 + b.val by omega)

/-- A slice of the queries. -/
theorem B436_at (x : Fin 64) (i : Fin 128) (a b : Fin 512) (ha : a.val = 384 + x.val) (hb : b.val = 256 + i.val) :
    B436 z (ix2 x i) = B84 z (ix2 a b) :=
  ra_hit (N0 := 512) (N1 := 512) z.arg17 _ 0 0 512 512 384 256 64 128 (by decide) (B84 z) _ (by decide) x i a b
    (show 384 + x.val = 0 + a.val by omega) (show 256 + i.val = 0 + b.val by omega)

/-- A slice of the queries. -/
theorem B437_at (x : Fin 64) (i : Fin 128) (a b : Fin 512) (ha : a.val = 448 + x.val) (hb : b.val = 256 + i.val) :
    B437 z (ix2 x i) = B84 z (ix2 a b) :=
  ra_hit (N0 := 512) (N1 := 512) z.arg17 _ 0 0 512 512 448 256 64 128 (by decide) (B84 z) _ (by decide) x i a b
    (show 448 + x.val = 0 + a.val by omega) (show 256 + i.val = 0 + b.val by omega)

/-- A slice of the queries. -/
theorem B488_at (x : Fin 64) (i : Fin 128) (a b : Fin 512) (ha : a.val = 0 + x.val) (hb : b.val = 384 + i.val) :
    B488 z (ix2 x i) = B84 z (ix2 a b) :=
  ra_hit (N0 := 512) (N1 := 512) z.arg17 _ 0 0 512 512 0 384 64 128 (by decide) (B84 z) _ (by decide) x i a b
    (show 0 + x.val = 0 + a.val by omega) (show 384 + i.val = 0 + b.val by omega)

/-- A slice of the queries. -/
theorem B489_at (x : Fin 64) (i : Fin 128) (a b : Fin 512) (ha : a.val = 64 + x.val) (hb : b.val = 384 + i.val) :
    B489 z (ix2 x i) = B84 z (ix2 a b) :=
  ra_hit (N0 := 512) (N1 := 512) z.arg17 _ 0 0 512 512 64 384 64 128 (by decide) (B84 z) _ (by decide) x i a b
    (show 64 + x.val = 0 + a.val by omega) (show 384 + i.val = 0 + b.val by omega)

/-- A slice of the queries. -/
theorem B490_at (x : Fin 64) (i : Fin 128) (a b : Fin 512) (ha : a.val = 128 + x.val) (hb : b.val = 384 + i.val) :
    B490 z (ix2 x i) = B84 z (ix2 a b) :=
  ra_hit (N0 := 512) (N1 := 512) z.arg17 _ 0 0 512 512 128 384 64 128 (by decide) (B84 z) _ (by decide) x i a b
    (show 128 + x.val = 0 + a.val by omega) (show 384 + i.val = 0 + b.val by omega)

/-- A slice of the queries. -/
theorem B491_at (x : Fin 64) (i : Fin 128) (a b : Fin 512) (ha : a.val = 192 + x.val) (hb : b.val = 384 + i.val) :
    B491 z (ix2 x i) = B84 z (ix2 a b) :=
  ra_hit (N0 := 512) (N1 := 512) z.arg17 _ 0 0 512 512 192 384 64 128 (by decide) (B84 z) _ (by decide) x i a b
    (show 192 + x.val = 0 + a.val by omega) (show 384 + i.val = 0 + b.val by omega)

/-- A slice of the queries. -/
theorem B541_at (x : Fin 64) (i : Fin 128) (a b : Fin 512) (ha : a.val = 256 + x.val) (hb : b.val = 384 + i.val) :
    B541 z (ix2 x i) = B84 z (ix2 a b) :=
  ra_hit (N0 := 512) (N1 := 512) z.arg17 _ 0 0 512 512 256 384 64 128 (by decide) (B84 z) _ (by decide) x i a b
    (show 256 + x.val = 0 + a.val by omega) (show 384 + i.val = 0 + b.val by omega)

/-- A slice of the queries. -/
theorem B542_at (x : Fin 64) (i : Fin 128) (a b : Fin 512) (ha : a.val = 320 + x.val) (hb : b.val = 384 + i.val) :
    B542 z (ix2 x i) = B84 z (ix2 a b) :=
  ra_hit (N0 := 512) (N1 := 512) z.arg17 _ 0 0 512 512 320 384 64 128 (by decide) (B84 z) _ (by decide) x i a b
    (show 320 + x.val = 0 + a.val by omega) (show 384 + i.val = 0 + b.val by omega)

/-- A slice of the queries. -/
theorem B543_at (x : Fin 64) (i : Fin 128) (a b : Fin 512) (ha : a.val = 384 + x.val) (hb : b.val = 384 + i.val) :
    B543 z (ix2 x i) = B84 z (ix2 a b) :=
  ra_hit (N0 := 512) (N1 := 512) z.arg17 _ 0 0 512 512 384 384 64 128 (by decide) (B84 z) _ (by decide) x i a b
    (show 384 + x.val = 0 + a.val by omega) (show 384 + i.val = 0 + b.val by omega)

/-- A slice of the queries. -/
theorem B544_at (x : Fin 64) (i : Fin 128) (a b : Fin 512) (ha : a.val = 448 + x.val) (hb : b.val = 384 + i.val) :
    B544 z (ix2 x i) = B84 z (ix2 a b) :=
  ra_hit (N0 := 512) (N1 := 512) z.arg17 _ 0 0 512 512 448 384 64 128 (by decide) (B84 z) _ (by decide) x i a b
    (show 448 + x.val = 0 + a.val by omega) (show 384 + i.val = 0 + b.val by omega)

/-- The attention of four heads of one block. -/
theorem B203_eq : B203 z = k0_pay20 (F := Ideal) (Bbias z) k0_pay18 k0_pay19 (B166 z) (B167 z) (B168 z) (B169 z) (B170 z) (Bs1 z) (Bs2 z) (Bs3 z) (Bs4 z) (B191 z) := rfl

/-- A stored block of the attention. -/
theorem B207_at (T : Fin 8) (hT : (z.i 1).val = T.val) (d : Fin 64) (i : Fin 128) :
    B207 z (ix2 d i) = ATT T.val (KBB z) (VBB z) (fun a b => B84 z (ix2 a b)) (fun h => z.x0 (ix1 h)) 0 0 d i := by
  have e : B207 z (ix2 d i) = B203 z (ix2 d ⟨i.val, by omega⟩) := by
    show shapeCast S64x128 (extractStridedSlice S64x128 ![0, 0] (B203 z) slices_S64x512_o0_0_S64x128) shapeCasts_S64x128_S64x128 (ix2 d i) = _
    pointwise []
  have hb : ∀ r, (Bbias z) (ix2 r ⟨i.val, by omega⟩) = BI T.val 0 r i := fun r => by
    rw [(show Bbias z = k0_pay17 (F := Ideal) (BitVec.ofNat 32 T.val) io0 io1 by rw [← hT]; rfl)]; rw [show (⟨i.val, by omega⟩ : Fin 512) = ⟨128 * (0 : Fin 4).val + i.val, by simp; omega⟩ from Fin.ext (by simp)]; exact bias0_at T r 0 i
  rw [e, B203_eq, pay20_0]
  refine congr (congr (congrArg softK (funext fun r => ?_)) ?_) (funext fun r => ?_)
  · refine congr (congrArg HAdd.hAdd (Finset.sum_congr rfl fun x _ => ?_)) (hb r)
    exact congr (congrArg HMul.hMul (B166_at z r _ _ _ (by simp) (by simp))) (B167_at z x i _ _ (by simp) (by simp))
  · exact sink0 z
  · exact B191_at z d r _ _ (by simp) (by simp)

/-- A stored block of the attention. -/
theorem B211_at (T : Fin 8) (hT : (z.i 1).val = T.val) (d : Fin 64) (i : Fin 128) :
    B211 z (ix2 d i) = ATT T.val (KBB z) (VBB z) (fun a b => B84 z (ix2 a b)) (fun h => z.x0 (ix1 h)) 0 1 d i := by
  have e : B211 z (ix2 d i) = B203 z (ix2 d ⟨128 + i.val, by omega⟩) := by
    show shapeCast S64x128 (extractStridedSlice S64x128 ![0, 128] (B203 z) slices_S64x512_o0_128_S64x128) shapeCasts_S64x128_S64x128 (ix2 d i) = _
    pointwise []
  have hb : ∀ r, (Bbias z) (ix2 r ⟨128 + i.val, by omega⟩) = BI T.val 0 r i := fun r => by
    rw [(show Bbias z = k0_pay17 (F := Ideal) (BitVec.ofNat 32 T.val) io0 io1 by rw [← hT]; rfl)]; exact bias0_at T r 1 i
  rw [e, B203_eq, pay20_1]
  refine congr (congr (congrArg softK (funext fun r => ?_)) ?_) (funext fun r => ?_)
  · refine congr (congrArg HAdd.hAdd (Finset.sum_congr rfl fun x _ => ?_)) (hb r)
    exact congr (congrArg HMul.hMul (B166_at z r _ _ _ (by simp) (by simp))) (B168_at z x i _ _ (by simp) (by simp))
  · exact sink1 z
  · exact B191_at z d r _ _ (by simp) (by simp)

/-- A stored block of the attention. -/
theorem B215_at (T : Fin 8) (hT : (z.i 1).val = T.val) (d : Fin 64) (i : Fin 128) :
    B215 z (ix2 d i) = ATT T.val (KBB z) (VBB z) (fun a b => B84 z (ix2 a b)) (fun h => z.x0 (ix1 h)) 0 2 d i := by
  have e : B215 z (ix2 d i) = B203 z (ix2 d ⟨256 + i.val, by omega⟩) := by
    show shapeCast S64x128 (extractStridedSlice S64x128 ![0, 256] (B203 z) slices_S64x512_o0_256_S64x128) shapeCasts_S64x128_S64x128 (ix2 d i) = _
    pointwise []
  have hb : ∀ r, (Bbias z) (ix2 r ⟨256 + i.val, by omega⟩) = BI T.val 0 r i := fun r => by
    rw [(show Bbias z = k0_pay17 (F := Ideal) (BitVec.ofNat 32 T.val) io0 io1 by rw [← hT]; rfl)]; exact bias0_at T r 2 i
  rw [e, B203_eq, pay20_2]
  refine congr (congr (congrArg softK (funext fun r => ?_)) ?_) (funext fun r => ?_)
  · refine congr (congrArg HAdd.hAdd (Finset.sum_congr rfl fun x _ => ?_)) (hb r)
    exact congr (congrArg HMul.hMul (B166_at z r _ _ _ (by simp) (by simp))) (B169_at z x i _ _ (by simp) (by simp))
  · exact sink2 z
  · exact B191_at z d r _ _ (by simp) (by simp)

/-- A stored block of the attention. -/
theorem B219_at (T : Fin 8) (hT : (z.i 1).val = T.val) (d : Fin 64) (i : Fin 128) :
    B219 z (ix2 d i) = ATT T.val (KBB z) (VBB z) (fun a b => B84 z (ix2 a b)) (fun h => z.x0 (ix1 h)) 0 3 d i := by
  have e : B219 z (ix2 d i) = B203 z (ix2 d ⟨384 + i.val, by omega⟩) := by
    show shapeCast S64x128 (extractStridedSlice S64x128 ![0, 384] (B203 z) slices_S64x512_o0_384_S64x128) shapeCasts_S64x128_S64x128 (ix2 d i) = _
    pointwise []
  have hb : ∀ r, (Bbias z) (ix2 r ⟨384 + i.val, by omega⟩) = BI T.val 0 r i := fun r => by
    rw [(show Bbias z = k0_pay17 (F := Ideal) (BitVec.ofNat 32 T.val) io0 io1 by rw [← hT]; rfl)]; exact bias0_at T r 3 i
  rw [e, B203_eq, pay20_3]
  refine congr (congr (congrArg softK (funext fun r => ?_)) ?_) (funext fun r => ?_)
  · refine congr (congrArg HAdd.hAdd (Finset.sum_congr rfl fun x _ => ?_)) (hb r)
    exact congr (congrArg HMul.hMul (B166_at z r _ _ _ (by simp) (by simp))) (B170_at z x i _ _ (by simp) (by simp))
  · exact sink3 z
  · exact B191_at z d r _ _ (by simp) (by simp)

/-- The attention of four heads of one block. -/
theorem B256_eq : B256 z = k0_pay45 (F := Ideal) (Bbias z) k0_pay18 k0_pay19 (B166 z) (B220 z) (B221 z) (B222 z) (B223 z) (Bs5 z) (Bs6 z) (Bs7 z) (Bs8 z) (B244 z) := rfl

/-- A stored block of the attention. -/
theorem B260_at (T : Fin 8) (hT : (z.i 1).val = T.val) (d : Fin 64) (i : Fin 128) :
    B260 z (ix2 d i) = ATT T.val (KBB z) (VBB z) (fun a b => B84 z (ix2 a b)) (fun h => z.x0 (ix1 h)) 0 4 d i := by
  have e : B260 z (ix2 d i) = B256 z (ix2 d ⟨i.val, by omega⟩) := by
    show shapeCast S64x128 (extractStridedSlice S64x128 ![0, 0] (B256 z) slices_S64x512_o0_0_S64x128) shapeCasts_S64x128_S64x128 (ix2 d i) = _
    pointwise []
  have hb : ∀ r, (Bbias z) (ix2 r ⟨i.val, by omega⟩) = BI T.val 0 r i := fun r => by
    rw [(show Bbias z = k0_pay17 (F := Ideal) (BitVec.ofNat 32 T.val) io0 io1 by rw [← hT]; rfl)]; rw [show (⟨i.val, by omega⟩ : Fin 512) = ⟨128 * (0 : Fin 4).val + i.val, by simp; omega⟩ from Fin.ext (by simp)]; exact bias0_at T r 0 i
  rw [e, B256_eq, pay45_0]
  refine congr (congr (congrArg softK (funext fun r => ?_)) ?_) (funext fun r => ?_)
  · refine congr (congrArg HAdd.hAdd (Finset.sum_congr rfl fun x _ => ?_)) (hb r)
    exact congr (congrArg HMul.hMul (B166_at z r _ _ _ (by simp) (by simp))) (B220_at z x i _ _ (by simp) (by simp))
  · exact sink4 z
  · exact B244_at z d r _ _ (by simp) (by simp)

/-- A stored block of the attention. -/
theorem B264_at (T : Fin 8) (hT : (z.i 1).val = T.val) (d : Fin 64) (i : Fin 128) :
    B264 z (ix2 d i) = ATT T.val (KBB z) (VBB z) (fun a b => B84 z (ix2 a b)) (fun h => z.x0 (ix1 h)) 0 5 d i := by
  have e : B264 z (ix2 d i) = B256 z (ix2 d ⟨128 + i.val, by omega⟩) := by
    show shapeCast S64x128 (extractStridedSlice S64x128 ![0, 128] (B256 z) slices_S64x512_o0_128_S64x128) shapeCasts_S64x128_S64x128 (ix2 d i) = _
    pointwise []
  have hb : ∀ r, (Bbias z) (ix2 r ⟨128 + i.val, by omega⟩) = BI T.val 0 r i := fun r => by
    rw [(show Bbias z = k0_pay17 (F := Ideal) (BitVec.ofNat 32 T.val) io0 io1 by rw [← hT]; rfl)]; exact bias0_at T r 1 i
  rw [e, B256_eq, pay45_1]
  refine congr (congr (congrArg softK (funext fun r => ?_)) ?_) (funext fun r => ?_)
  · refine congr (congrArg HAdd.hAdd (Finset.sum_congr rfl fun x _ => ?_)) (hb r)
    exact congr (congrArg HMul.hMul (B166_at z r _ _ _ (by simp) (by simp))) (B221_at z x i _ _ (by simp) (by simp))
  · exact sink5 z
  · exact B244_at z d r _ _ (by simp) (by simp)

/-- A stored block of the attention. -/
theorem B268_at (T : Fin 8) (hT : (z.i 1).val = T.val) (d : Fin 64) (i : Fin 128) :
    B268 z (ix2 d i) = ATT T.val (KBB z) (VBB z) (fun a b => B84 z (ix2 a b)) (fun h => z.x0 (ix1 h)) 0 6 d i := by
  have e : B268 z (ix2 d i) = B256 z (ix2 d ⟨256 + i.val, by omega⟩) := by
    show shapeCast S64x128 (extractStridedSlice S64x128 ![0, 256] (B256 z) slices_S64x512_o0_256_S64x128) shapeCasts_S64x128_S64x128 (ix2 d i) = _
    pointwise []
  have hb : ∀ r, (Bbias z) (ix2 r ⟨256 + i.val, by omega⟩) = BI T.val 0 r i := fun r => by
    rw [(show Bbias z = k0_pay17 (F := Ideal) (BitVec.ofNat 32 T.val) io0 io1 by rw [← hT]; rfl)]; exact bias0_at T r 2 i
  rw [e, B256_eq, pay45_2]
  refine congr (congr (congrArg softK (funext fun r => ?_)) ?_) (funext fun r => ?_)
  · refine congr (congrArg HAdd.hAdd (Finset.sum_congr rfl fun x _ => ?_)) (hb r)
    exact congr (congrArg HMul.hMul (B166_at z r _ _ _ (by simp) (by simp))) (B222_at z x i _ _ (by simp) (by simp))
  · exact sink6 z
  · exact B244_at z d r _ _ (by simp) (by simp)

/-- A stored block of the attention. -/
theorem B272_at (T : Fin 8) (hT : (z.i 1).val = T.val) (d : Fin 64) (i : Fin 128) :
    B272 z (ix2 d i) = ATT T.val (KBB z) (VBB z) (fun a b => B84 z (ix2 a b)) (fun h => z.x0 (ix1 h)) 0 7 d i := by
  have e : B272 z (ix2 d i) = B256 z (ix2 d ⟨384 + i.val, by omega⟩) := by
    show shapeCast S64x128 (extractStridedSlice S64x128 ![0, 384] (B256 z) slices_S64x512_o0_384_S64x128) shapeCasts_S64x128_S64x128 (ix2 d i) = _
    pointwise []
  have hb : ∀ r, (Bbias z) (ix2 r ⟨384 + i.val, by omega⟩) = BI T.val 0 r i := fun r => by
    rw [(show Bbias z = k0_pay17 (F := Ideal) (BitVec.ofNat 32 T.val) io0 io1 by rw [← hT]; rfl)]; exact bias0_at T r 3 i
  rw [e, B256_eq, pay45_3]
  refine congr (congr (congrArg softK (funext fun r => ?_)) ?_) (funext fun r => ?_)
  · refine congr (congrArg HAdd.hAdd (Finset.sum_congr rfl fun x _ => ?_)) (hb r)
    exact congr (congrArg HMul.hMul (B166_at z r _ _ _ (by simp) (by simp))) (B223_at z x i _ _ (by simp) (by simp))
  · exact sink7 z
  · exact B244_at z d r _ _ (by simp) (by simp)

/-- The attention of four heads of one block. -/
theorem B310_eq : B310 z = k0_pay20 (F := Ideal) (k0_pay16 (F := Ideal) io0 io1) k0_pay18 k0_pay19 (B273 z) (B274 z) (B275 z) (B276 z) (B277 z) (Bs1 z) (Bs2 z) (Bs3 z) (Bs4 z) (B298 z) := rfl

/-- A stored block of the attention. -/
theorem B314_at (T : Fin 8) (hT : (z.i 1).val = T.val) (d : Fin 64) (i : Fin 128) :
    B314 z (ix2 d i) = ATT T.val (KBB z) (VBB z) (fun a b => B84 z (ix2 a b)) (fun h => z.x0 (ix1 h)) 1 0 d i := by
  have e : B314 z (ix2 d i) = B310 z (ix2 d ⟨i.val, by omega⟩) := by
    show shapeCast S64x128 (extractStridedSlice S64x128 ![0, 0] (B310 z) slices_S64x512_o0_0_S64x128) shapeCasts_S64x128_S64x128 (ix2 d i) = _
    pointwise []
  have hb : ∀ r, (k0_pay16 (F := Ideal) io0 io1) (ix2 r ⟨i.val, by omega⟩) = BI T.val 1 r i := fun r => by
    rw [show (⟨i.val, by omega⟩ : Fin 512) = ⟨128 * (0 : Fin 4).val + i.val, by simp; omega⟩ from Fin.ext (by simp)]; exact bias_at r 0 i 1 T.val (by decide)
  rw [e, B310_eq, pay20_0]
  refine congr (congr (congrArg softK (funext fun r => ?_)) ?_) (funext fun r => ?_)
  · refine congr (congrArg HAdd.hAdd (Finset.sum_congr rfl fun x _ => ?_)) (hb r)
    exact congr (congrArg HMul.hMul (B273_at z r _ _ _ (by simp) (by simp))) (B274_at z x i _ _ (by simp) (by simp))
  · exact sink0 z
  · exact B298_at z d r _ _ (by simp) (by simp)

/-- A stored block of the attention. -/
theorem B318_at (T : Fin 8) (hT : (z.i 1).val = T.val) (d : Fin 64) (i : Fin 128) :
    B318 z (ix2 d i) = ATT T.val (KBB z) (VBB z) (fun a b => B84 z (ix2 a b)) (fun h => z.x0 (ix1 h)) 1 1 d i := by
  have e : B318 z (ix2 d i) = B310 z (ix2 d ⟨128 + i.val, by omega⟩) := by
    show shapeCast S64x128 (extractStridedSlice S64x128 ![0, 128] (B310 z) slices_S64x512_o0_128_S64x128) shapeCasts_S64x128_S64x128 (ix2 d i) = _
    pointwise []
  have hb : ∀ r, (k0_pay16 (F := Ideal) io0 io1) (ix2 r ⟨128 + i.val, by omega⟩) = BI T.val 1 r i := fun r => by
    exact bias_at r 1 i 1 T.val (by decide)
  rw [e, B310_eq, pay20_1]
  refine congr (congr (congrArg softK (funext fun r => ?_)) ?_) (funext fun r => ?_)
  · refine congr (congrArg HAdd.hAdd (Finset.sum_congr rfl fun x _ => ?_)) (hb r)
    exact congr (congrArg HMul.hMul (B273_at z r _ _ _ (by simp) (by simp))) (B275_at z x i _ _ (by simp) (by simp))
  · exact sink1 z
  · exact B298_at z d r _ _ (by simp) (by simp)

/-- A stored block of the attention. -/
theorem B322_at (T : Fin 8) (hT : (z.i 1).val = T.val) (d : Fin 64) (i : Fin 128) :
    B322 z (ix2 d i) = ATT T.val (KBB z) (VBB z) (fun a b => B84 z (ix2 a b)) (fun h => z.x0 (ix1 h)) 1 2 d i := by
  have e : B322 z (ix2 d i) = B310 z (ix2 d ⟨256 + i.val, by omega⟩) := by
    show shapeCast S64x128 (extractStridedSlice S64x128 ![0, 256] (B310 z) slices_S64x512_o0_256_S64x128) shapeCasts_S64x128_S64x128 (ix2 d i) = _
    pointwise []
  have hb : ∀ r, (k0_pay16 (F := Ideal) io0 io1) (ix2 r ⟨256 + i.val, by omega⟩) = BI T.val 1 r i := fun r => by
    exact bias_at r 2 i 1 T.val (by decide)
  rw [e, B310_eq, pay20_2]
  refine congr (congr (congrArg softK (funext fun r => ?_)) ?_) (funext fun r => ?_)
  · refine congr (congrArg HAdd.hAdd (Finset.sum_congr rfl fun x _ => ?_)) (hb r)
    exact congr (congrArg HMul.hMul (B273_at z r _ _ _ (by simp) (by simp))) (B276_at z x i _ _ (by simp) (by simp))
  · exact sink2 z
  · exact B298_at z d r _ _ (by simp) (by simp)

/-- A stored block of the attention. -/
theorem B326_at (T : Fin 8) (hT : (z.i 1).val = T.val) (d : Fin 64) (i : Fin 128) :
    B326 z (ix2 d i) = ATT T.val (KBB z) (VBB z) (fun a b => B84 z (ix2 a b)) (fun h => z.x0 (ix1 h)) 1 3 d i := by
  have e : B326 z (ix2 d i) = B310 z (ix2 d ⟨384 + i.val, by omega⟩) := by
    show shapeCast S64x128 (extractStridedSlice S64x128 ![0, 384] (B310 z) slices_S64x512_o0_384_S64x128) shapeCasts_S64x128_S64x128 (ix2 d i) = _
    pointwise []
  have hb : ∀ r, (k0_pay16 (F := Ideal) io0 io1) (ix2 r ⟨384 + i.val, by omega⟩) = BI T.val 1 r i := fun r => by
    exact bias_at r 3 i 1 T.val (by decide)
  rw [e, B310_eq, pay20_3]
  refine congr (congr (congrArg softK (funext fun r => ?_)) ?_) (funext fun r => ?_)
  · refine congr (congrArg HAdd.hAdd (Finset.sum_congr rfl fun x _ => ?_)) (hb r)
    exact congr (congrArg HMul.hMul (B273_at z r _ _ _ (by simp) (by simp))) (B277_at z x i _ _ (by simp) (by simp))
  · exact sink3 z
  · exact B298_at z d r _ _ (by simp) (by simp)

/-- The attention of four heads of one block. -/
theorem B363_eq : B363 z = k0_pay45 (F := Ideal) (k0_pay16 (F := Ideal) io0 io1) k0_pay18 k0_pay19 (B273 z) (B327 z) (B328 z) (B329 z) (B330 z) (Bs5 z) (Bs6 z) (Bs7 z) (Bs8 z) (B351 z) := rfl

/-- A stored block of the attention. -/
theorem B367_at (T : Fin 8) (hT : (z.i 1).val = T.val) (d : Fin 64) (i : Fin 128) :
    B367 z (ix2 d i) = ATT T.val (KBB z) (VBB z) (fun a b => B84 z (ix2 a b)) (fun h => z.x0 (ix1 h)) 1 4 d i := by
  have e : B367 z (ix2 d i) = B363 z (ix2 d ⟨i.val, by omega⟩) := by
    show shapeCast S64x128 (extractStridedSlice S64x128 ![0, 0] (B363 z) slices_S64x512_o0_0_S64x128) shapeCasts_S64x128_S64x128 (ix2 d i) = _
    pointwise []
  have hb : ∀ r, (k0_pay16 (F := Ideal) io0 io1) (ix2 r ⟨i.val, by omega⟩) = BI T.val 1 r i := fun r => by
    rw [show (⟨i.val, by omega⟩ : Fin 512) = ⟨128 * (0 : Fin 4).val + i.val, by simp; omega⟩ from Fin.ext (by simp)]; exact bias_at r 0 i 1 T.val (by decide)
  rw [e, B363_eq, pay45_0]
  refine congr (congr (congrArg softK (funext fun r => ?_)) ?_) (funext fun r => ?_)
  · refine congr (congrArg HAdd.hAdd (Finset.sum_congr rfl fun x _ => ?_)) (hb r)
    exact congr (congrArg HMul.hMul (B273_at z r _ _ _ (by simp) (by simp))) (B327_at z x i _ _ (by simp) (by simp))
  · exact sink4 z
  · exact B351_at z d r _ _ (by simp) (by simp)

/-- A stored block of the attention. -/
theorem B371_at (T : Fin 8) (hT : (z.i 1).val = T.val) (d : Fin 64) (i : Fin 128) :
    B371 z (ix2 d i) = ATT T.val (KBB z) (VBB z) (fun a b => B84 z (ix2 a b)) (fun h => z.x0 (ix1 h)) 1 5 d i := by
  have e : B371 z (ix2 d i) = B363 z (ix2 d ⟨128 + i.val, by omega⟩) := by
    show shapeCast S64x128 (extractStridedSlice S64x128 ![0, 128] (B363 z) slices_S64x512_o0_128_S64x128) shapeCasts_S64x128_S64x128 (ix2 d i) = _
    pointwise []
  have hb : ∀ r, (k0_pay16 (F := Ideal) io0 io1) (ix2 r ⟨128 + i.val, by omega⟩) = BI T.val 1 r i := fun r => by
    exact bias_at r 1 i 1 T.val (by decide)
  rw [e, B363_eq, pay45_1]
  refine congr (congr (congrArg softK (funext fun r => ?_)) ?_) (funext fun r => ?_)
  · refine congr (congrArg HAdd.hAdd (Finset.sum_congr rfl fun x _ => ?_)) (hb r)
    exact congr (congrArg HMul.hMul (B273_at z r _ _ _ (by simp) (by simp))) (B328_at z x i _ _ (by simp) (by simp))
  · exact sink5 z
  · exact B351_at z d r _ _ (by simp) (by simp)

/-- A stored block of the attention. -/
theorem B375_at (T : Fin 8) (hT : (z.i 1).val = T.val) (d : Fin 64) (i : Fin 128) :
    B375 z (ix2 d i) = ATT T.val (KBB z) (VBB z) (fun a b => B84 z (ix2 a b)) (fun h => z.x0 (ix1 h)) 1 6 d i := by
  have e : B375 z (ix2 d i) = B363 z (ix2 d ⟨256 + i.val, by omega⟩) := by
    show shapeCast S64x128 (extractStridedSlice S64x128 ![0, 256] (B363 z) slices_S64x512_o0_256_S64x128) shapeCasts_S64x128_S64x128 (ix2 d i) = _
    pointwise []
  have hb : ∀ r, (k0_pay16 (F := Ideal) io0 io1) (ix2 r ⟨256 + i.val, by omega⟩) = BI T.val 1 r i := fun r => by
    exact bias_at r 2 i 1 T.val (by decide)
  rw [e, B363_eq, pay45_2]
  refine congr (congr (congrArg softK (funext fun r => ?_)) ?_) (funext fun r => ?_)
  · refine congr (congrArg HAdd.hAdd (Finset.sum_congr rfl fun x _ => ?_)) (hb r)
    exact congr (congrArg HMul.hMul (B273_at z r _ _ _ (by simp) (by simp))) (B329_at z x i _ _ (by simp) (by simp))
  · exact sink6 z
  · exact B351_at z d r _ _ (by simp) (by simp)

/-- A stored block of the attention. -/
theorem B379_at (T : Fin 8) (hT : (z.i 1).val = T.val) (d : Fin 64) (i : Fin 128) :
    B379 z (ix2 d i) = ATT T.val (KBB z) (VBB z) (fun a b => B84 z (ix2 a b)) (fun h => z.x0 (ix1 h)) 1 7 d i := by
  have e : B379 z (ix2 d i) = B363 z (ix2 d ⟨384 + i.val, by omega⟩) := by
    show shapeCast S64x128 (extractStridedSlice S64x128 ![0, 384] (B363 z) slices_S64x512_o0_384_S64x128) shapeCasts_S64x128_S64x128 (ix2 d i) = _
    pointwise []
  have hb : ∀ r, (k0_pay16 (F := Ideal) io0 io1) (ix2 r ⟨384 + i.val, by omega⟩) = BI T.val 1 r i := fun r => by
    exact bias_at r 3 i 1 T.val (by decide)
  rw [e, B363_eq, pay45_3]
  refine congr (congr (congrArg softK (funext fun r => ?_)) ?_) (funext fun r => ?_)
  · refine congr (congrArg HAdd.hAdd (Finset.sum_congr rfl fun x _ => ?_)) (hb r)
    exact congr (congrArg HMul.hMul (B273_at z r _ _ _ (by simp) (by simp))) (B330_at z x i _ _ (by simp) (by simp))
  · exact sink7 z
  · exact B351_at z d r _ _ (by simp) (by simp)

/-- The attention of four heads of one block. -/
theorem B417_eq : B417 z = k0_pay20 (F := Ideal) (k0_pay16 (F := Ideal) io0 io1) k0_pay18 k0_pay19 (B380 z) (B381 z) (B382 z) (B383 z) (B384 z) (Bs1 z) (Bs2 z) (Bs3 z) (Bs4 z) (B405 z) := rfl

/-- A stored block of the attention. -/
theorem B421_at (T : Fin 8) (hT : (z.i 1).val = T.val) (d : Fin 64) (i : Fin 128) :
    B421 z (ix2 d i) = ATT T.val (KBB z) (VBB z) (fun a b => B84 z (ix2 a b)) (fun h => z.x0 (ix1 h)) 2 0 d i := by
  have e : B421 z (ix2 d i) = B417 z (ix2 d ⟨i.val, by omega⟩) := by
    show shapeCast S64x128 (extractStridedSlice S64x128 ![0, 0] (B417 z) slices_S64x512_o0_0_S64x128) shapeCasts_S64x128_S64x128 (ix2 d i) = _
    pointwise []
  have hb : ∀ r, (k0_pay16 (F := Ideal) io0 io1) (ix2 r ⟨i.val, by omega⟩) = BI T.val 2 r i := fun r => by
    rw [show (⟨i.val, by omega⟩ : Fin 512) = ⟨128 * (0 : Fin 4).val + i.val, by simp; omega⟩ from Fin.ext (by simp)]; exact bias_at r 0 i 2 T.val (by decide)
  rw [e, B417_eq, pay20_0]
  refine congr (congr (congrArg softK (funext fun r => ?_)) ?_) (funext fun r => ?_)
  · refine congr (congrArg HAdd.hAdd (Finset.sum_congr rfl fun x _ => ?_)) (hb r)
    exact congr (congrArg HMul.hMul (B380_at z r _ _ _ (by simp) (by simp))) (B381_at z x i _ _ (by simp) (by simp))
  · exact sink0 z
  · exact B405_at z d r _ _ (by simp) (by simp)

/-- A stored block of the attention. -/
theorem B425_at (T : Fin 8) (hT : (z.i 1).val = T.val) (d : Fin 64) (i : Fin 128) :
    B425 z (ix2 d i) = ATT T.val (KBB z) (VBB z) (fun a b => B84 z (ix2 a b)) (fun h => z.x0 (ix1 h)) 2 1 d i := by
  have e : B425 z (ix2 d i) = B417 z (ix2 d ⟨128 + i.val, by omega⟩) := by
    show shapeCast S64x128 (extractStridedSlice S64x128 ![0, 128] (B417 z) slices_S64x512_o0_128_S64x128) shapeCasts_S64x128_S64x128 (ix2 d i) = _
    pointwise []
  have hb : ∀ r, (k0_pay16 (F := Ideal) io0 io1) (ix2 r ⟨128 + i.val, by omega⟩) = BI T.val 2 r i := fun r => by
    exact bias_at r 1 i 2 T.val (by decide)
  rw [e, B417_eq, pay20_1]
  refine congr (congr (congrArg softK (funext fun r => ?_)) ?_) (funext fun r => ?_)
  · refine congr (congrArg HAdd.hAdd (Finset.sum_congr rfl fun x _ => ?_)) (hb r)
    exact congr (congrArg HMul.hMul (B380_at z r _ _ _ (by simp) (by simp))) (B382_at z x i _ _ (by simp) (by simp))
  · exact sink1 z
  · exact B405_at z d r _ _ (by simp) (by simp)

/-- A stored block of the attention. -/
theorem B429_at (T : Fin 8) (hT : (z.i 1).val = T.val) (d : Fin 64) (i : Fin 128) :
    B429 z (ix2 d i) = ATT T.val (KBB z) (VBB z) (fun a b => B84 z (ix2 a b)) (fun h => z.x0 (ix1 h)) 2 2 d i := by
  have e : B429 z (ix2 d i) = B417 z (ix2 d ⟨256 + i.val, by omega⟩) := by
    show shapeCast S64x128 (extractStridedSlice S64x128 ![0, 256] (B417 z) slices_S64x512_o0_256_S64x128) shapeCasts_S64x128_S64x128 (ix2 d i) = _
    pointwise []
  have hb : ∀ r, (k0_pay16 (F := Ideal) io0 io1) (ix2 r ⟨256 + i.val, by omega⟩) = BI T.val 2 r i := fun r => by
    exact bias_at r 2 i 2 T.val (by decide)
  rw [e, B417_eq, pay20_2]
  refine congr (congr (congrArg softK (funext fun r => ?_)) ?_) (funext fun r => ?_)
  · refine congr (congrArg HAdd.hAdd (Finset.sum_congr rfl fun x _ => ?_)) (hb r)
    exact congr (congrArg HMul.hMul (B380_at z r _ _ _ (by simp) (by simp))) (B383_at z x i _ _ (by simp) (by simp))
  · exact sink2 z
  · exact B405_at z d r _ _ (by simp) (by simp)

/-- A stored block of the attention. -/
theorem B433_at (T : Fin 8) (hT : (z.i 1).val = T.val) (d : Fin 64) (i : Fin 128) :
    B433 z (ix2 d i) = ATT T.val (KBB z) (VBB z) (fun a b => B84 z (ix2 a b)) (fun h => z.x0 (ix1 h)) 2 3 d i := by
  have e : B433 z (ix2 d i) = B417 z (ix2 d ⟨384 + i.val, by omega⟩) := by
    show shapeCast S64x128 (extractStridedSlice S64x128 ![0, 384] (B417 z) slices_S64x512_o0_384_S64x128) shapeCasts_S64x128_S64x128 (ix2 d i) = _
    pointwise []
  have hb : ∀ r, (k0_pay16 (F := Ideal) io0 io1) (ix2 r ⟨384 + i.val, by omega⟩) = BI T.val 2 r i := fun r => by
    exact bias_at r 3 i 2 T.val (by decide)
  rw [e, B417_eq, pay20_3]
  refine congr (congr (congrArg softK (funext fun r => ?_)) ?_) (funext fun r => ?_)
  · refine congr (congrArg HAdd.hAdd (Finset.sum_congr rfl fun x _ => ?_)) (hb r)
    exact congr (congrArg HMul.hMul (B380_at z r _ _ _ (by simp) (by simp))) (B384_at z x i _ _ (by simp) (by simp))
  · exact sink3 z
  · exact B405_at z d r _ _ (by simp) (by simp)

/-- The attention of four heads of one block. -/
theorem B470_eq : B470 z = k0_pay45 (F := Ideal) (k0_pay16 (F := Ideal) io0 io1) k0_pay18 k0_pay19 (B380 z) (B434 z) (B435 z) (B436 z) (B437 z) (Bs5 z) (Bs6 z) (Bs7 z) (Bs8 z) (B458 z) := rfl

/-- A stored block of the attention. -/
theorem B474_at (T : Fin 8) (hT : (z.i 1).val = T.val) (d : Fin 64) (i : Fin 128) :
    B474 z (ix2 d i) = ATT T.val (KBB z) (VBB z) (fun a b => B84 z (ix2 a b)) (fun h => z.x0 (ix1 h)) 2 4 d i := by
  have e : B474 z (ix2 d i) = B470 z (ix2 d ⟨i.val, by omega⟩) := by
    show shapeCast S64x128 (extractStridedSlice S64x128 ![0, 0] (B470 z) slices_S64x512_o0_0_S64x128) shapeCasts_S64x128_S64x128 (ix2 d i) = _
    pointwise []
  have hb : ∀ r, (k0_pay16 (F := Ideal) io0 io1) (ix2 r ⟨i.val, by omega⟩) = BI T.val 2 r i := fun r => by
    rw [show (⟨i.val, by omega⟩ : Fin 512) = ⟨128 * (0 : Fin 4).val + i.val, by simp; omega⟩ from Fin.ext (by simp)]; exact bias_at r 0 i 2 T.val (by decide)
  rw [e, B470_eq, pay45_0]
  refine congr (congr (congrArg softK (funext fun r => ?_)) ?_) (funext fun r => ?_)
  · refine congr (congrArg HAdd.hAdd (Finset.sum_congr rfl fun x _ => ?_)) (hb r)
    exact congr (congrArg HMul.hMul (B380_at z r _ _ _ (by simp) (by simp))) (B434_at z x i _ _ (by simp) (by simp))
  · exact sink4 z
  · exact B458_at z d r _ _ (by simp) (by simp)

/-- A stored block of the attention. -/
theorem B478_at (T : Fin 8) (hT : (z.i 1).val = T.val) (d : Fin 64) (i : Fin 128) :
    B478 z (ix2 d i) = ATT T.val (KBB z) (VBB z) (fun a b => B84 z (ix2 a b)) (fun h => z.x0 (ix1 h)) 2 5 d i := by
  have e : B478 z (ix2 d i) = B470 z (ix2 d ⟨128 + i.val, by omega⟩) := by
    show shapeCast S64x128 (extractStridedSlice S64x128 ![0, 128] (B470 z) slices_S64x512_o0_128_S64x128) shapeCasts_S64x128_S64x128 (ix2 d i) = _
    pointwise []
  have hb : ∀ r, (k0_pay16 (F := Ideal) io0 io1) (ix2 r ⟨128 + i.val, by omega⟩) = BI T.val 2 r i := fun r => by
    exact bias_at r 1 i 2 T.val (by decide)
  rw [e, B470_eq, pay45_1]
  refine congr (congr (congrArg softK (funext fun r => ?_)) ?_) (funext fun r => ?_)
  · refine congr (congrArg HAdd.hAdd (Finset.sum_congr rfl fun x _ => ?_)) (hb r)
    exact congr (congrArg HMul.hMul (B380_at z r _ _ _ (by simp) (by simp))) (B435_at z x i _ _ (by simp) (by simp))
  · exact sink5 z
  · exact B458_at z d r _ _ (by simp) (by simp)

/-- A stored block of the attention. -/
theorem B482_at (T : Fin 8) (hT : (z.i 1).val = T.val) (d : Fin 64) (i : Fin 128) :
    B482 z (ix2 d i) = ATT T.val (KBB z) (VBB z) (fun a b => B84 z (ix2 a b)) (fun h => z.x0 (ix1 h)) 2 6 d i := by
  have e : B482 z (ix2 d i) = B470 z (ix2 d ⟨256 + i.val, by omega⟩) := by
    show shapeCast S64x128 (extractStridedSlice S64x128 ![0, 256] (B470 z) slices_S64x512_o0_256_S64x128) shapeCasts_S64x128_S64x128 (ix2 d i) = _
    pointwise []
  have hb : ∀ r, (k0_pay16 (F := Ideal) io0 io1) (ix2 r ⟨256 + i.val, by omega⟩) = BI T.val 2 r i := fun r => by
    exact bias_at r 2 i 2 T.val (by decide)
  rw [e, B470_eq, pay45_2]
  refine congr (congr (congrArg softK (funext fun r => ?_)) ?_) (funext fun r => ?_)
  · refine congr (congrArg HAdd.hAdd (Finset.sum_congr rfl fun x _ => ?_)) (hb r)
    exact congr (congrArg HMul.hMul (B380_at z r _ _ _ (by simp) (by simp))) (B436_at z x i _ _ (by simp) (by simp))
  · exact sink6 z
  · exact B458_at z d r _ _ (by simp) (by simp)

/-- A stored block of the attention. -/
theorem B486_at (T : Fin 8) (hT : (z.i 1).val = T.val) (d : Fin 64) (i : Fin 128) :
    B486 z (ix2 d i) = ATT T.val (KBB z) (VBB z) (fun a b => B84 z (ix2 a b)) (fun h => z.x0 (ix1 h)) 2 7 d i := by
  have e : B486 z (ix2 d i) = B470 z (ix2 d ⟨384 + i.val, by omega⟩) := by
    show shapeCast S64x128 (extractStridedSlice S64x128 ![0, 384] (B470 z) slices_S64x512_o0_384_S64x128) shapeCasts_S64x128_S64x128 (ix2 d i) = _
    pointwise []
  have hb : ∀ r, (k0_pay16 (F := Ideal) io0 io1) (ix2 r ⟨384 + i.val, by omega⟩) = BI T.val 2 r i := fun r => by
    exact bias_at r 3 i 2 T.val (by decide)
  rw [e, B470_eq, pay45_3]
  refine congr (congr (congrArg softK (funext fun r => ?_)) ?_) (funext fun r => ?_)
  · refine congr (congrArg HAdd.hAdd (Finset.sum_congr rfl fun x _ => ?_)) (hb r)
    exact congr (congrArg HMul.hMul (B380_at z r _ _ _ (by simp) (by simp))) (B437_at z x i _ _ (by simp) (by simp))
  · exact sink7 z
  · exact B458_at z d r _ _ (by simp) (by simp)

/-- The attention of four heads of one block. -/
theorem B524_eq : B524 z = k0_pay20 (F := Ideal) (k0_pay16 (F := Ideal) io0 io1) k0_pay18 k0_pay19 (B487 z) (B488 z) (B489 z) (B490 z) (B491 z) (Bs1 z) (Bs2 z) (Bs3 z) (Bs4 z) (B512 z) := rfl

/-- A stored block of the attention. -/
theorem B528_at (T : Fin 8) (hT : (z.i 1).val = T.val) (d : Fin 64) (i : Fin 128) :
    B528 z (ix2 d i) = ATT T.val (KBB z) (VBB z) (fun a b => B84 z (ix2 a b)) (fun h => z.x0 (ix1 h)) 3 0 d i := by
  have e : B528 z (ix2 d i) = B524 z (ix2 d ⟨i.val, by omega⟩) := by
    show shapeCast S64x128 (extractStridedSlice S64x128 ![0, 0] (B524 z) slices_S64x512_o0_0_S64x128) shapeCasts_S64x128_S64x128 (ix2 d i) = _
    pointwise []
  have hb : ∀ r, (k0_pay16 (F := Ideal) io0 io1) (ix2 r ⟨i.val, by omega⟩) = BI T.val 3 r i := fun r => by
    rw [show (⟨i.val, by omega⟩ : Fin 512) = ⟨128 * (0 : Fin 4).val + i.val, by simp; omega⟩ from Fin.ext (by simp)]; exact bias_at r 0 i 3 T.val (by decide)
  rw [e, B524_eq, pay20_0]
  refine congr (congr (congrArg softK (funext fun r => ?_)) ?_) (funext fun r => ?_)
  · refine congr (congrArg HAdd.hAdd (Finset.sum_congr rfl fun x _ => ?_)) (hb r)
    exact congr (congrArg HMul.hMul (B487_at z r _ _ _ (by simp) (by simp))) (B488_at z x i _ _ (by simp) (by simp))
  · exact sink0 z
  · exact B512_at z d r _ _ (by simp) (by simp)

/-- A stored block of the attention. -/
theorem B532_at (T : Fin 8) (hT : (z.i 1).val = T.val) (d : Fin 64) (i : Fin 128) :
    B532 z (ix2 d i) = ATT T.val (KBB z) (VBB z) (fun a b => B84 z (ix2 a b)) (fun h => z.x0 (ix1 h)) 3 1 d i := by
  have e : B532 z (ix2 d i) = B524 z (ix2 d ⟨128 + i.val, by omega⟩) := by
    show shapeCast S64x128 (extractStridedSlice S64x128 ![0, 128] (B524 z) slices_S64x512_o0_128_S64x128) shapeCasts_S64x128_S64x128 (ix2 d i) = _
    pointwise []
  have hb : ∀ r, (k0_pay16 (F := Ideal) io0 io1) (ix2 r ⟨128 + i.val, by omega⟩) = BI T.val 3 r i := fun r => by
    exact bias_at r 1 i 3 T.val (by decide)
  rw [e, B524_eq, pay20_1]
  refine congr (congr (congrArg softK (funext fun r => ?_)) ?_) (funext fun r => ?_)
  · refine congr (congrArg HAdd.hAdd (Finset.sum_congr rfl fun x _ => ?_)) (hb r)
    exact congr (congrArg HMul.hMul (B487_at z r _ _ _ (by simp) (by simp))) (B489_at z x i _ _ (by simp) (by simp))
  · exact sink1 z
  · exact B512_at z d r _ _ (by simp) (by simp)

/-- A stored block of the attention. -/
theorem B536_at (T : Fin 8) (hT : (z.i 1).val = T.val) (d : Fin 64) (i : Fin 128) :
    B536 z (ix2 d i) = ATT T.val (KBB z) (VBB z) (fun a b => B84 z (ix2 a b)) (fun h => z.x0 (ix1 h)) 3 2 d i := by
  have e : B536 z (ix2 d i) = B524 z (ix2 d ⟨256 + i.val, by omega⟩) := by
    show shapeCast S64x128 (extractStridedSlice S64x128 ![0, 256] (B524 z) slices_S64x512_o0_256_S64x128) shapeCasts_S64x128_S64x128 (ix2 d i) = _
    pointwise []
  have hb : ∀ r, (k0_pay16 (F := Ideal) io0 io1) (ix2 r ⟨256 + i.val, by omega⟩) = BI T.val 3 r i := fun r => by
    exact bias_at r 2 i 3 T.val (by decide)
  rw [e, B524_eq, pay20_2]
  refine congr (congr (congrArg softK (funext fun r => ?_)) ?_) (funext fun r => ?_)
  · refine congr (congrArg HAdd.hAdd (Finset.sum_congr rfl fun x _ => ?_)) (hb r)
    exact congr (congrArg HMul.hMul (B487_at z r _ _ _ (by simp) (by simp))) (B490_at z x i _ _ (by simp) (by simp))
  · exact sink2 z
  · exact B512_at z d r _ _ (by simp) (by simp)

/-- A stored block of the attention. -/
theorem B540_at (T : Fin 8) (hT : (z.i 1).val = T.val) (d : Fin 64) (i : Fin 128) :
    B540 z (ix2 d i) = ATT T.val (KBB z) (VBB z) (fun a b => B84 z (ix2 a b)) (fun h => z.x0 (ix1 h)) 3 3 d i := by
  have e : B540 z (ix2 d i) = B524 z (ix2 d ⟨384 + i.val, by omega⟩) := by
    show shapeCast S64x128 (extractStridedSlice S64x128 ![0, 384] (B524 z) slices_S64x512_o0_384_S64x128) shapeCasts_S64x128_S64x128 (ix2 d i) = _
    pointwise []
  have hb : ∀ r, (k0_pay16 (F := Ideal) io0 io1) (ix2 r ⟨384 + i.val, by omega⟩) = BI T.val 3 r i := fun r => by
    exact bias_at r 3 i 3 T.val (by decide)
  rw [e, B524_eq, pay20_3]
  refine congr (congr (congrArg softK (funext fun r => ?_)) ?_) (funext fun r => ?_)
  · refine congr (congrArg HAdd.hAdd (Finset.sum_congr rfl fun x _ => ?_)) (hb r)
    exact congr (congrArg HMul.hMul (B487_at z r _ _ _ (by simp) (by simp))) (B491_at z x i _ _ (by simp) (by simp))
  · exact sink3 z
  · exact B512_at z d r _ _ (by simp) (by simp)

/-- The attention of four heads of one block. -/
theorem B577_eq : B577 z = k0_pay45 (F := Ideal) (k0_pay16 (F := Ideal) io0 io1) k0_pay18 k0_pay19 (B487 z) (B541 z) (B542 z) (B543 z) (B544 z) (Bs5 z) (Bs6 z) (Bs7 z) (Bs8 z) (B565 z) := rfl

/-- A stored block of the attention. -/
theorem B581_at (T : Fin 8) (hT : (z.i 1).val = T.val) (d : Fin 64) (i : Fin 128) :
    B581 z (ix2 d i) = ATT T.val (KBB z) (VBB z) (fun a b => B84 z (ix2 a b)) (fun h => z.x0 (ix1 h)) 3 4 d i := by
  have e : B581 z (ix2 d i) = B577 z (ix2 d ⟨i.val, by omega⟩) := by
    show shapeCast S64x128 (extractStridedSlice S64x128 ![0, 0] (B577 z) slices_S64x512_o0_0_S64x128) shapeCasts_S64x128_S64x128 (ix2 d i) = _
    pointwise []
  have hb : ∀ r, (k0_pay16 (F := Ideal) io0 io1) (ix2 r ⟨i.val, by omega⟩) = BI T.val 3 r i := fun r => by
    rw [show (⟨i.val, by omega⟩ : Fin 512) = ⟨128 * (0 : Fin 4).val + i.val, by simp; omega⟩ from Fin.ext (by simp)]; exact bias_at r 0 i 3 T.val (by decide)
  rw [e, B577_eq, pay45_0]
  refine congr (congr (congrArg softK (funext fun r => ?_)) ?_) (funext fun r => ?_)
  · refine congr (congrArg HAdd.hAdd (Finset.sum_congr rfl fun x _ => ?_)) (hb r)
    exact congr (congrArg HMul.hMul (B487_at z r _ _ _ (by simp) (by simp))) (B541_at z x i _ _ (by simp) (by simp))
  · exact sink4 z
  · exact B565_at z d r _ _ (by simp) (by simp)

/-- A stored block of the attention. -/
theorem B585_at (T : Fin 8) (hT : (z.i 1).val = T.val) (d : Fin 64) (i : Fin 128) :
    B585 z (ix2 d i) = ATT T.val (KBB z) (VBB z) (fun a b => B84 z (ix2 a b)) (fun h => z.x0 (ix1 h)) 3 5 d i := by
  have e : B585 z (ix2 d i) = B577 z (ix2 d ⟨128 + i.val, by omega⟩) := by
    show shapeCast S64x128 (extractStridedSlice S64x128 ![0, 128] (B577 z) slices_S64x512_o0_128_S64x128) shapeCasts_S64x128_S64x128 (ix2 d i) = _
    pointwise []
  have hb : ∀ r, (k0_pay16 (F := Ideal) io0 io1) (ix2 r ⟨128 + i.val, by omega⟩) = BI T.val 3 r i := fun r => by
    exact bias_at r 1 i 3 T.val (by decide)
  rw [e, B577_eq, pay45_1]
  refine congr (congr (congrArg softK (funext fun r => ?_)) ?_) (funext fun r => ?_)
  · refine congr (congrArg HAdd.hAdd (Finset.sum_congr rfl fun x _ => ?_)) (hb r)
    exact congr (congrArg HMul.hMul (B487_at z r _ _ _ (by simp) (by simp))) (B542_at z x i _ _ (by simp) (by simp))
  · exact sink5 z
  · exact B565_at z d r _ _ (by simp) (by simp)

/-- A stored block of the attention. -/
theorem B589_at (T : Fin 8) (hT : (z.i 1).val = T.val) (d : Fin 64) (i : Fin 128) :
    B589 z (ix2 d i) = ATT T.val (KBB z) (VBB z) (fun a b => B84 z (ix2 a b)) (fun h => z.x0 (ix1 h)) 3 6 d i := by
  have e : B589 z (ix2 d i) = B577 z (ix2 d ⟨256 + i.val, by omega⟩) := by
    show shapeCast S64x128 (extractStridedSlice S64x128 ![0, 256] (B577 z) slices_S64x512_o0_256_S64x128) shapeCasts_S64x128_S64x128 (ix2 d i) = _
    pointwise []
  have hb : ∀ r, (k0_pay16 (F := Ideal) io0 io1) (ix2 r ⟨256 + i.val, by omega⟩) = BI T.val 3 r i := fun r => by
    exact bias_at r 2 i 3 T.val (by decide)
  rw [e, B577_eq, pay45_2]
  refine congr (congr (congrArg softK (funext fun r => ?_)) ?_) (funext fun r => ?_)
  · refine congr (congrArg HAdd.hAdd (Finset.sum_congr rfl fun x _ => ?_)) (hb r)
    exact congr (congrArg HMul.hMul (B487_at z r _ _ _ (by simp) (by simp))) (B543_at z x i _ _ (by simp) (by simp))
  · exact sink6 z
  · exact B565_at z d r _ _ (by simp) (by simp)

/-- A stored block of the attention. -/
theorem B593_at (T : Fin 8) (hT : (z.i 1).val = T.val) (d : Fin 64) (i : Fin 128) :
    B593 z (ix2 d i) = ATT T.val (KBB z) (VBB z) (fun a b => B84 z (ix2 a b)) (fun h => z.x0 (ix1 h)) 3 7 d i := by
  have e : B593 z (ix2 d i) = B577 z (ix2 d ⟨384 + i.val, by omega⟩) := by
    show shapeCast S64x128 (extractStridedSlice S64x128 ![0, 384] (B577 z) slices_S64x512_o0_384_S64x128) shapeCasts_S64x128_S64x128 (ix2 d i) = _
    pointwise []
  have hb : ∀ r, (k0_pay16 (F := Ideal) io0 io1) (ix2 r ⟨384 + i.val, by omega⟩) = BI T.val 3 r i := fun r => by
    exact bias_at r 3 i 3 T.val (by decide)
  rw [e, B577_eq, pay45_3]
  refine congr (congr (congrArg softK (funext fun r => ?_)) ?_) (funext fun r => ?_)
  · refine congr (congrArg HAdd.hAdd (Finset.sum_congr rfl fun x _ => ?_)) (hb r)
    exact congr (congrArg HMul.hMul (B487_at z r _ _ _ (by simp) (by simp))) (B544_at z x i _ _ (by simp) (by simp))
  · exact sink7 z
  · exact B565_at z d r _ _ (by simp) (by simp)

end Cert.KernelIdeal.Mix
end
-- ==== Proof.MixOutB.lean ====
/- The output block and the carried rows of one run of the body, case B. -/
module

public import proofs.«01_k».proof.Proof.Gen.KernelIdeal.Frame
public import proofs.«01_k».proof.Proof.MixRunB
public import Idealize.ShloMosaic.Lib.Pipeline.ValueKit
public import Idealize.ShloMosaic.Lib.Pointwise
public import Idealize.ShloMosaic.Lib.WritesUnit

@[expose] public section

set_option maxRecDepth 16384

noncomputable section
open Idealize.ShloMosaic Idealize.ShloMosaic.TcCoe
open scoped BigOperators
namespace Cert.KernelIdeal.Mix
open Cert.KernelIdeal Cert.KernelIdeal.Gen Cert.Mix

variable (z : Ctx)

/-- The attention's array of a run. -/
def GB (T : ℕ) (y : S512x512.Idx) : Elt Ideal .bf16 := ATT T (KBB z) (VBB z) (fun a b => B84 z (ix2 a b)) (fun h => z.x0 (ix1 h))
      ⟨(y 1).val / 128, by have : (y 1).val < 512 := (y 1).isLt; omega⟩ ⟨(y 0).val / 64, by have : (y 0).val < 512 := (y 0).isLt; omega⟩
      ⟨(y 0).val % 64, by omega⟩ ⟨(y 1).val % 128, by omega⟩

/-- The stored attention. -/
theorem B711_at (T : Fin 8) (hT : (z.i 1).val = T.val) (a s : Fin 512) :
    B711 z (ix2 a s) = ATT T.val (KBB z) (VBB z) (fun a b => B84 z (ix2 a b)) (fun h => z.x0 (ix1 h))
      ⟨s.val / 128, by omega⟩ ⟨a.val / 64, by omega⟩ ⟨a.val % 64, by omega⟩ ⟨s.val % 128, by omega⟩ := by
  have cov : ∀ y : S512x512.Idx, ∃ p ∈ BH z, y ∈ p.1.set := View.cover_of_tiledL (BH z) S64x128.size (by sl_kernel_rfl)
  have e : B711 z = View.canon (BH z) := by
    refine (View.readCov_eq_canon_ld z.arg21.view (BH z) (Rect.unit (s := S512x512) ![0, 0] S512x512.size (by decide)) cov).trans ?_
    exact View.ld_unit_lit' (by decide) _ (by decide)
  rw [e]
  refine View.canon_apply_of_pieces (GB z T.val) (BH z) ?_ (ix2 a s) (cov _)
  refine List.forall_mem_cons.2 ⟨piece_eq (GB z T.val) 448 384 (by decide) (B593 z) (fun d i a s ha hs => ?_), ?_⟩
  · refine (B593_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 7 = a.val / 64 by omega)
    · exact Fin.ext (show d.val = a.val % 64 by omega)
    · exact Fin.ext (show i.val = s.val % 128 by omega)
  refine List.forall_mem_cons.2 ⟨piece_eq (GB z T.val) 384 384 (by decide) (B589 z) (fun d i a s ha hs => ?_), ?_⟩
  · refine (B589_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 6 = a.val / 64 by omega)
    · exact Fin.ext (show d.val = a.val % 64 by omega)
    · exact Fin.ext (show i.val = s.val % 128 by omega)
  refine List.forall_mem_cons.2 ⟨piece_eq (GB z T.val) 320 384 (by decide) (B585 z) (fun d i a s ha hs => ?_), ?_⟩
  · refine (B585_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 5 = a.val / 64 by omega)
    · exact Fin.ext (show d.val = a.val % 64 by omega)
    · exact Fin.ext (show i.val = s.val % 128 by omega)
  refine List.forall_mem_cons.2 ⟨piece_eq (GB z T.val) 256 384 (by decide) (B581 z) (fun d i a s ha hs => ?_), ?_⟩
  · refine (B581_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 4 = a.val / 64 by omega)
    · exact Fin.ext (show d.val = a.val % 64 by omega)
    · exact Fin.ext (show i.val = s.val % 128 by omega)
  refine List.forall_mem_cons.2 ⟨piece_eq (GB z T.val) 192 384 (by decide) (B540 z) (fun d i a s ha hs => ?_), ?_⟩
  · refine (B540_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 3 = a.val / 64 by omega)
    · exact Fin.ext (show d.val = a.val % 64 by omega)
    · exact Fin.ext (show i.val = s.val % 128 by omega)
  refine List.forall_mem_cons.2 ⟨piece_eq (GB z T.val) 128 384 (by decide) (B536 z) (fun d i a s ha hs => ?_), ?_⟩
  · refine (B536_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 2 = a.val / 64 by omega)
    · exact Fin.ext (show d.val = a.val % 64 by omega)
    · exact Fin.ext (show i.val = s.val % 128 by omega)
  refine List.forall_mem_cons.2 ⟨piece_eq (GB z T.val) 64 384 (by decide) (B532 z) (fun d i a s ha hs => ?_), ?_⟩
  · refine (B532_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 1 = a.val / 64 by omega)
    · exact Fin.ext (show d.val = a.val % 64 by omega)
    · exact Fin.ext (show i.val = s.val % 128 by omega)
  refine List.forall_mem_cons.2 ⟨piece_eq (GB z T.val) 0 384 (by decide) (B528 z) (fun d i a s ha hs => ?_), ?_⟩
  · refine (B528_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 3 = s.val / 128 by omega)
    · exact Fin.ext (show 0 = a.val / 64 by omega)
    · exact Fin.ext (show d.val = a.val % 64 by omega)
    · exact Fin.ext (show i.val = s.val % 128 by omega)
  refine List.forall_mem_cons.2 ⟨piece_eq (GB z T.val) 448 256 (by decide) (B486 z) (fun d i a s ha hs => ?_), ?_⟩
  · refine (B486_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 7 = a.val / 64 by omega)
    · exact Fin.ext (show d.val = a.val % 64 by omega)
    · exact Fin.ext (show i.val = s.val % 128 by omega)
  refine List.forall_mem_cons.2 ⟨piece_eq (GB z T.val) 384 256 (by decide) (B482 z) (fun d i a s ha hs => ?_), ?_⟩
  · refine (B482_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 6 = a.val / 64 by omega)
    · exact Fin.ext (show d.val = a.val % 64 by omega)
    · exact Fin.ext (show i.val = s.val % 128 by omega)
  refine List.forall_mem_cons.2 ⟨piece_eq (GB z T.val) 320 256 (by decide) (B478 z) (fun d i a s ha hs => ?_), ?_⟩
  · refine (B478_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 5 = a.val / 64 by omega)
    · exact Fin.ext (show d.val = a.val % 64 by omega)
    · exact Fin.ext (show i.val = s.val % 128 by omega)
  refine List.forall_mem_cons.2 ⟨piece_eq (GB z T.val) 256 256 (by decide) (B474 z) (fun d i a s ha hs => ?_), ?_⟩
  · refine (B474_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 4 = a.val / 64 by omega)
    · exact Fin.ext (show d.val = a.val % 64 by omega)
    · exact Fin.ext (show i.val = s.val % 128 by omega)
  refine List.forall_mem_cons.2 ⟨piece_eq (GB z T.val) 192 256 (by decide) (B433 z) (fun d i a s ha hs => ?_), ?_⟩
  · refine (B433_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 3 = a.val / 64 by omega)
    · exact Fin.ext (show d.val = a.val % 64 by omega)
    · exact Fin.ext (show i.val = s.val % 128 by omega)
  refine List.forall_mem_cons.2 ⟨piece_eq (GB z T.val) 128 256 (by decide) (B429 z) (fun d i a s ha hs => ?_), ?_⟩
  · refine (B429_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 2 = a.val / 64 by omega)
    · exact Fin.ext (show d.val = a.val % 64 by omega)
    · exact Fin.ext (show i.val = s.val % 128 by omega)
  refine List.forall_mem_cons.2 ⟨piece_eq (GB z T.val) 64 256 (by decide) (B425 z) (fun d i a s ha hs => ?_), ?_⟩
  · refine (B425_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 1 = a.val / 64 by omega)
    · exact Fin.ext (show d.val = a.val % 64 by omega)
    · exact Fin.ext (show i.val = s.val % 128 by omega)
  refine List.forall_mem_cons.2 ⟨piece_eq (GB z T.val) 0 256 (by decide) (B421 z) (fun d i a s ha hs => ?_), ?_⟩
  · refine (B421_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 2 = s.val / 128 by omega)
    · exact Fin.ext (show 0 = a.val / 64 by omega)
    · exact Fin.ext (show d.val = a.val % 64 by omega)
    · exact Fin.ext (show i.val = s.val % 128 by omega)
  refine List.forall_mem_cons.2 ⟨piece_eq (GB z T.val) 448 128 (by decide) (B379 z) (fun d i a s ha hs => ?_), ?_⟩
  · refine (B379_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 7 = a.val / 64 by omega)
    · exact Fin.ext (show d.val = a.val % 64 by omega)
    · exact Fin.ext (show i.val = s.val % 128 by omega)
  refine List.forall_mem_cons.2 ⟨piece_eq (GB z T.val) 384 128 (by decide) (B375 z) (fun d i a s ha hs => ?_), ?_⟩
  · refine (B375_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 6 = a.val / 64 by omega)
    · exact Fin.ext (show d.val = a.val % 64 by omega)
    · exact Fin.ext (show i.val = s.val % 128 by omega)
  refine List.forall_mem_cons.2 ⟨piece_eq (GB z T.val) 320 128 (by decide) (B371 z) (fun d i a s ha hs => ?_), ?_⟩
  · refine (B371_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 5 = a.val / 64 by omega)
    · exact Fin.ext (show d.val = a.val % 64 by omega)
    · exact Fin.ext (show i.val = s.val % 128 by omega)
  refine List.forall_mem_cons.2 ⟨piece_eq (GB z T.val) 256 128 (by decide) (B367 z) (fun d i a s ha hs => ?_), ?_⟩
  · refine (B367_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 4 = a.val / 64 by omega)
    · exact Fin.ext (show d.val = a.val % 64 by omega)
    · exact Fin.ext (show i.val = s.val % 128 by omega)
  refine List.forall_mem_cons.2 ⟨piece_eq (GB z T.val) 192 128 (by decide) (B326 z) (fun d i a s ha hs => ?_), ?_⟩
  · refine (B326_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 3 = a.val / 64 by omega)
    · exact Fin.ext (show d.val = a.val % 64 by omega)
    · exact Fin.ext (show i.val = s.val % 128 by omega)
  refine List.forall_mem_cons.2 ⟨piece_eq (GB z T.val) 128 128 (by decide) (B322 z) (fun d i a s ha hs => ?_), ?_⟩
  · refine (B322_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 2 = a.val / 64 by omega)
    · exact Fin.ext (show d.val = a.val % 64 by omega)
    · exact Fin.ext (show i.val = s.val % 128 by omega)
  refine List.forall_mem_cons.2 ⟨piece_eq (GB z T.val) 64 128 (by decide) (B318 z) (fun d i a s ha hs => ?_), ?_⟩
  · refine (B318_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 1 = a.val / 64 by omega)
    · exact Fin.ext (show d.val = a.val % 64 by omega)
    · exact Fin.ext (show i.val = s.val % 128 by omega)
  refine List.forall_mem_cons.2 ⟨piece_eq (GB z T.val) 0 128 (by decide) (B314 z) (fun d i a s ha hs => ?_), ?_⟩
  · refine (B314_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 1 = s.val / 128 by omega)
    · exact Fin.ext (show 0 = a.val / 64 by omega)
    · exact Fin.ext (show d.val = a.val % 64 by omega)
    · exact Fin.ext (show i.val = s.val % 128 by omega)
  refine List.forall_mem_cons.2 ⟨piece_eq (GB z T.val) 448 0 (by decide) (B272 z) (fun d i a s ha hs => ?_), ?_⟩
  · refine (B272_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 7 = a.val / 64 by omega)
    · exact Fin.ext (show d.val = a.val % 64 by omega)
    · exact Fin.ext (show i.val = s.val % 128 by omega)
  refine List.forall_mem_cons.2 ⟨piece_eq (GB z T.val) 384 0 (by decide) (B268 z) (fun d i a s ha hs => ?_), ?_⟩
  · refine (B268_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 6 = a.val / 64 by omega)
    · exact Fin.ext (show d.val = a.val % 64 by omega)
    · exact Fin.ext (show i.val = s.val % 128 by omega)
  refine List.forall_mem_cons.2 ⟨piece_eq (GB z T.val) 320 0 (by decide) (B264 z) (fun d i a s ha hs => ?_), ?_⟩
  · refine (B264_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 5 = a.val / 64 by omega)
    · exact Fin.ext (show d.val = a.val % 64 by omega)
    · exact Fin.ext (show i.val = s.val % 128 by omega)
  refine List.forall_mem_cons.2 ⟨piece_eq (GB z T.val) 256 0 (by decide) (B260 z) (fun d i a s ha hs => ?_), ?_⟩
  · refine (B260_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 4 = a.val / 64 by omega)
    · exact Fin.ext (show d.val = a.val % 64 by omega)
    · exact Fin.ext (show i.val = s.val % 128 by omega)
  refine List.forall_mem_cons.2 ⟨piece_eq (GB z T.val) 192 0 (by decide) (B219 z) (fun d i a s ha hs => ?_), ?_⟩
  · refine (B219_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 3 = a.val / 64 by omega)
    · exact Fin.ext (show d.val = a.val % 64 by omega)
    · exact Fin.ext (show i.val = s.val % 128 by omega)
  refine List.forall_mem_cons.2 ⟨piece_eq (GB z T.val) 128 0 (by decide) (B215 z) (fun d i a s ha hs => ?_), ?_⟩
  · refine (B215_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 2 = a.val / 64 by omega)
    · exact Fin.ext (show d.val = a.val % 64 by omega)
    · exact Fin.ext (show i.val = s.val % 128 by omega)
  refine List.forall_mem_cons.2 ⟨piece_eq (GB z T.val) 64 0 (by decide) (B211 z) (fun d i a s ha hs => ?_), ?_⟩
  · refine (B211_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 1 = a.val / 64 by omega)
    · exact Fin.ext (show d.val = a.val % 64 by omega)
    · exact Fin.ext (show i.val = s.val % 128 by omega)
  refine List.forall_mem_cons.2 ⟨piece_eq (GB z T.val) 0 0 (by decide) (B207 z) (fun d i a s ha hs => ?_), ?_⟩
  · refine (B207_at z T hT d i).trans ?_
    show _ = ATT T.val (KBB z) (VBB z) (fun a b => B84 z (ix2 a b)) (fun h => z.x0 (ix1 h)) ⟨s.val / 128, _⟩ ⟨a.val / 64, _⟩ ⟨a.val % 64, _⟩ ⟨s.val % 128, _⟩
    congr 1
    · exact Fin.ext (show 0 = s.val / 128 by omega)
    · exact Fin.ext (show 0 = a.val / 64 by omega)
    · exact Fin.ext (show d.val = a.val % 64 by omega)
    · exact Fin.ext (show i.val = s.val % 128 by omega)
  exact fun p hp => absurd hp List.not_mem_nil

/-- The pooled groups side by side. -/
theorem B710_eq : B710 z = k0_pay90 (F := Ideal) (B35 z) (B597 z) (k0_pay83 (BitVec.ofNat 32 (z.i 1).val))
    (k0_pay84 (F := Ideal) (BitVec.ofNat 32 (z.i 1).val) (B35 z) (B597 z) (RW0 z) (RS0 z))
    (k0_pay87 (F := Ideal) (B35 z) (k0_pay83 (BitVec.ofNat 32 (z.i 1).val)) (k0_pay85 (F := Ideal) (B597 z)) k0_pay86 (RW1 z) (RS1 z))
    (k0_pay88 (F := Ideal) (B35 z) (B597 z) (k0_pay83 (BitVec.ofNat 32 (z.i 1).val))) (k0_pay89 (F := Ideal) (RW2 z)) (constant S512x128 .f32 0x00000000#32)
    (RS2 z) (RW3 z) (RS3 z) := rfl

/-- The output block. -/
theorem Bout (hc : ¬ cond0_0 z.i) : out0_B_14 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3
    = k0_pay92 (F := Ideal) (k0_pay5 (F := Ideal) z.x1) (k0_pay6 (F := Ideal) z.x2) (B710 z) (B711 z) (k0_pay91 (F := Ideal) z.x12)
      (constant S512x1024 .f32 0x00000000#32) z.x13 := by
  have e : out0_B_14 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3
    = k0_pay92 (F := Ideal) (k0_pay5 (F := Ideal) (R1 z)) (k0_pay6 (F := Ideal) (R2 z)) (B710 z) (B711 z) (k0_pay91 (F := Ideal) (R12 z))
      (constant S512x1024 .f32 0x00000000#32) (R13 z) := by
    unfold out0_B_14
    rw [View.read_writes_junk_eq_canon]
    exact View.canon_cons_unit_lit' (S := S1x512x1024) (off := ![0, 0, 0]) (by decide) _ _ (by decide)
  rw [e, R1_eq, R2_eq, R12_eq, R13_eq]

/-- The rows carried to the next tile. -/
theorem Bsout1 (hc : ¬ cond0_0 z.i) (a : Fin 128) (b : Fin 128) : sout0_B_1 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3 (ix2 ⟨a.val, by omega⟩ b) = KBB z ⟨512 + a.val, by omega⟩ b := by
  have e : k0_pay93 (F := Ideal) (B726 z) (ix2 a b) = KBB z ⟨512 + a.val, by omega⟩ b := by
    rw [show k0_pay93 (F := Ideal) (B726 z) (ix2 a b) = B726 z (ix2 a b) by pointwise [k0_pay93]]
    exact B726_at z a b _ _ (by simp) (by simp)
  refine Eq.trans ?_ e
  unfold sout0_B_1
  rw [View.read_writes_junk_eq_canon]
  have hy : ((ix2 ⟨a.val, by omega⟩ b) : S640x128.Idx) = (Rect.unit (s := S640x128) ![0, 0] S128x128.size (by decide)).emb (ix2 a b) := by
    funext q
    match q with
    | 0 => exact Fin.ext (show a.val = 0 + 1 * a.val by omega)
    | 1 => exact Fin.ext (show b.val = 0 + 1 * b.val by omega)
  rw [hy]
  exact View.canon_cons_emb (Val := Elt Ideal) (e := .bf16) (Rect.unit (s := S640x128) ![0, 0] S128x128.size (by decide)) (k0_pay93 (F := Ideal) (B726 z)) _ (ix2 a b)

/-- The rows carried to the next tile. -/
theorem Bsout2 (hc : ¬ cond0_0 z.i) (a : Fin 128) (b : Fin 128) : sout0_B_2 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3 (ix2 a ⟨b.val, by omega⟩) = VBB z a ⟨512 + b.val, by omega⟩ := by
  have e : k0_pay94 (F := Ideal) (B730 z) (ix2 a b) = VBB z a ⟨512 + b.val, by omega⟩ := by
    rw [show k0_pay94 (F := Ideal) (B730 z) (ix2 a b) = B730 z (ix2 a b) by pointwise [k0_pay94]]
    exact B730_at z a b _ _ (by simp) (by simp)
  refine Eq.trans ?_ e
  unfold sout0_B_2
  rw [View.read_writes_junk_eq_canon]
  have hy : ((ix2 a ⟨b.val, by omega⟩) : S128x640.Idx) = (Rect.unit (s := S128x640) ![0, 0] S128x128.size (by decide)).emb (ix2 a b) := by
    funext q
    match q with
    | 0 => exact Fin.ext (show a.val = 0 + 1 * a.val by omega)
    | 1 => exact Fin.ext (show b.val = 0 + 1 * b.val by omega)
  rw [hy]
  exact View.canon_cons_emb (Val := Elt Ideal) (e := .bf16) (Rect.unit (s := S128x640) ![0, 0] S128x128.size (by decide)) (k0_pay94 (F := Ideal) (B730 z)) _ (ix2 a b)

/-- The rows carried to the next tile. -/
theorem Bsout3 (hc : ¬ cond0_0 z.i) (a : Fin 16) (b : Fin 512) : sout0_B_3 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3 (ix2 ⟨a.val, by omega⟩ b) = UBB z ⟨512 + a.val, by omega⟩ b := by
  have e : k0_pay1 (F := Ideal) (B734 z) (ix2 a b) = UBB z ⟨512 + a.val, by omega⟩ b := by
    rw [show k0_pay1 (F := Ideal) (B734 z) (ix2 a b) = B734 z (ix2 a b) by pointwise [k0_pay1]]
    exact B734_at z a b _ _ (by simp) (by simp)
  refine Eq.trans ?_ e
  unfold sout0_B_3
  rw [View.read_writes_junk_eq_canon]
  have hy : ((ix2 ⟨a.val, by omega⟩ b) : S528x512.Idx) = (Rect.unit (s := S528x512) ![0, 0] S16x512.size (by decide)).emb (ix2 a b) := by
    funext q
    match q with
    | 0 => exact Fin.ext (show a.val = 0 + 1 * a.val by omega)
    | 1 => exact Fin.ext (show b.val = 0 + 1 * b.val by omega)
  rw [hy]
  exact View.canon_cons_emb (Val := Elt Ideal) (e := .f32) (Rect.unit (s := S528x512) ![0, 0] S16x512.size (by decide)) (k0_pay1 (F := Ideal) (B734 z)) _ (ix2 a b)

end Cert.KernelIdeal.Mix
end
-- ==== Proof.MixStep.lean ====
/- One run of the body after another: the rows carried from tile to tile are the layer's last keys, values and pooled
   channels, and each tile's output block is the mixer's output; so is the whole result array. -/
module

public import proofs.«01_k».proof.Proof.MixGrid
public import proofs.«01_k».proof.Proof.MixOutA
public import proofs.«01_k».proof.Proof.MixOutB

@[expose] public section

set_option maxRecDepth 16384

noncomputable section
open Idealize.ShloMosaic Idealize.ShloMosaic.TcCoe
open scoped BigOperators
namespace Cert.KernelIdeal.Mix
open Cert.KernelIdeal Cert.KernelIdeal.Gen Cert.Mix

/-- The three bands of a tile hold the layer's padded keys, values and pooled channels. -/
structure Bands (A : Args) (b T : Fin 8) (kb : Fin 640 → Fin 128 → EReal) (vb : Fin 128 → Fin 640 → EReal)
    (ub : Fin 528 → Fin 512 → EReal) : Prop where
  /-- the keys -/
  k : ∀ (r : Fin 640) (kv : Fin 2) (d : Fin 64), kb r ⟨64 * kv.val + d.val, by omega⟩ = KP A b kv d (512 * T.val + r.val)
  /-- the values -/
  v : ∀ (r : Fin 640) (kv : Fin 2) (d : Fin 64), vb ⟨64 * kv.val + d.val, by omega⟩ r = VP A b kv d (512 * T.val + r.val)
  /-- the pooled channels -/
  u : ∀ (r : Fin 528) (c : Fin 512), ub r c = UP A b c (512 * T.val + r.val)

section
variable {z : Ctx} {A : Args} {b T : Fin 8} (g : Good z A b T)

/-- A padded key past the first 128 rows. -/
theorem KP_tok (A : Args) (b T : Fin 8) (kv : Fin 2) (d : Fin 64) (r : Fin 640) (h : ¬ r.val < 128) :
    K A b (tok T ⟨r.val - 128, by omega⟩) kv d = KP A b kv d (512 * T.val + r.val) := by
  unfold KP
  rw [dif_pos (by omega)]
  exact congrArg (fun s => K A b s kv d) (Fin.ext (show 512 * T.val + (r.val - 128) = 512 * T.val + r.val - 128 by omega))

/-- A padded value past the first 128 rows. -/
theorem VP_tok (A : Args) (b T : Fin 8) (kv : Fin 2) (d : Fin 64) (r : Fin 640) (h : ¬ r.val < 128) :
    V A b (tok T ⟨r.val - 128, by omega⟩) kv d = VP A b kv d (512 * T.val + r.val) := by
  unfold VP
  rw [dif_pos (by omega)]
  exact congrArg (fun s => V A b s kv d) (Fin.ext (show 512 * T.val + (r.val - 128) = 512 * T.val + r.val - 128 by omega))

/-- A padded pooled channel past the first 16 rows. -/
theorem UP_tok (A : Args) (b T : Fin 8) (c : Fin 512) (r : Fin 528) (h : ¬ r.val < 16) :
    U A b (tok T ⟨r.val - 16, by omega⟩) c = UP A b c (512 * T.val + r.val) := by
  unfold UP
  rw [dif_pos (by omega)]
  exact congrArg (fun s => U A b s c) (Fin.ext (show 512 * T.val + (r.val - 16) = 512 * T.val + r.val - 16 by omega))

include g

/-- The bands of a first tile. -/
theorem bandsA (h0 : T.val = 0) : Bands A b T (KBA z) (VBA z) (UBA z) where
  k r kv d := by
    unfold KBA
    by_cases h : r.val < 128
    · rw [dif_pos h]; unfold KP; rw [dif_neg (by omega)]
    · rw [dif_neg h, A125_eq]
      exact (k_at g kv d ⟨r.val - 128, by omega⟩).trans (KP_tok A b T kv d r h)
  v r kv d := by
    unfold VBA
    by_cases h : r.val < 128
    · rw [dif_pos h]; unfold VP; rw [dif_neg (by omega)]
    · rw [dif_neg h, A130_eq]
      exact (v_at g kv d ⟨r.val - 128, by omega⟩).trans (VP_tok A b T kv d r h)
  u r c := by
    unfold UBA
    by_cases h : r.val < 16
    · rw [dif_pos h]; unfold UP; rw [dif_neg (by omega)]
    · rw [dif_neg h, A35_eq]
      exact (u_at g ⟨r.val - 16, by omega⟩ c).trans (UP_tok A b T c r h)

/-- The bands of a later tile, from the rows carried to it. -/
theorem bandsB
    (c1 : ∀ (a : Fin 128) (kv : Fin 2) (d : Fin 64), z.xs1 (ix2 ⟨a.val, by omega⟩ ⟨64 * kv.val + d.val, by omega⟩) = KP A b kv d (512 * T.val + a.val))
    (c2 : ∀ (a : Fin 128) (kv : Fin 2) (d : Fin 64), z.xs2 (ix2 ⟨64 * kv.val + d.val, by omega⟩ ⟨a.val, by omega⟩) = VP A b kv d (512 * T.val + a.val))
    (c3 : ∀ (a : Fin 16) (c : Fin 512), z.xs3 (ix2 ⟨a.val, by omega⟩ c) = UP A b c (512 * T.val + a.val)) :
    Bands A b T (KBB z) (VBB z) (UBB z) where
  k r kv d := by
    unfold KBB
    by_cases h : r.val < 128
    · rw [dif_pos h]; exact c1 ⟨r.val, h⟩ kv d
    · rw [dif_neg h, B125_eq]
      exact (k_at g kv d ⟨r.val - 128, by omega⟩).trans (KP_tok A b T kv d r h)
  v r kv d := by
    unfold VBB
    by_cases h : r.val < 128
    · rw [dif_pos h]; exact c2 ⟨r.val, h⟩ kv d
    · rw [dif_neg h, B130_eq]
      exact (v_at g kv d ⟨r.val - 128, by omega⟩).trans (VP_tok A b T kv d r h)
  u r c := by
    unfold UBB
    by_cases h : r.val < 16
    · rw [dif_pos h]; exact c3 ⟨r.val, h⟩ c
    · rw [dif_neg h, B35_eq]
      exact (u_at g ⟨r.val - 16, by omega⟩ c).trans (UP_tok A b T c r h)

/-- The output of a first tile. -/
theorem tileA (hA : Fine A) (B : Bands A b T (KBA z) (VBA z) (UBA z)) (s : Fin 512) (e : Fin 1024) :
    k0_pay92 (F := Ideal) (k0_pay5 (F := Ideal) z.x1) (k0_pay6 (F := Ideal) z.x2) (A710 z) (A711 z) (k0_pay91 (F := Ideal) z.x12)
      (constant S512x1024 .f32 0x00000000#32) z.x13 (ix3 0 s e) = OUT A b (tok T s) e := by
  refine out_at g (A711 z) (A710 z) (fun a s => ?_) (fun s a => ?_) s e
  · rw [A711_at z T g.hT a s]
    refine ATT_eq hA (KBA z) (VBA z) _ _ B.k B.v (fun hd d s => ?_) (fun h => g.x0 h) s ⟨a.val / 64, by omega⟩ ⟨a.val % 64, by omega⟩
    show A84 z _ = _
    rw [A84_eq]; exact q_at g hd d s
  · rw [A710_eq]
    refine pool_at g (A597 z) (A35 z) (fun r c => ?_) (fun s c => ?_) s a
    · rw [A597_at z r c r c (by omega) (by omega)]; exact B.u r c
    · rw [A35_eq]; exact u_at g s c

/-- The output of a later tile. -/
theorem tileB (hA : Fine A) (B : Bands A b T (KBB z) (VBB z) (UBB z)) (s : Fin 512) (e : Fin 1024) :
    k0_pay92 (F := Ideal) (k0_pay5 (F := Ideal) z.x1) (k0_pay6 (F := Ideal) z.x2) (B710 z) (B711 z) (k0_pay91 (F := Ideal) z.x12)
      (constant S512x1024 .f32 0x00000000#32) z.x13 (ix3 0 s e) = OUT A b (tok T s) e := by
  refine out_at g (B711 z) (B710 z) (fun a s => ?_) (fun s a => ?_) s e
  · rw [B711_at z T g.hT a s]
    refine ATT_eq hA (KBB z) (VBB z) _ _ B.k B.v (fun hd d s => ?_) (fun h => g.x0 h) s ⟨a.val / 64, by omega⟩ ⟨a.val % 64, by omega⟩
    show B84 z _ = _
    rw [B84_eq]; exact q_at g hd d s
  · rw [B710_eq]
    refine pool_at g (B597 z) (B35 z) (fun r c => ?_) (fun s c => ?_) s a
    · rw [B597_at z r c r c (by omega) (by omega)]; exact B.u r c
    · rw [B35_eq]; exact u_at g s c
end

end Cert.KernelIdeal.Mix
end
-- ==== Proof.MixDone.lean ====
/- The grid: what every grid point leaves for the next one, and the whole result array. -/
module

public import proofs.«01_k».proof.Proof.MixGrid
public import proofs.«01_k».proof.Proof.MixStep

@[expose] public section

set_option maxRecDepth 16384

noncomputable section
open Idealize.ShloMosaic Idealize.ShloMosaic.TcCoe
open scoped BigOperators
namespace Cert.KernelIdeal.Mix
open Cert.KernelIdeal Cert.KernelIdeal.Gen Cert.Mix

/-- What a run of the body leaves in its output block and in the carried rows. -/
structure DoneO (A : Args) (b T : Fin 8) (o : Vec Ideal S1x512x1024 .f32 × Vec Ideal S640x128 .bf16 × Vec Ideal S128x640 .bf16 × Vec Ideal S528x512 .f32) : Prop where
  /-- the carried keys -/
  k : ∀ (a : Fin 128) (kv : Fin 2) (d : Fin 64), o.2.1 (ix2 ⟨a.val, by omega⟩ ⟨64 * kv.val + d.val, by omega⟩)
    = KP A b kv d (512 * (T.val + 1) + a.val)
  /-- the carried values -/
  v : ∀ (a : Fin 128) (kv : Fin 2) (d : Fin 64), o.2.2.1 (ix2 ⟨64 * kv.val + d.val, by omega⟩ ⟨a.val, by omega⟩)
    = VP A b kv d (512 * (T.val + 1) + a.val)
  /-- the carried pooled channels -/
  u : ∀ (a : Fin 16) (e : Fin 512), o.2.2.2 (ix2 ⟨a.val, by omega⟩ e) = UP A b e (512 * (T.val + 1) + a.val)
  /-- the output block -/
  o : ∀ (s : Fin 512) (e : Fin 1024), o.1 (ix3 0 s e) = OUT A b (tok T s) e

/-- The carried rows' places in the padded arrays. -/
theorem place (T : Fin 8) (a : ℕ) : 512 * T.val + (512 + a) = 512 * (T.val + 1) + a := by omega

set_option maxHeartbeats 1000000 in
/-- A run of the body on a first tile. -/
theorem runA {z : Ctx} {A : Args} {b T : Fin 8} (g : Good z A b T) (hA : Fine A) (B : Bands A b T (KBA z) (VBA z) (UBA z)) (hc : cond0_0 z.i)
    (o : Vec Ideal S1x512x1024 .f32 × Vec Ideal S640x128 .bf16 × Vec Ideal S128x640 .bf16 × Vec Ideal S528x512 .f32) (E : o = (out0_A_14 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13, sout0_A_1 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13, sout0_A_2 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13, sout0_A_3 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13)) : DoneO A b T o where
  k a kv d := by
    rw [← place T a.val, E]; dsimp only
    exact (Asout1 z hc a ⟨64 * kv.val + d.val, by omega⟩).trans (B.k ⟨512 + a.val, by omega⟩ kv d)
  v a kv d := by
    rw [← place T a.val, E]; dsimp only
    exact (Asout2 z hc ⟨64 * kv.val + d.val, by omega⟩ a).trans (B.v ⟨512 + a.val, by omega⟩ kv d)
  u a e := by
    rw [← place T a.val, E]; dsimp only
    exact (Asout3 z hc a e).trans (B.u ⟨512 + a.val, by omega⟩ e)
  o s e := by
    rw [E]; dsimp only
    exact (congrFun (Aout z hc) (ix3 0 s e)).trans (tileA g hA B s e)

set_option maxHeartbeats 1000000 in
/-- A run of the body on a later tile. -/
theorem runB {z : Ctx} {A : Args} {b T : Fin 8} (g : Good z A b T) (hA : Fine A) (B : Bands A b T (KBB z) (VBB z) (UBB z)) (hc : ¬ cond0_0 z.i)
    (o : Vec Ideal S1x512x1024 .f32 × Vec Ideal S640x128 .bf16 × Vec Ideal S128x640 .bf16 × Vec Ideal S528x512 .f32) (E : o = (out0_B_14 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3, sout0_B_1 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3, sout0_B_2 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3, sout0_B_3 (F := Ideal) z.c z.i z.arg2 z.harg2 z.arg3 z.harg3 z.arg4 z.harg4 z.arg5 z.harg5 z.arg6 z.harg6 z.arg7 z.harg7 z.arg8 z.harg8 z.arg9 z.harg9 z.arg10 z.harg10 z.arg11 z.harg11 z.arg12 z.harg12 z.arg13 z.harg13 z.arg14 z.harg14 z.arg15 z.harg15 z.arg16 z.harg16 z.arg17 z.harg17 z.arg18 z.harg18 z.arg19 z.harg19 z.arg20 z.harg20 z.arg21 z.harg21 hc z.x0 z.x1 z.x2 z.x3 z.x4 z.x5 z.x6 z.x7 z.x8 z.x9 z.x10 z.x11 z.x12 z.x13 z.xs1 z.xs2 z.xs3)) : DoneO A b T o where
  k a kv d := by
    rw [← place T a.val, E]; dsimp only
    exact (Bsout1 z hc a ⟨64 * kv.val + d.val, by omega⟩).trans (B.k ⟨512 + a.val, by omega⟩ kv d)
  v a kv d := by
    rw [← place T a.val, E]; dsimp only
    exact (Bsout2 z hc ⟨64 * kv.val + d.val, by omega⟩ a).trans (B.v ⟨512 + a.val, by omega⟩ kv d)
  u a e := by
    rw [← place T a.val, E]; dsimp only
    exact (Bsout3 z hc a e).trans (B.u ⟨512 + a.val, by omega⟩ e)
  o s e := by
    rw [E]; dsimp only
    exact (congrFun (Bout z hc) (ix3 0 s e)).trans (tileB g hA B s e)

variable (m : (ℓ : Loc nD τ sig) → Buf (Elt Ideal) ℓ)

/-- What grid point `t` leaves. -/
def Done (c : Dev nD) (t : Fin cfg0.N) : Prop := DoneO (AR m c) (bt t) (tt t) (outsAt0 m c t.val t.isLt)

set_option maxHeartbeats 4000000 in
/-- A first tile of a batch. -/
theorem doneA (c : Dev nD) (hA : Fine (AR m c)) (t : Fin cfg0.N) (h0 : t.val % 8 = 0) : Done m c t := by
  have g : Good ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, scM0_0, Memref.isWhole_whole _, scM0_1, Memref.isWhole_whole _, scM0_2, Memref.isWhole_whole _, scM0_3, Memref.isWhole_whole _, scM0_4, Memref.isWhole_whole _, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, fun _ => 0, fun _ => 0, fun _ => 0⟩ (AR m c) (bt t) (tt t) := good m t c (fun _ => 0) (fun _ => 0) (fun _ => 0)
  exact runA (z := ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, scM0_0, Memref.isWhole_whole _, scM0_1, Memref.isWhole_whole _, scM0_2, Memref.isWhole_whole _, scM0_3, Memref.isWhole_whole _, scM0_4, Memref.isWhole_whole _, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, fun _ => 0, fun _ => 0, fun _ => 0⟩) g hA (bandsA g h0) ((hcond0_0 t).mpr h0) (outsAt0 m c t.val t.isLt) (outsAt0_A m c t h0)

set_option maxHeartbeats 4000000 in
/-- A later tile of a batch, from the tile before. -/
theorem doneB (c : Dev nD) (hA : Fine (AR m c)) (t : Fin cfg0.N) (h0 : ¬ t.val % 8 = 0)
    (P : Done m c ⟨t.val - 1, Nat.lt_of_le_of_lt (Nat.sub_le _ _) t.isLt⟩) : Done m c t := by
  have hb : bt ⟨t.val - 1, Nat.lt_of_le_of_lt (Nat.sub_le _ _) t.isLt⟩ = bt t := Fin.ext (show (t.val - 1) / 8 = t.val / 8 by omega)
  have ht : ∀ a : ℕ, 512 * ((t.val - 1) % 8 + 1) + a = 512 * (t.val % 8) + a := fun a => by omega
  have g : Good ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, scM0_0, Memref.isWhole_whole _, scM0_1, Memref.isWhole_whole _, scM0_2, Memref.isWhole_whole _, scM0_3, Memref.isWhole_whole _, scM0_4, Memref.isWhole_whole _, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2⟩ (AR m c) (bt t) (tt t) := good m t c (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have B := bandsB g
    (fun a kv d => (P.k a kv d).trans (by rw [hb]; exact congrArg (KP (AR m c) (bt t) kv d) (ht a.val)))
    (fun a kv d => (P.v a kv d).trans (by rw [hb]; exact congrArg (VP (AR m c) (bt t) kv d) (ht a.val)))
    (fun a e => (P.u a e).trans (by rw [hb]; exact congrArg (UP (AR m c) (bt t) e) (ht a.val)))
  exact runB (z := ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, scM0_0, Memref.isWhole_whole _, scM0_1, Memref.isWhole_whole _, scM0_2, Memref.isWhole_whole _, scM0_3, Memref.isWhole_whole _, scM0_4, Memref.isWhole_whole _, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2⟩) g hA B (fun h => h0 ((hcond0_0 t).mp h)) (outsAt0 m c t.val t.isLt) (outsAt0_B m c t h0)

/-- Every grid point. -/
theorem done (c : Dev nD) (hA : Fine (AR m c)) : ∀ (n : ℕ) (h : n < cfg0.N), Done m c ⟨n, h⟩
  | 0, h => doneA m c hA ⟨0, h⟩ rfl
  | n + 1, h => by
    by_cases h0 : (n + 1) % 8 = 0
    · exact doneA m c hA ⟨n + 1, h⟩ h0
    · exact doneB m c hA ⟨n + 1, h⟩ h0 (done c hA n (Nat.lt_of_succ_lt h))

/-- The result array as a function of its position. -/
def FIN (c : Dev nD) : FVec Ideal S8x4096x1024 .f32 := fun y => OUT (AR m c) (y 0) (y 1) (y 2)

/-- The result array after the last grid point. -/
theorem final (c : Dev nD) (hA : Fine (AR m c)) : (dats m 0 c).arrAt 14 cfg0.N = FIN m c := by
  refine (dats m 0 c).arrAt_eq_of_covers 14 _ (by decide +kernel) fun t _ y => ?_
  blk_simp
  rw [after0_14]
  have D := done m c hA t.val t.isLt
  idx_vars y
  have hj : ((cfg0.win 14).blk t).view.emb (ix3 y0 y1 y2) = ix3 (bt t) (tok (tt t) y1) y2 := by blk_ext [idx t]
  have hj' : ((View.whole main_v32).slice (Cert.KernelIdeal.win0_14.rect t)).emb (ix3 y0 y1 y2) = ix3 (bt t) (tok (tt t) y1) y2 := hj
  rw [hj']
  obtain rfl : y0 = 0 := Fin.ext (by omega)
  exact D.o y1 y2

end Cert.KernelIdeal.Mix
end
-- ==== Proof.MixFine.lean ====
/- The precondition says that the arguments the softmax reads hold no infinity. -/
module

public import proofs.«01_k».proof.Defs
public import proofs.«01_k».proof.Proof.MixGrid

@[expose] public section

set_option maxRecDepth 16384

noncomputable section
open Idealize.ShloMosaic

namespace Cert.Pre_finite

/-- The shape facts the precondition states. -/
theorem shapes : Cert.Pre_finite.Facts where
  bcast_S_S8x4096x1024 := by decide
  bcast_S_S6x8x1024 := by decide
  bcast_S_S1024 := by decide
  bcast_S_S1024x1280 := by decide
  bcast_S_S64 := by decide
  bcast_S_S8 := by decide

/-- A number between the two infinities is real. -/
theorem real_of {x : EReal} (h : IntOp.andi (Ideal.cmp .olt x (Ideal.ofBits .f32 0x7F800000#32)) (Ideal.cmp .ogt x (Ideal.ofBits .f32 0xFF800000#32)) = 1#1) : Cert.Mix.Rl x := by
  have ht : Ideal.ofBits .f32 0x7F800000#32 = ⊤ := by rfl
  have hb : Ideal.ofBits .f32 0xFF800000#32 = ⊥ := by rfl
  rw [ht, hb] at h
  refine Cert.Mix.Rl.mk' (fun e => ?_) (fun e => ?_)
  · subst e
    simp [Ideal.cmp, IntOp.andi] at h
  · subst e
    simp [Ideal.cmp, IntOp.andi] at h

end Cert.Pre_finite

namespace Cert.KernelIdeal.Mix
open Cert.KernelIdeal Cert.KernelIdeal.Gen Cert.Mix

/-- The kernel's arguments under the precondition. -/
theorem fine (m : (ℓ : Loc nD τ sig) → Buf (Elt Ideal) ℓ) (h : Cert.Pre_KernelIdeal_finite (hPre_finite := Cert.Pre_finite.shapes) m) (c : Dev nD) : Fine (AR m c) := by
  obtain ⟨h0, h1, h3, h4, h5, h6, h7⟩ := h c
  exact
    { X := fun b s k => Cert.Pre_finite.real_of (congrFun h0 (ix3 b s k))
      M := fun j b k => Cert.Pre_finite.real_of (congrFun h1 (ix3 j b k))
      G := fun k => Cert.Pre_finite.real_of (congrFun h3 (ix1 k))
      W := fun k e => Cert.Pre_finite.real_of (congrFun h4 (ix2 k e))
      GQ := fun d => Cert.Pre_finite.real_of (congrFun h5 (ix1 d))
      GK := fun d => Cert.Pre_finite.real_of (congrFun h6 (ix1 d))
      SK := fun n => Cert.Pre_finite.real_of (congrFun h7 (ix1 n)) }

end Cert.KernelIdeal.Mix
end
-- ==== Proof.RefSteps.lean ====
/- The reference's operations, grouped in steps over variables. -/
module

public import proofs.«01_k».proof.Proof.Gen.ReferenceIdeal
public import proofs.«01_k».proof.Proof.MixSpec
public import Idealize.ShloMosaic.Lib.Pointwise

@[expose] public section

set_option maxRecDepth 16384

noncomputable section
open Idealize.ShloMosaic
namespace Cert.ReferenceIdeal.Mix
open Cert.ReferenceIdeal Cert.ReferenceIdeal.Gen

/-- The angles. -/
def R15 (a2 : IVec S8x4096 32) : FVec Ideal S8x4096x8 .f32 :=
  mulf (broadcastInDim S8x4096x8 ![0, 1, 2] bcast_S8x4096x1_S8x4096x8_0_1_2 (broadcastInDim S8x4096x1 ![0, 1] bcast_S8x4096_S8x4096x1_0_1 (sitofp .f32 a2))) (broadcastInDim S8x4096x8 ![0, 1, 2] bcast_S1x1x8_S8x4096x8_0_1_2 (broadcastInDim S1x1x8 ![2] bcast_S8_S1x1x8_2 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The normalised and modulated input. -/
def RH (a0 : FVec Ideal S8x4096x1024 .f32) (a1 : FVec Ideal S6x8x1024 .f32) (a3 : FVec Ideal S1024 .f32) : FVec Ideal S8x4096x1024 .f32 :=
  addf (mulf (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a3))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S1x8x1024 ![1, 0, 0] a1 slices_S6x8x1024_S1x8x1024_1_0_0) shapeCasts_S1x8x1024_S8x1024))))) (broadcastInDim S8x4096x1024 ![0, 1, 2] bcast_S8x1x1024_S8x4096x1024_0_1_2 (broadcastInDim S8x1x1024 ![0, 2] bcast_S8x1024_S8x1x1024_0_2 (shapeCast _ (extractStridedSlice S1x8x1024 ![0, 0, 0] a1 slices_S6x8x1024_S1x8x1024_0_0_0) shapeCasts_S1x8x1024_S8x1024)))

/-- The input projection. -/
def R50 (h : FVec Ideal S8x4096x1024 .f32) (a4 : FVec Ideal S1024x1280 .f32) : FVec Ideal S8x4096x1280 .f32 :=
  Host.dotGeneral dot_S8x4096x1024_S1024x1280_S8x4096x1280_2_0_01_1_n_n none h a4

/-- The queries, split into heads. -/
def R52 (v50 : FVec Ideal S8x4096x1280 .f32) : FVec Ideal S8x4096x2x4x64 .f32 :=
  shapeCast _ (extractStridedSlice S8x4096x512 ![0, 0, 0] v50 slices_S8x4096x1280_S8x4096x512_0_0_0) shapeCasts_S8x4096x512_S8x4096x2x4x64

/-- The keys, split into heads. -/
def R54 (v50 : FVec Ideal S8x4096x1280 .f32) : FVec Ideal S8x4096x2x64 .f32 :=
  shapeCast _ (extractStridedSlice S8x4096x128 ![0, 0, 512] v50 slices_S8x4096x1280_S8x4096x128_0_0_512) shapeCasts_S8x4096x128_S8x4096x2x64

/-- The pooled channels, split into groups. -/
def R58 (v50 : FVec Ideal S8x4096x1280 .f32) : FVec Ideal S8x4096x4x128 .f32 :=
  shapeCast _ (extractStridedSlice S8x4096x512 ![0, 0, 768] v50 slices_S8x4096x1280_S8x4096x512_0_0_768) shapeCasts_S8x4096x512_S8x4096x4x128

/-- The normalised queries. -/
def R71 (v52 : FVec Ideal S8x4096x2x4x64 .f32) (a5 : FVec Ideal S64 .f32) : FVec Ideal S8x4096x2x4x64 .f32 :=
  mulf (mulf v52 (broadcastInDim S8x4096x2x4x64 ![0, 1, 2, 3, 4] bcast_S8x4096x2x4x1_S8x4096x2x4x64_0_1_2_3_4 (Host.rsqrt (addf (Host.divf (broadcastInDim S8x4096x2x4x1 ![0, 1, 2, 3] bcast_S8x4096x2x4_S8x4096x2x4x1_0_1_2_3 (Host.reduceAdd (mulf v52 v52) (constant S_ .f32 0x00000000#32) reducesTo_S8x4096x2x4x64_S8x4096x2x4_d4 h_S_)) (broadcastInDim S8x4096x2x4x1 ![] bcast_S_S8x4096x2x4x1 (constant S_ .f32 0x42800000#32))) (broadcastInDim S8x4096x2x4x1 ![] bcast_S_S8x4096x2x4x1 (constant S_ .f32 0x358637BD#32)))))) (broadcastInDim S8x4096x2x4x64 ![0, 1, 2, 3, 4] bcast_S1x1x1x1x64_S8x4096x2x4x64_0_1_2_3_4 (broadcastInDim S1x1x1x1x64 ![4] bcast_S64_S1x1x1x1x64_4 a5))

/-- The normalised keys. -/
def R98 (v54 : FVec Ideal S8x4096x2x64 .f32) (a6 : FVec Ideal S64 .f32) : FVec Ideal S8x4096x2x64 .f32 :=
  mulf (mulf v54 (broadcastInDim S8x4096x2x64 ![0, 1, 2, 3] bcast_S8x4096x2x1_S8x4096x2x64_0_1_2_3 (Host.rsqrt (addf (Host.divf (broadcastInDim S8x4096x2x1 ![0, 1, 2] bcast_S8x4096x2_S8x4096x2x1_0_1_2 (Host.reduceAdd (mulf v54 v54) (constant S_ .f32 0x00000000#32) reducesTo_S8x4096x2x64_S8x4096x2_d3 h_S_)) (broadcastInDim S8x4096x2x1 ![] bcast_S_S8x4096x2x1 (constant S_ .f32 0x42800000#32))) (broadcastInDim S8x4096x2x1 ![] bcast_S_S8x4096x2x1 (constant S_ .f32 0x358637BD#32)))))) (broadcastInDim S8x4096x2x64 ![0, 1, 2, 3] bcast_S1x1x1x64_S8x4096x2x64_0_1_2_3 (broadcastInDim S1x1x1x64 ![3] bcast_S64_S1x1x1x64_3 a6))

/-- The rotated keys. -/
def RKR (v98 : FVec Ideal S8x4096x2x64 .f32) (v16 : FVec Ideal S8x4096x8 .f32) (v17 : FVec Ideal S8x4096x8 .f32) : FVec Ideal S8x4096x2x64 .f32 :=
  (concatenate S8x4096x2x64 3 [⟨S8x4096x2x8, ((subf (mulf (extractStridedSlice S8x4096x2x8 ![0, 0, 0, 0] v98 slices_S8x4096x2x64_S8x4096x2x8_0_0_0_0) (broadcastInDim S8x4096x2x8 ![0, 1, 2, 3] bcast_S8x4096x1x8_S8x4096x2x8_0_1_2_3 (broadcastInDim S8x4096x1x8 ![0, 1, 3] bcast_S8x4096x8_S8x4096x1x8_0_1_3 v16))) (mulf (extractStridedSlice S8x4096x2x8 ![0, 0, 0, 8] v98 slices_S8x4096x2x64_S8x4096x2x8_0_0_0_8) (broadcastInDim S8x4096x2x8 ![0, 1, 2, 3] bcast_S8x4096x1x8_S8x4096x2x8_0_1_2_3 (broadcastInDim S8x4096x1x8 ![0, 1, 3] bcast_S8x4096x8_S8x4096x1x8_0_1_3 v17)))))⟩, ⟨S8x4096x2x8, ((addf (mulf (extractStridedSlice S8x4096x2x8 ![0, 0, 0, 8] v98 slices_S8x4096x2x64_S8x4096x2x8_0_0_0_8) (broadcastInDim S8x4096x2x8 ![0, 1, 2, 3] bcast_S8x4096x1x8_S8x4096x2x8_0_1_2_3 (broadcastInDim S8x4096x1x8 ![0, 1, 3] bcast_S8x4096x8_S8x4096x1x8_0_1_3 v16))) (mulf (extractStridedSlice S8x4096x2x8 ![0, 0, 0, 0] v98 slices_S8x4096x2x64_S8x4096x2x8_0_0_0_0) (broadcastInDim S8x4096x2x8 ![0, 1, 2, 3] bcast_S8x4096x1x8_S8x4096x2x8_0_1_2_3 (broadcastInDim S8x4096x1x8 ![0, 1, 3] bcast_S8x4096x8_S8x4096x1x8_0_1_3 v17)))))⟩, ⟨S8x4096x2x48, ((extractStridedSlice S8x4096x2x48 ![0, 0, 0, 16] v98 slices_S8x4096x2x64_S8x4096x2x48_0_0_0_16))⟩] concatenates_S8x4096x2x8_S8x4096x2x8_S8x4096x2x48_S8x4096x2x64_d3)

/-- The rotated keys in blocks of 128 tokens. -/
def R114 (kr : FVec Ideal S8x4096x2x64 .f32) : FVec Ideal S8x32x128x2x64 .f32 :=
  shapeCast _ kr shapeCasts_S8x4096x2x64_S8x32x128x2x64

/-- The values in blocks of 128 tokens. -/
def R115 (v50 : FVec Ideal S8x4096x1280 .f32) : FVec Ideal S8x32x128x2x64 .f32 :=
  shapeCast _ (shapeCast _ (extractStridedSlice S8x4096x128 ![0, 0, 640] v50 slices_S8x4096x1280_S8x4096x128_0_0_640) shapeCasts_S8x4096x128_S8x4096x2x64) shapeCasts_S8x4096x2x64_S8x32x128x2x64

/-- The rotated queries. -/
def RQ (v71 : FVec Ideal S8x4096x2x4x64 .f32) (v16 : FVec Ideal S8x4096x8 .f32) (v17 : FVec Ideal S8x4096x8 .f32) : FVec Ideal S8x4096x2x4x64 .f32 :=
  (concatenate S8x4096x2x4x64 4 [⟨S8x4096x2x4x8, ((subf (mulf (extractStridedSlice S8x4096x2x4x8 ![0, 0, 0, 0, 0] v71 slices_S8x4096x2x4x64_S8x4096x2x4x8_0_0_0_0_0) (broadcastInDim S8x4096x2x4x8 ![0, 1, 2, 3, 4] bcast_S8x4096x1x1x8_S8x4096x2x4x8_0_1_2_3_4 (broadcastInDim S8x4096x1x1x8 ![0, 1, 4] bcast_S8x4096x8_S8x4096x1x1x8_0_1_4 v16))) (mulf (extractStridedSlice S8x4096x2x4x8 ![0, 0, 0, 0, 8] v71 slices_S8x4096x2x4x64_S8x4096x2x4x8_0_0_0_0_8) (broadcastInDim S8x4096x2x4x8 ![0, 1, 2, 3, 4] bcast_S8x4096x1x1x8_S8x4096x2x4x8_0_1_2_3_4 (broadcastInDim S8x4096x1x1x8 ![0, 1, 4] bcast_S8x4096x8_S8x4096x1x1x8_0_1_4 v17)))))⟩, ⟨S8x4096x2x4x8, ((addf (mulf (extractStridedSlice S8x4096x2x4x8 ![0, 0, 0, 0, 8] v71 slices_S8x4096x2x4x64_S8x4096x2x4x8_0_0_0_0_8) (broadcastInDim S8x4096x2x4x8 ![0, 1, 2, 3, 4] bcast_S8x4096x1x1x8_S8x4096x2x4x8_0_1_2_3_4 (broadcastInDim S8x4096x1x1x8 ![0, 1, 4] bcast_S8x4096x8_S8x4096x1x1x8_0_1_4 v16))) (mulf (extractStridedSlice S8x4096x2x4x8 ![0, 0, 0, 0, 0] v71 slices_S8x4096x2x4x64_S8x4096x2x4x8_0_0_0_0_0) (broadcastInDim S8x4096x2x4x8 ![0, 1, 2, 3, 4] bcast_S8x4096x1x1x8_S8x4096x2x4x8_0_1_2_3_4 (broadcastInDim S8x4096x1x1x8 ![0, 1, 4] bcast_S8x4096x8_S8x4096x1x1x8_0_1_4 v17)))))⟩, ⟨S8x4096x2x4x48, ((extractStridedSlice S8x4096x2x4x48 ![0, 0, 0, 0, 16] v71 slices_S8x4096x2x4x64_S8x4096x2x4x48_0_0_0_0_16))⟩] concatenates_S8x4096x2x4x8_S8x4096x2x4x8_S8x4096x2x4x48_S8x4096x2x4x64_d4)

/-- Each block of keys with the block before it. -/
def RKB (v114 : FVec Ideal S8x32x128x2x64 .f32) : FVec Ideal S8x32x256x2x64 .f32 :=
  concatenate S8x32x256x2x64 2 [⟨S8x32x128x2x64, (pad S8x32x128x2x64 ![0, 1, 0, 0, 0] ![0, 0, 0, 0, 0] ![0, 0, 0, 0, 0] (extractStridedSlice S8x31x128x2x64 ![0, 0, 0, 0, 0] v114 slices_S8x32x128x2x64_S8x31x128x2x64_0_0_0_0_0) (sitofp .f32 (constantI S_ 32 0#32)) pads_S8x31x128x2x64_S8x32x128x2x64_000_100_000_000_000 h_S_)⟩, ⟨S8x32x128x2x64, v114⟩] concatenates_S8x32x128x2x64_S8x32x128x2x64_S8x32x256x2x64_d2

/-- The position of a query row. -/
def R136  : IVec S32x128x1 32 :=
  addi (broadcastInDim S32x128x1 ![0, 1, 2] bcast_S32x1x1_S32x128x1_0_1_2 (muli (broadcastInDim S32x1x1 ![0] bcast_S32_S32x1x1_0 (iotaInDim S32 32 0)) (broadcastInDim S32x1x1 ![] bcast_S_S32x1x1 (constantI S_ 32 128#32)))) (broadcastInDim S32x128x1 ![0, 1, 2] bcast_S1x128x1_S32x128x1_0_1_2 (broadcastInDim S1x128x1 ![1] bcast_S128_S1x128x1_1 (iotaInDim S128 32 0)))

/-- The position of a key row. -/
def R143  : IVec S32x1x256 32 :=
  addi (broadcastInDim S32x1x256 ![0, 1, 2] bcast_S32x1x1_S32x1x256_0_1_2 (muli (subi (broadcastInDim S32x1x1 ![0] bcast_S32_S32x1x1_0 (iotaInDim S32 32 0)) (broadcastInDim S32x1x1 ![] bcast_S_S32x1x1 (constantI S_ 32 1#32))) (broadcastInDim S32x1x1 ![] bcast_S_S32x1x1 (constantI S_ 32 128#32)))) (broadcastInDim S32x1x256 ![0, 1, 2] bcast_S1x1x256_S32x1x256_0_1_2 (broadcastInDim S1x1x256 ![2] bcast_S256_S1x1x256_2 (iotaInDim S256 32 0)))

/-- Which key rows a query row reads. -/
def RMK (v136 : IVec S32x128x1 32) (v143 : IVec S32x1x256 32) : IVec S32x128x256 1 :=
  andi (andi (cmpi .sle (broadcastInDim S32x128x256 ![0, 1, 2] bcast_S32x1x256_S32x128x256_0_1_2 v143) (broadcastInDim S32x128x256 ![0, 1, 2] bcast_S32x128x1_S32x128x256_0_1_2 v136)) (cmpi .slt (subi (broadcastInDim S32x128x256 ![0, 1, 2] bcast_S32x128x1_S32x128x256_0_1_2 v136) (broadcastInDim S32x128x256 ![0, 1, 2] bcast_S32x1x256_S32x128x256_0_1_2 v143)) (broadcastInDim S32x128x256 ![] bcast_S_S32x128x256 (constantI S_ 32 128#32)))) (broadcastInDim S32x128x256 ![0, 1, 2] bcast_S32x1x256_S32x128x256_0_1_2 (cmpi .sge v143 (broadcastInDim S32x1x256 ![] bcast_S_S32x1x256 (constantI S_ 32 0#32))))

/-- The masked scores. -/
def RSC (mk : IVec S32x128x256 1) (kb : FVec Ideal S8x32x256x2x64 .f32) (q : FVec Ideal S8x4096x2x4x64 .f32) : FVec Ideal S8x32x2x4x128x256 .f32 :=
  select (broadcastInDim S8x32x2x4x128x256 ![0, 1, 2, 3, 4, 5] bcast_S1x32x1x1x128x256_S8x32x2x4x128x256_0_1_2_3_4_5 (broadcastInDim S1x32x1x1x128x256 ![1, 4, 5] bcast_S32x128x256_S1x32x1x1x128x256_1_4_5 mk)) (mulf (transpose S8x32x2x4x128x256 [0, 1, 2, 5, 4, 3] (Host.dotGeneral dot_S8x32x256x2x64_S8x32x128x2x4x64_S8x32x2x256x128x4_4_5_2_24_013_013 none kb (shapeCast _ q shapeCasts_S8x4096x2x4x64_S8x32x128x2x4x64)) transposes_S8x32x2x256x128x4_S8x32x2x4x128x256_0_1_2_5_4_3) (broadcastInDim S8x32x2x4x128x256 ![] bcast_S_S8x32x2x4x128x256 (constant S_ .f32 0x3E000000#32))) (broadcastInDim S8x32x2x4x128x256 ![] bcast_S_S8x32x2x4x128x256 (constant S_ .f32 0xFF800000#32))

/-- The scores with the sink last. -/
def R161 (sc : FVec Ideal S8x32x2x4x128x256 .f32) (a7 : FVec Ideal S8 .f32) : FVec Ideal S8x32x2x4x128x257 .f32 :=
  concatenate S8x32x2x4x128x257 5 [⟨S8x32x2x4x128x256, sc⟩, ⟨S8x32x2x4x128x1, (broadcastInDim S8x32x2x4x128x1 ![0, 1, 2, 3, 4, 5] bcast_S1x1x2x4x1x1_S8x32x2x4x128x1_0_1_2_3_4_5 (shapeCast _ a7 shapeCasts_S8_S1x1x2x4x1x1))⟩] concatenates_S8x32x2x4x128x256_S8x32x2x4x128x1_S8x32x2x4x128x257_d5

/-- The exponentials of the scores less their maximum. -/
def R168 (v161 : FVec Ideal S8x32x2x4x128x257 .f32) : FVec Ideal S8x32x2x4x128x257 .f32 :=
  Host.exp (subf v161 (broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 (maximumf (broadcastInDim S8x32x2x4x128 ![] bcast_S_S8x32x2x4x128 (constant S_ .f32 0xFF800000#32)) (Host.reduce FloatOps.maximumf v161 (constant S_ .f32 0xFF800000#32) reducesTo_S8x32x2x4x128x257_S8x32x2x4x128_d5 h_S_)))))

/-- The softmax weights without the sink's. -/
def RPR (v168 : FVec Ideal S8x32x2x4x128x257 .f32) : FVec Ideal S8x32x2x4x128x256 .f32 :=
  extractStridedSlice S8x32x2x4x128x256 ![0, 0, 0, 0, 0, 0] (Host.divf v168 (broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 (Host.reduceAdd v168 (constant S_ .f32 0x00000000#32) reducesTo_S8x32x2x4x128x257_S8x32x2x4x128_d5 h_S_)))) slices_S8x32x2x4x128x257_S8x32x2x4x128x256_0_0_0_0_0_0

/-- The weighted sums of the values. -/
def RAT (vb : FVec Ideal S8x32x256x2x64 .f32) (pr : FVec Ideal S8x32x2x4x128x256 .f32) : FVec Ideal S8x32x2x64x4x128 .f32 :=
  Host.dotGeneral dot_S8x32x256x2x64_S8x32x2x4x128x256_S8x32x2x64x4x128_2_5_4_34_013_012 none vb pr

/-- The attention's result by token and channel. -/
def RAO (aw : FVec Ideal S8x32x2x64x4x128 .f32) : FVec Ideal S8x4096x512 .f32 :=
  shapeCast _ (transpose S8x32x128x2x4x64 [0, 1, 5, 2, 4, 3] aw transposes_S8x32x2x64x4x128_S8x32x128x2x4x64_0_1_5_2_4_3) shapeCasts_S8x32x128x2x4x64_S8x4096x512

/-- The pooled channels with sixteen zero rows in front. -/
def R177 (v58 : FVec Ideal S8x4096x4x128 .f32) : FVec Ideal S8x4112x4x128 .f32 :=
  pad S8x4112x4x128 ![0, 16, 0, 0] ![0, 0, 0, 0] ![0, 0, 0, 0] v58 (sitofp .f32 (constantI S_ 32 0#32)) pads_S8x4096x4x128_S8x4112x4x128_000_1600_000_000 h_S_

/-- The window means of group 0. -/
def RP0 (v58 : FVec Ideal S8x4096x4x128 .f32) (v177 : FVec Ideal S8x4112x4x128 .f32) (v178 : IVec S4096 32) : FVec Ideal S8x4096x128 .f32 :=
  Host.divf (addf (shapeCast _ (extractStridedSlice S8x4096x1x128 ![0, 0, 0, 0] v58 slices_S8x4096x4x128_S8x4096x1x128_0_0_0_0) shapeCasts_S8x4096x1x128_S8x4096x128) (shapeCast _ (extractStridedSlice S8x4096x1x128 ![0, 15, 0, 0] v177 slices_S8x4112x4x128_S8x4096x1x128_0_15_0_0) shapeCasts_S8x4096x1x128_S8x4096x128)) (broadcastInDim S8x4096x128 ![0, 1, 2] bcast_S1x4096x1_S8x4096x128_0_1_2 (broadcastInDim S1x4096x1 ![1] bcast_S4096_S1x4096x1_1 (sitofp .f32 (minsi (addi v178 (broadcastInDim S4096 ![] bcast_S_S4096 (constantI S_ 32 1#32))) (broadcastInDim S4096 ![] bcast_S_S4096 (constantI S_ 32 2#32))))))

/-- The window means of group 1. -/
def RP1 (v58 : FVec Ideal S8x4096x4x128 .f32) (v177 : FVec Ideal S8x4112x4x128 .f32) (v178 : IVec S4096 32) : FVec Ideal S8x4096x128 .f32 :=
  Host.divf (addf (addf (addf (shapeCast _ (extractStridedSlice S8x4096x1x128 ![0, 0, 1, 0] v58 slices_S8x4096x4x128_S8x4096x1x128_0_0_1_0) shapeCasts_S8x4096x1x128_S8x4096x128) (shapeCast _ (extractStridedSlice S8x4096x1x128 ![0, 15, 1, 0] v177 slices_S8x4112x4x128_S8x4096x1x128_0_15_1_0) shapeCasts_S8x4096x1x128_S8x4096x128)) (shapeCast _ (extractStridedSlice S8x4096x1x128 ![0, 14, 1, 0] v177 slices_S8x4112x4x128_S8x4096x1x128_0_14_1_0) shapeCasts_S8x4096x1x128_S8x4096x128)) (shapeCast _ (extractStridedSlice S8x4096x1x128 ![0, 13, 1, 0] v177 slices_S8x4112x4x128_S8x4096x1x128_0_13_1_0) shapeCasts_S8x4096x1x128_S8x4096x128)) (broadcastInDim S8x4096x128 ![0, 1, 2] bcast_S1x4096x1_S8x4096x128_0_1_2 (broadcastInDim S1x4096x1 ![1] bcast_S4096_S1x4096x1_1 (sitofp .f32 (minsi (addi v178 (broadcastInDim S4096 ![] bcast_S_S4096 (constantI S_ 32 1#32))) (broadcastInDim S4096 ![] bcast_S_S4096 (constantI S_ 32 4#32))))))

/-- The window means of group 2. -/
def RP2 (v58 : FVec Ideal S8x4096x4x128 .f32) (v177 : FVec Ideal S8x4112x4x128 .f32) (v178 : IVec S4096 32) : FVec Ideal S8x4096x128 .f32 :=
  Host.divf (addf (addf (addf (addf (addf (addf (addf (shapeCast _ (extractStridedSlice S8x4096x1x128 ![0, 0, 2, 0] v58 slices_S8x4096x4x128_S8x4096x1x128_0_0_2_0) shapeCasts_S8x4096x1x128_S8x4096x128) (shapeCast _ (extractStridedSlice S8x4096x1x128 ![0, 15, 2, 0] v177 slices_S8x4112x4x128_S8x4096x1x128_0_15_2_0) shapeCasts_S8x4096x1x128_S8x4096x128)) (shapeCast _ (extractStridedSlice S8x4096x1x128 ![0, 14, 2, 0] v177 slices_S8x4112x4x128_S8x4096x1x128_0_14_2_0) shapeCasts_S8x4096x1x128_S8x4096x128)) (shapeCast _ (extractStridedSlice S8x4096x1x128 ![0, 13, 2, 0] v177 slices_S8x4112x4x128_S8x4096x1x128_0_13_2_0) shapeCasts_S8x4096x1x128_S8x4096x128)) (shapeCast _ (extractStridedSlice S8x4096x1x128 ![0, 12, 2, 0] v177 slices_S8x4112x4x128_S8x4096x1x128_0_12_2_0) shapeCasts_S8x4096x1x128_S8x4096x128)) (shapeCast _ (extractStridedSlice S8x4096x1x128 ![0, 11, 2, 0] v177 slices_S8x4112x4x128_S8x4096x1x128_0_11_2_0) shapeCasts_S8x4096x1x128_S8x4096x128)) (shapeCast _ (extractStridedSlice S8x4096x1x128 ![0, 10, 2, 0] v177 slices_S8x4112x4x128_S8x4096x1x128_0_10_2_0) shapeCasts_S8x4096x1x128_S8x4096x128)) (shapeCast _ (extractStridedSlice S8x4096x1x128 ![0, 9, 2, 0] v177 slices_S8x4112x4x128_S8x4096x1x128_0_9_2_0) shapeCasts_S8x4096x1x128_S8x4096x128)) (broadcastInDim S8x4096x128 ![0, 1, 2] bcast_S1x4096x1_S8x4096x128_0_1_2 (broadcastInDim S1x4096x1 ![1] bcast_S4096_S1x4096x1_1 (sitofp .f32 (minsi (addi v178 (broadcastInDim S4096 ![] bcast_S_S4096 (constantI S_ 32 1#32))) (broadcastInDim S4096 ![] bcast_S_S4096 (constantI S_ 32 8#32))))))

/-- The window means of group 3. -/
def RP3 (v58 : FVec Ideal S8x4096x4x128 .f32) (v177 : FVec Ideal S8x4112x4x128 .f32) (v178 : IVec S4096 32) : FVec Ideal S8x4096x128 .f32 :=
  Host.divf (addf (addf (addf (addf (addf (addf (addf (addf (addf (addf (addf (addf (addf (addf (addf (shapeCast _ (extractStridedSlice S8x4096x1x128 ![0, 0, 3, 0] v58 slices_S8x4096x4x128_S8x4096x1x128_0_0_3_0) shapeCasts_S8x4096x1x128_S8x4096x128) (shapeCast _ (extractStridedSlice S8x4096x1x128 ![0, 15, 3, 0] v177 slices_S8x4112x4x128_S8x4096x1x128_0_15_3_0) shapeCasts_S8x4096x1x128_S8x4096x128)) (shapeCast _ (extractStridedSlice S8x4096x1x128 ![0, 14, 3, 0] v177 slices_S8x4112x4x128_S8x4096x1x128_0_14_3_0) shapeCasts_S8x4096x1x128_S8x4096x128)) (shapeCast _ (extractStridedSlice S8x4096x1x128 ![0, 13, 3, 0] v177 slices_S8x4112x4x128_S8x4096x1x128_0_13_3_0) shapeCasts_S8x4096x1x128_S8x4096x128)) (shapeCast _ (extractStridedSlice S8x4096x1x128 ![0, 12, 3, 0] v177 slices_S8x4112x4x128_S8x4096x1x128_0_12_3_0) shapeCasts_S8x4096x1x128_S8x4096x128)) (shapeCast _ (extractStridedSlice S8x4096x1x128 ![0, 11, 3, 0] v177 slices_S8x4112x4x128_S8x4096x1x128_0_11_3_0) shapeCasts_S8x4096x1x128_S8x4096x128)) (shapeCast _ (extractStridedSlice S8x4096x1x128 ![0, 10, 3, 0] v177 slices_S8x4112x4x128_S8x4096x1x128_0_10_3_0) shapeCasts_S8x4096x1x128_S8x4096x128)) (shapeCast _ (extractStridedSlice S8x4096x1x128 ![0, 9, 3, 0] v177 slices_S8x4112x4x128_S8x4096x1x128_0_9_3_0) shapeCasts_S8x4096x1x128_S8x4096x128)) (shapeCast _ (extractStridedSlice S8x4096x1x128 ![0, 8, 3, 0] v177 slices_S8x4112x4x128_S8x4096x1x128_0_8_3_0) shapeCasts_S8x4096x1x128_S8x4096x128)) (shapeCast _ (extractStridedSlice S8x4096x1x128 ![0, 7, 3, 0] v177 slices_S8x4112x4x128_S8x4096x1x128_0_7_3_0) shapeCasts_S8x4096x1x128_S8x4096x128)) (shapeCast _ (extractStridedSlice S8x4096x1x128 ![0, 6, 3, 0] v177 slices_S8x4112x4x128_S8x4096x1x128_0_6_3_0) shapeCasts_S8x4096x1x128_S8x4096x128)) (shapeCast _ (extractStridedSlice S8x4096x1x128 ![0, 5, 3, 0] v177 slices_S8x4112x4x128_S8x4096x1x128_0_5_3_0) shapeCasts_S8x4096x1x128_S8x4096x128)) (shapeCast _ (extractStridedSlice S8x4096x1x128 ![0, 4, 3, 0] v177 slices_S8x4112x4x128_S8x4096x1x128_0_4_3_0) shapeCasts_S8x4096x1x128_S8x4096x128)) (shapeCast _ (extractStridedSlice S8x4096x1x128 ![0, 3, 3, 0] v177 slices_S8x4112x4x128_S8x4096x1x128_0_3_3_0) shapeCasts_S8x4096x1x128_S8x4096x128)) (shapeCast _ (extractStridedSlice S8x4096x1x128 ![0, 2, 3, 0] v177 slices_S8x4112x4x128_S8x4096x1x128_0_2_3_0) shapeCasts_S8x4096x1x128_S8x4096x128)) (shapeCast _ (extractStridedSlice S8x4096x1x128 ![0, 1, 3, 0] v177 slices_S8x4112x4x128_S8x4096x1x128_0_1_3_0) shapeCasts_S8x4096x1x128_S8x4096x128)) (broadcastInDim S8x4096x128 ![0, 1, 2] bcast_S1x4096x1_S8x4096x128_0_1_2 (broadcastInDim S1x4096x1 ![1] bcast_S4096_S1x4096x1_1 (sitofp .f32 (minsi (addi v178 (broadcastInDim S4096 ![] bcast_S_S4096 (constantI S_ 32 1#32))) (broadcastInDim S4096 ![] bcast_S_S4096 (constantI S_ 32 16#32))))))

/-- The four groups of means. -/
def R301 (p0 : FVec Ideal S8x4096x128 .f32) (p1 : FVec Ideal S8x4096x128 .f32) (p2 : FVec Ideal S8x4096x128 .f32) (p3 : FVec Ideal S8x4096x128 .f32) : FVec Ideal S8x4096x4x128 .f32 :=
  concatenate S8x4096x4x128 2 [⟨S8x4096x1x128, ((broadcastInDim S8x4096x1x128 ![0, 1, 3] bcast_S8x4096x128_S8x4096x1x128_0_1_3 p0))⟩, ⟨S8x4096x1x128, ((broadcastInDim S8x4096x1x128 ![0, 1, 3] bcast_S8x4096x128_S8x4096x1x128_0_1_3 p1))⟩, ⟨S8x4096x1x128, ((broadcastInDim S8x4096x1x128 ![0, 1, 3] bcast_S8x4096x128_S8x4096x1x128_0_1_3 p2))⟩, ⟨S8x4096x1x128, ((broadcastInDim S8x4096x1x128 ![0, 1, 3] bcast_S8x4096x128_S8x4096x1x128_0_1_3 p3))⟩] concatenates_S8x4096x1x128_S8x4096x1x128_S8x4096x1x128_S8x4096x1x128_S8x4096x4x128_d2

/-- The means less the tokens. -/
def RPL (v301 : FVec Ideal S8x4096x4x128 .f32) (v58 : FVec Ideal S8x4096x4x128 .f32) : FVec Ideal S8x4096x4x128 .f32 :=
  subf v301 v58

/-- The pooled groups after matrix and scale. -/
def RPO (pl : FVec Ideal S8x4096x4x128 .f32) (a8 : FVec Ideal S4x128x128 .f32) (a9 : FVec Ideal S512 .f32) : FVec Ideal S8x4096x512 .f32 :=
  mulf (shapeCast _ (transpose S8x4096x4x128 [2, 3, 0, 1] (Host.dotGeneral dot_S4x128x128_S8x4096x4x128_S4x128x8x4096_1_3_2_01_0_2 none a8 pl) transposes_S4x128x8x4096_S8x4096x4x128_2_3_0_1) shapeCasts_S8x4096x4x128_S8x4096x512) (broadcastInDim S8x4096x512 ![0, 1, 2] bcast_S1x1x512_S8x4096x512_0_1_2 (broadcastInDim S1x1x512 ![2] bcast_S512_S1x1x512_2 a9))

/-- The two halves of the mixed channels. -/
def RMX (ao : FVec Ideal S8x4096x512 .f32) (po : FVec Ideal S8x4096x512 .f32) : FVec Ideal S8x4096x1024 .f32 :=
  concatenate S8x4096x1024 2 [⟨S8x4096x512, ao⟩, ⟨S8x4096x512, po⟩] concatenates_S8x4096x512_S8x4096x512_S8x4096x1024_d2

/-- The residual stream plus the gated output. -/
def ROUT (a0 : FVec Ideal S8x4096x1024 .f32) (a1 : FVec Ideal S6x8x1024 .f32) (mx : FVec Ideal S8x4096x1024 .f32) (a10 : FVec Ideal S1024x1024 .f32) : FVec Ideal S8x4096x1024 .f32 :=
  addf a0 (mulf (broadcastInDim S8x4096x1024 ![0, 1, 2] bcast_S8x1x1024_S8x4096x1024_0_1_2 (broadcastInDim S8x1x1024 ![0, 2] bcast_S8x1024_S8x1x1024_0_2 (shapeCast _ (extractStridedSlice S1x8x1024 ![2, 0, 0] a1 slices_S6x8x1024_S1x8x1024_2_0_0) shapeCasts_S1x8x1024_S8x1024))) (Host.dotGeneral dot_S8x4096x1024_S1024x1024_S8x4096x1024_2_0_01_1_n_n none mx a10))

end Cert.ReferenceIdeal.Mix
end
-- ==== Proof.RefEntries.lean ====
/- The reference's steps, entry by entry, over variables. -/
module

public import proofs.«01_k».proof.Proof.RefSteps

@[expose] public section

set_option maxRecDepth 16384

noncomputable section
open Idealize.ShloMosaic
open scoped BigOperators
namespace Cert.ReferenceIdeal.Mix
open Cert.ReferenceIdeal Cert.ReferenceIdeal.Gen Cert.Mix

/-- An angle. -/
theorem r15_at (a2 : IVec S8x4096 32) (b : Fin 8) (s : Fin 4096) (e : Fin 8) : R15 a2 (ix3 b s e) =
    FloatOps.sitofp (F := Ideal) .f32 (a2 (ix2 b s))
    * Ideal.pow (Ideal.ofBits .f32 1223959552#32)
      (Ideal.div (-(Ideal.ofBits .f32 1073741824#32 * FloatOps.sitofp (F := Ideal) .f32 (BitVec.ofNat 32 e.val)))
        (Ideal.ofBits .f32 1098907648#32)) := by
  pointwise [R15]

/-- An entry of the normalised and modulated input. -/
theorem rh_at (a0 : FVec Ideal S8x4096x1024 .f32) (a1 : FVec Ideal S6x8x1024 .f32) (a3 : FVec Ideal S1024 .f32) (b : Fin 8) (s : Fin 4096) (k : Fin 1024) :
    RH a0 a1 a3 (ix3 b s k) = nrm (fun k => a0 (ix3 b s k)) (fun k => a3 (ix1 k)) (fun k => a1 (ix3 1 b k)) (fun k => a1 (ix3 0 b k)) k := by
  pointwise [RH]
  rfl

/-- An entry of the input projection. -/
theorem r50_at (h : FVec Ideal S8x4096x1024 .f32) (a4 : FVec Ideal S1024x1280 .f32) (b : Fin 8) (s : Fin 4096) (c : Fin 1280) :
    R50 h a4 (ix3 b s c) = ∑ k, h (ix3 b s k) * a4 (ix2 k c) := by
  pointwise [R50]

/-- An entry of the queries. -/
theorem r52_at (v : FVec Ideal S8x4096x1280 .f32) (b : Fin 8) (s : Fin 4096) (kv : Fin 2) (g : Fin 4) (d : Fin 64) :
    R52 v (ix5 b s kv g d) = v (ix3 b s ⟨64 * (4 * kv.val + g.val) + d.val, by omega⟩) := by
  pointwise [R52]
  exact congrArg (fun n => v (ix3 b s n)) (Fin.ext (show kv.val * 256 + g.val * 64 + d.val = 64 * (4 * kv.val + g.val) + d.val by omega))

/-- An entry of the keys. -/
theorem r54_at (v : FVec Ideal S8x4096x1280 .f32) (b : Fin 8) (s : Fin 4096) (kv : Fin 2) (d : Fin 64) :
    R54 v (ix4 b s kv d) = v (ix3 b s ⟨512 + (64 * kv.val + d.val), by omega⟩) := by
  pointwise [R54]
  exact congrArg (fun n => v (ix3 b s n)) (Fin.ext (show 512 + (kv.val * 64 + d.val) = 512 + (64 * kv.val + d.val) by omega))

/-- An entry of the pooled channels. -/
theorem r58_at (v : FVec Ideal S8x4096x1280 .f32) (b : Fin 8) (s : Fin 4096) (g : Fin 4) (d : Fin 128) :
    R58 v (ix4 b s g d) = v (ix3 b s ⟨768 + (128 * g.val + d.val), by omega⟩) := by
  pointwise [R58]
  exact congrArg (fun n => v (ix3 b s n)) (Fin.ext (show 768 + (g.val * 128 + d.val) = 768 + (128 * g.val + d.val) by omega))

/-- A quotient by 64 is a product with 1/64. -/
theorem div64 (x : EReal) : Ideal.div x (Ideal.ofBits .f32 1115684864#32) = x * Ideal.ofBits .f32 1015021568#32 := by
  rw [w64, w64th, Ideal.div_coe (by norm_num : (64 : ℝ) ≠ 0)]

/-- An entry of the normalised queries. -/
theorem r71_at (v : FVec Ideal S8x4096x2x4x64 .f32) (a5 : FVec Ideal S64 .f32) (b : Fin 8) (s : Fin 4096) (kv : Fin 2) (g : Fin 4) (d : Fin 64) :
    R71 v a5 (ix5 b s kv g d) = rn (fun d => v (ix5 b s kv g d)) (fun d => a5 (ix1 d)) d := by
  pointwise [R71]
  rw [div64]; rfl

/-- An entry of the normalised keys. -/
theorem r98_at (v : FVec Ideal S8x4096x2x64 .f32) (a5 : FVec Ideal S64 .f32) (b : Fin 8) (s : Fin 4096) (kv : Fin 2) (d : Fin 64) :
    R98 v a5 (ix4 b s kv d) = rn (fun d => v (ix4 b s kv d)) (fun d => a5 (ix1 d)) d := by
  pointwise [R98]
  rw [div64]; rfl

/-- An entry of the rotated queries. -/
theorem rq_at (v : FVec Ideal S8x4096x2x4x64 .f32) (c q : FVec Ideal S8x4096x8 .f32) (b : Fin 8) (s : Fin 4096) (kv : Fin 2) (g : Fin 4) (d : Fin 64) :
    RQ v c q (ix5 b s kv g d) = rot (fun d => v (ix5 b s kv g d)) (fun e => c (ix3 b s e)) (fun e => q (ix3 b s e)) d := by
  pointwise [RQ]
  rfl

/-- An entry of the rotated keys. -/
theorem rkr_at (v : FVec Ideal S8x4096x2x64 .f32) (c q : FVec Ideal S8x4096x8 .f32) (b : Fin 8) (s : Fin 4096) (kv : Fin 2) (d : Fin 64) :
    RKR v c q (ix4 b s kv d) = rot (fun d => v (ix4 b s kv d)) (fun e => c (ix3 b s e)) (fun e => q (ix3 b s e)) d := by
  pointwise [RKR]
  rfl

/-- An entry of the keys in blocks. -/
theorem r114_at (v : FVec Ideal S8x4096x2x64 .f32) (b : Fin 8) (n : Fin 32) (i : Fin 128) (kv : Fin 2) (d : Fin 64) :
    R114 v (ix5 b n i kv d) = v (ix4 b ⟨128 * n.val + i.val, by omega⟩ kv d) := by
  pointwise [R114]
  exact congrArg (fun n => v (ix4 b n kv d)) (Fin.ext (show n.val * 128 + i.val = 128 * n.val + i.val by omega))

/-- An entry of the values in blocks. -/
theorem r115_at (v : FVec Ideal S8x4096x1280 .f32) (b : Fin 8) (n : Fin 32) (i : Fin 128) (kv : Fin 2) (d : Fin 64) :
    R115 v (ix5 b n i kv d) = v (ix3 b ⟨128 * n.val + i.val, by omega⟩ ⟨640 + (64 * kv.val + d.val), by omega⟩) := by
  pointwise [R115]
  exact congrArg₂ (fun n m => v (ix3 b n m)) (Fin.ext (show n.val * 128 + i.val = 128 * n.val + i.val by omega))
    (Fin.ext (show 640 + (kv.val * 64 + d.val) = 640 + (64 * kv.val + d.val) by omega))

/-- The integer zero as a float. -/
theorem sitofp0 : FloatOps.sitofp (F := Ideal) .f32 (0#32) = (0 : EReal) := by
  show (((0#32 : BitVec 32).toInt : ℝ) : EReal) = 0
  rw [show (0#32 : BitVec 32).toInt = 0 by decide]; norm_num

/-- An entry of a block with the block before it. -/
theorem rkb_at (v : FVec Ideal S8x32x128x2x64 .f32) (b : Fin 8) (n : Fin 32) (r : Fin 256) (kv : Fin 2) (d : Fin 64) :
    RKB v (ix5 b n r kv d) = if h : 128 ≤ r.val then v (ix5 b n ⟨r.val - 128, by omega⟩ kv d)
      else if h : 1 ≤ n.val then v (ix5 b ⟨n.val - 1, by omega⟩ ⟨r.val, by omega⟩ kv d) else 0 := by
  pointwise [RKB]
  rw [sitofp0]
  split_ifs
  all_goals try rfl
  all_goals try (exfalso; omega)
  rw [dif_pos (show 128 ≤ r.val by omega)]

/-- A query row's position. -/
theorem r136_at (n : Fin 32) (i : Fin 128) : R136 (ix3 n i 0) = BitVec.ofNat 32 n.val * 128#32 + BitVec.ofNat 32 i.val := by
  pointwise [R136]
  rfl

/-- A key row's position. -/
theorem r143_at (n : Fin 32) (i : Fin 256) : R143 (ix3 n 0 i) = (BitVec.ofNat 32 n.val - 1#32) * 128#32 + BitVec.ofNat 32 i.val := by
  pointwise [R143]
  rfl

/-- The test whether a query row reads a key row. -/
theorem rmk_at (p : IVec S32x128x1 32) (q : IVec S32x1x256 32) (n : Fin 32) (i : Fin 128) (r : Fin 256) : RMK p q (ix3 n i r)
    = BitVec.ofBool ((q (ix3 n 0 r)).sle (p (ix3 n i 0))) &&& BitVec.ofBool ((p (ix3 n i 0) - q (ix3 n 0 r)).slt 128#32)
      &&& BitVec.ofBool ((0#32 : BitVec 32).sle (q (ix3 n 0 r))) := by
  pointwise [RMK]
  rfl

/-- It tests the window. -/
theorem mask_at (n : Fin 32) (i : Fin 128) (r : Fin 256) : RMK R136 R143 (ix3 n i r)
    = if i.val < r.val ∧ r.val ≤ i.val + 128 ∧ 128 ≤ 128 * n.val + r.val then 1#1 else 0#1 := by
  rw [rmk_at, r136_at, r143_at]
  have hn := n.isLt
  have hi := i.isLt
  have hr := r.isLt
  generalize hP : BitVec.ofNat 32 n.val * 128#32 + BitVec.ofNat 32 i.val = P
  generalize hQ : (BitVec.ofNat 32 n.val - 1#32) * 128#32 + BitVec.ofNat 32 r.val = Q
  have eP : P.toInt = 128 * n.val + i.val := by
    rw [← hP, BitVec.toInt_eq_toNat_cond, BitVec.toNat_add, BitVec.toNat_mul, BitVec.toNat_ofNat, BitVec.toNat_ofNat, BitVec.toNat_ofNat]
    split_ifs <;> omega
  have eQ : Q.toInt = 128 * n.val + r.val - 128 := by
    rw [← hQ, BitVec.toInt_eq_toNat_cond, BitVec.toNat_add, BitVec.toNat_mul, BitVec.toNat_sub, BitVec.toNat_ofNat, BitVec.toNat_ofNat, BitVec.toNat_ofNat, BitVec.toNat_ofNat]
    split_ifs <;> omega
  have eD : (P - Q).toInt = i.val - r.val + 128 := by
    rw [BitVec.toInt_sub, eP, eQ, Int.bmod_def]
    split_ifs <;> omega
  have e1 : Q.sle P = decide (r.val ≤ i.val + 128) := by
    rw [BitVec.sle_eq_decide, eP, eQ]; exact decide_eq_decide.2 (by omega)
  have e2 : (P - Q).slt 128#32 = decide (i.val < r.val) := by
    rw [BitVec.slt_eq_decide, eD, show (128#32 : BitVec 32).toInt = 128 by decide]; exact decide_eq_decide.2 (by omega)
  have e3 : (0#32 : BitVec 32).sle Q = decide (128 ≤ 128 * n.val + r.val) := by
    rw [BitVec.sle_eq_decide, eQ, show (0#32 : BitVec 32).toInt = 0 by decide]; exact decide_eq_decide.2 (by omega)
  rw [e1, e2, e3]
  by_cases h1 : r.val ≤ i.val + 128 <;> by_cases h2 : i.val < r.val <;> by_cases h3 : 128 ≤ 128 * n.val + r.val <;>
    simp only [h1, h2, h3, decide_true, decide_false, and_true, true_and, and_false, false_and, if_true, if_false, and_self] <;> rfl

/-- A masked score. -/
theorem rsc_at (mk : IVec S32x128x256 1) (kb : FVec Ideal S8x32x256x2x64 .f32) (q : FVec Ideal S8x4096x2x4x64 .f32) (b : Fin 8) (n : Fin 32) (kv : Fin 2) (g : Fin 4) (i : Fin 128) (r : Fin 256) :
    RSC mk kb q (ix6 b n kv g i r) = if mk (ix3 n i r) = 1#1 then
      (∑ x, kb (ix5 b n r kv x) * q (ix5 b ⟨128 * n.val + i.val, by omega⟩ kv g x)) * Ideal.ofBits .f32 1040187392#32 else ⊥ := by
  pointwise [RSC]
  rw [wbot]
  have e (h : n.val * 128 + i.val < 4096) : (⟨n.val * 128 + i.val, h⟩ : Fin 4096) = ⟨128 * n.val + i.val, by omega⟩ := Fin.ext (by show n.val * 128 + i.val = 128 * n.val + i.val; omega)
  show Scalar.select _ _ _ = Scalar.select _ _ _
  exact congrArg (fun k => Scalar.select (mk (ix3 n i r)) ((∑ x, kb (ix5 b n r kv x) * q (ix5 b k kv g x)) * Ideal.ofBits .f32 1040187392#32) (⊥ : EReal)) (e _)

/-- A score or the sink. -/
theorem r161_at (sc : FVec Ideal S8x32x2x4x128x256 .f32) (a7 : FVec Ideal S8 .f32) (b : Fin 8) (n : Fin 32) (kv : Fin 2) (g : Fin 4) (i : Fin 128) (r : Fin 257) :
    R161 sc a7 (ix6 b n kv g i r) = if h : r.val < 256 then sc (ix6 b n kv g i ⟨r.val, h⟩) else a7 (ix1 ⟨4 * kv.val + g.val, by omega⟩) := by
  pointwise [R161]
  have e : (⟨kv.val * 4 + g.val, by omega⟩ : Fin 8) = ⟨4 * kv.val + g.val, by omega⟩ := Fin.ext (by show kv.val * 4 + g.val = 4 * kv.val + g.val; omega)
  rw [e]

/-- A weighted sum of values. -/
theorem rat_at (vb : FVec Ideal S8x32x256x2x64 .f32) (v : FVec Ideal S8x32x2x4x128x256 .f32) (b : Fin 8) (n : Fin 32) (kv : Fin 2) (g : Fin 4) (i : Fin 128) (d : Fin 64) :
    RAT vb v (ix6 b n kv d g i) = ∑ x, vb (ix5 b n x kv d) * v (ix6 b n kv g i x) := by
  pointwise [RAT]

/-- The attention by token and channel. -/
theorem rao_at (v : FVec Ideal S8x32x2x64x4x128 .f32) (b : Fin 8) (s : Fin 4096) (a : Fin 512) :
    RAO v (ix3 b s a) = v (ix6 b ⟨s.val / 128, by omega⟩ ⟨a.val / 256, by omega⟩ ⟨a.val % 64, by omega⟩ ⟨a.val / 64 % 4, by omega⟩ ⟨s.val % 128, by omega⟩) := by
  pointwise [RAO]

/-- The padded pooled channels. -/
theorem r177_at (v : FVec Ideal S8x4096x4x128 .f32) (b : Fin 8) (s : Fin 4112) (g : Fin 4) (d : Fin 128) :
    R177 v (ix4 b s g d) = if h : 16 ≤ s.val then v (ix4 b ⟨s.val - 16, by omega⟩ g d) else 0 := by
  pointwise [R177]
  rw [sitofp0]
  split_ifs <;> first | rfl | (exfalso; omega)

/-- The four groups of means. -/
theorem r301_at (v0 v1 v2 v3 : FVec Ideal S8x4096x128 .f32) (b : Fin 8) (s : Fin 4096) (g : Fin 4) (d : Fin 128) :
    R301 v0 v1 v2 v3 (ix4 b s g d) = if g.val < 1 then v0 (ix3 b s d) else if g.val - 1 < 1 then v1 (ix3 b s d)
      else if g.val - 1 - 1 < 1 then v2 (ix3 b s d) else v3 (ix3 b s d) := by
  pointwise [R301]
  rfl

/-- A mean less the token's entry. -/
theorem rpl_at (v w : FVec Ideal S8x4096x4x128 .f32) (b : Fin 8) (s : Fin 4096) (g : Fin 4) (d : Fin 128) :
    RPL v w (ix4 b s g d) = v (ix4 b s g d) - w (ix4 b s g d) := by
  pointwise [RPL]

/-- The pooled groups after matrix and scale. -/
theorem rpo_at (v : FVec Ideal S8x4096x4x128 .f32) (a8 : FVec Ideal S4x128x128 .f32) (a9 : FVec Ideal S512 .f32) (b : Fin 8) (s : Fin 4096) (a : Fin 512) :
    RPO v a8 a9 (ix3 b s a) = (∑ x, a8 (ix3 ⟨a.val / 128, by omega⟩ x ⟨a.val % 128, by omega⟩) * v (ix4 b s ⟨a.val / 128, by omega⟩ x)) * a9 (ix1 a) := by
  pointwise [RPO]

/-- The two halves side by side. -/
theorem rmx_at (v w : FVec Ideal S8x4096x512 .f32) (b : Fin 8) (s : Fin 4096) (a : Fin 1024) :
    RMX v w (ix3 b s a) = if h : a.val < 512 then v (ix3 b s ⟨a.val, h⟩) else w (ix3 b s ⟨a.val - 512, by omega⟩) := by
  pointwise [RMX]

/-- The output. -/
theorem rout_at (a0 : FVec Ideal S8x4096x1024 .f32) (a1 : FVec Ideal S6x8x1024 .f32) (mx : FVec Ideal S8x4096x1024 .f32) (a10 : FVec Ideal S1024x1024 .f32) (b : Fin 8) (s : Fin 4096) (a : Fin 1024) :
    ROUT a0 a1 mx a10 (ix3 b s a) = a0 (ix3 b s a) + a1 (ix3 2 b a) * ∑ x, mx (ix3 b s x) * a10 (ix2 x a) := by
  pointwise [ROUT]

end Cert.ReferenceIdeal.Mix
end
-- ==== Proof.RefPool.lean ====
/- The reference's pooled windows, entry by entry. -/
module

public import proofs.«01_k».proof.Proof.RefEntries

@[expose] public section

set_option maxRecDepth 16384

noncomputable section
open Idealize.ShloMosaic
open scoped BigOperators
namespace Cert.ReferenceIdeal.Mix
open Cert.ReferenceIdeal Cert.ReferenceIdeal.Gen Cert.Mix

/-- The number of tokens in a window as a number. -/
theorem win_cnt (s w : ℕ) (hw : w ≤ 16) : FloatOps.sitofp (F := Ideal) .f32 (BitVec.ofNat 32 (min (s + 1) w)) = cnt s w := by
  have h : (BitVec.ofNat 32 (min (s + 1) w)).toInt = ((min (s + 1) w : ℕ) : ℤ) := by
    have h16 : min (s + 1) w ≤ 16 := le_trans (min_le_right _ _) hw
    generalize min (s + 1) w = n at h16 ⊢
    rw [BitVec.toInt_eq_toNat_of_lt (by rw [BitVec.toNat_ofNat]; omega), BitVec.toNat_ofNat]
    omega
  show (((BitVec.ofNat 32 (min (s + 1) w)).toInt : ℝ) : EReal) = _
  rw [h]; unfold cnt; norm_cast

/-- The length of a window as the reference takes it. -/
theorem win_min (s w : ℕ) (hs : s < 4096) (hw : w ≤ 16) :
    IntOp.minsi (IntOp.addi (BitVec.ofNat 32 s) 1#32) (BitVec.ofNat 32 w) = BitVec.ofNat 32 (min (s + 1) w) := by
  have e : IntOp.addi (BitVec.ofNat 32 s) 1#32 = BitVec.ofNat 32 (s + 1) := by
    apply BitVec.eq_of_toNat_eq
    show (BitVec.ofNat 32 s + 1#32).toNat = _
    rw [BitVec.toNat_add, BitVec.toNat_ofNat, BitVec.toNat_ofNat, BitVec.toNat_ofNat]; omega
  have t1 : (BitVec.ofNat 32 (s + 1)).toInt = ((s + 1 : ℕ) : ℤ) := by
    rw [BitVec.toInt_eq_toNat_of_lt (by rw [BitVec.toNat_ofNat]; omega), BitVec.toNat_ofNat]; omega
  have t2 : (BitVec.ofNat 32 w).toInt = (w : ℤ) := by
    rw [BitVec.toInt_eq_toNat_of_lt (by rw [BitVec.toNat_ofNat]; omega), BitVec.toNat_ofNat]; omega
  rw [e]
  show (if (BitVec.ofNat 32 (s + 1)).slt (BitVec.ofNat 32 w) then _ else _) = _
  rw [BitVec.slt_eq_decide, t1, t2]
  by_cases h : s + 1 < w
  · rw [if_pos (by simpa using by exact_mod_cast h), Nat.min_eq_left (by omega)]
  · rw [if_neg (by simpa using by exact_mod_cast (not_lt.1 h)), Nat.min_eq_right (by omega)]

variable (A : Args)

/-- The mean of group 0. -/
theorem rp0_at (v : FVec Ideal S8x4096x4x128 .f32) (p : FVec Ideal S8x4112x4x128 .f32) (u : IVec S4096 32)
    (b : Fin 8) (s : Fin 4096) (d : Fin 128) (x : ℕ → EReal) (hv : v (ix4 b s 0 d) = x (16 + s.val))
    (hp : ∀ t, p (ix4 b t 0 d) = x t.val) (hu : u (ix1 s) = BitVec.ofNat 32 s.val) : RP0 v p u (ix3 b s d)
      = Ideal.div (∑ k : Fin 2, x (s.val + 16 - k.val)) (cnt s.val 2) := by
  rw [← Finset.sum_range (fun k => x (s.val + 16 - k)), Nat.add_comm s.val 16]
  simp only [Finset.sum_range_succ, Finset.sum_range_zero, zero_add, Nat.sub_zero, show 16 + s.val - 1 = 15 + s.val by omega]
  pointwise [RP0]
  rw [hu, show (2#32 : BitVec 32) = BitVec.ofNat 32 2 from rfl, win_min _ _ s.isLt (by omega), win_cnt _ _ (by omega), hv]
  simp only [hp]

/-- The mean of group 1. -/
theorem rp1_at (v : FVec Ideal S8x4096x4x128 .f32) (p : FVec Ideal S8x4112x4x128 .f32) (u : IVec S4096 32)
    (b : Fin 8) (s : Fin 4096) (d : Fin 128) (x : ℕ → EReal) (hv : v (ix4 b s 1 d) = x (16 + s.val))
    (hp : ∀ t, p (ix4 b t 1 d) = x t.val) (hu : u (ix1 s) = BitVec.ofNat 32 s.val) : RP1 v p u (ix3 b s d)
      = Ideal.div (∑ k : Fin 4, x (s.val + 16 - k.val)) (cnt s.val 4) := by
  rw [← Finset.sum_range (fun k => x (s.val + 16 - k)), Nat.add_comm s.val 16]
  simp only [Finset.sum_range_succ, Finset.sum_range_zero, zero_add, Nat.sub_zero, show 16 + s.val - 1 = 15 + s.val by omega, show 16 + s.val - 2 = 14 + s.val by omega, show 16 + s.val - 3 = 13 + s.val by omega]
  pointwise [RP1]
  rw [hu, show (4#32 : BitVec 32) = BitVec.ofNat 32 4 from rfl, win_min _ _ s.isLt (by omega), win_cnt _ _ (by omega), hv]
  simp only [hp]

/-- The mean of group 2. -/
theorem rp2_at (v : FVec Ideal S8x4096x4x128 .f32) (p : FVec Ideal S8x4112x4x128 .f32) (u : IVec S4096 32)
    (b : Fin 8) (s : Fin 4096) (d : Fin 128) (x : ℕ → EReal) (hv : v (ix4 b s 2 d) = x (16 + s.val))
    (hp : ∀ t, p (ix4 b t 2 d) = x t.val) (hu : u (ix1 s) = BitVec.ofNat 32 s.val) : RP2 v p u (ix3 b s d)
      = Ideal.div (∑ k : Fin 8, x (s.val + 16 - k.val)) (cnt s.val 8) := by
  rw [← Finset.sum_range (fun k => x (s.val + 16 - k)), Nat.add_comm s.val 16]
  simp only [Finset.sum_range_succ, Finset.sum_range_zero, zero_add, Nat.sub_zero, show 16 + s.val - 1 = 15 + s.val by omega, show 16 + s.val - 2 = 14 + s.val by omega, show 16 + s.val - 3 = 13 + s.val by omega, show 16 + s.val - 4 = 12 + s.val by omega, show 16 + s.val - 5 = 11 + s.val by omega, show 16 + s.val - 6 = 10 + s.val by omega, show 16 + s.val - 7 = 9 + s.val by omega]
  pointwise [RP2]
  rw [hu, show (8#32 : BitVec 32) = BitVec.ofNat 32 8 from rfl, win_min _ _ s.isLt (by omega), win_cnt _ _ (by omega), hv]
  simp only [hp]

/-- The mean of group 3. -/
theorem rp3_at (v : FVec Ideal S8x4096x4x128 .f32) (p : FVec Ideal S8x4112x4x128 .f32) (u : IVec S4096 32)
    (b : Fin 8) (s : Fin 4096) (d : Fin 128) (x : ℕ → EReal) (hv : v (ix4 b s 3 d) = x (16 + s.val))
    (hp : ∀ t, p (ix4 b t 3 d) = x t.val) (hu : u (ix1 s) = BitVec.ofNat 32 s.val) : RP3 v p u (ix3 b s d)
      = Ideal.div (∑ k : Fin 16, x (s.val + 16 - k.val)) (cnt s.val 16) := by
  rw [← Finset.sum_range (fun k => x (s.val + 16 - k)), Nat.add_comm s.val 16]
  simp only [Finset.sum_range_succ, Finset.sum_range_zero, zero_add, Nat.sub_zero, show 16 + s.val - 1 = 15 + s.val by omega, show 16 + s.val - 2 = 14 + s.val by omega, show 16 + s.val - 3 = 13 + s.val by omega, show 16 + s.val - 4 = 12 + s.val by omega, show 16 + s.val - 5 = 11 + s.val by omega, show 16 + s.val - 6 = 10 + s.val by omega, show 16 + s.val - 7 = 9 + s.val by omega, show 16 + s.val - 8 = 8 + s.val by omega, show 16 + s.val - 9 = 7 + s.val by omega, show 16 + s.val - 10 = 6 + s.val by omega, show 16 + s.val - 11 = 5 + s.val by omega, show 16 + s.val - 12 = 4 + s.val by omega, show 16 + s.val - 13 = 3 + s.val by omega, show 16 + s.val - 14 = 2 + s.val by omega, show 16 + s.val - 15 = 1 + s.val by omega]
  pointwise [RP3]
  rw [hu, show (16#32 : BitVec 32) = BitVec.ofNat 32 16 from rfl, win_min _ _ s.isLt (by omega), win_cnt _ _ (by omega), hv]
  simp only [hp]

/-- The pooled groups. -/
theorem rpo_eq (h : FVec Ideal S8x4096x1280 .f32) (hh : ∀ b s c, h (ix3 b s c) = PR A b s c) (u : IVec S4096 32) (hu : ∀ s, u (ix1 s) = BitVec.ofNat 32 s.val)
    (b : Fin 8) (s : Fin 4096) (a : Fin 512) :
    RPO (RPL (R301 (RP0 (R58 h) (R177 (R58 h)) u) (RP1 (R58 h) (R177 (R58 h)) u) (RP2 (R58 h) (R177 (R58 h)) u) (RP3 (R58 h) (R177 (R58 h)) u)) (R58 h)) A.PW A.PS (ix3 b s a)
      = PO A b s ⟨a.val / 128, by omega⟩ ⟨a.val % 128, by omega⟩ := by
  have hv : ∀ b s g d, R58 h (ix4 b s g d) = U A b s ⟨128 * g.val + d.val, by omega⟩ := fun b s g d => by rw [r58_at, hh]; rfl
  have hv' : ∀ b s g d, R58 h (ix4 b s g d) = UP A b ⟨128 * g.val + d.val, by omega⟩ (16 + s.val) := fun b s g d => by
    rw [hv]; unfold UP
    rw [dif_pos ⟨by omega, by omega⟩]
    exact congrArg (fun n => U A b n _) (Fin.ext (show s.val = 16 + s.val - 16 by omega))
  have hp : ∀ b s g d, R177 (R58 h) (ix4 b s g d) = UP A b ⟨128 * g.val + d.val, by omega⟩ s.val := fun b s g d => by
    rw [r177_at]; unfold UP
    by_cases h16 : 16 ≤ s.val
    · rw [dif_pos h16, dif_pos ⟨h16, by omega⟩, hv]
    · rw [dif_neg h16, dif_neg (fun hc => h16 hc.1)]
  generalize hR : R58 h = v at hv hv' hp ⊢
  generalize hP : R177 v = p at hp ⊢
  rw [rpo_at]
  unfold PO
  have e0 : (⟨128 * (a.val / 128) + a.val % 128, by omega⟩ : Fin 512) = a := Fin.ext (by show 128 * (a.val / 128) + a.val % 128 = a.val; omega)
  refine congrArg₂ (· * ·) (Finset.sum_congr rfl fun c _ => (mul_comm _ _).trans (congrArg₂ (· * ·) ?_ rfl)) (congrArg (fun n => A.PS (ix1 n)) e0.symm)
  rw [rpl_at, hv, r301_at]
  unfold PL
  refine congrArg₂ (· - ·) ?_ rfl
  have ha := a.isLt
  generalize hg : (⟨a.val / 128, by omega⟩ : Fin 4) = g
  match g with
  | ⟨0, _⟩ => exact (if_pos (by show 0 < 1; omega)).trans (rp0_at v p u b s c (UP A b ⟨128 * 0 + c.val, by omega⟩) (hv' b s 0 c) (fun t => hp b t 0 c) (hu s))
  | ⟨1, _⟩ => exact (if_neg (by show ¬ 1 < 1; omega)).trans ((if_pos (by show 1 - 1 < 1; omega)).trans (rp1_at v p u b s c (UP A b ⟨128 * 1 + c.val, by omega⟩) (hv' b s 1 c) (fun t => hp b t 1 c) (hu s)))
  | ⟨2, _⟩ => exact (if_neg (by show ¬ 2 < 1; omega)).trans ((if_neg (by show ¬ 2 - 1 < 1; omega)).trans ((if_pos (by show 2 - 1 - 1 < 1; omega)).trans (rp2_at v p u b s c (UP A b ⟨128 * 2 + c.val, by omega⟩) (hv' b s 2 c) (fun t => hp b t 2 c) (hu s))))
  | ⟨3, _⟩ => exact (if_neg (by show ¬ 3 < 1; omega)).trans ((if_neg (by show ¬ 3 - 1 < 1; omega)).trans ((if_neg (by show ¬ 3 - 1 - 1 < 1; omega)).trans (rp3_at v p u b s c (UP A b ⟨128 * 3 + c.val, by omega⟩) (hv' b s 3 c) (fun t => hp b t 3 c) (hu s))))

end Cert.ReferenceIdeal.Mix
end
-- ==== Proof.RefSoft.lean ====
/- The reference's softmax over 256 scores and a sink, entry by entry. -/
module

public import proofs.«01_k».proof.Proof.RefSteps

@[expose] public section

set_option maxRecDepth 16384

noncomputable section
open Idealize.ShloMosaic
open scoped BigOperators
namespace Cert.ReferenceIdeal.Mix
open Cert.ReferenceIdeal Cert.ReferenceIdeal.Gen Cert.Mix

section
variable {n0 n1 n2 n3 n4 n5 : ℕ}

/-- The positions of a rank-six array that drop to a given position when the last axis is reduced. -/
theorem fiber6 (h : (⟨6, ![n0, n1, n2, n3, n4, n5]⟩ : Shape).ReducesTo [5] (⟨5, ![n0, n1, n2, n3, n4]⟩ : Shape))
    (a : Fin n0) (b : Fin n1) (c : Fin n2) (e : Fin n3) (f : Fin n4) (i : (⟨6, ![n0, n1, n2, n3, n4, n5]⟩ : Shape).Idx) :
    h.drop i = ix5 a b c e f ↔ ∃ k : Fin n5, ix6 a b c e f k = i := by
  constructor
  · intro E
    refine ⟨i 5, ?_⟩
    funext x; apply Fin.ext
    match x with
    | ⟨0, _⟩ => exact (congrArg Fin.val (congrFun E (show Fin 5 from 0))).symm
    | ⟨1, _⟩ => exact (congrArg Fin.val (congrFun E (show Fin 5 from 1))).symm
    | ⟨2, _⟩ => exact (congrArg Fin.val (congrFun E (show Fin 5 from 2))).symm
    | ⟨3, _⟩ => exact (congrArg Fin.val (congrFun E (show Fin 5 from 3))).symm
    | ⟨4, _⟩ => exact (congrArg Fin.val (congrFun E (show Fin 5 from 4))).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- A sum along the last axis of a rank-six array. -/
theorem sum6 (h : (⟨6, ![n0, n1, n2, n3, n4, n5]⟩ : Shape).ReducesTo [5] (⟨5, ![n0, n1, n2, n3, n4]⟩ : Shape))
    (v : (⟨6, ![n0, n1, n2, n3, n4, n5]⟩ : Shape).Idx → EReal) (init : EReal) (a : Fin n0) (b : Fin n1) (c : Fin n2) (e : Fin n3) (f : Fin n4) :
    Ideal.hostReduceAdd h v init (ix5 a b c e f) = init + ∑ k, v (ix6 a b c e f k) :=
  congrArg (init + ·) (Finset.sum_filter_eq_sum_of_fiber _ (fun k : Fin n5 => ix6 a b c e f k) (fun _ _ e => congrFun e 5) (fiber6 h a b c e f) v)

/-- A maximum along the last axis of a rank-six array. -/
theorem max6 {u : Shape} (h : (⟨6, ![n0, n1, n2, n3, n4, n5]⟩ : Shape).ReducesTo [5] (⟨5, ![n0, n1, n2, n3, n4]⟩ : Shape))
    (v : (⟨6, ![n0, n1, n2, n3, n4, n5]⟩ : Shape).Idx → EReal) (init : u.Idx → EReal) (hu : 0 < u.numel) (a : Fin n0) (b : Fin n1) (c : Fin n2) (e : Fin n3) (f : Fin n4) :
    Host.reduce (max : EReal → EReal → EReal) v init h hu (ix5 a b c e f) = Finset.fold max (init (Shape.Idx.first hu)) (fun k => v (ix6 a b c e f k)) Finset.univ := by
  rw [Host.reduce_eq_fold]
  exact Finset.fold_filter_eq_fold_of_fiber _ _ (fun k : Fin n5 => ix6 a b c e f k) (fun _ _ e => congrFun e 5) (fiber6 h a b c e f) _ v
end

/-- The maximum over 257 entries, the last a sink. -/
theorem fold257 (f : Fin 257 → EReal) : Finset.fold max ⊥ f Finset.univ = max (Finset.fold max ⊥ (fun r : Fin 256 => f r.castSucc) Finset.univ) (f (Fin.last 256)) := by
  refine eq_of_forall_ge_iff fun c => ?_
  rw [Finset.fold_max_le, max_le_iff, Finset.fold_max_le]
  constructor
  · intro h
    exact ⟨⟨h.1, fun x _ => h.2 _ (Finset.mem_univ _)⟩, h.2 _ (Finset.mem_univ _)⟩
  · intro h
    refine ⟨h.1.1, fun x _ => ?_⟩
    exact Fin.lastCases h.2 (fun i => h.1.2 i (Finset.mem_univ _)) x

/-- The exponentials with the reduction kept as one array. -/
def R168' (v : FVec Ideal S8x32x2x4x128x257 .f32) (mxs : FVec Ideal S8x32x2x4x128 .f32) : FVec Ideal S8x32x2x4x128x257 .f32 :=
  Host.exp (subf v (broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 (maximumf (broadcastInDim S8x32x2x4x128 ![] bcast_S_S8x32x2x4x128 (constant S_ .f32 0xFF800000#32)) mxs))))

/-- An exponential, with the maximum as an array. -/
theorem r168'_at (v : FVec Ideal S8x32x2x4x128x257 .f32) (mxs : FVec Ideal S8x32x2x4x128 .f32) (b : Fin 8) (n : Fin 32) (kv : Fin 2) (g : Fin 4) (i : Fin 128) (r : Fin 257) :
    R168' v mxs (ix6 b n kv g i r) = Ideal.exp (v (ix6 b n kv g i r) - max (Ideal.ofBits .f32 4286578688#32) (mxs (ix5 b n kv g i))) := by
  pointwise [R168']

/-- An exponential. -/
theorem r168_at (v : FVec Ideal S8x32x2x4x128x257 .f32) (b : Fin 8) (n : Fin 32) (kv : Fin 2) (g : Fin 4) (i : Fin 128) (r : Fin 257) :
    R168 v (ix6 b n kv g i r) = Ideal.exp (v (ix6 b n kv g i r)
      - max (Finset.fold max ⊥ (fun r : Fin 256 => v (ix6 b n kv g i r.castSucc)) Finset.univ) (v (ix6 b n kv g i (Fin.last 256)))) := by
  refine (r168'_at v (Host.reduce FloatOps.maximumf v (constant S_ .f32 0xFF800000#32) reducesTo_S8x32x2x4x128x257_S8x32x2x4x128_d5 h_S_) b n kv g i r).trans ?_
  have e := max6 reducesTo_S8x32x2x4x128x257_S8x32x2x4x128_d5 v (constant (F := Ideal) S_ .f32 0xFF800000#32) h_S_ b n kv g i
  have e2 : (constant (F := Ideal) S_ .f32 0xFF800000#32) (Shape.Idx.first h_S_) = (⊥ : EReal) := wbot
  rw [e2, fold257] at e
  rw [wbot, max_eq_right bot_le]
  exact congrArg (fun M => Ideal.exp (v (ix6 b n kv g i r) - M)) e

/-- The weights with the sum kept as one array. -/
def RPR' (v : FVec Ideal S8x32x2x4x128x257 .f32) (sm : FVec Ideal S8x32x2x4x128 .f32) : FVec Ideal S8x32x2x4x128x256 .f32 :=
  extractStridedSlice S8x32x2x4x128x256 ![0, 0, 0, 0, 0, 0] (Host.divf v (broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 sm))) slices_S8x32x2x4x128x257_S8x32x2x4x128x256_0_0_0_0_0_0

/-- A weight, with the sum as an array. -/
theorem rpr'_at (v : FVec Ideal S8x32x2x4x128x257 .f32) (sm : FVec Ideal S8x32x2x4x128 .f32) (b : Fin 8) (n : Fin 32) (kv : Fin 2) (g : Fin 4) (i : Fin 128) (r : Fin 256) :
    RPR' v sm (ix6 b n kv g i r) = Ideal.div (v (ix6 b n kv g i r.castSucc)) (sm (ix5 b n kv g i)) := by
  pointwise [RPR']
  rfl

/-- A weight. -/
theorem rpr_at (v : FVec Ideal S8x32x2x4x128x257 .f32) (b : Fin 8) (n : Fin 32) (kv : Fin 2) (g : Fin 4) (i : Fin 128) (r : Fin 256) :
    RPR v (ix6 b n kv g i r) = Ideal.div (v (ix6 b n kv g i r.castSucc)) (∑ k : Fin 256, v (ix6 b n kv g i k.castSucc) + v (ix6 b n kv g i (Fin.last 256))) := by
  refine (rpr'_at v (Host.reduceAdd v (constant S_ .f32 0x00000000#32) reducesTo_S8x32x2x4x128x257_S8x32x2x4x128_d5 h_S_) b n kv g i r).trans ?_
  have e := sum6 reducesTo_S8x32x2x4x128x257_S8x32x2x4x128_d5 v (Ideal.ofBits .f32 0x00000000#32) b n kv g i
  have e0 : Ideal.hostReduceAdd reducesTo_S8x32x2x4x128x257_S8x32x2x4x128_d5 v (Ideal.ofBits .f32 0x00000000#32) (ix5 b n kv g i) = Host.reduceAdd (F := Ideal) v (constant S_ .f32 0x00000000#32) reducesTo_S8x32x2x4x128x257_S8x32x2x4x128_d5 h_S_ (ix5 b n kv g i) := rfl
  rw [show Ideal.ofBits .f32 0x00000000#32 = 0 by simp [Ideal.ofBits, Ideal.ieee], zero_add, Fin.sum_univ_castSucc] at e
  rw [show Ideal.ofBits .f32 0x00000000#32 = 0 by simp [Ideal.ofBits, Ideal.ieee]] at e0
  rw [← e, ← e0]

end Cert.ReferenceIdeal.Mix
end
-- ==== Proof.RefMix.lean ====
/- The reference's attention, entry by entry, and its result: the mixer's output of its arguments. -/
module

public import proofs.«01_k».proof.Proof.RefPool
public import proofs.«01_k».proof.Proof.RefSoft

@[expose] public section

set_option maxRecDepth 16384

noncomputable section
open Idealize.ShloMosaic
open scoped BigOperators
namespace Cert.ReferenceIdeal.Mix
open Cert.ReferenceIdeal Cert.ReferenceIdeal.Gen Cert.Mix

variable (A : Args)

/-- The angles' array. -/
theorem ang_eq (b : Fin 8) (s : Fin 4096) (e : Fin 8) : R15 A.P (ix3 b s e) = ANG A b s e := r15_at A.P b s e

/-- The projection's array. -/
theorem pr_eq (b : Fin 8) (s : Fin 4096) (c : Fin 1280) : R50 (RH A.X A.M A.G) A.W (ix3 b s c) = PR A b s c := by
  rw [r50_at]
  exact Finset.sum_congr rfl fun k _ => congrArg (· * _) (rh_at A.X A.M A.G b s k)

section
variable (h : FVec Ideal S8x4096x1280 .f32) (hh : ∀ b s c, h (ix3 b s c) = PR A b s c)
  (cs sn : FVec Ideal S8x4096x8 .f32) (hc : ∀ b s e, cs (ix3 b s e) = Ideal.cos (ANG A b s e)) (hs : ∀ b s e, sn (ix3 b s e) = Ideal.sin (ANG A b s e))
include hh hc hs

/-- The queries' array. -/
theorem q_eq (b : Fin 8) (s : Fin 4096) (kv : Fin 2) (g : Fin 4) (d : Fin 64) :
    RQ (R71 (R52 h) A.GQ) cs sn (ix5 b s kv g d) = Q A b s ⟨4 * kv.val + g.val, by omega⟩ d := by
  rw [rq_at]
  simp only [r71_at, r52_at, hh, hc, hs]
  rfl

/-- The keys' array. -/
theorem k_eq (b : Fin 8) (s : Fin 4096) (kv : Fin 2) (d : Fin 64) :
    RKR (R98 (R54 h) A.GK) cs sn (ix4 b s kv d) = K A b s kv d := by
  rw [rkr_at]
  simp only [r98_at, r54_at, hh, hc, hs]
  rfl
end

/-- Blocks of keys with the block before. -/
theorem kb_eq (k : FVec Ideal S8x4096x2x64 .f32) (hk : ∀ b s kv d, k (ix4 b s kv d) = K A b s kv d) (b : Fin 8) (n : Fin 32) (r : Fin 256) (kv : Fin 2) (d : Fin 64) :
    RKB (R114 k) (ix5 b n r kv d) = KP A b kv d (128 * n.val + r.val) := by
  rw [rkb_at]
  simp only [r114_at, hk]
  unfold KP
  by_cases h1 : 128 ≤ r.val
  · rw [dif_pos h1, dif_pos ⟨by omega, by omega⟩]
    exact congrArg (fun x => K A b x kv d) (Fin.ext (show 128 * n.val + (r.val - 128) = 128 * n.val + r.val - 128 by omega))
  · rw [dif_neg h1]
    by_cases h2 : 1 ≤ n.val
    · rw [dif_pos h2, dif_pos ⟨by omega, by omega⟩]
      exact congrArg (fun x => K A b x kv d) (Fin.ext (show 128 * (n.val - 1) + r.val = 128 * n.val + r.val - 128 by omega))
    · rw [dif_neg h2, dif_neg (by omega)]

/-- Blocks of values with the block before. -/
theorem vb_eq (h : FVec Ideal S8x4096x1280 .f32) (hh : ∀ b s c, h (ix3 b s c) = PR A b s c) (b : Fin 8) (n : Fin 32) (r : Fin 256) (kv : Fin 2) (d : Fin 64) :
    RKB (R115 h) (ix5 b n r kv d) = VP A b kv d (128 * n.val + r.val) := by
  rw [rkb_at]
  simp only [r115_at, hh]
  unfold VP V
  by_cases h1 : 128 ≤ r.val
  · rw [dif_pos h1, dif_pos ⟨by omega, by omega⟩]
    exact congrArg (fun x => PR A b x _) (Fin.ext (show 128 * n.val + (r.val - 128) = 128 * n.val + r.val - 128 by omega))
  · rw [dif_neg h1]
    by_cases h2 : 1 ≤ n.val
    · rw [dif_pos h2, dif_pos ⟨by omega, by omega⟩]
      exact congrArg (fun x => PR A b x _) (Fin.ext (show 128 * (n.val - 1) + r.val = 128 * n.val + r.val - 128 by omega))
    · rw [dif_neg h2, dif_neg (by omega)]

/-- The scores' array. -/
theorem sc_eq (kb : FVec Ideal S8x32x256x2x64 .f32) (hk : ∀ b n r kv d, kb (ix5 b n r kv d) = KP A b kv d (128 * n.val + r.val))
    (q : FVec Ideal S8x4096x2x4x64 .f32) (hq : ∀ b s kv g d, q (ix5 b s kv g d) = Q A b s ⟨4 * kv.val + g.val, by omega⟩ d)
    (b : Fin 8) (n : Fin 32) (kv : Fin 2) (g : Fin 4) (i : Fin 128) (r : Fin 256) :
    RSC (RMK R136 R143) kb q (ix6 b n kv g i r) = SC A b ⟨4 * kv.val + g.val, by omega⟩ ⟨128 * n.val + i.val, by omega⟩ r := by
  rw [rsc_at, mask_at]
  unfold SC
  have hn := n.isLt
  have hi := i.isLt
  have e1 : (128 * n.val + i.val) % 128 = i.val := by omega
  have e2 : (128 * n.val + i.val) / 128 * 128 = 128 * n.val := by omega
  have e3 : (⟨(4 * kv.val + g.val) / 4, by omega⟩ : Fin 2) = kv := Fin.ext (by show (4 * kv.val + g.val) / 4 = kv.val; omega)
  show _ = if (128 * n.val + i.val) % 128 < r.val ∧ r.val ≤ (128 * n.val + i.val) % 128 + 128 ∧ 128 ≤ (128 * n.val + i.val) / 128 * 128 + r.val then
    (∑ d, Q A b ⟨128 * n.val + i.val, by omega⟩ ⟨4 * kv.val + g.val, by omega⟩ d * KP A b ⟨(4 * kv.val + g.val) / 4, by omega⟩ d ((128 * n.val + i.val) / 128 * 128 + r.val)) * Ideal.ofBits .f32 1040187392#32
  else ⊥
  rw [e1, e2, e3]
  by_cases hc : i.val < r.val ∧ r.val ≤ i.val + 128 ∧ 128 ≤ 128 * n.val + r.val
  · rw [if_pos hc, if_pos rfl, if_pos hc]
    exact congrArg (· * _) (Finset.sum_congr rfl fun d _ => (congrArg₂ (· * ·) (hk _ _ _ _ _) (hq _ _ _ _ _)).trans (mul_comm _ _))
  · rw [if_neg hc, if_neg (by decide), if_neg hc]

/-- The attention's array. -/
theorem at_eq (sc : FVec Ideal S8x32x2x4x128x256 .f32)
    (hsc : ∀ b n kv g i r, sc (ix6 b n kv g i r) = SC A b ⟨4 * kv.val + g.val, by omega⟩ ⟨128 * n.val + i.val, by omega⟩ r)
    (vb : FVec Ideal S8x32x256x2x64 .f32) (hv : ∀ b n r kv d, vb (ix5 b n r kv d) = VP A b kv d (128 * n.val + r.val))
    (b : Fin 8) (n : Fin 32) (kv : Fin 2) (g : Fin 4) (i : Fin 128) (d : Fin 64) :
    RAT vb (RPR (R168 (R161 sc A.SK))) (ix6 b n kv d g i)
      = soft (SC A b ⟨4 * kv.val + g.val, by omega⟩ ⟨128 * n.val + i.val, by omega⟩) (A.SK (ix1 ⟨4 * kv.val + g.val, by omega⟩))
        (fun r => VP A b kv d (128 * n.val + r.val)) := by
  have h1 : ∀ r : Fin 256, R161 sc A.SK (ix6 b n kv g i r.castSucc) = SC A b ⟨4 * kv.val + g.val, by omega⟩ ⟨128 * n.val + i.val, by omega⟩ r := fun r => by
    rw [r161_at, dif_pos (show r.castSucc.val < 256 from r.isLt)]; exact hsc _ _ _ _ _ _
  have h2 : R161 sc A.SK (ix6 b n kv g i (Fin.last 256)) = A.SK (ix1 ⟨4 * kv.val + g.val, by omega⟩) := by
    rw [r161_at, dif_neg (show ¬ (Fin.last 256).val < 256 by decide)]
  rw [rat_at]
  generalize R161 sc A.SK = v at h1 h2 ⊢
  unfold soft
  refine Finset.sum_congr rfl fun r _ => (mul_comm _ _).trans (congrArg₂ (· * ·) ?_ (hv _ _ _ _ _))
  rw [rpr_at]
  simp only [r168_at, h1, h2]

/-- The attention by token and channel. -/
theorem ao_eq (aw : FVec Ideal S8x32x2x64x4x128 .f32)
    (h : ∀ b n kv g i d, aw (ix6 b n kv d g i) = soft (SC A b ⟨4 * kv.val + g.val, by omega⟩ ⟨128 * n.val + i.val, by omega⟩) (A.SK (ix1 ⟨4 * kv.val + g.val, by omega⟩))
        (fun r => VP A b kv d (128 * n.val + r.val))) (b : Fin 8) (s : Fin 4096) (a : Fin 512) :
    RAO aw (ix3 b s a) = AT A b s ⟨a.val / 64, by omega⟩ ⟨a.val % 64, by omega⟩ := by
  rw [rao_at, h]
  have ha := a.isLt
  unfold AT
  have e1 : (⟨4 * (a.val / 256) + a.val / 64 % 4, by omega⟩ : Fin 8) = ⟨a.val / 64, by omega⟩ := Fin.ext (by show 4 * (a.val / 256) + a.val / 64 % 4 = a.val / 64; omega)
  have e2 : (⟨128 * (s.val / 128) + s.val % 128, by omega⟩ : Fin 4096) = s := Fin.ext (by show 128 * (s.val / 128) + s.val % 128 = s.val; omega)
  have e3 : (⟨a.val / 64 / 4, by omega⟩ : Fin 2) = ⟨a.val / 256, by omega⟩ := Fin.ext (by show a.val / 64 / 4 = a.val / 256; omega)
  show soft (SC A b ⟨4 * (a.val / 256) + a.val / 64 % 4, by omega⟩ ⟨128 * (s.val / 128) + s.val % 128, by omega⟩) (A.SK (ix1 ⟨4 * (a.val / 256) + a.val / 64 % 4, by omega⟩))
      (fun r => VP A b ⟨a.val / 256, by omega⟩ ⟨a.val % 64, by omega⟩ (128 * (s.val / 128) + r.val))
    = soft (SC A b ⟨a.val / 64, by omega⟩ s) (A.SK (ix1 ⟨a.val / 64, by omega⟩)) (fun r => VP A b ⟨a.val / 64 / 4, by omega⟩ ⟨a.val % 64, by omega⟩ (s.val / 128 * 128 + r.val))
  rw [e1, e2, e3]
  simp only [Nat.mul_comm 128]

/-- The whole reference as a chain of its steps. -/
def REF (a0 : FVec Ideal S8x4096x1024 .f32) (a1 : FVec Ideal S6x8x1024 .f32) (a2 : IVec S8x4096 32) (a3 : FVec Ideal S1024 .f32) (a4 : FVec Ideal S1024x1280 .f32)
    (a5 a6 : FVec Ideal S64 .f32) (a7 : FVec Ideal S8 .f32) (a8 : FVec Ideal S4x128x128 .f32) (a9 : FVec Ideal S512 .f32) (a10 : FVec Ideal S1024x1024 .f32) : FVec Ideal S8x4096x1024 .f32 :=
  ROUT a0 a1 (RMX (RAO (RAT (RKB (R115 (R50 (RH a0 a1 a3) a4))) (RPR (R168 (R161 (RSC (RMK R136 R143)
      (RKB (R114 (RKR (R98 (R54 (R50 (RH a0 a1 a3) a4)) a6) (Host.cos (R15 a2)) (Host.sin (R15 a2)))))
      (RQ (R71 (R52 (R50 (RH a0 a1 a3) a4)) a5) (Host.cos (R15 a2)) (Host.sin (R15 a2)))) a7)))))
    (RPO (RPL (R301 (RP0 (R58 (R50 (RH a0 a1 a3) a4)) (R177 (R58 (R50 (RH a0 a1 a3) a4))) (iotaInDim S4096 32 0))
      (RP1 (R58 (R50 (RH a0 a1 a3) a4)) (R177 (R58 (R50 (RH a0 a1 a3) a4))) (iotaInDim S4096 32 0))
      (RP2 (R58 (R50 (RH a0 a1 a3) a4)) (R177 (R58 (R50 (RH a0 a1 a3) a4))) (iotaInDim S4096 32 0))
      (RP3 (R58 (R50 (RH a0 a1 a3) a4)) (R177 (R58 (R50 (RH a0 a1 a3) a4))) (iotaInDim S4096 32 0))) (R58 (R50 (RH a0 a1 a3) a4))) a8 a9)) a10

/-- The reference computes the mixer's output. -/
theorem ref_eq (b : Fin 8) (s : Fin 4096) (e : Fin 1024) :
    REF A.X A.M A.P A.G A.W A.GQ A.GK A.SK A.PW A.PS A.WO (ix3 b s e) = OUT A b s e := by
  unfold REF
  have hh := pr_eq A
  generalize R50 (RH A.X A.M A.G) A.W = h at hh ⊢
  have hc : ∀ b s e, Host.cos (R15 A.P) (ix3 b s e) = Ideal.cos (ANG A b s e) := fun b s e => congrArg Ideal.cos (ang_eq A b s e)
  have hs : ∀ b s e, Host.sin (R15 A.P) (ix3 b s e) = Ideal.sin (ANG A b s e) := fun b s e => congrArg Ideal.sin (ang_eq A b s e)
  generalize Host.cos (R15 A.P) = cs at hc ⊢
  generalize Host.sin (R15 A.P) = sn at hs ⊢
  have hq := q_eq A h hh cs sn hc hs
  generalize RQ (R71 (R52 h) A.GQ) cs sn = q at hq ⊢
  have hkb := kb_eq A _ (k_eq A h hh cs sn hc hs)
  generalize RKB (R114 (RKR (R98 (R54 h) A.GK) cs sn)) = kb at hkb ⊢
  have hsc := sc_eq A kb hkb q hq
  generalize RSC (RMK R136 R143) kb q = sc at hsc ⊢
  have hao := ao_eq A _ (fun b n kv g i d => at_eq A sc hsc (RKB (R115 h)) (vb_eq A h hh) b n kv g i d)
  generalize RAO (RAT (RKB (R115 h)) (RPR (R168 (R161 sc A.SK)))) = ao at hao ⊢
  have hpo := rpo_eq A h hh (iotaInDim S4096 32 0) (fun s => rfl)
  generalize RPO _ A.PW A.PS = po at hpo ⊢
  rw [rout_at]
  unfold OUT
  refine congrArg (fun x => A.X (ix3 b s e) + A.M (ix3 2 b e) * x) ?_
  rw [show (∑ x : Fin 1024, RMX ao po (ix3 b s x) * A.WO (ix2 x e)) = ∑ x : Fin (512 + 512), RMX ao po (ix3 b s x) * A.WO (ix2 x e) from rfl, Fin.sum_univ_add]
  refine congrArg₂ (· + ·) (Finset.sum_congr rfl fun a _ => congrArg₂ (· * ·) ?_ rfl) (Finset.sum_congr rfl fun a _ => congrArg₂ (· * ·) ?_ rfl)
  · exact (rmx_at ao po b s _).trans ((dif_pos (show (Fin.castAdd 512 a).val < 512 from a.isLt)).trans (hao b s a))
  · refine (rmx_at ao po b s _).trans ((dif_neg (show ¬ (Fin.natAdd 512 a).val < 512 by show ¬ 512 + a.val < 512; omega)).trans ?_)
    refine (congrArg (fun n => po (ix3 b s n)) (Fin.ext ?_ : _ = a)).trans (hpo b s a)
    show 512 + a.val - 512 = a.val
    omega

end Cert.ReferenceIdeal.Mix
end
-- ==== Proof.RefRun.lean ====
/- The reference's run ends with the chain of its steps. -/
module

public import proofs.«01_k».proof.Proof.RefMix
public import proofs.«01_k».proof.Proof.Gen.ReferenceIdeal.Run

@[expose] public section

set_option maxRecDepth 16384

noncomputable section
open Idealize.ShloMosaic
namespace Cert.ReferenceIdeal.Mix
open Cert.ReferenceIdeal Cert.ReferenceIdeal.Gen Cert.ReferenceIdeal.Value

variable (V : Valuation τ sig (Elt Ideal))

/-- The input projection. -/
theorem e50 : res_main_v50 (F := Ideal) V = R50 (RH (V (Proc.devRef .tc main_arg0)) (V (Proc.devRef .tc main_arg1)) (V (Proc.devRef .tc main_arg3))) (V (Proc.devRef .tc main_arg4)) := rfl

/-- The queries. -/
theorem e52 : res_main_v52 (F := Ideal) V = R52 (res_main_v50 V) := rfl

/-- The keys. -/
theorem e54 : res_main_v54 (F := Ideal) V = R54 (res_main_v50 V) := rfl

/-- The pooled channels. -/
theorem e58 : res_main_v58 (F := Ideal) V = R58 (res_main_v50 V) := rfl

/-- The angles. -/
theorem e15 : res_main_v15 (F := Ideal) V = R15 (V (Proc.devRef .tc main_arg2)) := rfl

/-- Their cosines. -/
theorem e16 : (res_main_v16 (F := Ideal) V : FVec Ideal S8x4096x8 .f32) = Host.cos (F := Ideal) (φ := .f32) (s := S8x4096x8) (res_main_v15 (F := Ideal) V) := rfl

/-- Their sines. -/
theorem e17 : (res_main_v17 (F := Ideal) V : FVec Ideal S8x4096x8 .f32) = Host.sin (F := Ideal) (φ := .f32) (s := S8x4096x8) (res_main_v15 (F := Ideal) V) := rfl

/-- The normalised queries. -/
theorem e71 : res_main_v71 (F := Ideal) V = R71 (res_main_v52 V) (V (Proc.devRef .tc main_arg5)) := rfl

/-- The normalised keys. -/
theorem e98 : res_main_v98 (F := Ideal) V = R98 (res_main_v54 V) (V (Proc.devRef .tc main_arg6)) := rfl

/-- The rotated keys. -/
theorem e114 : res_main_v114 (F := Ideal) V = R114 (RKR (res_main_v98 V) (res_main_v16 V) (res_main_v17 V)) := rfl

/-- The values. -/
theorem e115 : res_main_v115 (F := Ideal) V = R115 (res_main_v50 V) := rfl

/-- The position of a query row. -/
theorem e136 : res_main_v136 (F := Ideal) V = R136 := rfl

/-- The position of a key row. -/
theorem e143 : res_main_v143 (F := Ideal) V = R143 := rfl

/-- The scores with the sink last. -/
theorem e161 : res_main_v161 (F := Ideal) V = R161 (RSC (RMK (res_main_v136 V) (res_main_v143 V)) (RKB (res_main_v114 V)) (RQ (res_main_v71 V) (res_main_v16 V) (res_main_v17 V))) (V (Proc.devRef .tc main_arg7)) := rfl

/-- The exponentials. -/
theorem e168 : res_main_v168 (F := Ideal) V = R168 (res_main_v161 V) := rfl

/-- The pooled channels with rows of zeros in front. -/
theorem e177 : res_main_v177 (F := Ideal) V = R177 (res_main_v58 V) := rfl

/-- The tokens. -/
theorem e178 : res_main_v178 (F := Ideal) V = iotaInDim S4096 32 0 := rfl

/-- The window means. -/
theorem e301 : res_main_v301 (F := Ideal) V = R301 (RP0 (res_main_v58 V) (res_main_v177 V) (res_main_v178 V)) (RP1 (res_main_v58 V) (res_main_v177 V) (res_main_v178 V))
    (RP2 (res_main_v58 V) (res_main_v177 V) (res_main_v178 V)) (RP3 (res_main_v58 V) (res_main_v177 V) (res_main_v178 V)) := rfl

/-- The last steps put together are the whole chain. -/
theorem eout : ROUT (V (Proc.devRef .tc main_arg0)) (V (Proc.devRef .tc main_arg1)) (RMX (RAO (RAT (RKB (res_main_v115 (F := Ideal) V)) (RPR (res_main_v168 (F := Ideal) V))))
      (RPO (RPL (res_main_v301 (F := Ideal) V) (res_main_v58 (F := Ideal) V)) (V (Proc.devRef .tc main_arg8)) (V (Proc.devRef .tc main_arg9)))) (V (Proc.devRef .tc main_arg10))
    = REF (V (Proc.devRef .tc main_arg0)) (V (Proc.devRef .tc main_arg1)) (V (Proc.devRef .tc main_arg2)) (V (Proc.devRef .tc main_arg3)) (V (Proc.devRef .tc main_arg4)) (V (Proc.devRef .tc main_arg5))
        (V (Proc.devRef .tc main_arg6)) (V (Proc.devRef .tc main_arg7)) (V (Proc.devRef .tc main_arg8)) (V (Proc.devRef .tc main_arg9)) (V (Proc.devRef .tc main_arg10)) := by
  rw [e301, e168, e161, e178, e177, e143, e136, e115, e114, e98, e71, e17, e16, e15, e58, e54, e52, e50]
  rfl

end Cert.ReferenceIdeal.Mix
end
-- ==== Proof.RefEnd.lean ====
/- The reference's run, with its result as the chain of its steps. -/
module

public import proofs.«01_k».proof.Proof.RefRun

@[expose] public section

set_option maxRecDepth 16384

noncomputable section
open Idealize.ShloMosaic Idealize.SL.Sem
namespace Cert.ReferenceIdeal.Mix
open Cert.ReferenceIdeal Cert.ReferenceIdeal.Gen Cert.ReferenceIdeal.Value

/-- The reference runs, ends with `REF` of its arguments and leaves them. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v313) = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (eout (StableHlo.launchContents m c)), (h c).2⟩) (run (F := Ideal) m ρ)

end Cert.ReferenceIdeal.Mix
end
-- ==== Proof.Mixer.lean ====
/- The claims about the mixer, one theorem each. -/
module

public import proofs.«01_k».proof.Defs
public import proofs.«01_k».proof.Proof.MixDone
public import proofs.«01_k».proof.Proof.MixFine
public import proofs.«01_k».proof.Proof.RefEnd
public import proofs.«01_k».proof.Proof.Gen.Kernel.Frame

@[expose] public section

set_option maxRecDepth 16384

noncomputable section

namespace Cert.Proof
open Idealize.ShloMosaic Idealize.SL.Sem

/-- The mixer over machine words runs, leaves its arguments and ends with every counter at zero. -/
theorem frame_mixer : Cert.quiescent_Kernel (hKernel := Cert.Kernel.Gen.facts) :=
  fun m ρ _ => Cert.Kernel.Gen.frame m ρ

/-- The mixer over the reals runs, leaves its arguments and ends with every counter at zero. -/
theorem frame_mixer_ideal : Cert.quiescent_KernelIdeal (hKernelIdeal := Cert.KernelIdeal.Gen.facts) :=
  fun m ρ _ => Cert.KernelIdeal.Gen.frame m ρ

/-- The same under the precondition of the mixer's value. -/
theorem frame_mixer_finite : Cert.quiescent_KernelIdeal_pre_finite (hKernelIdeal := Cert.KernelIdeal.Gen.facts) (hPre_finite := Cert.Pre_finite.shapes) :=
  fun m ρ _ => Cert.KernelIdeal.Gen.frame m ρ

/-- The mixer's reference runs, leaves its arguments and ends with every counter at zero. -/
theorem frame_mixer_reference : Cert.quiescent_ReferenceIdeal (hReferenceIdeal := Cert.ReferenceIdeal.Gen.facts) :=
  fun m ρ _ => (θ_run _ _ _).mono (fun r h => ⟨fun c => (h c).2, sem_eq_zero_of_no_sems rfl r.2⟩)
    (Cert.ReferenceIdeal.Value.run (F := Ideal) m ρ)

/-- The same under the precondition of the mixer's value. -/
theorem frame_mixer_reference_finite : Cert.quiescent_ReferenceIdeal_pre_finite (hReferenceIdeal := Cert.ReferenceIdeal.Gen.facts) (hPre_finite := Cert.Pre_finite.shapes) :=
  fun m ρ _ => (θ_run _ _ _).mono (fun r h => ⟨fun c => (h c).2, sem_eq_zero_of_no_sems rfl r.2⟩)
    (Cert.ReferenceIdeal.Value.run (F := Ideal) m ρ)

/-- The mask's constant, named, is minus infinity over the reals. -/
theorem preserves_mixer : Cert.preserves_Kernel_KernelIdeal :=
  IdealRules.named_const.statement Cert.KernelIdeal.κ "mask" .f32 0xF149F2CA#32 ⊥ rfl

/-- The mixer and its reference, over the reals and from finite arguments, end with the same result. -/
theorem value_mixer : Cert.algebraic_KernelIdeal_ReferenceIdeal_pre_finite (hKernelIdeal := Cert.KernelIdeal.Gen.facts)
    (hReferenceIdeal := Cert.ReferenceIdeal.Gen.facts) (hPre_finite := Cert.Pre_finite.shapes) := by
  intro m g m' g' hpre hagree
  refine ⟨fun c => Cert.KernelIdeal.Mix.FIN m c, ?_, ?_⟩
  · run_from Cert.KernelIdeal.Gen.run_main m g
    exact Cert.KernelIdeal.Mix.final m c (Cert.KernelIdeal.Mix.fine m hpre c)
  · refine (θ_run _ _ _).mono (fun r h c => ⟨(h c).1.trans ?_, (h c).2⟩) (Cert.ReferenceIdeal.Mix.run_ref m' g')
    obtain ⟨h0, h1, h2, h3, h4, h5, h6, h7, h8, h9, h10⟩ := hagree c
    rw [h0, h1, h2, h3, h4, h5, h6, h7, h8, h9, h10]
    funext y
    have e : y = ix3 (y 0) (y 1) (y 2) := by
      funext q
      match q with
      | 0 => rfl
      | 1 => rfl
      | 2 => rfl
    rw [e]
    exact Cert.ReferenceIdeal.Mix.ref_eq (Cert.KernelIdeal.Mix.AR m c) (y 0) (y 1) (y 2)

end Cert.Proof
end
-- ==== Proof.MlpValue.lean ====
/- The feed-forward half of the layer: the array the kernel's grid of blocks writes is the reference's
   composed term of the kernel's own argument arrays. -/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Proof.MixSpec

@[expose] public section

set_option maxRecDepth 16384

noncomputable section

open Idealize.ShloMosaic Idealize.ShloMosaic.TcCoe Idealize.SL.Sem
open Idealize.ShloMosaic.Pipeline (Dat)

namespace Cert.Reference2Ideal.Mlp
open Cert.Reference2Ideal Cert.Reference2Ideal.Gen

/-- The modulated root-mean-square norm of the reference: what the first product reads. -/
def NORM (X : FVec Ideal S8x4096x1024 .f32) (M : FVec Ideal S6x8x1024 .f32) (Gn : FVec Ideal S1024 .f32) :
    FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 Gn))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S1x8x1024 ![4, 0, 0] M slices_S6x8x1024_S1x8x1024_4_0_0) shapeCasts_S1x8x1024_S8x1024))))) (broadcastInDim S8x4096x1024 ![0, 1, 2] bcast_S8x1x1024_S8x4096x1024_0_1_2 (broadcastInDim S8x1x1024 ![0, 2] bcast_S8x1024_S8x1x1024_0_2 (shapeCast _ (extractStridedSlice S1x8x1024 ![3, 0, 0] M slices_S6x8x1024_S1x8x1024_3_0_0) shapeCasts_S1x8x1024_S8x1024)))

/-- The hidden activations of the reference before squaring: the positive part of the first product. -/
def HID (X : FVec Ideal S8x4096x1024 .f32) (M : FVec Ideal S6x8x1024 .f32) (Gn : FVec Ideal S1024 .f32)
    (W1 : FVec Ideal S1024x4096 .f32) : FVec Ideal S8x4096x4096 .f32 :=
  maximumf (Host.dotGeneral dot_S8x4096x1024_S1024x4096_S8x4096x4096_2_0_01_1_n_n none (NORM X M Gn) W1) (broadcastInDim S8x4096x4096 ![] bcast_S_S8x4096x4096 (constant S_ .f32 0x00000000#32))

/-- The reference's result: the residual stream plus the gated second product. -/
def REF (X : FVec Ideal S8x4096x1024 .f32) (M : FVec Ideal S6x8x1024 .f32) (Gn : FVec Ideal S1024 .f32)
    (W1 : FVec Ideal S1024x4096 .f32) (W2 : FVec Ideal S4096x1024 .f32) : FVec Ideal S8x4096x1024 .f32 :=
  addf X (mulf (broadcastInDim S8x4096x1024 ![0, 1, 2] bcast_S8x1x1024_S8x4096x1024_0_1_2 (broadcastInDim S8x1x1024 ![0, 2] bcast_S8x1024_S8x1x1024_0_2 (shapeCast _ (extractStridedSlice S1x8x1024 ![5, 0, 0] M slices_S6x8x1024_S1x8x1024_5_0_0) shapeCasts_S1x8x1024_S8x1024))) (Host.dotGeneral dot_S8x4096x4096_S4096x1024_S8x4096x1024_2_0_01_1_n_n none (mulf (HID X M Gn W1) (HID X M Gn W1)) W2))

end Cert.Reference2Ideal.Mlp

namespace Cert.Reference2Ideal.Mlp
open Cert.Reference2Ideal Cert.Reference2Ideal.Gen

/-- One chunk of hidden activations, squared and summed against its weights. -/
def ff (h : Fin 1024 → EReal) (w1 : Fin 1024 → Fin 1024 → EReal) (w2 : Fin 1024 → EReal) : EReal :=
  ∑ x, (max (∑ k, h k * w1 k x) 0 * max (∑ k, h k * w1 k x) 0) * w2 x

/-- Equal weights give equal chunks. -/
theorem ff_congr {h : Fin 1024 → EReal} {w1 w1' : Fin 1024 → Fin 1024 → EReal} {w2 w2' : Fin 1024 → EReal}
    (h1 : ∀ k x, w1 k x = w1' k x) (h2 : ∀ x, w2 x = w2' x) : ff h w1 w2 = ff h w1' w2' := by
  rw [show w1 = w1' from funext fun k => funext (h1 k), show w2 = w2' from funext h2]

/-- The reference entry by entry, its hidden activations in four chunks. -/
theorem REF_at (X : FVec Ideal S8x4096x1024 .f32) (M : FVec Ideal S6x8x1024 .f32) (Gn : FVec Ideal S1024 .f32)
    (W1 : FVec Ideal S1024x4096 .f32) (W2 : FVec Ideal S4096x1024 .f32) (b : Fin 8) (s : Fin 4096) (e : Fin 1024) :
    REF X M Gn W1 W2 (ix3 b s e) = X (ix3 b s e) + M (ix3 5 b e) * ∑ j : Fin 4,
      ff (Cert.Mix.nrm (fun k => X (ix3 b s k)) (fun k => Gn (ix1 k)) (fun k => M (ix3 4 b k)) (fun k => M (ix3 3 b k)))
        (fun k x => W1 (ix2 k ⟨1024 * j.val + x.val, by omega⟩)) (fun x => W2 (ix2 ⟨1024 * j.val + x.val, by omega⟩ e)) := by
  pointwise [REF, HID, NORM]
  rw [Fin.sum_univ_tiles 4 1024 rfl]
  refine congrArg (fun x => X (ix3 b s e) + M (ix3 5 b e) * x) (Finset.sum_congr rfl fun j _ => Finset.sum_congr rfl fun x _ => ?_)
  simp only [Nat.mul_comm 1024]
  rfl

end Cert.Reference2Ideal.Mlp

namespace Cert.Kernel2Ideal.Mlp
open Cert.Kernel2Ideal Cert.Kernel2Ideal.Gen
open Cert.Reference2Ideal.Mlp (ff ff_congr)

/-- The body's result entry by entry, over its blocks. -/
theorem pay_at (x0 : Vec Ideal S1x512x1024 .f32) (x1 : Vec Ideal S1x6x1024 .f32) (x2 : Vec Ideal S1x1024 .f32)
    (p0 q0 p1 q1 p2 q2 p3 q3 : Vec Ideal S1x1024x1024 .bf16) (s : Fin 512) (e : Fin 1024) :
    k0_pay1 (F := Ideal) (k0_pay2 x0) (k0_pay3 x1) (k0_pay6 (k0_pay4 x0 x1 x2) (k0_pay5 x0 x1 x2 p0 q0) p1 q1 p2 q2 p3 q3) (ix3 0 s e)
    = x0 (ix3 0 s e) + x1 (ix3 0 5 e) *
      (ff (Cert.Mix.nrm (fun k => x0 (ix3 0 s k)) (fun k => x2 (ix2 0 k)) (fun k => x1 (ix3 0 4 k)) (fun k => x1 (ix3 0 3 k))) (fun k x => p0 (ix3 0 k x)) (fun x => q0 (ix3 0 x e))
      + ff (Cert.Mix.nrm (fun k => x0 (ix3 0 s k)) (fun k => x2 (ix2 0 k)) (fun k => x1 (ix3 0 4 k)) (fun k => x1 (ix3 0 3 k))) (fun k x => p1 (ix3 0 k x)) (fun x => q1 (ix3 0 x e))
      + ff (Cert.Mix.nrm (fun k => x0 (ix3 0 s k)) (fun k => x2 (ix2 0 k)) (fun k => x1 (ix3 0 4 k)) (fun k => x1 (ix3 0 3 k))) (fun k x => p2 (ix3 0 k x)) (fun x => q2 (ix3 0 x e))
      + ff (Cert.Mix.nrm (fun k => x0 (ix3 0 s k)) (fun k => x2 (ix2 0 k)) (fun k => x1 (ix3 0 4 k)) (fun k => x1 (ix3 0 3 k))) (fun k x => p3 (ix3 0 k x)) (fun x => q3 (ix3 0 x e))) := by
  pointwise [k0_pay1, k0_pay2, k0_pay3, k0_pay4, k0_pay5, k0_pay6]
  rfl

variable (m : (ℓ : Loc nD τ sig) → Buf (Elt Ideal) ℓ)

/-- Where every window's block of a grid point lies: batch `t / 8`, tile `t % 8`. -/
theorem idx : ∀ t : Fin cfg0.N, win0_0.index t = ![t.val / 8, t.val % 8, 0] ∧ win0_1.index t = ![t.val / 8, 0, 0]
    ∧ win0_2.index t = ![0, 0] ∧ win0_3.index t = ![0, 0, 0] ∧ win0_4.index t = ![0, 0, 0]
    ∧ win0_5.index t = ![t.val / 8, t.val % 8, 0] :=
  (by decide +kernel : ∀ t : Fin grid0.N, _)

/-- The modulation with its first two axes exchanged. -/
theorem Vmod (c : Dev nD) (b : Fin 8) (j : Fin 6) (k : Fin 1024) : V m c main_v0 (ix3 b j k) = m ((c : Thread nD τ).loc main_arg1) (ix3 j b k) := by
  have h : V m c main_v0 = transpose S8x6x1024 [1, 0, 2] (m ((c : Thread nD τ).loc main_arg1) : FVec Ideal S6x8x1024 .f32) transposes_S6x8x1024_S8x6x1024_1_0_2 := by entry_read; rfl
  rw [h]; generalize (m ((c : Thread nD τ).loc main_arg1) : FVec Ideal S6x8x1024 .f32) = M; pointwise []

/-- The gain as a row. -/
theorem Vgain (c : Dev nD) (k : Fin 1024) : V m c main_v6 (ix2 0 k) = m ((c : Thread nD τ).loc main_arg2) (ix1 k) := by
  have h : V m c main_v6 = shapeCast S1x1024 (m ((c : Thread nD τ).loc main_arg2) : FVec Ideal S1024 .f32) shapeCasts_S1024_S1x1024 := by entry_read; rfl
  rw [h]; generalize (m ((c : Thread nD τ).loc main_arg2) : FVec Ideal S1024 .f32) = M; pointwise []

/-- The first weights in four chunks of columns. -/
theorem Vw1 (c : Dev nD) (j : Fin 4) (k n : Fin 1024) : V m c main_v3 (ix3 j k n)
    = m ((c : Thread nD τ).loc main_arg3) (ix2 k ⟨1024 * j.val + n.val, by omega⟩) := by
  have h : V m c main_v3 = transpose S4x1024x1024 [1, 0, 2] (shapeCast S1024x4x1024 (truncf (F := Ideal) .bf16 (m ((c : Thread nD τ).loc main_arg3) : FVec Ideal S1024x4096 .f32) bitsLt_bf16_f32)
    shapeCasts_S1024x4096_S1024x4x1024) transposes_S1024x4x1024_S4x1024x1024_1_0_2 := by entry_read; rfl
  rw [h]; generalize (m ((c : Thread nD τ).loc main_arg3) : FVec Ideal S1024x4096 .f32) = M; pointwise []
  exact congrArg (fun i => M (ix2 k i)) (Fin.ext (show j.val * 1024 + n.val = 1024 * j.val + n.val by omega))

/-- An array of rows in four chunks. -/
theorem rows4 (M : FVec Ideal S4096x1024 .bf16) (j : Fin 4) (k n : Fin 1024) :
    shapeCast S4x1024x1024 M shapeCasts_S4096x1024_S4x1024x1024 (ix3 j k n) = M (ix2 ⟨1024 * j.val + k.val, by omega⟩ n) := by
  pointwise []
  exact congrArg (fun i => M (ix2 i n)) (Fin.ext (show j.val * 1024 + k.val = 1024 * j.val + k.val by omega))

/-- The second weights in four chunks of rows. -/
theorem Vw2 (c : Dev nD) (j : Fin 4) (k n : Fin 1024) : V m c main_v5 (ix3 j k n)
    = m ((c : Thread nD τ).loc main_arg4) (ix2 ⟨1024 * j.val + k.val, by omega⟩ n) := by
  have h : V m c main_v5 = shapeCast S4x1024x1024 (truncf (F := Ideal) .bf16 (m ((c : Thread nD τ).loc main_arg4) : FVec Ideal S4096x1024 .f32) bitsLt_bf16_f32)
    shapeCasts_S4096x1024_S4x1024x1024 := by entry_read; rfl
  rw [h]
  exact rows4 (truncf (F := Ideal) .bf16 (m ((c : Thread nD τ).loc main_arg4) : FVec Ideal S4096x1024 .f32) bitsLt_bf16_f32) j k n

section
variable (t : Fin cfg0.N)

/-- There are 64 grid points. -/
theorem tlt : t.val < 64 := t.isLt

/-- The batch of a grid point. -/
abbrev bt : Fin 8 := ⟨t.val / 8, by have := tlt t; omega⟩

/-- The token of a tile's row. -/
abbrev tk (s : Fin 512) : Fin 4096 := ⟨512 * (t.val % 8) + s.val, by omega⟩

/-- Input block 0. -/
theorem inx0 (c : Dev nD) (s : Fin 512) (k : Fin 1024) : iblk m c 0 t (ix3 0 s k) = m ((c : Thread nD τ).loc main_arg0) (ix3 (bt t) (tk t s) k) := by
  refine Eq.trans ?_ (congrFun (V_main_arg0 m c) (ix3 (bt t) (tk t s) k))
  blk_ext [iblk, idx t]

/-- Input block 1. -/
theorem inx1 (c : Dev nD) (j : Fin 6) (k : Fin 1024) : iblk m c 1 t (ix3 0 j k) = m ((c : Thread nD τ).loc main_arg1) (ix3 j (bt t) k) := by
  refine Eq.trans ?_ (Vmod m c (bt t) j k)
  blk_ext [iblk, idx t]

/-- Input block 2. -/
theorem inx2 (c : Dev nD) (k : Fin 1024) : iblk m c 2 t (ix2 0 k) = m ((c : Thread nD τ).loc main_arg2) (ix1 k) := by
  refine Eq.trans ?_ (Vgain m c k)
  blk_ext [iblk, idx t]

/-- Input block 3. -/
theorem inx3 (c : Dev nD) (j : Fin 4) (k n : Fin 1024) : iblk m c 3 t (ix3 j k n) = m ((c : Thread nD τ).loc main_arg3) (ix2 k ⟨1024 * j.val + n.val, by omega⟩) := by
  refine Eq.trans ?_ (Vw1 m c j k n)
  blk_ext [iblk, idx t]

/-- Input block 4. -/
theorem inx4 (c : Dev nD) (j : Fin 4) (k n : Fin 1024) : iblk m c 4 t (ix3 j k n) = m ((c : Thread nD τ).loc main_arg4) (ix2 ⟨1024 * j.val + k.val, by omega⟩ n) := by
  refine Eq.trans ?_ (Vw2 m c j k n)
  blk_ext [iblk, idx t]
end

/-- Chunk 0 of the weights' block. -/
theorem ld0 (w : Vec Ideal S4x1024x1024 .bf16) (k n : Fin 1024) : View.ld w r0_3 (ix3 0 k n) = w (ix3 0 k n) := by
  refine congrArg w (funext fun q => ?_)
  match q with
  | 0 => exact Fin.ext (show 0 + 1 * 0 = 0 by omega)
  | 1 => exact Fin.ext (show 0 + 1 * k.val = k.val by omega)
  | 2 => exact Fin.ext (show 0 + 1 * n.val = n.val by omega)

/-- Chunk 1 of the weights' block. -/
theorem ld1 (w : Vec Ideal S4x1024x1024 .bf16) (k n : Fin 1024) : View.ld w r0_4 (ix3 0 k n) = w (ix3 1 k n) := by
  refine congrArg w (funext fun q => ?_)
  match q with
  | 0 => exact Fin.ext (show 1 + 1 * 0 = 1 by omega)
  | 1 => exact Fin.ext (show 0 + 1 * k.val = k.val by omega)
  | 2 => exact Fin.ext (show 0 + 1 * n.val = n.val by omega)

/-- Chunk 2 of the weights' block. -/
theorem ld2 (w : Vec Ideal S4x1024x1024 .bf16) (k n : Fin 1024) : View.ld w r0_5 (ix3 0 k n) = w (ix3 2 k n) := by
  refine congrArg w (funext fun q => ?_)
  match q with
  | 0 => exact Fin.ext (show 2 + 1 * 0 = 2 by omega)
  | 1 => exact Fin.ext (show 0 + 1 * k.val = k.val by omega)
  | 2 => exact Fin.ext (show 0 + 1 * n.val = n.val by omega)

/-- Chunk 3 of the weights' block. -/
theorem ld3 (w : Vec Ideal S4x1024x1024 .bf16) (k n : Fin 1024) : View.ld w r0_6 (ix3 0 k n) = w (ix3 3 k n) := by
  refine congrArg w (funext fun q => ?_)
  match q with
  | 0 => exact Fin.ext (show 3 + 1 * 0 = 3 by omega)
  | 1 => exact Fin.ext (show 0 + 1 * k.val = k.val by omega)
  | 2 => exact Fin.ext (show 0 + 1 * n.val = n.val by omega)

/-- The array the kernel writes is the reference's term of the kernel's arguments. -/
theorem final (c : Dev nD) : (dats m 0 c).arrAt 5 (cfgs 0).N
    = Cert.Reference2Ideal.Mlp.REF (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  idx_vars y
  have hj : ((View.whole main_v7).slice (win0_5.rect t)).emb (ix3 y0 y1 y2) = ix3 (bt t) (tk t y1) y2 := by
    have h : ((cfg0.win 5).blk t).view.emb (ix3 y0 y1 y2) = ix3 (bt t) (tk t y1) y2 := by blk_ext [idx t]
    exact h
  rw [hj]
  obtain rfl : y0 = 0 := Fin.ext (by omega)
  refine (pay_at _ _ _ _ _ _ _ _ _ _ _ y1 y2).trans (Eq.symm ((Cert.Reference2Ideal.Mlp.REF_at _ _ _ _ _ (bt t) (tk t y1) y2).trans ?_))
  simp only [inx0, inx1, inx2, Fin.sum_univ_four]
  exact congrArg₂ (· + ·) rfl (congrArg₂ (· * ·) rfl (congrArg₂ (· + ·) (congrArg₂ (· + ·) (congrArg₂ (· + ·)
    (ff_congr (fun k x => ((ld0 _ k x).trans (inx3 m t c 0 k x)).symm) fun x => ((ld0 _ x y2).trans (inx4 m t c 0 x y2)).symm)
    (ff_congr (fun k x => ((ld1 _ k x).trans (inx3 m t c 1 k x)).symm) fun x => ((ld1 _ x y2).trans (inx4 m t c 1 x y2)).symm))
    (ff_congr (fun k x => ((ld2 _ k x).trans (inx3 m t c 2 k x)).symm) fun x => ((ld2 _ x y2).trans (inx4 m t c 2 x y2)).symm))
    (ff_congr (fun k x => ((ld3 _ k x).trans (inx3 m t c 3 k x)).symm) fun x => ((ld3 _ x y2).trans (inx4 m t c 3 x y2)).symm)))

end Cert.Kernel2Ideal.Mlp
end
-- ==== Proof.AdaValue.lean ====
/- The modulation of the layer: the six blocks the kernel writes are the reference's composed term of the
   kernel's own argument arrays. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Ada
open Cert.Kernel3Ideal Cert.Kernel3Ideal.Gen
variable (m : (ℓ : Loc nD τ sig) → Buf (Elt Ideal) ℓ)

/-- Where every window's block of a grid point lies: the `t`-th block of 1024 columns, the `t`-th row of the result. -/
theorem idx : ∀ t : Fin cfg0.N, win0_0.index t = ![0, 0] ∧ win0_1.index t = ![0, t.val]
    ∧ win0_2.index t = ![0, t.val] ∧ win0_3.index t = ![t.val, 0, 0] :=
  (by decide +kernel : ∀ t : Fin grid0.N, _)

/-- A vector laid out as one row, read at a column. -/
theorem row_read (v : FVec Ideal S6144 .f32) (k : Fin 6144) :
    shapeCast S1x6144 v shapeCasts_S6144_S1x6144 (ix2 0 k) = v (ix1 k) := by
  pointwise

/-- The bias block of a grid point, read at a column: the bias vector at the column's place. -/
theorem bias (c : Dev nD) (t : Fin cfg0.N) (ht : t.val < 6) (y : Fin 1024) :
    iblk m c 2 t (ix2 0 y) = m ((c : Thread nD τ).loc main_arg2) (ix1 ⟨t.val * 1024 + y.val, by omega⟩) := by
  have hV : V m c main_v0 = shapeCast S1x6144 (m ((c : Thread nD τ).loc main_arg2)) shapeCasts_S6144_S1x6144 := by
    entry_read; rfl
  have hb : iblk m c 2 t (ix2 0 y) = V m c main_v0 (ix2 0 ⟨t.val * 1024 + y.val, by omega⟩) := by
    blk_ext [iblk, idx t]
  rw [hb, hV]
  exact row_read _ _

/-- The array the kernel writes is the reference's term, for any reference memory holding the kernel's arguments. -/
theorem final (c : Dev nD) (m' : (ℓ : Loc Cert.Reference3Ideal.nD Cert.Reference3Ideal.τ Cert.Reference3Ideal.sig) → Buf (Elt Ideal) ℓ)
    (c' : Dev Cert.Reference3Ideal.nD)
    (h0 : m' ((c' : Thread Cert.Reference3Ideal.nD Cert.Reference3Ideal.τ).loc Cert.Reference3Ideal.main_arg0) = m ((c : Thread nD τ).loc main_arg0))
    (h1 : m' ((c' : Thread Cert.Reference3Ideal.nD Cert.Reference3Ideal.τ).loc Cert.Reference3Ideal.main_arg1) = m ((c : Thread nD τ).loc main_arg1))
    (h2 : m' ((c' : Thread Cert.Reference3Ideal.nD Cert.Reference3Ideal.τ).loc Cert.Reference3Ideal.main_arg2) = m ((c : Thread nD τ).loc main_arg2)) :
    (dats m 0 c).arrAt 3 (cfgs 0).N = Cert.Reference3Ideal.Value.res_main_v17 m' c' := by
  refine (dats m 0 c).arrAt_eq_of_covers 3 _ (by decide +kernel) fun t _ y => ?_
  blk_simp
  rw [after0_3]; frame_out
  idx_vars y
  unfold Cert.Reference3Ideal.Value.res_main_v17
  rw [h0, h1, h2]
  have ht : t.val < 6 := t.isLt
  have hj : ((cfg0.win 3).blk t).view.emb (ix3 y0 y1 y2) = ix3 (⟨t.val, ht⟩ : Fin 6) y1 y2 := by
    blk_ext [idx t]
  have hj' : ((View.whole main_v1).slice (win0_3.rect t)).emb (ix3 y0 y1 y2) = ix3 (⟨t.val, ht⟩ : Fin 6) y1 y2 := hj
  rw [hj']
  pointwise [k0_pay1]
  rw [bias m c t ht y2]
  simp only [Ideal.logistic]
  rcases (by omega : t.val = 0 ∨ t.val = 1 ∨ t.val = 2 ∨ t.val = 3 ∨ t.val = 4 ∨ t.val = 5) with h | h | h | h | h | h <;>
    simp only [h, Nat.reduceSub, Nat.reduceLT, Nat.reduceMul, if_true, if_false, dif_pos, dif_neg, not_false_eq_true] <;>
    blk_point [iblk, V, idx t]

end Cert.Kernel3Ideal.Ada
end
-- ==== Proof.Mlp.lean ====
/- The claims about the feed-forward half of the layer and about the modulation, one theorem each. -/
module

public import proofs.«01_k».proof.Defs
public import proofs.«01_k».proof.Proof.MlpValue
public import proofs.«01_k».proof.Proof.AdaValue
public import proofs.«01_k».proof.Proof.Gen.Kernel2.Frame
public import proofs.«01_k».proof.Proof.Gen.Kernel3.Frame

@[expose] public section

set_option maxRecDepth 16384

noncomputable section

namespace Cert.Proof
open Idealize.ShloMosaic Idealize.SL.Sem

/-- The feed-forward kernel over machine words runs, leaves its arguments and ends with every counter at zero. -/
theorem frame_mlp : Cert.quiescent_Kernel2 (hKernel2 := Cert.Kernel2.Gen.facts) :=
  fun m ρ _ => Cert.Kernel2.Gen.frame m ρ

/-- The feed-forward kernel over the reals runs, leaves its arguments and ends with every counter at zero. -/
theorem frame_mlp_ideal : Cert.quiescent_Kernel2Ideal (hKernel2Ideal := Cert.Kernel2Ideal.Gen.facts) :=
  fun m ρ _ => Cert.Kernel2Ideal.Gen.frame m ρ

/-- The reference of the feed-forward half runs, leaves its arguments and ends with every counter at zero. -/
theorem frame_mlp_reference : Cert.quiescent_Reference2Ideal (hReference2Ideal := Cert.Reference2Ideal.Gen.facts) :=
  fun m ρ _ => (θ_run _ _ _).mono (fun r h => ⟨fun c => (h c).2, sem_eq_zero_of_no_sems rfl r.2⟩)
    (Cert.Reference2Ideal.Value.run (F := Ideal) m ρ)

/-- The feed-forward kernel and its reference, over the reals, end with the same result. -/
theorem value_mlp : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    exact (Cert.Kernel2Ideal.Mlp.final m c).symm

/-- The modulation kernel over machine words runs, leaves its arguments and ends with every counter at zero. -/
theorem frame_ada : Cert.quiescent_Kernel3 (hKernel3 := Cert.Kernel3.Gen.facts) :=
  fun m ρ _ => Cert.Kernel3.Gen.frame m ρ

/-- The modulation kernel over the reals runs, leaves its arguments and ends with every counter at zero. -/
theorem frame_ada_ideal : Cert.quiescent_Kernel3Ideal (hKernel3Ideal := Cert.Kernel3Ideal.Gen.facts) :=
  fun m ρ _ => Cert.Kernel3Ideal.Gen.frame m ρ

/-- The modulation's reference runs, leaves its arguments and ends with every counter at zero. -/
theorem frame_ada_reference : Cert.quiescent_Reference3Ideal (hReference3Ideal := Cert.Reference3Ideal.Gen.facts) :=
  fun m ρ _ => (θ_run _ _ _).mono (fun r h => ⟨fun c => (h c).2, sem_eq_zero_of_no_sems rfl r.2⟩)
    (Cert.Reference3Ideal.Value.run (F := Ideal) m ρ)

/-- The modulation kernel and its reference, over the reals, end with the same result. -/
theorem value_ada : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    obtain ⟨h0, h1, h2⟩ := hagree c
    exact (Cert.Kernel3Ideal.Ada.final m c m' c h0 h1 h2).symm

end Cert.Proof
end
-- ==== Proof.lean ====
/- The certificate: every claim about the layer's kernels, each proved in a module of its own. -/
module

public import proofs.«01_k».proof.Defs
public import proofs.«01_k».proof.Proof.Mixer
public import proofs.«01_k».proof.Proof.Mlp
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run

@[expose] public section

noncomputable section

namespace Cert.Proof

open Idealize.ShloMosaic Idealize.SL.Sem

/-- All claims of this certificate, with the shape facts the printed programs state. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.shapes,
    frame_mixer, frame_mixer_ideal, frame_mixer_finite, frame_mixer_reference, frame_mixer_reference_finite,
    frame_mlp, frame_mlp_ideal, frame_mlp_reference, frame_ada, frame_ada_ideal, frame_ada_reference,
    preserves_mixer, value_mixer, trivial, value_mlp, trivial, value_ada⟩

end Cert.Proof

end
